-- ==== Defs.lean ====
def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvIdeal_consecutive [hPre_consecutive : Cert.Pre_consecutive.Facts] (m : (ℓ : Loc Cert.ConvIdeal.nD Cert.ConvIdeal.τ Cert.ConvIdeal.sig) → Buf (Elt Ideal) ℓ) : Prop :=
  ∀ c : Dev Cert.ConvIdeal.nD,
    (Cert.Pre_consecutive.fn (F := Ideal) (m ((c.tc : Thread Cert.ConvIdeal.nD Cert.ConvIdeal.τ).loc Cert.ConvIdeal.main_arg0)) (m ((c.tc : Thread Cert.ConvIdeal.nD Cert.ConvIdeal.τ).loc Cert.ConvIdeal.main_arg1)) (m ((c.tc : Thread Cert.ConvIdeal.nD Cert.ConvIdeal.τ).loc Cert.ConvIdeal.main_arg2)) (m ((c.tc : Thread Cert.ConvIdeal.nD Cert.ConvIdeal.τ).loc Cert.ConvIdeal.main_arg3)) (m ((c.tc : Thread Cert.ConvIdeal.nD Cert.ConvIdeal.τ).loc Cert.ConvIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_consecutive [hPre_consecutive : Cert.Pre_consecutive.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_consecutive.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4))
      ∧ r.2.sem = fun _ => 0)

def quiescent_ConvIdeal_pre_consecutive [hConvIdeal : Cert.ConvIdeal.Facts] [hPre_consecutive : Cert.Pre_consecutive.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal_consecutive m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_consecutive [hReferenceIdeal : Cert.ReferenceIdeal.Facts] [hPre_consecutive : Cert.Pre_consecutive.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_consecutive m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Conv_ConvIdeal : Prop :=
  True

def algebraic_ConvIdeal_ReferenceIdeal_on_codes_and_scales_pre_consecutive [hConvIdeal : Cert.ConvIdeal.Facts] [hReferenceIdeal : Cert.ReferenceIdeal.Facts] [hPre_consecutive : Cert.Pre_consecutive.Facts] [hOn_codes_and_scales : Cert.On_codes_and_scales.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_ConvIdeal_consecutive m →
    (∀ c : Dev Cert.ConvIdeal.nD,
      m' ((c.tc : Thread Cert.ReferenceIdeal.nD Cert.ReferenceIdeal.τ).loc Cert.ReferenceIdeal.main_arg0) = m ((c.tc : Thread Cert.ConvIdeal.nD Cert.ConvIdeal.τ).loc Cert.ConvIdeal.main_arg0)
      ∧ m' ((c.tc : Thread Cert.ReferenceIdeal.nD Cert.ReferenceIdeal.τ).loc Cert.ReferenceIdeal.main_arg1) = m ((c.tc : Thread Cert.ConvIdeal.nD Cert.ConvIdeal.τ).loc Cert.ConvIdeal.main_arg1)
      ∧ m' ((c.tc : Thread Cert.ReferenceIdeal.nD Cert.ReferenceIdeal.τ).loc Cert.ReferenceIdeal.main_arg2) = m ((c.tc : Thread Cert.ConvIdeal.nD Cert.ConvIdeal.τ).loc Cert.ConvIdeal.main_arg2)
      ∧ m' ((c.tc : Thread Cert.ReferenceIdeal.nD Cert.ReferenceIdeal.τ).loc Cert.ReferenceIdeal.main_arg3) = m ((c.tc : Thread Cert.ConvIdeal.nD Cert.ConvIdeal.τ).loc Cert.ConvIdeal.main_arg3)
      ∧ m' ((c.tc : Thread Cert.ReferenceIdeal.nD Cert.ReferenceIdeal.τ).loc Cert.ReferenceIdeal.main_arg4) = m ((c.tc : Thread Cert.ConvIdeal.nD Cert.ConvIdeal.τ).loc Cert.ConvIdeal.main_arg4)) →
    ∃ (v0 : (c : Dev Cert.ConvIdeal.nD) → Buf (Elt Ideal) ((c.tc : Thread Cert.ConvIdeal.nD Cert.ConvIdeal.τ).loc Cert.ConvIdeal.main_v2_0)) (v1 : (c : Dev Cert.ConvIdeal.nD) → Buf (Elt Ideal) ((c.tc : Thread Cert.ConvIdeal.nD Cert.ConvIdeal.τ).loc Cert.ConvIdeal.main_v2_1)) (v2 : (c : Dev Cert.ConvIdeal.nD) → Buf (Elt Ideal) ((c.tc : Thread Cert.ConvIdeal.nD Cert.ConvIdeal.τ).loc Cert.ConvIdeal.main_v2_2)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          (∀ i : (⟨2, ![16384, 8192]⟩ : Shape).Idx, (Cert.On_codes_and_scales.fn (F := Ideal) (m ((c.tc : Thread Cert.ConvIdeal.nD Cert.ConvIdeal.τ).loc Cert.ConvIdeal.main_arg0)) (m ((c.tc : Thread Cert.ConvIdeal.nD Cert.ConvIdeal.τ).loc Cert.ConvIdeal.main_arg1)) (m ((c.tc : Thread Cert.ConvIdeal.nD Cert.ConvIdeal.τ).loc Cert.ConvIdeal.main_arg2)) (m ((c.tc : Thread Cert.ConvIdeal.nD Cert.ConvIdeal.τ).loc Cert.ConvIdeal.main_arg3)) (m ((c.tc : Thread Cert.ConvIdeal.nD Cert.ConvIdeal.τ).loc Cert.ConvIdeal.main_arg4))).1 i = 1#1 → r.2.mem ((c.tc : Thread Cert.ConvIdeal.nD Cert.ConvIdeal.τ).loc Cert.ConvIdeal.main_v2_0) i = v0 c i)
          ∧ (∀ i : (⟨2, ![1, 8192]⟩ : Shape).Idx, (Cert.On_codes_and_scales.fn (F := Ideal) (m ((c.tc : Thread Cert.ConvIdeal.nD Cert.ConvIdeal.τ).loc Cert.ConvIdeal.main_arg0)) (m ((c.tc : Thread Cert.ConvIdeal.nD Cert.ConvIdeal.τ).loc Cert.ConvIdeal.main_arg1)) (m ((c.tc : Thread Cert.ConvIdeal.nD Cert.ConvIdeal.τ).loc Cert.ConvIdeal.main_arg2)) (m ((c.tc : Thread Cert.ConvIdeal.nD Cert.ConvIdeal.τ).loc Cert.ConvIdeal.main_arg3)) (m ((c.tc : Thread Cert.ConvIdeal.nD Cert.ConvIdeal.τ).loc Cert.ConvIdeal.main_arg4))).2.1 i = 1#1 → r.2.mem ((c.tc : Thread Cert.ConvIdeal.nD Cert.ConvIdeal.τ).loc Cert.ConvIdeal.main_v2_1) i = v1 c i)
          ∧ (∀ i : (⟨2, ![64, 16384]⟩ : Shape).Idx, (Cert.On_codes_and_scales.fn (F := Ideal) (m ((c.tc : Thread Cert.ConvIdeal.nD Cert.ConvIdeal.τ).loc Cert.ConvIdeal.main_arg0)) (m ((c.tc : Thread Cert.ConvIdeal.nD Cert.ConvIdeal.τ).loc Cert.ConvIdeal.main_arg1)) (m ((c.tc : Thread Cert.ConvIdeal.nD Cert.ConvIdeal.τ).loc Cert.ConvIdeal.main_arg2)) (m ((c.tc : Thread Cert.ConvIdeal.nD Cert.ConvIdeal.τ).loc Cert.ConvIdeal.main_arg3)) (m ((c.tc : Thread Cert.ConvIdeal.nD Cert.ConvIdeal.τ).loc Cert.ConvIdeal.main_arg4))).2.2 i = 1#1 → r.2.mem ((c.tc : Thread Cert.ConvIdeal.nD Cert.ConvIdeal.τ).loc Cert.ConvIdeal.main_v2_2) i = v2 c i)
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![16384, 8192]⟩ : Shape).Idx, (Cert.On_codes_and_scales.fn (F := Ideal) (m ((c.tc : Thread Cert.ConvIdeal.nD Cert.ConvIdeal.τ).loc Cert.ConvIdeal.main_arg0)) (m ((c.tc : Thread Cert.ConvIdeal.nD Cert.ConvIdeal.τ).loc Cert.ConvIdeal.main_arg1)) (m ((c.tc : Thread Cert.ConvIdeal.nD Cert.ConvIdeal.τ).loc Cert.ConvIdeal.main_arg2)) (m ((c.tc : Thread Cert.ConvIdeal.nD Cert.ConvIdeal.τ).loc Cert.ConvIdeal.main_arg3)) (m ((c.tc : Thread Cert.ConvIdeal.nD Cert.ConvIdeal.τ).loc Cert.ConvIdeal.main_arg4))).1 i = 1#1 → r.2.mem ((c.tc : Thread Cert.ReferenceIdeal.nD Cert.ReferenceIdeal.τ).loc Cert.ReferenceIdeal.main_v1_0) i = v0 c i)
          ∧ (∀ i : (⟨2, ![1, 8192]⟩ : Shape).Idx, (Cert.On_codes_and_scales.fn (F := Ideal) (m ((c.tc : Thread Cert.ConvIdeal.nD Cert.ConvIdeal.τ).loc Cert.ConvIdeal.main_arg0)) (m ((c.tc : Thread Cert.ConvIdeal.nD Cert.ConvIdeal.τ).loc Cert.ConvIdeal.main_arg1)) (m ((c.tc : Thread Cert.ConvIdeal.nD Cert.ConvIdeal.τ).loc Cert.ConvIdeal.main_arg2)) (m ((c.tc : Thread Cert.ConvIdeal.nD Cert.ConvIdeal.τ).loc Cert.ConvIdeal.main_arg3)) (m ((c.tc : Thread Cert.ConvIdeal.nD Cert.ConvIdeal.τ).loc Cert.ConvIdeal.main_arg4))).2.1 i = 1#1 → r.2.mem ((c.tc : Thread Cert.ReferenceIdeal.nD Cert.ReferenceIdeal.τ).loc Cert.ReferenceIdeal.main_v1_1) i = v1 c i)
          ∧ (∀ i : (⟨2, ![64, 16384]⟩ : Shape).Idx, (Cert.On_codes_and_scales.fn (F := Ideal) (m ((c.tc : Thread Cert.ConvIdeal.nD Cert.ConvIdeal.τ).loc Cert.ConvIdeal.main_arg0)) (m ((c.tc : Thread Cert.ConvIdeal.nD Cert.ConvIdeal.τ).loc Cert.ConvIdeal.main_arg1)) (m ((c.tc : Thread Cert.ConvIdeal.nD Cert.ConvIdeal.τ).loc Cert.ConvIdeal.main_arg2)) (m ((c.tc : Thread Cert.ConvIdeal.nD Cert.ConvIdeal.τ).loc Cert.ConvIdeal.main_arg3)) (m ((c.tc : Thread Cert.ConvIdeal.nD Cert.ConvIdeal.τ).loc Cert.ConvIdeal.main_arg4))).2.2 i = 1#1 → r.2.mem ((c.tc : Thread Cert.ReferenceIdeal.nD Cert.ReferenceIdeal.τ).loc Cert.ReferenceIdeal.main_v1_2) i = v2 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hConv : Cert.Conv.Facts) (hConvIdeal : Cert.ConvIdeal.Facts) (hReferenceIdeal : Cert.ReferenceIdeal.Facts) (hPre_consecutive : Cert.Pre_consecutive.Facts) (hOn_codes_and_scales : Cert.On_codes_and_scales.Facts),
    quiescent_Conv (hConv := hConv)
    ∧ quiescent_ConvIdeal (hConvIdeal := hConvIdeal)
    ∧ quiescent_ConvIdeal_pre_consecutive (hConvIdeal := hConvIdeal) (hPre_consecutive := hPre_consecutive)
    ∧ quiescent_ReferenceIdeal (hReferenceIdeal := hReferenceIdeal)
    ∧ quiescent_ReferenceIdeal_pre_consecutive (hReferenceIdeal := hReferenceIdeal) (hPre_consecutive := hPre_consecutive)
    ∧ preserves_Conv_ConvIdeal
    ∧ algebraic_ConvIdeal_ReferenceIdeal_on_codes_and_scales_pre_consecutive (hConvIdeal := hConvIdeal) (hReferenceIdeal := hReferenceIdeal) (hPre_consecutive := hPre_consecutive) (hOn_codes_and_scales := hOn_codes_and_scales)
-- ==== On_codes_and_scales.lean ====
abbrev S16384x8192 : Shape := ⟨2, ![16384, 8192]⟩
abbrev S1x8192 : Shape := ⟨2, ![1, 8192]⟩
abbrev S10 : Shape := ⟨1, ![10]⟩
abbrev S16384x4 : Shape := ⟨2, ![16384, 4]⟩
abbrev S16384 : Shape := ⟨1, ![16384]⟩
abbrev S_ : Shape := ⟨0, ![]⟩
abbrev S64x16384 : Shape := ⟨2, ![64, 16384]⟩

class Facts : Prop where
  bcast_S_S16384x8192 : S_.BroadcastsInDim S16384x8192 (![] : Fin 0 → Fin S16384x8192.rank)
  bcast_S_S1x8192 : S_.BroadcastsInDim S1x8192 (![] : Fin 0 → Fin S1x8192.rank)
  bcast_S_S64x16384 : S_.BroadcastsInDim S64x16384 (![] : Fin 0 → Fin S64x16384.rank)

variable [Facts]

def fn {F : FTy → Type} [FloatOps F] (main_arg0 : FVec F S16384x8192 .fp8e4m3) (main_arg1 : FVec F S1x8192 .f32) (main_arg2 : IVec S10 32) (main_arg3 : FVec F S16384x4 .bf16) (main_arg4 : FVec F S16384 .bf16) : IVec S16384x8192 1 × IVec S1x8192 1 × IVec S64x16384 1 :=
  let main_c : IVec S_ 1 := constantI S_ 1 1#1
  let main_v0 : IVec S16384x8192 1 := broadcastInDim S16384x8192 ![] bcast_S_S16384x8192 main_c
  let main_c_0 : IVec S_ 1 := constantI S_ 1 1#1
  let main_v1 : IVec S1x8192 1 := broadcastInDim S1x8192 ![] bcast_S_S1x8192 main_c_0
  let main_c_1 : IVec S_ 1 := constantI S_ 1 0#1
  let main_v2 : IVec S64x16384 1 := broadcastInDim S64x16384 ![] bcast_S_S64x16384 main_c_1
  (main_v0, main_v1, main_v2)
-- ==== Pre_consecutive.lean ====
abbrev S16384x8192 : Shape := ⟨2, ![16384, 8192]⟩
abbrev S1x8192 : Shape := ⟨2, ![1, 8192]⟩
abbrev S10 : Shape := ⟨1, ![10]⟩
abbrev S16384x4 : Shape := ⟨2, ![16384, 4]⟩
abbrev S16384 : Shape := ⟨1, ![16384]⟩
abbrev S1 : Shape := ⟨1, ![1]⟩
abbrev S_ : Shape := ⟨0, ![]⟩
abbrev S9 : Shape := ⟨1, ![9]⟩

class Facts : Prop where
  slices_S10_S1_0 : S10.Slices ![0] S1
  shapeCasts_S1_S_ : S1.ShapeCasts S_
  slices_S10_S9_0 : S10.Slices ![0] S9
  slices_S10_S9_1 : S10.Slices ![1] S9
  reducesTo_S9_S_d0 : S9.ReducesTo [0] S_
  h_S_ : 0 < S_.numel
  slices_S10_S1_9 : S10.Slices ![9] S1

variable [Facts]

def fn {F : FTy → Type} [FloatOps F] (main_arg0 : FVec F S16384x8192 .fp8e4m3) (main_arg1 : FVec F S1x8192 .f32) (main_arg2 : IVec S10 32) (main_arg3 : FVec F S16384x4 .bf16) (main_arg4 : FVec F S16384 .bf16) : IVec S_ 1 :=
  let main_v0 : IVec S1 32 := (extractStridedSlice S1 ![0] · slices_S10_S1_0) main_arg2
  let main_v1 : IVec S_ 32 := shapeCast S_ main_v0 shapeCasts_S1_S_
  let main_c : IVec S_ 32 := constantI S_ 32 0#32
  let main_v2 : IVec S_ 1 := cmpi .eq main_v1 main_c
  let main_v3 : IVec S9 32 := (extractStridedSlice S9 ![0] · slices_S10_S9_0) main_arg2
  let main_v4 : IVec S9 32 := (extractStridedSlice S9 ![1] · slices_S10_S9_1) main_arg2
  let main_v5 : IVec S9 1 := cmpi .sle main_v3 main_v4
  let main_c_0 : IVec S_ 1 := constantI S_ 1 1#1
  let main_v6 : IVec S_ 1 := (fun x v => Host.reduce IntOp.andi x v reducesTo_S9_S_d0 h_S_) main_v5 main_c_0
  let main_v7 : IVec S_ 1 := andi main_v2 main_v6
  let main_v8 : IVec S1 32 := (extractStridedSlice S1 ![9] · slices_S10_S1_9) main_arg2
  let main_v9 : IVec S_ 32 := shapeCast S_ main_v8 shapeCasts_S1_S_
  let main_c_1 : IVec S_ 32 := constantI S_ 32 8192#32
  let main_v10 : IVec S_ 1 := cmpi .eq main_v9 main_c_1
  let main_v11 : IVec S_ 1 := andi main_v7 main_v10
  main_v11
-- ==== Conv.lean ====
abbrev S16384x8192 : Shape := ⟨2, ![16384, 8192]⟩
abbrev S1x8192 : Shape := ⟨2, ![1, 8192]⟩
abbrev S10 : Shape := ⟨1, ![10]⟩
abbrev S16384x4 : Shape := ⟨2, ![16384, 4]⟩
abbrev S16384 : Shape := ⟨1, ![16384]⟩
abbrev S4x16384 : Shape := ⟨2, ![4, 16384]⟩
abbrev S1x16384 : Shape := ⟨2, ![1, 16384]⟩
abbrev S64x16384 : Shape := ⟨2, ![64, 16384]⟩
abbrev S16384x256 : Shape := ⟨2, ![16384, 256]⟩
abbrev S1x256 : Shape := ⟨2, ![1, 256]⟩
abbrev S16384x128 : Shape := ⟨2, ![16384, 128]⟩
abbrev S64x256 : Shape := ⟨2, ![64, 256]⟩
abbrev S8x256 : Shape := ⟨2, ![8, 256]⟩
abbrev S8x128 : Shape := ⟨2, ![8, 128]⟩
abbrev S1x128 : Shape := ⟨2, ![1, 128]⟩
abbrev S128x128 : Shape := ⟨2, ![128, 128]⟩
abbrev S1 : Shape := ⟨1, ![1]⟩
abbrev S16x128 : Shape := ⟨2, ![16, 128]⟩
abbrev S32x256 : Shape := ⟨2, ![32, 256]⟩
abbrev S256x256 : Shape := ⟨2, ![256, 256]⟩
abbrev S16x256 : Shape := ⟨2, ![16, 256]⟩
abbrev S64x128 : Shape := ⟨2, ![64, 128]⟩
abbrev S256 : Shape := ⟨1, ![256]⟩

abbrev nBuf : Space → Nat
  | .hbm => 9
  | .vmem => 18
  | .smem => 1
  | _ => 0

abbrev bufTy : (tb : Table) → Fin (tcTables nBuf tb) → BufTy
  | .hbm, ⟨0, _⟩ => ⟨S16384x8192, .fp8e4m3⟩
  | .hbm, ⟨1, _⟩ => ⟨S1x8192, .f32⟩
  | .hbm, ⟨2, _⟩ => ⟨S16384x4, .bf16⟩
  | .hbm, ⟨3, _⟩ => ⟨S16384, .bf16⟩
  | .hbm, ⟨4, _⟩ => ⟨S4x16384, .bf16⟩
  | .hbm, ⟨5, _⟩ => ⟨S1x16384, .bf16⟩
  | .hbm, ⟨6, _⟩ => ⟨S16384x8192, .fp8e4m3⟩
  | .hbm, ⟨7, _⟩ => ⟨S1x8192, .f32⟩
  | .hbm, ⟨8, _⟩ => ⟨S64x16384, .bf16⟩
  | .local _ .vmem, ⟨0, _⟩ => ⟨S16384x256, .fp8e4m3⟩
  | .local _ .vmem, ⟨1, _⟩ => ⟨S16384x256, .fp8e4m3⟩
  | .local _ .vmem, ⟨2, _⟩ => ⟨S1x256, .f32⟩
  | .local _ .vmem, ⟨3, _⟩ => ⟨S1x256, .f32⟩
  | .local _ .vmem, ⟨4, _⟩ => ⟨S4x16384, .bf16⟩
  | .local _ .vmem, ⟨5, _⟩ => ⟨S1x16384, .bf16⟩
  | .local _ .vmem, ⟨6, _⟩ => ⟨S16384x256, .fp8e4m3⟩
  | .local _ .vmem, ⟨7, _⟩ => ⟨S16384x256, .fp8e4m3⟩
  | .local _ .vmem, ⟨8, _⟩ => ⟨S1x256, .f32⟩
  | .local _ .vmem, ⟨9, _⟩ => ⟨S1x256, .f32⟩
  | .local _ .vmem, ⟨10, _⟩ => ⟨S64x16384, .bf16⟩
  | .local _ .vmem, ⟨11, _⟩ => ⟨S16384x256, .f32⟩
  | .local _ .vmem, ⟨12, _⟩ => ⟨S16384x256, .bf16⟩
  | .local _ .vmem, ⟨13, _⟩ => ⟨S16384x128, .f32⟩
  | .local _ .vmem, ⟨14, _⟩ => ⟨S16384x128, .fp8e4m3⟩
  | .local _ .vmem, ⟨15, _⟩ => ⟨S64x256, .bf16⟩
  | .local _ .vmem, ⟨16, _⟩ => ⟨S8x256, .f32⟩
  | .local _ .vmem, ⟨17, _⟩ => ⟨S8x128, .f32⟩
  | .local _ .smem, ⟨0, _⟩ => ⟨S10, .i32⟩
  | _, _ => ⟨S16384x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_scratch5 : Ref sig .tc := ⟨.vmem, 16, rfl⟩
abbrev cc0_scratch6 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![33], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

@[reducible] def k0_t1_loop : Scf.Loop 32 :=
  let c0_i32_14 : BitVec 32 := 0#32
  let c128_i32 : BitVec 32 := 128#32
  let v46 : BitVec 32 := Scalar.addi c0_i32_14 c128_i32
  let c1_i32_15 : BitVec 32 := 1#32
  ⟨c0_i32_14, v46, c1_i32_15⟩
def k0_mult1 (k0_t1 : Fin k0_t1_loop.trips) : BitVec 32 :=
  let c0_i32_14 : BitVec 32 := 0#32
  let c1_i32_15 : BitVec 32 := 1#32
  let arg16 : BitVec 32 := Scf.iv c0_i32_14 c1_i32_15 k0_t1
  let c128_i32_25 : BitVec 32 := 128#32
  let v57 : BitVec 32 := Scalar.muli arg16 c128_i32_25
  v57
def k0_off1 (k0_t1 : Fin k0_t1_loop.trips) : Fin 2 → Nat :=
  let c0_26 : Index := 0#32
  let c0_i32_14 : BitVec 32 := 0#32
  let c1_i32_15 : BitVec 32 := 1#32
  let arg16 : BitVec 32 := Scf.iv c0_i32_14 c1_i32_15 k0_t1
  let c128_i32_25 : BitVec 32 := 128#32
  let v57 : BitVec 32 := Scalar.muli arg16 c128_i32_25
  let v58 : BitVec 32 := v57
  let v59 : Index := Scalar.indexCast v58
  ![0, v59.toNat]
def k0_off2 (k0_t1 : Fin k0_t1_loop.trips) : Fin 2 → Nat :=
  let c1 : Index := 1#32
  let c0_i32_14 : BitVec 32 := 0#32
  let c1_i32_15 : BitVec 32 := 1#32
  let arg16 : BitVec 32 := Scf.iv c0_i32_14 c1_i32_15 k0_t1
  let c128_i32_25 : BitVec 32 := 128#32
  let v57 : BitVec 32 := Scalar.muli arg16 c128_i32_25
  let v58 : BitVec 32 := v57
  let v65 : Index := Scalar.indexCast v58
  ![1, v65.toNat]
def k0_off3 (k0_t1 : Fin k0_t1_loop.trips) : Fin 2 → Nat :=
  let c2 : Index := 2#32
  let c0_i32_14 : BitVec 32 := 0#32
  let c1_i32_15 : BitVec 32 := 1#32
  let arg16 : BitVec 32 := Scf.iv c0_i32_14 c1_i32_15 k0_t1
  let c128_i32_25 : BitVec 32 := 128#32
  let v57 : BitVec 32 := Scalar.muli arg16 c128_i32_25
  let v58 : BitVec 32 := v57
  let v71 : Index := Scalar.indexCast v58
  ![2, v71.toNat]
def k0_off4 (k0_t1 : Fin k0_t1_loop.trips) : Fin 2 → Nat :=
  let c3 : Index := 3#32
  let c0_i32_14 : BitVec 32 := 0#32
  let c1_i32_15 : BitVec 32 := 1#32
  let arg16 : BitVec 32 := Scf.iv c0_i32_14 c1_i32_15 k0_t1
  let c128_i32_25 : BitVec 32 := 128#32
  let v57 : BitVec 32 := Scalar.muli arg16 c128_i32_25
  let v58 : BitVec 32 := v57
  let v77 : Index := Scalar.indexCast v58
  ![3, v77.toNat]
def k0_mult2 (k0_t1 : Fin k0_t1_loop.trips) : BitVec 32 :=
  let c0_i32_14 : BitVec 32 := 0#32
  let c1_i32_15 : BitVec 32 := 1#32
  let arg16 : BitVec 32 := Scf.iv c0_i32_14 c1_i32_15 k0_t1
  let c128_i32_25 : BitVec 32 := 128#32
  let v57 : BitVec 32 := Scalar.muli arg16 c128_i32_25
  let v58 : BitVec 32 := v57
  let c0_i32_36 : BitVec 32 := 0#32
  let v95 : BitVec 32 := Scalar.addi v58 c0_i32_36
  v95
def k0_off5 (k0_t1 : Fin k0_t1_loop.trips) (c0_i32_36 : BitVec 32) : Fin 2 → Nat :=
  let c0_i32_14 : BitVec 32 := 0#32
  let c1_i32_15 : BitVec 32 := 1#32
  let arg16 : BitVec 32 := Scf.iv c0_i32_14 c1_i32_15 k0_t1
  let c128_i32_25 : BitVec 32 := 128#32
  let v57 : BitVec 32 := Scalar.muli arg16 c128_i32_25
  let v58 : BitVec 32 := v57
  let v95 : BitVec 32 := Scalar.addi v58 c0_i32_36
  let v96 : BitVec 32 := v95
  let v97 : Index := Scalar.indexCast v96
  let c0_37 : Index := 0#32
  ![v97.toNat, 0]
def k0_mult3 (k0_t1 : Fin k0_t1_loop.trips) : BitVec 32 :=
  let c0_i32_14 : BitVec 32 := 0#32
  let c1_i32_15 : BitVec 32 := 1#32
  let arg16 : BitVec 32 := Scf.iv c0_i32_14 c1_i32_15 k0_t1
  let c128_i32_25 : BitVec 32 := 128#32
  let v57 : BitVec 32 := Scalar.muli arg16 c128_i32_25
  let v58 : BitVec 32 := v57
  let c64_i32_39 : BitVec 32 := 64#32
  let v109 : BitVec 32 := Scalar.addi v58 c64_i32_39
  v109
def k0_off6 (k0_t1 : Fin k0_t1_loop.trips) : Fin 2 → Nat :=
  let c0_41 : Index := 0#32
  let c0_i32_14 : BitVec 32 := 0#32
  let c1_i32_15 : BitVec 32 := 1#32
  let arg16 : BitVec 32 := Scf.iv c0_i32_14 c1_i32_15 k0_t1
  let c128_i32_25 : BitVec 32 := 128#32
  let v57 : BitVec 32 := Scalar.muli arg16 c128_i32_25
  let v58 : BitVec 32 := v57
  let v115 : Index := Scalar.indexCast v58
  ![0, v115.toNat]
def k0_off7 (k0_t1 : Fin k0_t1_loop.trips) : Fin 2 → Nat :=
  let c0_i32_14 : BitVec 32 := 0#32
  let c1_i32_15 : BitVec 32 := 1#32
  let arg16 : BitVec 32 := Scf.iv c0_i32_14 c1_i32_15 k0_t1
  let c128_i32_25 : BitVec 32 := 128#32
  let v57 : BitVec 32 := Scalar.muli arg16 c128_i32_25
  let v58 : BitVec 32 := v57
  let v125 : Index := Scalar.indexCast v58
  let c0_44 : Index := 0#32
  ![v125.toNat, 0]
def k0_cond2 (i : grid0.Coords) : BitVec 1 :=
  let arg0 : BitVec 32 := BitVec.ofNat 32 (i 0).val
  let c32_i32 : BitVec 32 := 32#32
  let v4 : BitVec 1 := Scalar.cmpi .slt arg0 c32_i32
  let v5 : BitVec 32 := Scalar.extui v4
  let c0_i32_1 : BitVec 32 := 0#32
  let v6 : BitVec 1 := Scalar.cmpi .ne v5 c0_i32_1
  v6

@[reducible] def k0_t2_loop : Scf.Loop 32 :=
  let c0_i32_182 : BitVec 32 := 0#32
  let c64_i32 : BitVec 32 := 64#32
  let v500 : BitVec 32 := Scalar.addi c0_i32_182 c64_i32
  let c1_i32_183 : BitVec 32 := 1#32
  ⟨c0_i32_182, v500, c1_i32_183⟩
def k0_mult4 (k0_t2 : Fin k0_t2_loop.trips) : BitVec 32 :=
  let c0_i32_182 : BitVec 32 := 0#32
  let c1_i32_183 : BitVec 32 := 1#32
  let arg16 : BitVec 32 := Scf.iv c0_i32_182 c1_i32_183 k0_t2
  let c256_i32_185 : BitVec 32 := 256#32
  let v501 : BitVec 32 := Scalar.muli arg16 c256_i32_185
  v501
def k0_off8 (k0_t2 : Fin k0_t2_loop.trips) : Fin 2 → Nat :=
  let c0_i32_182 : BitVec 32 := 0#32
  let c1_i32_183 : BitVec 32 := 1#32
  let arg16 : BitVec 32 := Scf.iv c0_i32_182 c1_i32_183 k0_t2
  let c256_i32_185 : BitVec 32 := 256#32
  let v501 : BitVec 32 := Scalar.muli arg16 c256_i32_185
  let v502 : BitVec 32 := v501
  let v503 : Index := Scalar.indexCast v502
  let c0_186 : Index := 0#32
  ![v503.toNat, 0]
def k0_off9 (k0_t2 : Fin k0_t2_loop.trips) : Fin 2 → Nat :=
  let c0_188 : Index := 0#32
  let c0_i32_182 : BitVec 32 := 0#32
  let c1_i32_183 : BitVec 32 := 1#32
  let arg16 : BitVec 32 := Scf.iv c0_i32_182 c1_i32_183 k0_t2
  let c256_i32_185 : BitVec 32 := 256#32
  let v501 : BitVec 32 := Scalar.muli arg16 c256_i32_185
  let v502 : BitVec 32 := v501
  let v507 : Index := Scalar.indexCast v502
  ![0, v507.toNat]
def k0_cond4 (i : grid0.Coords) : BitVec 1 :=
  let arg0 : BitVec 32 := BitVec.ofNat 32 (i 0).val
  let c0_i32_2 : BitVec 32 := 0#32
  let v7 : BitVec 1 := Scalar.cmpi .eq arg0 c0_i32_2
  let v8 : BitVec 32 := Scalar.extui v7
  let c0_i32_3 : BitVec 32 := 0#32
  let v9 : BitVec 1 := Scalar.cmpi .ne v8 c0_i32_3
  v9

@[reducible] def k0_t3_loop : Scf.Loop 32 :=
  let c0_i32_13 : BitVec 32 := 0#32
  let c256_i32 : BitVec 32 := 256#32
  let v27 : BitVec 32 := Scalar.addi c0_i32_13 c256_i32
  let c1_i32 : BitVec 32 := 1#32
  ⟨c0_i32_13, v27, c1_i32⟩
def k0_mult5 (k0_t3 : Fin k0_t3_loop.trips) : BitVec 32 :=
  let c0_i32_13 : BitVec 32 := 0#32
  let c1_i32 : BitVec 32 := 1#32
  let arg16 : BitVec 32 := Scf.iv c0_i32_13 c1_i32 k0_t3
  let c64_i32_36 : BitVec 32 := 64#32
  let v112 : BitVec 32 := Scalar.muli arg16 c64_i32_36
  v112
def k0_mult6 (k0_t3 : Fin k0_t3_loop.trips) : BitVec 32 :=
  let c0_i32_13 : BitVec 32 := 0#32
  let c1_i32 : BitVec 32 := 1#32
  let arg16 : BitVec 32 := Scf.iv c0_i32_13 c1_i32 k0_t3
  let c64_i32_37 : BitVec 32 := 64#32
  let v114 : BitVec 32 := Scalar.muli arg16 c64_i32_37
  v114
def k0_off10 (k0_t3 : Fin k0_t3_loop.trips) : Fin 2 → Nat :=
  let c0_i32_13 : BitVec 32 := 0#32
  let c1_i32 : BitVec 32 := 1#32
  let arg16 : BitVec 32 := Scf.iv c0_i32_13 c1_i32 k0_t3
  let c64_i32_36 : BitVec 32 := 64#32
  let v112 : BitVec 32 := Scalar.muli arg16 c64_i32_36
  let v113 : BitVec 32 := v112
  let v116 : Index := Scalar.indexCast v113
  let c0_38 : Index := 0#32
  ![v116.toNat, 0]
def k0_off11 (k0_t3 : Fin k0_t3_loop.trips) : Fin 2 → Nat :=
  let c0_i32_13 : BitVec 32 := 0#32
  let c1_i32 : BitVec 32 := 1#32
  let arg16 : BitVec 32 := Scf.iv c0_i32_13 c1_i32 k0_t3
  let c64_i32_37 : BitVec 32 := 64#32
  let v114 : BitVec 32 := Scalar.muli arg16 c64_i32_37
  let v115 : BitVec 32 := v114
  let v121 : Index := Scalar.indexCast v115
  let c0_39 : Index := 0#32
  ![v121.toNat, 0]
def k0_off12 (k0_t3 : Fin k0_t3_loop.trips) : Fin 2 → Nat :=
  let c0_i32_13 : BitVec 32 := 0#32
  let c1_i32 : BitVec 32 := 1#32
  let arg16 : BitVec 32 := Scf.iv c0_i32_13 c1_i32 k0_t3
  let c64_i32_36 : BitVec 32 := 64#32
  let v112 : BitVec 32 := Scalar.muli arg16 c64_i32_36
  let v113 : BitVec 32 := v112
  let v124 : Index := Scalar.indexCast v113
  let c128 : Index := 128#32
  ![v124.toNat, 128]
def k0_cond5 (i : grid0.Coords) : BitVec 1 :=
  let arg0 : BitVec 32 := BitVec.ofNat 32 (i 0).val
  let c0_i32_4 : BitVec 32 := 0#32
  let v10 : BitVec 1 := Scalar.cmpi .sgt arg0 c0_i32_4
  let c32_i32_5 : BitVec 32 := 32#32
  let v11 : BitVec 1 := Scalar.cmpi .slt arg0 c32_i32_5
  let v12 : BitVec 1 := Scalar.andi v10 v11
  let v13 : BitVec 32 := Scalar.extui v12
  let c0_i32_6 : BitVec 32 := 0#32
  let v14 : BitVec 1 := Scalar.cmpi .ne v13 c0_i32_6
  v14

@[reducible] def k0_t4_loop : Scf.Loop 32 :=
  let c0_i32_15 : BitVec 32 := 0#32
  let c256_i32 : BitVec 32 := 256#32
  let v28 : BitVec 32 := Scalar.addi c0_i32_15 c256_i32
  let c1_i32 : BitVec 32 := 1#32
  ⟨c0_i32_15, v28, c1_i32⟩
def k0_mult7 (k0_t4 : Fin k0_t4_loop.trips) : BitVec 32 :=
  let c0_i32_15 : BitVec 32 := 0#32
  let c1_i32 : BitVec 32 := 1#32
  let arg16 : BitVec 32 := Scf.iv c0_i32_15 c1_i32 k0_t4
  let c64_i32_38 : BitVec 32 := 64#32
  let v113 : BitVec 32 := Scalar.muli arg16 c64_i32_38
  v113
def k0_off13 (k0_t4 : Fin k0_t4_loop.trips) : Fin 2 → Nat :=
  let c0_i32_15 : BitVec 32 := 0#32
  let c1_i32 : BitVec 32 := 1#32
  let arg16 : BitVec 32 := Scf.iv c0_i32_15 c1_i32 k0_t4
  let c64_i32_38 : BitVec 32 := 64#32
  let v113 : BitVec 32 := Scalar.muli arg16 c64_i32_38
  let v114 : BitVec 32 := v113
  let v115 : Index := Scalar.indexCast v114
  let c0_39 : Index := 0#32
  ![v115.toNat, 0]
def k0_mult8 (k0_t4 : Fin k0_t4_loop.trips) : BitVec 32 :=
  let c0_i32_15 : BitVec 32 := 0#32
  let c1_i32 : BitVec 32 := 1#32
  let arg16 : BitVec 32 := Scf.iv c0_i32_15 c1_i32 k0_t4
  let c64_i32_43 : BitVec 32 := 64#32
  let v126 : BitVec 32 := Scalar.muli arg16 c64_i32_43
  v126
def k0_off14 (k0_t4 : Fin k0_t4_loop.trips) : Fin 2 → Nat :=
  let c0_i32_15 : BitVec 32 := 0#32
  let c1_i32 : BitVec 32 := 1#32
  let arg16 : BitVec 32 := Scf.iv c0_i32_15 c1_i32 k0_t4
  let c64_i32_43 : BitVec 32 := 64#32
  let v126 : BitVec 32 := Scalar.muli arg16 c64_i32_43
  let v127 : BitVec 32 := v126
  let v133 : Index := Scalar.indexCast v127
  let c0_45 : Index := 0#32
  ![v133.toNat, 0]
def k0_off15 (k0_t4 : Fin k0_t4_loop.trips) : Fin 2 → Nat :=
  let c0_i32_15 : BitVec 32 := 0#32
  let c1_i32 : BitVec 32 := 1#32
  let arg16 : BitVec 32 := Scf.iv c0_i32_15 c1_i32 k0_t4
  let c64_i32_38 : BitVec 32 := 64#32
  let v113 : BitVec 32 := Scalar.muli arg16 c64_i32_38
  let v114 : BitVec 32 := v113
  let v136 : Index := Scalar.indexCast v114
  let c128 : Index := 128#32
  ![v136.toNat, 128]
def k0_cond6 (i : grid0.Coords) : BitVec 1 :=
  let arg0 : BitVec 32 := BitVec.ofNat 32 (i 0).val
  let c32_i32_7 : BitVec 32 := 32#32
  let v15 : BitVec 1 := Scalar.cmpi .eq arg0 c32_i32_7
  let v16 : BitVec 32 := Scalar.extui v15
  let c0_i32_8 : BitVec 32 := 0#32
  let v17 : BitVec 1 := Scalar.cmpi .ne v16 c0_i32_8
  v17

@[reducible] def k0_t5_loop : Scf.Loop 32 :=
  let c0_i32_10 : BitVec 32 := 0#32
  let c256_i32 : BitVec 32 := 256#32
  let v19 : BitVec 32 := Scalar.addi c0_i32_10 c256_i32
  let c1_i32 : BitVec 32 := 1#32
  ⟨c0_i32_10, v19, c1_i32⟩
def k0_mult9 (k0_t5 : Fin k0_t5_loop.trips) : BitVec 32 :=
  let c0_i32_10 : BitVec 32 := 0#32
  let c1_i32 : BitVec 32 := 1#32
  let arg16 : BitVec 32 := Scf.iv c0_i32_10 c1_i32 k0_t5
  let c64_i32 : BitVec 32 := 64#32
  let v20 : BitVec 32 := Scalar.muli arg16 c64_i32
  v20
def k0_off16 (k0_t5 : Fin k0_t5_loop.trips) : Fin 2 → Nat :=
  let c0_i32_10 : BitVec 32 := 0#32
  let c1_i32 : BitVec 32 := 1#32
  let arg16 : BitVec 32 := Scf.iv c0_i32_10 c1_i32 k0_t5
  let c64_i32 : BitVec 32 := 64#32
  let v20 : BitVec 32 := Scalar.muli arg16 c64_i32
  let v21 : BitVec 32 := v20
  let v22 : Index := Scalar.indexCast v21
  let c0_12 : Index := 0#32
  ![v22.toNat, 0]
def k0_cond3 (i : grid0.Coords) (v229 : BitVec 32) (v231 : BitVec 32) (v234 : BitVec 32) (v240 : BitVec 32) (v243 : BitVec 32) (v249 : BitVec 32) (v252 : BitVec 32) (v258 : BitVec 32) (v261 : BitVec 32) (v267 : BitVec 32) (v270 : BitVec 32) (v276 : BitVec 32) (v279 : BitVec 32) (v285 : BitVec 32) (v288 : BitVec 32) (v294 : BitVec 32) (v297 : BitVec 32) (v303 : BitVec 32) (v306 : BitVec 32) (v312 : BitVec 32) (v315 : BitVec 32) : BitVec 1 :=
  let arg0 : BitVec 32 := BitVec.ofNat 32 (i 0).val
  let c256_i32_70 : BitVec 32 := 256#32
  let v228 : BitVec 32 := Scalar.muli arg0 c256_i32_70
  let v230 : BitVec 1 := Scalar.cmpi .sge v229 v228
  let c3_i32_73 : BitVec 32 := 3#32
  let v232 : BitVec 32 := Scalar.addi v231 c3_i32_73
  let v233 : BitVec 1 := Scalar.cmpi .sgt v232 v228
  let c3_i32_75 : BitVec 32 := 3#32
  let v235 : BitVec 32 := Scalar.subi v234 c3_i32_75
  let c256_i32_76 : BitVec 32 := 256#32
  let v236 : BitVec 32 := Scalar.addi v228 c256_i32_76
  let v237 : BitVec 1 := Scalar.cmpi .slt v235 v236
  let v238 : BitVec 1 := Scalar.andi v233 v237
  let v239 : BitVec 1 := Scalar.ori v230 v238
  let c3_i32_78 : BitVec 32 := 3#32
  let v241 : BitVec 32 := Scalar.addi v240 c3_i32_78
  let v242 : BitVec 1 := Scalar.cmpi .sgt v241 v228
  let c3_i32_80 : BitVec 32 := 3#32
  let v244 : BitVec 32 := Scalar.subi v243 c3_i32_80
  let c256_i32_81 : BitVec 32 := 256#32
  let v245 : BitVec 32 := Scalar.addi v228 c256_i32_81
  let v246 : BitVec 1 := Scalar.cmpi .slt v244 v245
  let v247 : BitVec 1 := Scalar.andi v242 v246
  let v248 : BitVec 1 := Scalar.ori v239 v247
  let c3_i32_83 : BitVec 32 := 3#32
  let v250 : BitVec 32 := Scalar.addi v249 c3_i32_83
  let v251 : BitVec 1 := Scalar.cmpi .sgt v250 v228
  let c3_i32_85 : BitVec 32 := 3#32
  let v253 : BitVec 32 := Scalar.subi v252 c3_i32_85
  let c256_i32_86 : BitVec 32 := 256#32
  let v254 : BitVec 32 := Scalar.addi v228 c256_i32_86
  let v255 : BitVec 1 := Scalar.cmpi .slt v253 v254
  let v256 : BitVec 1 := Scalar.andi v251 v255
  let v257 : BitVec 1 := Scalar.ori v248 v256
  let c3_i32_88 : BitVec 32 := 3#32
  let v259 : BitVec 32 := Scalar.addi v258 c3_i32_88
  let v260 : BitVec 1 := Scalar.cmpi .sgt v259 v228
  let c3_i32_90 : BitVec 32 := 3#32
  let v262 : BitVec 32 := Scalar.subi v261 c3_i32_90
  let c256_i32_91 : BitVec 32 := 256#32
  let v263 : BitVec 32 := Scalar.addi v228 c256_i32_91
  let v264 : BitVec 1 := Scalar.cmpi .slt v262 v263
  let v265 : BitVec 1 := Scalar.andi v260 v264
  let v266 : BitVec 1 := Scalar.ori v257 v265
  let c3_i32_93 : BitVec 32 := 3#32
  let v268 : BitVec 32 := Scalar.addi v267 c3_i32_93
  let v269 : BitVec 1 := Scalar.cmpi .sgt v268 v228
  let c3_i32_95 : BitVec 32 := 3#32
  let v271 : BitVec 32 := Scalar.subi v270 c3_i32_95
  let c256_i32_96 : BitVec 32 := 256#32
  let v272 : BitVec 32 := Scalar.addi v228 c256_i32_96
  let v273 : BitVec 1 := Scalar.cmpi .slt v271 v272
  let v274 : BitVec 1 := Scalar.andi v269 v273
  let v275 : BitVec 1 := Scalar.ori v266 v274
  let c3_i32_98 : BitVec 32 := 3#32
  let v277 : BitVec 32 := Scalar.addi v276 c3_i32_98
  let v278 : BitVec 1 := Scalar.cmpi .sgt v277 v228
  let c3_i32_100 : BitVec 32 := 3#32
  let v280 : BitVec 32 := Scalar.subi v279 c3_i32_100
  let c256_i32_101 : BitVec 32 := 256#32
  let v281 : BitVec 32 := Scalar.addi v228 c256_i32_101
  let v282 : BitVec 1 := Scalar.cmpi .slt v280 v281
  let v283 : BitVec 1 := Scalar.andi v278 v282
  let v284 : BitVec 1 := Scalar.ori v275 v283
  let c3_i32_103 : BitVec 32 := 3#32
  let v286 : BitVec 32 := Scalar.addi v285 c3_i32_103
  let v287 : BitVec 1 := Scalar.cmpi .sgt v286 v228
  let c3_i32_105 : BitVec 32 := 3#32
  let v289 : BitVec 32 := Scalar.subi v288 c3_i32_105
  let c256_i32_106 : BitVec 32 := 256#32
  let v290 : BitVec 32 := Scalar.addi v228 c256_i32_106
  let v291 : BitVec 1 := Scalar.cmpi .slt v289 v290
  let v292 : BitVec 1 := Scalar.andi v287 v291
  let v293 : BitVec 1 := Scalar.ori v284 v292
  let c3_i32_108 : BitVec 32 := 3#32
  let v295 : BitVec 32 := Scalar.addi v294 c3_i32_108
  let v296 : BitVec 1 := Scalar.cmpi .sgt v295 v228
  let c3_i32_110 : BitVec 32 := 3#32
  let v298 : BitVec 32 := Scalar.subi v297 c3_i32_110
  let c256_i32_111 : BitVec 32 := 256#32
  let v299 : BitVec 32 := Scalar.addi v228 c256_i32_111
  let v300 : BitVec 1 := Scalar.cmpi .slt v298 v299
  let v301 : BitVec 1 := Scalar.andi v296 v300
  let v302 : BitVec 1 := Scalar.ori v293 v301
  let c3_i32_113 : BitVec 32 := 3#32
  let v304 : BitVec 32 := Scalar.addi v303 c3_i32_113
  let v305 : BitVec 1 := Scalar.cmpi .sgt v304 v228
  let c3_i32_115 : BitVec 32 := 3#32
  let v307 : BitVec 32 := Scalar.subi v306 c3_i32_115
  let c256_i32_116 : BitVec 32 := 256#32
  let v308 : BitVec 32 := Scalar.addi v228 c256_i32_116
  let v309 : BitVec 1 := Scalar.cmpi .slt v307 v308
  let v310 : BitVec 1 := Scalar.andi v305 v309
  let v311 : BitVec 1 := Scalar.ori v302 v310
  let c3_i32_117 : BitVec 32 := 3#32
  let v313 : BitVec 32 := Scalar.addi v312 c3_i32_117
  let v314 : BitVec 1 := Scalar.cmpi .sgt v313 v228
  let c3_i32_119 : BitVec 32 := 3#32
  let v316 : BitVec 32 := Scalar.subi v315 c3_i32_119
  let c256_i32_120 : BitVec 32 := 256#32
  let v317 : BitVec 32 := Scalar.addi v228 c256_i32_120
  let v318 : BitVec 1 := Scalar.cmpi .slt v316 v317
  let v319 : BitVec 1 := Scalar.andi v314 v318
  let v320 : BitVec 1 := Scalar.ori v311 v319
  let v321 : BitVec 32 := Scalar.extui v320
  let c0_i32_121 : BitVec 32 := 0#32
  let v322 : BitVec 1 := Scalar.cmpi .ne v321 c0_i32_121
  v322

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_5 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16384x256 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x16384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x16384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16384x256 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S64x16384 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S16384x8192 : Shape := ⟨2, ![16384, 8192]⟩
abbrev S1x8192 : Shape := ⟨2, ![1, 8192]⟩
abbrev S10 : Shape := ⟨1, ![10]⟩
abbrev S16384x4 : Shape := ⟨2, ![16384, 4]⟩
abbrev S16384 : Shape := ⟨1, ![16384]⟩
abbrev S16384x1 : Shape := ⟨2, ![16384, 1]⟩
abbrev S64x16384 : Shape := ⟨2, ![64, 16384]⟩
abbrev S1 : Shape := ⟨1, ![1]⟩
abbrev S16384x3 : Shape := ⟨2, ![16384, 3]⟩
abbrev S16384x8189 : Shape := ⟨2, ![16384, 8189]⟩
abbrev S16384x2 : Shape := ⟨2, ![16384, 2]⟩
abbrev S16384x8190 : Shape := ⟨2, ![16384, 8190]⟩
abbrev S16384x8191 : Shape := ⟨2, ![16384, 8191]⟩
abbrev S8192 : Shape := ⟨1, ![8192]⟩
abbrev S256x8192 : Shape := ⟨2, ![256, 8192]⟩

abbrev nBuf : Space → Nat
  | .hbm => 9
  | .vmem => 7
  | .smem => 1
  | _ => 0

abbrev bufTy : (tb : Table) → Fin (tcTables nBuf tb) → BufTy
  | .hbm, ⟨0, _⟩ => ⟨S16384x8192, .fp8e4m3⟩
  | .hbm, ⟨1, _⟩ => ⟨S1x8192, .f32⟩
  | .hbm, ⟨2, _⟩ => ⟨S10, .i32⟩
  | .hbm, ⟨3, _⟩ => ⟨S16384x4, .bf16⟩
  | .hbm, ⟨4, _⟩ => ⟨S16384, .bf16⟩
  | .hbm, ⟨5, _⟩ => ⟨S16384x1, .bf16⟩
  | .hbm, ⟨6, _⟩ => ⟨S16384x8192, .fp8e4m3⟩
  | .hbm, ⟨7, _⟩ => ⟨S1x8192, .f32⟩
  | .hbm, ⟨8, _⟩ => ⟨S64x16384, .bf16⟩
  | .local _ .vmem, ⟨0, _⟩ => ⟨S16384x8192, .fp8e4m3⟩
  | .local _ .vmem, ⟨1, _⟩ => ⟨S1x8192, .f32⟩
  | .local _ .vmem, ⟨2, _⟩ => ⟨S16384x4, .bf16⟩
  | .local _ .vmem, ⟨3, _⟩ => ⟨S16384x1, .bf16⟩
  | .local _ .vmem, ⟨4, _⟩ => ⟨S16384x8192, .fp8e4m3⟩
  | .local _ .vmem, ⟨5, _⟩ => ⟨S1x8192, .f32⟩
  | .local _ .vmem, ⟨6, _⟩ => ⟨S64x16384, .bf16⟩
  | .local _ .smem, ⟨0, _⟩ => ⟨S10, .i32⟩
  | _, _ => ⟨S16384x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .smem S10 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16384x4 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16384x1 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16384x8192 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x8192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x16384 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Body.Conv.Runs.lean ====
/- What the runs of the body and the frame share: the contents the region finds, the table, the branch conditions over the points, the staging and scratch memrefs, where each window is fetched and flushed. -/
module

public import proofs.«01_k».proof.Proof.Gen.Conv.Launch
public import proofs.«01_k».proof.Proof.Gen.Conv.Skeleton
public import proofs.«01_k».proof.Proof.Gen.Conv.Loops
public import Idealize.ShloMosaic.Lib.Pipeline.FrameBody
public import Idealize.ShloMosaic.Lib.Pipeline.DatRel
public import Idealize.ShloMosaic.Lib.Pipeline.ArrRel
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Conv.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Conv Cert.Conv.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

-- window 0 is fetched at points [0, 1, 2, 3, 4, 5, 6, 7, 8, 9, 10, 11]…: no closed form stated
-- window 1 is fetched at points [0, 1, 2, 3, 4, 5, 6, 7, 8, 9, 10, 11]…: no closed form stated
/-- Window 2 (operand 3 (%0)) is fetched at the first point only, at any contents of the tables (its index map reads none). -/
theorem fetch0_2 (a : (pcfg0 (F := F)).Adm) : ∀ t : Fin (cfg0 a).N, ((cfg0 a).win 2).fetch t = true ↔ t.val % 33 = 0 :=
  (fun t => Pipeline.Window.fetchOf_const cc0_transform_2 (fun _ _ => rfl) (n := 33) (by decide) t : ∀ t : Fin grid0.N, Pipeline.Window.fetchOf grid0 false cc0_transform_2 t = true ↔ t.val % 33 = 0)
/-- Window 3 (operand 4 (%1)) is fetched at the first point only, at any contents of the tables (its index map reads none). -/
theorem fetch0_3 (a : (pcfg0 (F := F)).Adm) : ∀ t : Fin (cfg0 a).N, ((cfg0 a).win 3).fetch t = true ↔ t.val % 33 = 0 :=
  (fun t => Pipeline.Window.fetchOf_const cc0_transform_3 (fun _ _ => rfl) (n := 33) (by decide) t : ∀ t : Fin grid0.N, Pipeline.Window.fetchOf grid0 false cc0_transform_3 t = true ↔ t.val % 33 = 0)
-- window 4 is written back at points [1, 2, 3, 4, 5, 6, 7, 8, 9, 10, 11, 12]…: no closed form stated
-- window 5 is written back at points [0, 1, 2, 3, 4, 5, 6, 7, 8, 9, 10, 11]…: no closed form stated
/-- Window 6 (result 2 (%2#2)) is written back at the last point only, at any contents of the tables (its index map reads none). -/
theorem flush0_6 (a : (pcfg0 (F := F)).Adm) : ∀ t : Fin (cfg0 a).N, ((cfg0 a).win 6).flush t = true ↔ t.val % 33 = 32 :=
  (fun t => Pipeline.Window.flushOf_const cc0_transform_6 (fun _ _ => rfl) (n := 33) (by decide) rfl t : ∀ t : Fin grid0.N, Pipeline.Window.flushOf grid0 true cc0_transform_6 t = true ↔ t.val % 33 = 32)

/-- The current staging memref of each window at point `t`: which of its buffers it is on. -/
abbrev st0_0 (a : (pcfg0 (F := F)).Adm) (t : Fin (cfg0 a).N) := ((cfg0 a).win 0).stage ((cfg0 a).slots t 0)
/-- The buffer of window 1 at a point. -/
abbrev st0_1 (a : (pcfg0 (F := F)).Adm) (t : Fin (cfg0 a).N) := ((cfg0 a).win 1).stage ((cfg0 a).slots t 1)
/-- The buffer of window 2 at a point. -/
abbrev st0_2 (a : (pcfg0 (F := F)).Adm) (t : Fin (cfg0 a).N) := ((cfg0 a).win 2).stage ((cfg0 a).slots t 2)
/-- The buffer of window 3 at a point. -/
abbrev st0_3 (a : (pcfg0 (F := F)).Adm) (t : Fin (cfg0 a).N) := ((cfg0 a).win 3).stage ((cfg0 a).slots t 3)
/-- The buffer of window 4 at a point. -/
abbrev st0_4 (a : (pcfg0 (F := F)).Adm) (t : Fin (cfg0 a).N) := ((cfg0 a).win 4).stage ((cfg0 a).slots t 4)
/-- The buffer of window 5 at a point. -/
abbrev st0_5 (a : (pcfg0 (F := F)).Adm) (t : Fin (cfg0 a).N) := ((cfg0 a).win 5).stage ((cfg0 a).slots t 5)
/-- The buffer of window 6 at a point. -/
abbrev st0_6 (a : (pcfg0 (F := F)).Adm) (t : Fin (cfg0 a).N) := ((cfg0 a).win 6).stage ((cfg0 a).slots t 6)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_conv (grid0.coords t) (Memref.whole main_arg2) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _)

/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

/-- The operations before the call make no new buffer. -/
theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
/-- The pipeline for the memory's boundaries. -/
abbrev cfgM (hO : Ok m) : Pipeline.Cfg sig Λ₀ := cfg0 (adm m hO)

/-- Each table as the body is handed it: its whole buffer as a memref, and that memref's wholeness. -/
abbrev tbM0_0 : Memref sig .tc .smem S10 .i32 := Memref.whole main_arg2
/-- The table is a whole buffer. -/
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
/-- Half of the share of a table buffer with its contents. -/
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Conv`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin grid0.N, cond0_0 (grid0.coords t) ↔ t.val % 33 = 0 :=
  (fun t => by
    have ht : t.val < 33 := Nat.lt_of_lt_of_eq t.isLt N_0
    have e0 : (grid0.coords t 0).val = t.val / 1 % 33 := Pipeline.Grid.coords_val t 0 (by decide) rfl
    simp only [cond0_0, k0_cond1, e0]
    word_cmp
   : ∀ t : Fin grid0.N, cond0_0 (grid0.coords t) ↔ t.val % 33 = 0)

/-- The condition of the body's `scf.if` 1 (`k0_h2`), from the grid coordinates (the skeleton's scalar
    chain substituted). -/
abbrev cond0_1 (i : grid0.Coords) : Prop := k0_cond2 i = 1#1
/-- It holds at the points before point 32 — decided over the grid. -/
theorem hcond0_1 : ∀ t : Fin grid0.N, cond0_1 (grid0.coords t) ↔ t.val < 32 :=
  (by decide +kernel : ∀ t : Fin grid0.N, cond0_1 (grid0.coords t) ↔ t.val < 32)

/-- The condition of the body's `scf.if` 2 (`k0_h4`), from the grid coordinates (the skeleton's scalar
    chain substituted). -/
abbrev cond0_2 (i : grid0.Coords) : Prop := k0_cond4 i = 1#1
/-- It holds at the first point only — by arithmetic of the point. -/
theorem hcond0_2 : ∀ t : Fin grid0.N, cond0_2 (grid0.coords t) ↔ t.val % 33 = 0 :=
  (fun t => by
    have ht : t.val < 33 := Nat.lt_of_lt_of_eq t.isLt N_0
    have e0 : (grid0.coords t 0).val = t.val / 1 % 33 := Pipeline.Grid.coords_val t 0 (by decide) rfl
    simp only [cond0_2, k0_cond4, e0]
    word_cmp
   : ∀ t : Fin grid0.N, cond0_2 (grid0.coords t) ↔ t.val % 33 = 0)

/-- The condition of the body's `scf.if` 3 (`k0_h5`), from the grid coordinates (the skeleton's scalar
    chain substituted). -/
abbrev cond0_3 (i : grid0.Coords) : Prop := k0_cond5 i = 1#1
/-- It holds at the points whose coordinates have 1 ≤ i0 and i0 ≤ 31 — decided over the grid. -/
theorem hcond0_3 : ∀ t : Fin grid0.N, cond0_3 (grid0.coords t) ↔ (1 ≤ t.val % 33 ∧ t.val % 33 ≤ 31) :=
  (by decide +kernel : ∀ t : Fin grid0.N, cond0_3 (grid0.coords t) ↔ (1 ≤ t.val % 33 ∧ t.val % 33 ≤ 31))

/-- The condition of the body's `scf.if` 4 (`k0_h6`), from the grid coordinates (the skeleton's scalar
    chain substituted). -/
abbrev cond0_4 (i : grid0.Coords) : Prop := k0_cond6 i = 1#1
/-- It holds at the last point only — by arithmetic of the point. -/
theorem hcond0_4 : ∀ t : Fin grid0.N, cond0_4 (grid0.coords t) ↔ t.val % 33 = 32 :=
  (fun t => by
    have ht : t.val < 33 := Nat.lt_of_lt_of_eq t.isLt N_0
    have e0 : (grid0.coords t 0).val = t.val / 1 % 33 := Pipeline.Grid.coords_val t 0 (by decide) rfl
    simp only [cond0_4, k0_cond6, e0]
    word_cmp
   : ∀ t : Fin grid0.N, cond0_4 (grid0.coords t) ↔ t.val % 33 = 32)

/-! ## Where the windows are idle (the printed configuration's table `Cfg.idle`) -/

/-- Window 0 is never idle (an input). -/
theorem liveAt0_0 (hO : Ok m) : ∀ t : Fin (cfgM m hO).N, (cfgM m hO).idle 0 (grid0.coords t) = false :=
  (fun _ => rfl : ∀ t : Fin grid0.N, idle0 (tbl m) 0 (grid0.coords t) = false)
/-- Window 1 is never idle (an input). -/
theorem liveAt0_1 (hO : Ok m) : ∀ t : Fin (cfgM m hO).N, (cfgM m hO).idle 1 (grid0.coords t) = false :=
  (fun _ => rfl : ∀ t : Fin grid0.N, idle0 (tbl m) 1 (grid0.coords t) = false)
/-- Window 2 is never idle (an input). -/
theorem liveAt0_2 (hO : Ok m) : ∀ t : Fin (cfgM m hO).N, (cfgM m hO).idle 2 (grid0.coords t) = false :=
  (fun _ => rfl : ∀ t : Fin grid0.N, idle0 (tbl m) 2 (grid0.coords t) = false)
/-- Window 3 is never idle (an input). -/
theorem liveAt0_3 (hO : Ok m) : ∀ t : Fin (cfgM m hO).N, (cfgM m hO).idle 3 (grid0.coords t) = false :=
  (fun _ => rfl : ∀ t : Fin grid0.N, idle0 (tbl m) 3 (grid0.coords t) = false)
/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S16384x256 .fp8e4m3 := spec0_0.stage ((cfgM m hO).slots t 0)
/-- The buffer of window 0 is whole. -/
abbrev hs0_0 (hO : Ok m) (t : Fin (cfgM m hO).N) : (ms0_0 m hO t).IsWhole := hstage0_0 (((cfgM m hO).slots t 0).cast nbuf0_0)
/-- The buffer of window 1 at a point, as the body is handed it. -/
abbrev ms0_1 (hO : Ok m) (t : Fin (cfgM m hO).N) : Memref sig .tc .vmem S1x256 .f32 := spec0_1.stage ((cfgM m hO).slots t 1)
/-- The buffer of window 1 is whole. -/
abbrev hs0_1 (hO : Ok m) (t : Fin (cfgM m hO).N) : (ms0_1 m hO t).IsWhole := hstage0_1 (((cfgM m hO).slots t 1).cast nbuf0_1)
/-- The buffer of window 2 at a point, as the body is handed it. -/
abbrev ms0_2 (hO : Ok m) (t : Fin (cfgM m hO).N) : Memref sig .tc .vmem S4x16384 .bf16 := spec0_2.stage ((cfgM m hO).slots t 2)
/-- The buffer of window 2 is whole. -/
abbrev hs0_2 (hO : Ok m) (t : Fin (cfgM m hO).N) : (ms0_2 m hO t).IsWhole := hstage0_2 (((cfgM m hO).slots t 2).cast nbuf0_2)
/-- The buffer of window 3 at a point, as the body is handed it. -/
abbrev ms0_3 (hO : Ok m) (t : Fin (cfgM m hO).N) : Memref sig .tc .vmem S1x16384 .bf16 := spec0_3.stage ((cfgM m hO).slots t 3)
/-- The buffer of window 3 is whole. -/
abbrev hs0_3 (hO : Ok m) (t : Fin (cfgM m hO).N) : (ms0_3 m hO t).IsWhole := hstage0_3 (((cfgM m hO).slots t 3).cast nbuf0_3)
/-- The buffer of window 4 at a point, as the body is handed it. -/
abbrev ms0_4 (hO : Ok m) (t : Fin (cfgM m hO).N) : Memref sig .tc .vmem S16384x256 .fp8e4m3 := spec0_4.stage ((cfgM m hO).slots t 4)
/-- The buffer of window 4 is whole. -/
abbrev hs0_4 (hO : Ok m) (t : Fin (cfgM m hO).N) : (ms0_4 m hO t).IsWhole := hstage0_4 (((cfgM m hO).slots t 4).cast nbuf0_4)
/-- The buffer of window 5 at a point, as the body is handed it. -/
abbrev ms0_5 (hO : Ok m) (t : Fin (cfgM m hO).N) : Memref sig .tc .vmem S1x256 .f32 := spec0_5.stage ((cfgM m hO).slots t 5)
/-- The buffer of window 5 is whole. -/
abbrev hs0_5 (hO : Ok m) (t : Fin (cfgM m hO).N) : (ms0_5 m hO t).IsWhole := hstage0_5 (((cfgM m hO).slots t 5).cast nbuf0_5)
/-- The buffer of window 6 at a point, as the body is handed it. -/
abbrev ms0_6 (hO : Ok m) (t : Fin (cfgM m hO).N) : Memref sig .tc .vmem S64x16384 .bf16 := spec0_6.stage ((cfgM m hO).slots t 6)
/-- The buffer of window 6 is whole. -/
abbrev hs0_6 (hO : Ok m) (t : Fin (cfgM m hO).N) : (ms0_6 m hO t).IsWhole := hstage0_6 (((cfgM m hO).slots t 6).cast nbuf0_6)
/-- The scratch operands: whole scoped buffers of the kernel's own, passed beside the windows. -/
abbrev scM0_0 : Memref sig .tc .vmem S16384x256 .f32 := Memref.whole cc0_scratch0
/-- Scratch buffer 1. -/
abbrev scM0_1 : Memref sig .tc .vmem S16384x256 .bf16 := Memref.whole cc0_scratch1
/-- Scratch buffer 2. -/
abbrev scM0_2 : Memref sig .tc .vmem S16384x128 .f32 := Memref.whole cc0_scratch2
/-- Scratch buffer 3. -/
abbrev scM0_3 : Memref sig .tc .vmem S16384x128 .fp8e4m3 := Memref.whole cc0_scratch3
/-- Scratch buffer 4. -/
abbrev scM0_4 : Memref sig .tc .vmem S64x256 .bf16 := Memref.whole cc0_scratch4
/-- Scratch buffer 5. -/
abbrev scM0_5 : Memref sig .tc .vmem S8x256 .f32 := Memref.whole cc0_scratch5
/-- Scratch buffer 6. -/
abbrev scM0_6 : Memref sig .tc .vmem S8x128 .f32 := Memref.whole cc0_scratch6
/-- The scratch `arg9` the kernel carries between points, as a view: what it holds is stated through it. -/
abbrev VS0_0 : View sig .tc .vmem S16384x256 .f32 := scM0_0.view
/-- The scratch `arg10` the kernel carries between points, as a view: what it holds is stated through it. -/
abbrev VS0_1 : View sig .tc .vmem S16384x256 .bf16 := scM0_1.view
/-- The scratch `arg11` the kernel carries between points, as a view: what it holds is stated through it. -/
abbrev VS0_2 : View sig .tc .vmem S16384x128 .f32 := scM0_2.view
/-- The scratch `arg12` the kernel carries between points, as a view: what it holds is stated through it. -/
abbrev VS0_3 : View sig .tc .vmem S16384x128 .fp8e4m3 := scM0_3.view
/-- The scratch `arg14` the kernel carries between points, as a view: what it holds is stated through it. -/
abbrev VS0_5 : View sig .tc .vmem S8x256 .f32 := scM0_5.view
/-- The scratch `arg15` the kernel carries between points, as a view: what it holds is stated through it. -/
abbrev VS0_6 : View sig .tc .vmem S8x128 .f32 := scM0_6.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA; rw [scopedRest0_eq]; simp only [scM0_0, scM0_1, scM0_2, scM0_3, scM0_4, scM0_5, scM0_6, owns_whole]; try rfl

/-- The table's contents, as the region's contents of its tables. -/
abbrev tabOf (c : Dev nD) (xt0 : TbBuf0 (F := F) c tbM0_0) : pre0.Contents (Elt F) := fun | 0 => xt0
/-- A boundary between two sequences lies where this point has to collect edge columns: the condition of the body's
    `scf.if` over the table's words. -/
abbrev Touched {c : Dev nD} (i : grid0.Coords) (xt0 : TbBuf0 (F := F) c tbM0_0) : Prop :=
  let pf := tabOf c xt0
  k0_cond3 i (pf.atD 0 ![0]) (pf.atD 0 ![0]) (pf.atD 0 ![0]) (pf.atD 0 ![1]) (pf.atD 0 ![1]) (pf.atD 0 ![2]) (pf.atD 0 ![2]) (pf.atD 0 ![3]) (pf.atD 0 ![3]) (pf.atD 0 ![4]) (pf.atD 0 ![4]) (pf.atD 0 ![5]) (pf.atD 0 ![5]) (pf.atD 0 ![6]) (pf.atD 0 ![6]) (pf.atD 0 ![7]) (pf.atD 0 ![7]) (pf.atD 0 ![8]) (pf.atD 0 ![8]) (pf.atD 0 ![9]) (pf.atD 0 ![9]) = 1#1

end Cert.Conv.Body

end
-- ==== Proof.Body.Conv.RunA1.lean ====
/- The body run at the points of case A1. -/
module

public import proofs.«01_k».proof.Proof.Body.Conv.Runs

@[expose] public section

set_option maxRecDepth 16384

noncomputable section

namespace Cert.Conv.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Conv Cert.Conv.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1600000 in
/-- doc -/
noncomputable def runA1 (c : Dev nD) (i : grid0.Coords) (arg2 : Memref sig .tc .vmem S16384x256 .fp8e4m3) (harg2 : arg2.IsWhole) (arg3 : Memref sig .tc .vmem S1x256 .f32) (harg3 : arg3.IsWhole) (arg4 : Memref sig .tc .vmem S4x16384 .bf16) (harg4 : arg4.IsWhole) (arg5 : Memref sig .tc .vmem S1x16384 .bf16) (harg5 : arg5.IsWhole) (arg6 : Memref sig .tc .vmem S16384x256 .fp8e4m3) (harg6 : arg6.IsWhole) (arg7 : Memref sig .tc .vmem S1x256 .f32) (harg7 : arg7.IsWhole) (arg8 : Memref sig .tc .vmem S64x16384 .bf16) (harg8 : arg8.IsWhole) (arg9 : Memref sig .tc .vmem S16384x256 .f32) (harg9 : arg9.IsWhole) (arg10 : Memref sig .tc .vmem S16384x256 .bf16) (harg10 : arg10.IsWhole) (arg11 : Memref sig .tc .vmem S16384x128 .f32) (harg11 : arg11.IsWhole) (arg12 : Memref sig .tc .vmem S16384x128 .fp8e4m3) (harg12 : arg12.IsWhole) (arg13 : Memref sig .tc .vmem S64x256 .bf16) (harg13 : arg13.IsWhole) (arg14 : Memref sig .tc .vmem S8x256 .f32) (harg14 : arg14.IsWhole) (arg15 : Memref sig .tc .vmem S8x128 .f32) (harg15 : arg15.IsWhole)
    (xt0 : TbBuf0 (F := F) c tbM0_0) (hc0 : cond0_0 i) (hc1 : cond0_1 i) (hc2 : cond0_2 i) (hc3 : ¬cond0_3 i) (hc4 : ¬cond0_4 i) (ht : Touched i xt0)
    (x0 : Vec F S16384x256 .fp8e4m3) (x1 : Vec F S1x256 .f32) (x2 : Vec F S4x16384 .bf16) (x3 : Vec F S1x16384 .bf16) (d4 : Vec F S16384x256 .fp8e4m3) (d5 : Vec F S1x256 .f32) (d6 : Vec F S64x16384 .bf16) (xs0 : Vec F S16384x256 .f32) (xs1 : Vec F S16384x256 .bf16) (xs2 : Vec F S16384x128 .f32) (xs3 : Vec F S16384x128 .fp8e4m3) (xs5 : Vec F S8x256 .f32) (xs6 : Vec F S8x128 .f32) :
    Σ' (LO4 : List (View.Piece (Elt F) S16384x256 .fp8e4m3)), Σ' (LO5 : List (View.Piece (Elt F) S1x256 .f32)), Σ' (LO6 : List (View.Piece (Elt F) S64x16384 .bf16)), Σ' (LS0 : List (View.Piece (Elt F) S16384x256 .f32)), Σ' (LS1 : List (View.Piece (Elt F) S16384x256 .bf16)), Σ' (LS2 : List (View.Piece (Elt F) S16384x128 .f32)), Σ' (LS3 : List (View.Piece (Elt F) S16384x128 .fp8e4m3)), Σ' (LS5 : List (View.Piece (Elt F) S8x256 .f32)), { LS6 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare d4 ∗ owns (c : Thread nD τ) arg7 fullShare d5 ∗ owns (c : Thread nD τ) arg8 fullShare d6 ∗ owns (c : Thread nD τ) arg9 fullShare xs0 ∗ owns (c : Thread nD τ) arg10 fullShare xs1 ∗ owns (c : Thread nD τ) arg11 fullShare xs2 ∗ owns (c : Thread nD τ) arg12 fullShare xs3 ∗ (∃ d, owns (c : Thread nD τ) arg13 fullShare d) ∗ owns (c : Thread nD τ) arg14 fullShare xs5 ∗ owns (c : Thread nD τ) arg15 fullShare xs6 ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (arg6.view.loc (c : Thread nD τ) ↦[arg6.view.set]{fullShare} arg6.view.writes (Elt F) (harg6.unread d4) LO4) ∗ (arg7.view.loc (c : Thread nD τ) ↦[arg7.view.set]{fullShare} arg7.view.writes (Elt F) (harg7.unread d5) LO5) ∗ (arg8.view.loc (c : Thread nD τ) ↦[arg8.view.set]{fullShare} arg8.view.writes (Elt F) (arg8.view.junk) LO6) ∗ (arg9.view.loc (c : Thread nD τ) ↦[arg9.view.set]{fullShare} arg9.view.writes (Elt F) (harg9.unread xs0) LS0) ∗ (arg10.view.loc (c : Thread nD τ) ↦[arg10.view.set]{fullShare} arg10.view.writes (Elt F) (harg10.unread xs1) LS1) ∗ (arg11.view.loc (c : Thread nD τ) ↦[arg11.view.set]{fullShare} arg11.view.writes (Elt F) (harg11.unread xs2) LS2) ∗ (arg12.view.loc (c : Thread nD τ) ↦[arg12.view.set]{fullShare} arg12.view.writes (Elt F) (arg12.view.junk) LS3) ∗ (∃ d, owns (c : Thread nD τ) arg13 fullShare d) ∗ (arg14.view.loc (c : Thread nD τ) ↦[arg14.view.set]{fullShare} arg14.view.writes (Elt F) (harg14.unread xs5) LS5) ∗ (arg15.view.loc (c : Thread nD τ) ↦[arg15.view.set]{fullShare} arg15.view.writes (Elt F) (arg15.view.junk) LS6) ∗ tbPt0 c tbM0_0 xt0) -∗ K ⟨⟩))
          ⊢ wp frame (wpE (defs₀ (F := F)) Variants.none c none) E (cc0_conv i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨[], ?_, ?_, ?_, ?_, ?_, ?_, ?_, ?_, fun E K => ?run⟩
  case run =>
    simp only [cc0_conv_eq_skeleton]; unfold cc0_conv_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%xs4, %f11, %hf11, H11⟩, ⟨%f12, %hf12, H12⟩, ⟨%f13, %hf13, H13⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
    sl_exec (disch := first | sl_exact hc0 | sl_exact hc1 | sl_exact hc2 | sl_exact hc3 | sl_exact hc4 | sl_exact ht)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]
    · iexists _, _; isplitr; swap; · iexact H11
      ipureintro; rfl
    isplitl [H12]; · iexact H12
    isplitl [H13]; · iexact H13
    iexact HT0

end Cert.Conv.Body

end
-- ==== Proof.Body.Conv.RunA0.lean ====
/- The body run at the points of case A0. -/
module

public import proofs.«01_k».proof.Proof.Body.Conv.Runs

@[expose] public section

set_option maxRecDepth 16384

noncomputable section

namespace Cert.Conv.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Conv Cert.Conv.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1600000 in
/-- doc -/
noncomputable def runA0 (c : Dev nD) (i : grid0.Coords) (arg2 : Memref sig .tc .vmem S16384x256 .fp8e4m3) (harg2 : arg2.IsWhole) (arg3 : Memref sig .tc .vmem S1x256 .f32) (harg3 : arg3.IsWhole) (arg4 : Memref sig .tc .vmem S4x16384 .bf16) (harg4 : arg4.IsWhole) (arg5 : Memref sig .tc .vmem S1x16384 .bf16) (harg5 : arg5.IsWhole) (arg6 : Memref sig .tc .vmem S16384x256 .fp8e4m3) (harg6 : arg6.IsWhole) (arg7 : Memref sig .tc .vmem S1x256 .f32) (harg7 : arg7.IsWhole) (arg8 : Memref sig .tc .vmem S64x16384 .bf16) (harg8 : arg8.IsWhole) (arg9 : Memref sig .tc .vmem S16384x256 .f32) (harg9 : arg9.IsWhole) (arg10 : Memref sig .tc .vmem S16384x256 .bf16) (harg10 : arg10.IsWhole) (arg11 : Memref sig .tc .vmem S16384x128 .f32) (harg11 : arg11.IsWhole) (arg12 : Memref sig .tc .vmem S16384x128 .fp8e4m3) (harg12 : arg12.IsWhole) (arg13 : Memref sig .tc .vmem S64x256 .bf16) (harg13 : arg13.IsWhole) (arg14 : Memref sig .tc .vmem S8x256 .f32) (harg14 : arg14.IsWhole) (arg15 : Memref sig .tc .vmem S8x128 .f32) (harg15 : arg15.IsWhole)
    (xt0 : TbBuf0 (F := F) c tbM0_0) (hc0 : cond0_0 i) (hc1 : cond0_1 i) (hc2 : cond0_2 i) (hc3 : ¬cond0_3 i) (hc4 : ¬cond0_4 i) (ht : ¬Touched i xt0)
    (x0 : Vec F S16384x256 .fp8e4m3) (x1 : Vec F S1x256 .f32) (x2 : Vec F S4x16384 .bf16) (x3 : Vec F S1x16384 .bf16) (d4 : Vec F S16384x256 .fp8e4m3) (d5 : Vec F S1x256 .f32) (d6 : Vec F S64x16384 .bf16) (xs0 : Vec F S16384x256 .f32) (xs1 : Vec F S16384x256 .bf16) (xs2 : Vec F S16384x128 .f32) (xs3 : Vec F S16384x128 .fp8e4m3) (xs5 : Vec F S8x256 .f32) (xs6 : Vec F S8x128 .f32) :
    Σ' (LO4 : List (View.Piece (Elt F) S16384x256 .fp8e4m3)), Σ' (LO5 : List (View.Piece (Elt F) S1x256 .f32)), Σ' (LO6 : List (View.Piece (Elt F) S64x16384 .bf16)), Σ' (LS0 : List (View.Piece (Elt F) S16384x256 .f32)), Σ' (LS1 : List (View.Piece (Elt F) S16384x256 .bf16)), Σ' (LS2 : List (View.Piece (Elt F) S16384x128 .f32)), Σ' (LS3 : List (View.Piece (Elt F) S16384x128 .fp8e4m3)), Σ' (LS5 : List (View.Piece (Elt F) S8x256 .f32)), { LS6 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare d4 ∗ owns (c : Thread nD τ) arg7 fullShare d5 ∗ owns (c : Thread nD τ) arg8 fullShare d6 ∗ owns (c : Thread nD τ) arg9 fullShare xs0 ∗ owns (c : Thread nD τ) arg10 fullShare xs1 ∗ owns (c : Thread nD τ) arg11 fullShare xs2 ∗ owns (c : Thread nD τ) arg12 fullShare xs3 ∗ (∃ d, owns (c : Thread nD τ) arg13 fullShare d) ∗ owns (c : Thread nD τ) arg14 fullShare xs5 ∗ owns (c : Thread nD τ) arg15 fullShare xs6 ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (arg6.view.loc (c : Thread nD τ) ↦[arg6.view.set]{fullShare} arg6.view.writes (Elt F) (harg6.unread d4) LO4) ∗ (arg7.view.loc (c : Thread nD τ) ↦[arg7.view.set]{fullShare} arg7.view.writes (Elt F) (harg7.unread d5) LO5) ∗ (arg8.view.loc (c : Thread nD τ) ↦[arg8.view.set]{fullShare} arg8.view.writes (Elt F) (arg8.view.junk) LO6) ∗ (arg9.view.loc (c : Thread nD τ) ↦[arg9.view.set]{fullShare} arg9.view.writes (Elt F) (harg9.unread xs0) LS0) ∗ (arg10.view.loc (c : Thread nD τ) ↦[arg10.view.set]{fullShare} arg10.view.writes (Elt F) (harg10.unread xs1) LS1) ∗ (arg11.view.loc (c : Thread nD τ) ↦[arg11.view.set]{fullShare} arg11.view.writes (Elt F) (harg11.unread xs2) LS2) ∗ (arg12.view.loc (c : Thread nD τ) ↦[arg12.view.set]{fullShare} arg12.view.writes (Elt F) (arg12.view.junk) LS3) ∗ (∃ d, owns (c : Thread nD τ) arg13 fullShare d) ∗ (arg14.view.loc (c : Thread nD τ) ↦[arg14.view.set]{fullShare} arg14.view.writes (Elt F) (harg14.unread xs5) LS5) ∗ (arg15.view.loc (c : Thread nD τ) ↦[arg15.view.set]{fullShare} arg15.view.writes (Elt F) (arg15.view.junk) LS6) ∗ tbPt0 c tbM0_0 xt0) -∗ K ⟨⟩))
          ⊢ wp frame (wpE (defs₀ (F := F)) Variants.none c none) E (cc0_conv i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨[], ?_, ?_, ?_, ?_, ?_, ?_, ?_, ?_, fun E K => ?run⟩
  case run =>
    simp only [cc0_conv_eq_skeleton]; unfold cc0_conv_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%xs4, %f11, %hf11, H11⟩, ⟨%f12, %hf12, H12⟩, ⟨%f13, %hf13, H13⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
    sl_exec (disch := first | sl_exact hc0 | sl_exact hc1 | sl_exact hc2 | sl_exact hc3 | sl_exact hc4 | sl_exact ht)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]
    · iexists _, _; isplitr; swap; · iexact H11
      ipureintro; rfl
    isplitl [H12]; · iexact H12
    isplitl [H13]; · iexact H13
    iexact HT0

end Cert.Conv.Body

end
-- ==== Proof.Body.Conv.RunB1.lean ====
/- The body run at the points of case B1. -/
module

public import proofs.«01_k».proof.Proof.Body.Conv.Runs

@[expose] public section

set_option maxRecDepth 16384

noncomputable section

namespace Cert.Conv.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Conv Cert.Conv.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1600000 in
/-- doc -/
noncomputable def runB1 (c : Dev nD) (i : grid0.Coords) (arg2 : Memref sig .tc .vmem S16384x256 .fp8e4m3) (harg2 : arg2.IsWhole) (arg3 : Memref sig .tc .vmem S1x256 .f32) (harg3 : arg3.IsWhole) (arg4 : Memref sig .tc .vmem S4x16384 .bf16) (harg4 : arg4.IsWhole) (arg5 : Memref sig .tc .vmem S1x16384 .bf16) (harg5 : arg5.IsWhole) (arg6 : Memref sig .tc .vmem S16384x256 .fp8e4m3) (harg6 : arg6.IsWhole) (arg7 : Memref sig .tc .vmem S1x256 .f32) (harg7 : arg7.IsWhole) (arg8 : Memref sig .tc .vmem S64x16384 .bf16) (harg8 : arg8.IsWhole) (arg9 : Memref sig .tc .vmem S16384x256 .f32) (harg9 : arg9.IsWhole) (arg10 : Memref sig .tc .vmem S16384x256 .bf16) (harg10 : arg10.IsWhole) (arg11 : Memref sig .tc .vmem S16384x128 .f32) (harg11 : arg11.IsWhole) (arg12 : Memref sig .tc .vmem S16384x128 .fp8e4m3) (harg12 : arg12.IsWhole) (arg13 : Memref sig .tc .vmem S64x256 .bf16) (harg13 : arg13.IsWhole) (arg14 : Memref sig .tc .vmem S8x256 .f32) (harg14 : arg14.IsWhole) (arg15 : Memref sig .tc .vmem S8x128 .f32) (harg15 : arg15.IsWhole)
    (xt0 : TbBuf0 (F := F) c tbM0_0) (hc0 : ¬cond0_0 i) (hc1 : cond0_1 i) (hc2 : ¬cond0_2 i) (hc3 : cond0_3 i) (hc4 : ¬cond0_4 i) (ht : Touched i xt0)
    (x0 : Vec F S16384x256 .fp8e4m3) (x1 : Vec F S1x256 .f32) (x2 : Vec F S4x16384 .bf16) (x3 : Vec F S1x16384 .bf16) (d4 : Vec F S16384x256 .fp8e4m3) (d5 : Vec F S1x256 .f32) (d6 : Vec F S64x16384 .bf16) (xs0 : Vec F S16384x256 .f32) (xs1 : Vec F S16384x256 .bf16) (xs2 : Vec F S16384x128 .f32) (xs3 : Vec F S16384x128 .fp8e4m3) (xs5 : Vec F S8x256 .f32) (xs6 : Vec F S8x128 .f32) :
    Σ' (LO4 : List (View.Piece (Elt F) S16384x256 .fp8e4m3)), Σ' (LO5 : List (View.Piece (Elt F) S1x256 .f32)), Σ' (LO6 : List (View.Piece (Elt F) S64x16384 .bf16)), Σ' (LS0 : List (View.Piece (Elt F) S16384x256 .f32)), Σ' (LS1 : List (View.Piece (Elt F) S16384x256 .bf16)), Σ' (LS2 : List (View.Piece (Elt F) S16384x128 .f32)), Σ' (LS3 : List (View.Piece (Elt F) S16384x128 .fp8e4m3)), Σ' (LS5 : List (View.Piece (Elt F) S8x256 .f32)), { LS6 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare d4 ∗ owns (c : Thread nD τ) arg7 fullShare d5 ∗ owns (c : Thread nD τ) arg8 fullShare d6 ∗ owns (c : Thread nD τ) arg9 fullShare xs0 ∗ owns (c : Thread nD τ) arg10 fullShare xs1 ∗ owns (c : Thread nD τ) arg11 fullShare xs2 ∗ owns (c : Thread nD τ) arg12 fullShare xs3 ∗ (∃ d, owns (c : Thread nD τ) arg13 fullShare d) ∗ owns (c : Thread nD τ) arg14 fullShare xs5 ∗ owns (c : Thread nD τ) arg15 fullShare xs6 ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (arg6.view.loc (c : Thread nD τ) ↦[arg6.view.set]{fullShare} arg6.view.writes (Elt F) (harg6.unread d4) LO4) ∗ (arg7.view.loc (c : Thread nD τ) ↦[arg7.view.set]{fullShare} arg7.view.writes (Elt F) (harg7.unread d5) LO5) ∗ (arg8.view.loc (c : Thread nD τ) ↦[arg8.view.set]{fullShare} arg8.view.writes (Elt F) (harg8.unread d6) LO6) ∗ (arg9.view.loc (c : Thread nD τ) ↦[arg9.view.set]{fullShare} arg9.view.writes (Elt F) (harg9.unread xs0) LS0) ∗ (arg10.view.loc (c : Thread nD τ) ↦[arg10.view.set]{fullShare} arg10.view.writes (Elt F) (harg10.unread xs1) LS1) ∗ (arg11.view.loc (c : Thread nD τ) ↦[arg11.view.set]{fullShare} arg11.view.writes (Elt F) (harg11.unread xs2) LS2) ∗ (arg12.view.loc (c : Thread nD τ) ↦[arg12.view.set]{fullShare} arg12.view.writes (Elt F) (harg12.unread xs3) LS3) ∗ (∃ d, owns (c : Thread nD τ) arg13 fullShare d) ∗ (arg14.view.loc (c : Thread nD τ) ↦[arg14.view.set]{fullShare} arg14.view.writes (Elt F) (harg14.unread xs5) LS5) ∗ (arg15.view.loc (c : Thread nD τ) ↦[arg15.view.set]{fullShare} arg15.view.writes (Elt F) (harg15.unread xs6) LS6) ∗ tbPt0 c tbM0_0 xt0) -∗ K ⟨⟩))
          ⊢ wp frame (wpE (defs₀ (F := F)) Variants.none c none) E (cc0_conv i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, [], [], ?_, ?_, ?_, fun E K => ?run⟩
  case run =>
    simp only [cc0_conv_eq_skeleton]; unfold cc0_conv_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%xs4, %f11, %hf11, H11⟩, ⟨%f12, %hf12, H12⟩, ⟨%f13, %hf13, H13⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
    sl_exec (disch := first | sl_exact hc0 | sl_exact hc1 | sl_exact hc2 | sl_exact hc3 | sl_exact hc4 | sl_exact ht)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]
    · iexists _, _; isplitr; swap; · iexact H11
      ipureintro; rfl
    isplitl [H12]; · iexact H12
    isplitl [H13]; · iexact H13
    iexact HT0

end Cert.Conv.Body

end
-- ==== Proof.Body.Conv.RunB0.lean ====
/- The body run at the points of case B0. -/
module

public import proofs.«01_k».proof.Proof.Body.Conv.Runs

@[expose] public section

set_option maxRecDepth 16384

noncomputable section

namespace Cert.Conv.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Conv Cert.Conv.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1600000 in
/-- doc -/
noncomputable def runB0 (c : Dev nD) (i : grid0.Coords) (arg2 : Memref sig .tc .vmem S16384x256 .fp8e4m3) (harg2 : arg2.IsWhole) (arg3 : Memref sig .tc .vmem S1x256 .f32) (harg3 : arg3.IsWhole) (arg4 : Memref sig .tc .vmem S4x16384 .bf16) (harg4 : arg4.IsWhole) (arg5 : Memref sig .tc .vmem S1x16384 .bf16) (harg5 : arg5.IsWhole) (arg6 : Memref sig .tc .vmem S16384x256 .fp8e4m3) (harg6 : arg6.IsWhole) (arg7 : Memref sig .tc .vmem S1x256 .f32) (harg7 : arg7.IsWhole) (arg8 : Memref sig .tc .vmem S64x16384 .bf16) (harg8 : arg8.IsWhole) (arg9 : Memref sig .tc .vmem S16384x256 .f32) (harg9 : arg9.IsWhole) (arg10 : Memref sig .tc .vmem S16384x256 .bf16) (harg10 : arg10.IsWhole) (arg11 : Memref sig .tc .vmem S16384x128 .f32) (harg11 : arg11.IsWhole) (arg12 : Memref sig .tc .vmem S16384x128 .fp8e4m3) (harg12 : arg12.IsWhole) (arg13 : Memref sig .tc .vmem S64x256 .bf16) (harg13 : arg13.IsWhole) (arg14 : Memref sig .tc .vmem S8x256 .f32) (harg14 : arg14.IsWhole) (arg15 : Memref sig .tc .vmem S8x128 .f32) (harg15 : arg15.IsWhole)
    (xt0 : TbBuf0 (F := F) c tbM0_0) (hc0 : ¬cond0_0 i) (hc1 : cond0_1 i) (hc2 : ¬cond0_2 i) (hc3 : cond0_3 i) (hc4 : ¬cond0_4 i) (ht : ¬Touched i xt0)
    (x0 : Vec F S16384x256 .fp8e4m3) (x1 : Vec F S1x256 .f32) (x2 : Vec F S4x16384 .bf16) (x3 : Vec F S1x16384 .bf16) (d4 : Vec F S16384x256 .fp8e4m3) (d5 : Vec F S1x256 .f32) (d6 : Vec F S64x16384 .bf16) (xs0 : Vec F S16384x256 .f32) (xs1 : Vec F S16384x256 .bf16) (xs2 : Vec F S16384x128 .f32) (xs3 : Vec F S16384x128 .fp8e4m3) (xs5 : Vec F S8x256 .f32) (xs6 : Vec F S8x128 .f32) :
    Σ' (LO4 : List (View.Piece (Elt F) S16384x256 .fp8e4m3)), Σ' (LO5 : List (View.Piece (Elt F) S1x256 .f32)), Σ' (LO6 : List (View.Piece (Elt F) S64x16384 .bf16)), Σ' (LS0 : List (View.Piece (Elt F) S16384x256 .f32)), Σ' (LS1 : List (View.Piece (Elt F) S16384x256 .bf16)), Σ' (LS2 : List (View.Piece (Elt F) S16384x128 .f32)), Σ' (LS3 : List (View.Piece (Elt F) S16384x128 .fp8e4m3)), Σ' (LS5 : List (View.Piece (Elt F) S8x256 .f32)), { LS6 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare d4 ∗ owns (c : Thread nD τ) arg7 fullShare d5 ∗ owns (c : Thread nD τ) arg8 fullShare d6 ∗ owns (c : Thread nD τ) arg9 fullShare xs0 ∗ owns (c : Thread nD τ) arg10 fullShare xs1 ∗ owns (c : Thread nD τ) arg11 fullShare xs2 ∗ owns (c : Thread nD τ) arg12 fullShare xs3 ∗ (∃ d, owns (c : Thread nD τ) arg13 fullShare d) ∗ owns (c : Thread nD τ) arg14 fullShare xs5 ∗ owns (c : Thread nD τ) arg15 fullShare xs6 ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (arg6.view.loc (c : Thread nD τ) ↦[arg6.view.set]{fullShare} arg6.view.writes (Elt F) (harg6.unread d4) LO4) ∗ (arg7.view.loc (c : Thread nD τ) ↦[arg7.view.set]{fullShare} arg7.view.writes (Elt F) (harg7.unread d5) LO5) ∗ (arg8.view.loc (c : Thread nD τ) ↦[arg8.view.set]{fullShare} arg8.view.writes (Elt F) (harg8.unread d6) LO6) ∗ (arg9.view.loc (c : Thread nD τ) ↦[arg9.view.set]{fullShare} arg9.view.writes (Elt F) (harg9.unread xs0) LS0) ∗ (arg10.view.loc (c : Thread nD τ) ↦[arg10.view.set]{fullShare} arg10.view.writes (Elt F) (harg10.unread xs1) LS1) ∗ (arg11.view.loc (c : Thread nD τ) ↦[arg11.view.set]{fullShare} arg11.view.writes (Elt F) (harg11.unread xs2) LS2) ∗ (arg12.view.loc (c : Thread nD τ) ↦[arg12.view.set]{fullShare} arg12.view.writes (Elt F) (harg12.unread xs3) LS3) ∗ (∃ d, owns (c : Thread nD τ) arg13 fullShare d) ∗ (arg14.view.loc (c : Thread nD τ) ↦[arg14.view.set]{fullShare} arg14.view.writes (Elt F) (harg14.unread xs5) LS5) ∗ (arg15.view.loc (c : Thread nD τ) ↦[arg15.view.set]{fullShare} arg15.view.writes (Elt F) (harg15.unread xs6) LS6) ∗ tbPt0 c tbM0_0 xt0) -∗ K ⟨⟩))
          ⊢ wp frame (wpE (defs₀ (F := F)) Variants.none c none) E (cc0_conv i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, [], ?_, [], [], ?_, ?_, ?_, fun E K => ?run⟩
  case run =>
    simp only [cc0_conv_eq_skeleton]; unfold cc0_conv_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%xs4, %f11, %hf11, H11⟩, ⟨%f12, %hf12, H12⟩, ⟨%f13, %hf13, H13⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
    sl_exec (disch := first | sl_exact hc0 | sl_exact hc1 | sl_exact hc2 | sl_exact hc3 | sl_exact hc4 | sl_exact ht)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]
    · iexists _, _; isplitr; swap; · iexact H11
      ipureintro; rfl
    isplitl [H12]; · iexact H12
    isplitl [H13]; · iexact H13
    iexact HT0

end Cert.Conv.Body

end
-- ==== Proof.Body.Conv.RunC.lean ====
/- The body run at the points of case C. -/
module

public import proofs.«01_k».proof.Proof.Body.Conv.Runs

@[expose] public section

set_option maxRecDepth 16384

noncomputable section

namespace Cert.Conv.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Conv Cert.Conv.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1600000 in
/-- doc -/
noncomputable def runC (c : Dev nD) (i : grid0.Coords) (arg2 : Memref sig .tc .vmem S16384x256 .fp8e4m3) (harg2 : arg2.IsWhole) (arg3 : Memref sig .tc .vmem S1x256 .f32) (harg3 : arg3.IsWhole) (arg4 : Memref sig .tc .vmem S4x16384 .bf16) (harg4 : arg4.IsWhole) (arg5 : Memref sig .tc .vmem S1x16384 .bf16) (harg5 : arg5.IsWhole) (arg6 : Memref sig .tc .vmem S16384x256 .fp8e4m3) (harg6 : arg6.IsWhole) (arg7 : Memref sig .tc .vmem S1x256 .f32) (harg7 : arg7.IsWhole) (arg8 : Memref sig .tc .vmem S64x16384 .bf16) (harg8 : arg8.IsWhole) (arg9 : Memref sig .tc .vmem S16384x256 .f32) (harg9 : arg9.IsWhole) (arg10 : Memref sig .tc .vmem S16384x256 .bf16) (harg10 : arg10.IsWhole) (arg11 : Memref sig .tc .vmem S16384x128 .f32) (harg11 : arg11.IsWhole) (arg12 : Memref sig .tc .vmem S16384x128 .fp8e4m3) (harg12 : arg12.IsWhole) (arg13 : Memref sig .tc .vmem S64x256 .bf16) (harg13 : arg13.IsWhole) (arg14 : Memref sig .tc .vmem S8x256 .f32) (harg14 : arg14.IsWhole) (arg15 : Memref sig .tc .vmem S8x128 .f32) (harg15 : arg15.IsWhole)
    (xt0 : TbBuf0 (F := F) c tbM0_0) (hc0 : ¬cond0_0 i) (hc1 : ¬cond0_1 i) (hc2 : ¬cond0_2 i) (hc3 : ¬cond0_3 i) (hc4 : cond0_4 i)
    (x0 : Vec F S16384x256 .fp8e4m3) (x1 : Vec F S1x256 .f32) (x2 : Vec F S4x16384 .bf16) (x3 : Vec F S1x16384 .bf16) (d4 : Vec F S16384x256 .fp8e4m3) (d5 : Vec F S1x256 .f32) (d6 : Vec F S64x16384 .bf16) (xs0 : Vec F S16384x256 .f32) (xs1 : Vec F S16384x256 .bf16) (xs2 : Vec F S16384x128 .f32) (xs3 : Vec F S16384x128 .fp8e4m3) (xs5 : Vec F S8x256 .f32) (xs6 : Vec F S8x128 .f32) :
    Σ' (LO4 : List (View.Piece (Elt F) S16384x256 .fp8e4m3)), Σ' (LO5 : List (View.Piece (Elt F) S1x256 .f32)), Σ' (LO6 : List (View.Piece (Elt F) S64x16384 .bf16)), Σ' (LS0 : List (View.Piece (Elt F) S16384x256 .f32)), Σ' (LS1 : List (View.Piece (Elt F) S16384x256 .bf16)), Σ' (LS2 : List (View.Piece (Elt F) S16384x128 .f32)), Σ' (LS3 : List (View.Piece (Elt F) S16384x128 .fp8e4m3)), Σ' (LS5 : List (View.Piece (Elt F) S8x256 .f32)), { LS6 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare d4 ∗ owns (c : Thread nD τ) arg7 fullShare d5 ∗ owns (c : Thread nD τ) arg8 fullShare d6 ∗ owns (c : Thread nD τ) arg9 fullShare xs0 ∗ owns (c : Thread nD τ) arg10 fullShare xs1 ∗ owns (c : Thread nD τ) arg11 fullShare xs2 ∗ owns (c : Thread nD τ) arg12 fullShare xs3 ∗ (∃ d, owns (c : Thread nD τ) arg13 fullShare d) ∗ owns (c : Thread nD τ) arg14 fullShare xs5 ∗ owns (c : Thread nD τ) arg15 fullShare xs6 ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (arg6.view.loc (c : Thread nD τ) ↦[arg6.view.set]{fullShare} arg6.view.writes (Elt F) (harg6.unread d4) LO4) ∗ (arg7.view.loc (c : Thread nD τ) ↦[arg7.view.set]{fullShare} arg7.view.writes (Elt F) (harg7.unread d5) LO5) ∗ (arg8.view.loc (c : Thread nD τ) ↦[arg8.view.set]{fullShare} arg8.view.writes (Elt F) (harg8.unread d6) LO6) ∗ (arg9.view.loc (c : Thread nD τ) ↦[arg9.view.set]{fullShare} arg9.view.writes (Elt F) (harg9.unread xs0) LS0) ∗ (arg10.view.loc (c : Thread nD τ) ↦[arg10.view.set]{fullShare} arg10.view.writes (Elt F) (harg10.unread xs1) LS1) ∗ (arg11.view.loc (c : Thread nD τ) ↦[arg11.view.set]{fullShare} arg11.view.writes (Elt F) (harg11.unread xs2) LS2) ∗ (arg12.view.loc (c : Thread nD τ) ↦[arg12.view.set]{fullShare} arg12.view.writes (Elt F) (harg12.unread xs3) LS3) ∗ (∃ d, owns (c : Thread nD τ) arg13 fullShare d) ∗ (arg14.view.loc (c : Thread nD τ) ↦[arg14.view.set]{fullShare} arg14.view.writes (Elt F) (harg14.unread xs5) LS5) ∗ (arg15.view.loc (c : Thread nD τ) ↦[arg15.view.set]{fullShare} arg15.view.writes (Elt F) (harg15.unread xs6) LS6) ∗ tbPt0 c tbM0_0 xt0) -∗ K ⟨⟩))
          ⊢ wp frame (wpE (defs₀ (F := F)) Variants.none c none) E (cc0_conv i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, [], [], [], [], [], [], [], [], fun E K => ?run⟩
  case run =>
    simp only [cc0_conv_eq_skeleton]; unfold cc0_conv_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%xs4, %f11, %hf11, H11⟩, ⟨%f12, %hf12, H12⟩, ⟨%f13, %hf13, H13⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]
    · iexists _, _; isplitr; swap; · iexact H11
      ipureintro; rfl
    isplitl [H12]; · iexact H12
    isplitl [H13]; · iexact H13
    iexact HT0

end Cert.Conv.Body

end
-- ==== Proof.Body.Conv.Steps.lean ====
/- The body at a point of each case, from named contents to named contents. -/
module

public import proofs.«01_k».proof.Proof.Body.Conv.RunA1
public import proofs.«01_k».proof.Proof.Body.Conv.RunA0
public import proofs.«01_k».proof.Proof.Body.Conv.RunB1
public import proofs.«01_k».proof.Proof.Body.Conv.RunB0
public import proofs.«01_k».proof.Proof.Body.Conv.RunC

@[expose] public section

set_option maxRecDepth 16384

noncomputable section

namespace Cert.Conv.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Conv Cert.Conv.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the carried scratch buffers hold: the activations before quantisation, the tap matrices, the halved bias, the last
    columns of the block before, the inverse scales, the scales of the block before. -/
structure Scr (F : FTy → Type) [FloatOps F] where
  s0 : Vec F S16384x256 .f32
  s1 : Vec F S16384x256 .bf16
  s2 : Vec F S16384x128 .f32
  s3 : Vec F S16384x128 .fp8e4m3
  s5 : Vec F S8x256 .f32
  s6 : Vec F S8x128 .f32

/-- What the staging buffers of the three outputs hold: the codes, the scales, the edge columns. -/
structure Outs (F : FTy → Type) [FloatOps F] where
  o4 : Vec F S16384x256 .fp8e4m3
  o5 : Vec F S1x256 .f32
  o6 : Vec F S64x16384 .bf16

/-- Every buffer the body is handed, at named contents. -/
def held (c : Dev nD) (arg2 : Memref sig .tc .vmem S16384x256 .fp8e4m3) (arg3 : Memref sig .tc .vmem S1x256 .f32) (arg4 : Memref sig .tc .vmem S4x16384 .bf16) (arg5 : Memref sig .tc .vmem S1x16384 .bf16) (arg6 : Memref sig .tc .vmem S16384x256 .fp8e4m3) (arg7 : Memref sig .tc .vmem S1x256 .f32) (arg8 : Memref sig .tc .vmem S64x16384 .bf16) (arg9 : Memref sig .tc .vmem S16384x256 .f32) (arg10 : Memref sig .tc .vmem S16384x256 .bf16) (arg11 : Memref sig .tc .vmem S16384x128 .f32) (arg12 : Memref sig .tc .vmem S16384x128 .fp8e4m3) (arg13 : Memref sig .tc .vmem S64x256 .bf16) (arg14 : Memref sig .tc .vmem S8x256 .f32) (arg15 : Memref sig .tc .vmem S8x128 .f32) (xt0 : TbBuf0 (F := F) c tbM0_0) (x0 : Vec F S16384x256 .fp8e4m3) (x1 : Vec F S1x256 .f32) (x2 : Vec F S4x16384 .bf16) (x3 : Vec F S1x16384 .bf16) (o : Outs F) (s : Scr F) : sProp 𝕄 :=
  iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare o.o4 ∗ owns (c : Thread nD τ) arg7 fullShare o.o5 ∗ owns (c : Thread nD τ) arg8 fullShare o.o6 ∗ owns (c : Thread nD τ) arg9 fullShare s.s0 ∗ owns (c : Thread nD τ) arg10 fullShare s.s1 ∗ owns (c : Thread nD τ) arg11 fullShare s.s2 ∗ owns (c : Thread nD τ) arg12 fullShare s.s3 ∗ (∃ d, owns (c : Thread nD τ) arg13 fullShare d) ∗ owns (c : Thread nD τ) arg14 fullShare s.s5 ∗ owns (c : Thread nD τ) arg15 fullShare s.s6 ∗ tbPt0 c tbM0_0 xt0)

/-- What the body leaves at a point of case A1, from what it found. -/
def StepA1 (c : Dev nD) (i : grid0.Coords) (arg2 : Memref sig .tc .vmem S16384x256 .fp8e4m3) (harg2 : arg2.IsWhole) (arg3 : Memref sig .tc .vmem S1x256 .f32) (harg3 : arg3.IsWhole) (arg4 : Memref sig .tc .vmem S4x16384 .bf16) (harg4 : arg4.IsWhole) (arg5 : Memref sig .tc .vmem S1x16384 .bf16) (harg5 : arg5.IsWhole) (arg6 : Memref sig .tc .vmem S16384x256 .fp8e4m3) (harg6 : arg6.IsWhole) (arg7 : Memref sig .tc .vmem S1x256 .f32) (harg7 : arg7.IsWhole) (arg8 : Memref sig .tc .vmem S64x16384 .bf16) (harg8 : arg8.IsWhole) (arg9 : Memref sig .tc .vmem S16384x256 .f32) (harg9 : arg9.IsWhole) (arg10 : Memref sig .tc .vmem S16384x256 .bf16) (harg10 : arg10.IsWhole) (arg11 : Memref sig .tc .vmem S16384x128 .f32) (harg11 : arg11.IsWhole) (arg12 : Memref sig .tc .vmem S16384x128 .fp8e4m3) (harg12 : arg12.IsWhole) (arg13 : Memref sig .tc .vmem S64x256 .bf16) (harg13 : arg13.IsWhole) (arg14 : Memref sig .tc .vmem S8x256 .f32) (harg14 : arg14.IsWhole) (arg15 : Memref sig .tc .vmem S8x128 .f32) (harg15 : arg15.IsWhole) (xt0 : TbBuf0 (F := F) c tbM0_0) (hc0 : cond0_0 i) (hc1 : cond0_1 i) (hc2 : cond0_2 i) (hc3 : ¬cond0_3 i) (hc4 : ¬cond0_4 i) (ht : Touched i xt0) (x0 : Vec F S16384x256 .fp8e4m3) (x1 : Vec F S1x256 .f32) (x2 : Vec F S4x16384 .bf16) (x3 : Vec F S1x16384 .bf16) (o : Outs F) (s : Scr F) (o' : Outs F) (s' : Scr F) : Prop :=
  o'.o4 = o.o4
  ∧ o'.o5 = arg7.view.read (Elt F) (arg7.view.writes (Elt F) (harg7.unread o.o5) (runA1 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.1)
  ∧ o'.o6 = arg8.view.read (Elt F) (arg8.view.writes (Elt F) (arg8.view.junk) (runA1 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.2.1)
  ∧ s'.s0 = arg9.view.read (Elt F) (arg9.view.writes (Elt F) (harg9.unread s.s0) (runA1 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.2.2.1)
  ∧ s'.s1 = arg10.view.read (Elt F) (arg10.view.writes (Elt F) (harg10.unread s.s1) (runA1 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.2.2.2.1)
  ∧ s'.s2 = arg11.view.read (Elt F) (arg11.view.writes (Elt F) (harg11.unread s.s2) (runA1 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.2.2.2.2.1)
  ∧ s'.s3 = arg12.view.read (Elt F) (arg12.view.writes (Elt F) (arg12.view.junk) (runA1 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.2.2.2.2.2.1)
  ∧ s'.s5 = arg14.view.read (Elt F) (arg14.view.writes (Elt F) (harg14.unread s.s5) (runA1 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.2.2.2.2.2.2.1)
  ∧ s'.s6 = arg15.view.read (Elt F) (arg15.view.writes (Elt F) (arg15.view.junk) (runA1 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.2.2.2.2.2.2.2.1)

set_option maxHeartbeats 1600000 in
/-- The body at the first point, with edges in the block. -/
theorem bodyA1 (c : Dev nD) (i : grid0.Coords) (arg2 : Memref sig .tc .vmem S16384x256 .fp8e4m3) (harg2 : arg2.IsWhole) (arg3 : Memref sig .tc .vmem S1x256 .f32) (harg3 : arg3.IsWhole) (arg4 : Memref sig .tc .vmem S4x16384 .bf16) (harg4 : arg4.IsWhole) (arg5 : Memref sig .tc .vmem S1x16384 .bf16) (harg5 : arg5.IsWhole) (arg6 : Memref sig .tc .vmem S16384x256 .fp8e4m3) (harg6 : arg6.IsWhole) (arg7 : Memref sig .tc .vmem S1x256 .f32) (harg7 : arg7.IsWhole) (arg8 : Memref sig .tc .vmem S64x16384 .bf16) (harg8 : arg8.IsWhole) (arg9 : Memref sig .tc .vmem S16384x256 .f32) (harg9 : arg9.IsWhole) (arg10 : Memref sig .tc .vmem S16384x256 .bf16) (harg10 : arg10.IsWhole) (arg11 : Memref sig .tc .vmem S16384x128 .f32) (harg11 : arg11.IsWhole) (arg12 : Memref sig .tc .vmem S16384x128 .fp8e4m3) (harg12 : arg12.IsWhole) (arg13 : Memref sig .tc .vmem S64x256 .bf16) (harg13 : arg13.IsWhole) (arg14 : Memref sig .tc .vmem S8x256 .f32) (harg14 : arg14.IsWhole) (arg15 : Memref sig .tc .vmem S8x128 .f32) (harg15 : arg15.IsWhole) (xt0 : TbBuf0 (F := F) c tbM0_0) (hc0 : cond0_0 i) (hc1 : cond0_1 i) (hc2 : cond0_2 i) (hc3 : ¬cond0_3 i) (hc4 : ¬cond0_4 i) (ht : Touched i xt0) (x0 : Vec F S16384x256 .fp8e4m3) (x1 : Vec F S1x256 .f32) (x2 : Vec F S4x16384 .bf16) (x3 : Vec F S1x16384 .bf16) (o : Outs F) (s : Scr F) (E : Set ℕ) :
    held c arg2 arg3 arg4 arg5 arg6 arg7 arg8 arg9 arg10 arg11 arg12 arg13 arg14 arg15 xt0 x0 x1 x2 x3 o s
      ⊢ wp frame (wpE (defs₀ (F := F)) Variants.none c none) E (cc0_conv i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15) (fun _ =>
          iprop(∃ o' s', ⌜StepA1 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o s o' s'⌝ ∗ held c arg2 arg3 arg4 arg5 arg6 arg7 arg8 arg9 arg10 arg11 arg12 arg13 arg14 arg15 xt0 x0 x1 x2 x3 o' s')) := by
  unfold held
  iintro ⟨H0, H1, H2, H3, H4, H5, H6, H7, H8, H9, H10, H11, H12, H13, HT0⟩
  iapply ((runA1 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.2.2.2.2.2.2.2.2 E _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [HT0]; · iexact HT0
  iintro ⟨H0, H1, H2, H3, H4, H5, H6, H7, H8, H9, H10, H11, H12, H13, HT0⟩
  iexists (⟨o.o4, arg7.view.read (Elt F) (arg7.view.writes (Elt F) (harg7.unread o.o5) (runA1 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.1), arg8.view.read (Elt F) (arg8.view.writes (Elt F) (arg8.view.junk) (runA1 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.2.1)⟩ : Outs F), (⟨arg9.view.read (Elt F) (arg9.view.writes (Elt F) (harg9.unread s.s0) (runA1 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.2.2.1), arg10.view.read (Elt F) (arg10.view.writes (Elt F) (harg10.unread s.s1) (runA1 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.2.2.2.1), arg11.view.read (Elt F) (arg11.view.writes (Elt F) (harg11.unread s.s2) (runA1 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.2.2.2.2.1), arg12.view.read (Elt F) (arg12.view.writes (Elt F) (arg12.view.junk) (runA1 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.2.2.2.2.2.1), arg14.view.read (Elt F) (arg14.view.writes (Elt F) (harg14.unread s.s5) (runA1 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.2.2.2.2.2.2.1), arg15.view.read (Elt F) (arg15.view.writes (Elt F) (arg15.view.junk) (runA1 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.2.2.2.2.2.2.2.1)⟩ : Scr F)
  isplitr
  swap
  · isplitl [H0]; · iexact H0
    isplitl [H1]; · iexact H1
    isplitl [H2]; · iexact H2
    isplitl [H3]; · iexact H3
    isplitl [H4]
    · unfold owns; iexists _; isplitr
      swap; · iexact H4
      ipureintro; exact harg6.read_unread _
    isplitl [H5]
    · unfold owns; iexists _; isplitr
      swap; · iexact H5
      ipureintro; rfl
    isplitl [H6]
    · unfold owns; iexists _; isplitr
      swap; · iexact H6
      ipureintro; rfl
    isplitl [H7]
    · unfold owns; iexists _; isplitr
      swap; · iexact H7
      ipureintro; rfl
    isplitl [H8]
    · unfold owns; iexists _; isplitr
      swap; · iexact H8
      ipureintro; rfl
    isplitl [H9]
    · unfold owns; iexists _; isplitr
      swap; · iexact H9
      ipureintro; rfl
    isplitl [H10]
    · unfold owns; iexists _; isplitr
      swap; · iexact H10
      ipureintro; rfl
    isplitl [H11]; · iexact H11
    isplitl [H12]
    · unfold owns; iexists _; isplitr
      swap; · iexact H12
      ipureintro; rfl
    isplitl [H13]
    · unfold owns; iexists _; isplitr
      swap; · iexact H13
      ipureintro; rfl
    iexact HT0
  ipureintro
  exact ⟨rfl, rfl, rfl, rfl, rfl, rfl, rfl, rfl, rfl⟩

/-- What the body leaves at a point of case A0, from what it found. -/
def StepA0 (c : Dev nD) (i : grid0.Coords) (arg2 : Memref sig .tc .vmem S16384x256 .fp8e4m3) (harg2 : arg2.IsWhole) (arg3 : Memref sig .tc .vmem S1x256 .f32) (harg3 : arg3.IsWhole) (arg4 : Memref sig .tc .vmem S4x16384 .bf16) (harg4 : arg4.IsWhole) (arg5 : Memref sig .tc .vmem S1x16384 .bf16) (harg5 : arg5.IsWhole) (arg6 : Memref sig .tc .vmem S16384x256 .fp8e4m3) (harg6 : arg6.IsWhole) (arg7 : Memref sig .tc .vmem S1x256 .f32) (harg7 : arg7.IsWhole) (arg8 : Memref sig .tc .vmem S64x16384 .bf16) (harg8 : arg8.IsWhole) (arg9 : Memref sig .tc .vmem S16384x256 .f32) (harg9 : arg9.IsWhole) (arg10 : Memref sig .tc .vmem S16384x256 .bf16) (harg10 : arg10.IsWhole) (arg11 : Memref sig .tc .vmem S16384x128 .f32) (harg11 : arg11.IsWhole) (arg12 : Memref sig .tc .vmem S16384x128 .fp8e4m3) (harg12 : arg12.IsWhole) (arg13 : Memref sig .tc .vmem S64x256 .bf16) (harg13 : arg13.IsWhole) (arg14 : Memref sig .tc .vmem S8x256 .f32) (harg14 : arg14.IsWhole) (arg15 : Memref sig .tc .vmem S8x128 .f32) (harg15 : arg15.IsWhole) (xt0 : TbBuf0 (F := F) c tbM0_0) (hc0 : cond0_0 i) (hc1 : cond0_1 i) (hc2 : cond0_2 i) (hc3 : ¬cond0_3 i) (hc4 : ¬cond0_4 i) (ht : ¬Touched i xt0) (x0 : Vec F S16384x256 .fp8e4m3) (x1 : Vec F S1x256 .f32) (x2 : Vec F S4x16384 .bf16) (x3 : Vec F S1x16384 .bf16) (o : Outs F) (s : Scr F) (o' : Outs F) (s' : Scr F) : Prop :=
  o'.o4 = o.o4
  ∧ o'.o5 = arg7.view.read (Elt F) (arg7.view.writes (Elt F) (harg7.unread o.o5) (runA0 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.1)
  ∧ o'.o6 = arg8.view.read (Elt F) (arg8.view.writes (Elt F) (arg8.view.junk) (runA0 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.2.1)
  ∧ s'.s0 = arg9.view.read (Elt F) (arg9.view.writes (Elt F) (harg9.unread s.s0) (runA0 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.2.2.1)
  ∧ s'.s1 = arg10.view.read (Elt F) (arg10.view.writes (Elt F) (harg10.unread s.s1) (runA0 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.2.2.2.1)
  ∧ s'.s2 = arg11.view.read (Elt F) (arg11.view.writes (Elt F) (harg11.unread s.s2) (runA0 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.2.2.2.2.1)
  ∧ s'.s3 = arg12.view.read (Elt F) (arg12.view.writes (Elt F) (arg12.view.junk) (runA0 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.2.2.2.2.2.1)
  ∧ s'.s5 = arg14.view.read (Elt F) (arg14.view.writes (Elt F) (harg14.unread s.s5) (runA0 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.2.2.2.2.2.2.1)
  ∧ s'.s6 = arg15.view.read (Elt F) (arg15.view.writes (Elt F) (arg15.view.junk) (runA0 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.2.2.2.2.2.2.2.1)

set_option maxHeartbeats 1600000 in
/-- The body at the first point, without edges in the block. -/
theorem bodyA0 (c : Dev nD) (i : grid0.Coords) (arg2 : Memref sig .tc .vmem S16384x256 .fp8e4m3) (harg2 : arg2.IsWhole) (arg3 : Memref sig .tc .vmem S1x256 .f32) (harg3 : arg3.IsWhole) (arg4 : Memref sig .tc .vmem S4x16384 .bf16) (harg4 : arg4.IsWhole) (arg5 : Memref sig .tc .vmem S1x16384 .bf16) (harg5 : arg5.IsWhole) (arg6 : Memref sig .tc .vmem S16384x256 .fp8e4m3) (harg6 : arg6.IsWhole) (arg7 : Memref sig .tc .vmem S1x256 .f32) (harg7 : arg7.IsWhole) (arg8 : Memref sig .tc .vmem S64x16384 .bf16) (harg8 : arg8.IsWhole) (arg9 : Memref sig .tc .vmem S16384x256 .f32) (harg9 : arg9.IsWhole) (arg10 : Memref sig .tc .vmem S16384x256 .bf16) (harg10 : arg10.IsWhole) (arg11 : Memref sig .tc .vmem S16384x128 .f32) (harg11 : arg11.IsWhole) (arg12 : Memref sig .tc .vmem S16384x128 .fp8e4m3) (harg12 : arg12.IsWhole) (arg13 : Memref sig .tc .vmem S64x256 .bf16) (harg13 : arg13.IsWhole) (arg14 : Memref sig .tc .vmem S8x256 .f32) (harg14 : arg14.IsWhole) (arg15 : Memref sig .tc .vmem S8x128 .f32) (harg15 : arg15.IsWhole) (xt0 : TbBuf0 (F := F) c tbM0_0) (hc0 : cond0_0 i) (hc1 : cond0_1 i) (hc2 : cond0_2 i) (hc3 : ¬cond0_3 i) (hc4 : ¬cond0_4 i) (ht : ¬Touched i xt0) (x0 : Vec F S16384x256 .fp8e4m3) (x1 : Vec F S1x256 .f32) (x2 : Vec F S4x16384 .bf16) (x3 : Vec F S1x16384 .bf16) (o : Outs F) (s : Scr F) (E : Set ℕ) :
    held c arg2 arg3 arg4 arg5 arg6 arg7 arg8 arg9 arg10 arg11 arg12 arg13 arg14 arg15 xt0 x0 x1 x2 x3 o s
      ⊢ wp frame (wpE (defs₀ (F := F)) Variants.none c none) E (cc0_conv i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15) (fun _ =>
          iprop(∃ o' s', ⌜StepA0 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o s o' s'⌝ ∗ held c arg2 arg3 arg4 arg5 arg6 arg7 arg8 arg9 arg10 arg11 arg12 arg13 arg14 arg15 xt0 x0 x1 x2 x3 o' s')) := by
  unfold held
  iintro ⟨H0, H1, H2, H3, H4, H5, H6, H7, H8, H9, H10, H11, H12, H13, HT0⟩
  iapply ((runA0 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.2.2.2.2.2.2.2.2 E _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [HT0]; · iexact HT0
  iintro ⟨H0, H1, H2, H3, H4, H5, H6, H7, H8, H9, H10, H11, H12, H13, HT0⟩
  iexists (⟨o.o4, arg7.view.read (Elt F) (arg7.view.writes (Elt F) (harg7.unread o.o5) (runA0 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.1), arg8.view.read (Elt F) (arg8.view.writes (Elt F) (arg8.view.junk) (runA0 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.2.1)⟩ : Outs F), (⟨arg9.view.read (Elt F) (arg9.view.writes (Elt F) (harg9.unread s.s0) (runA0 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.2.2.1), arg10.view.read (Elt F) (arg10.view.writes (Elt F) (harg10.unread s.s1) (runA0 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.2.2.2.1), arg11.view.read (Elt F) (arg11.view.writes (Elt F) (harg11.unread s.s2) (runA0 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.2.2.2.2.1), arg12.view.read (Elt F) (arg12.view.writes (Elt F) (arg12.view.junk) (runA0 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.2.2.2.2.2.1), arg14.view.read (Elt F) (arg14.view.writes (Elt F) (harg14.unread s.s5) (runA0 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.2.2.2.2.2.2.1), arg15.view.read (Elt F) (arg15.view.writes (Elt F) (arg15.view.junk) (runA0 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.2.2.2.2.2.2.2.1)⟩ : Scr F)
  isplitr
  swap
  · isplitl [H0]; · iexact H0
    isplitl [H1]; · iexact H1
    isplitl [H2]; · iexact H2
    isplitl [H3]; · iexact H3
    isplitl [H4]
    · unfold owns; iexists _; isplitr
      swap; · iexact H4
      ipureintro; exact harg6.read_unread _
    isplitl [H5]
    · unfold owns; iexists _; isplitr
      swap; · iexact H5
      ipureintro; rfl
    isplitl [H6]
    · unfold owns; iexists _; isplitr
      swap; · iexact H6
      ipureintro; rfl
    isplitl [H7]
    · unfold owns; iexists _; isplitr
      swap; · iexact H7
      ipureintro; rfl
    isplitl [H8]
    · unfold owns; iexists _; isplitr
      swap; · iexact H8
      ipureintro; rfl
    isplitl [H9]
    · unfold owns; iexists _; isplitr
      swap; · iexact H9
      ipureintro; rfl
    isplitl [H10]
    · unfold owns; iexists _; isplitr
      swap; · iexact H10
      ipureintro; rfl
    isplitl [H11]; · iexact H11
    isplitl [H12]
    · unfold owns; iexists _; isplitr
      swap; · iexact H12
      ipureintro; rfl
    isplitl [H13]
    · unfold owns; iexists _; isplitr
      swap; · iexact H13
      ipureintro; rfl
    iexact HT0
  ipureintro
  exact ⟨rfl, rfl, rfl, rfl, rfl, rfl, rfl, rfl, rfl⟩

/-- What the body leaves at a point of case B1, from what it found. -/
def StepB1 (c : Dev nD) (i : grid0.Coords) (arg2 : Memref sig .tc .vmem S16384x256 .fp8e4m3) (harg2 : arg2.IsWhole) (arg3 : Memref sig .tc .vmem S1x256 .f32) (harg3 : arg3.IsWhole) (arg4 : Memref sig .tc .vmem S4x16384 .bf16) (harg4 : arg4.IsWhole) (arg5 : Memref sig .tc .vmem S1x16384 .bf16) (harg5 : arg5.IsWhole) (arg6 : Memref sig .tc .vmem S16384x256 .fp8e4m3) (harg6 : arg6.IsWhole) (arg7 : Memref sig .tc .vmem S1x256 .f32) (harg7 : arg7.IsWhole) (arg8 : Memref sig .tc .vmem S64x16384 .bf16) (harg8 : arg8.IsWhole) (arg9 : Memref sig .tc .vmem S16384x256 .f32) (harg9 : arg9.IsWhole) (arg10 : Memref sig .tc .vmem S16384x256 .bf16) (harg10 : arg10.IsWhole) (arg11 : Memref sig .tc .vmem S16384x128 .f32) (harg11 : arg11.IsWhole) (arg12 : Memref sig .tc .vmem S16384x128 .fp8e4m3) (harg12 : arg12.IsWhole) (arg13 : Memref sig .tc .vmem S64x256 .bf16) (harg13 : arg13.IsWhole) (arg14 : Memref sig .tc .vmem S8x256 .f32) (harg14 : arg14.IsWhole) (arg15 : Memref sig .tc .vmem S8x128 .f32) (harg15 : arg15.IsWhole) (xt0 : TbBuf0 (F := F) c tbM0_0) (hc0 : ¬cond0_0 i) (hc1 : cond0_1 i) (hc2 : ¬cond0_2 i) (hc3 : cond0_3 i) (hc4 : ¬cond0_4 i) (ht : Touched i xt0) (x0 : Vec F S16384x256 .fp8e4m3) (x1 : Vec F S1x256 .f32) (x2 : Vec F S4x16384 .bf16) (x3 : Vec F S1x16384 .bf16) (o : Outs F) (s : Scr F) (o' : Outs F) (s' : Scr F) : Prop :=
  o'.o4 = arg6.view.read (Elt F) (arg6.view.writes (Elt F) (harg6.unread o.o4) (runB1 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).1)
  ∧ o'.o5 = arg7.view.read (Elt F) (arg7.view.writes (Elt F) (harg7.unread o.o5) (runB1 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.1)
  ∧ o'.o6 = arg8.view.read (Elt F) (arg8.view.writes (Elt F) (harg8.unread o.o6) (runB1 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.2.1)
  ∧ s'.s0 = arg9.view.read (Elt F) (arg9.view.writes (Elt F) (harg9.unread s.s0) (runB1 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.2.2.1)
  ∧ s'.s1 = s.s1
  ∧ s'.s2 = s.s2
  ∧ s'.s3 = arg12.view.read (Elt F) (arg12.view.writes (Elt F) (harg12.unread s.s3) (runB1 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.2.2.2.2.2.1)
  ∧ s'.s5 = arg14.view.read (Elt F) (arg14.view.writes (Elt F) (harg14.unread s.s5) (runB1 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.2.2.2.2.2.2.1)
  ∧ s'.s6 = arg15.view.read (Elt F) (arg15.view.writes (Elt F) (harg15.unread s.s6) (runB1 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.2.2.2.2.2.2.2.1)

set_option maxHeartbeats 1600000 in
/-- The body at a middle point, with edges in the block. -/
theorem bodyB1 (c : Dev nD) (i : grid0.Coords) (arg2 : Memref sig .tc .vmem S16384x256 .fp8e4m3) (harg2 : arg2.IsWhole) (arg3 : Memref sig .tc .vmem S1x256 .f32) (harg3 : arg3.IsWhole) (arg4 : Memref sig .tc .vmem S4x16384 .bf16) (harg4 : arg4.IsWhole) (arg5 : Memref sig .tc .vmem S1x16384 .bf16) (harg5 : arg5.IsWhole) (arg6 : Memref sig .tc .vmem S16384x256 .fp8e4m3) (harg6 : arg6.IsWhole) (arg7 : Memref sig .tc .vmem S1x256 .f32) (harg7 : arg7.IsWhole) (arg8 : Memref sig .tc .vmem S64x16384 .bf16) (harg8 : arg8.IsWhole) (arg9 : Memref sig .tc .vmem S16384x256 .f32) (harg9 : arg9.IsWhole) (arg10 : Memref sig .tc .vmem S16384x256 .bf16) (harg10 : arg10.IsWhole) (arg11 : Memref sig .tc .vmem S16384x128 .f32) (harg11 : arg11.IsWhole) (arg12 : Memref sig .tc .vmem S16384x128 .fp8e4m3) (harg12 : arg12.IsWhole) (arg13 : Memref sig .tc .vmem S64x256 .bf16) (harg13 : arg13.IsWhole) (arg14 : Memref sig .tc .vmem S8x256 .f32) (harg14 : arg14.IsWhole) (arg15 : Memref sig .tc .vmem S8x128 .f32) (harg15 : arg15.IsWhole) (xt0 : TbBuf0 (F := F) c tbM0_0) (hc0 : ¬cond0_0 i) (hc1 : cond0_1 i) (hc2 : ¬cond0_2 i) (hc3 : cond0_3 i) (hc4 : ¬cond0_4 i) (ht : Touched i xt0) (x0 : Vec F S16384x256 .fp8e4m3) (x1 : Vec F S1x256 .f32) (x2 : Vec F S4x16384 .bf16) (x3 : Vec F S1x16384 .bf16) (o : Outs F) (s : Scr F) (E : Set ℕ) :
    held c arg2 arg3 arg4 arg5 arg6 arg7 arg8 arg9 arg10 arg11 arg12 arg13 arg14 arg15 xt0 x0 x1 x2 x3 o s
      ⊢ wp frame (wpE (defs₀ (F := F)) Variants.none c none) E (cc0_conv i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15) (fun _ =>
          iprop(∃ o' s', ⌜StepB1 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o s o' s'⌝ ∗ held c arg2 arg3 arg4 arg5 arg6 arg7 arg8 arg9 arg10 arg11 arg12 arg13 arg14 arg15 xt0 x0 x1 x2 x3 o' s')) := by
  unfold held
  iintro ⟨H0, H1, H2, H3, H4, H5, H6, H7, H8, H9, H10, H11, H12, H13, HT0⟩
  iapply ((runB1 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.2.2.2.2.2.2.2.2 E _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [HT0]; · iexact HT0
  iintro ⟨H0, H1, H2, H3, H4, H5, H6, H7, H8, H9, H10, H11, H12, H13, HT0⟩
  iexists (⟨arg6.view.read (Elt F) (arg6.view.writes (Elt F) (harg6.unread o.o4) (runB1 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).1), arg7.view.read (Elt F) (arg7.view.writes (Elt F) (harg7.unread o.o5) (runB1 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.1), arg8.view.read (Elt F) (arg8.view.writes (Elt F) (harg8.unread o.o6) (runB1 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.2.1)⟩ : Outs F), (⟨arg9.view.read (Elt F) (arg9.view.writes (Elt F) (harg9.unread s.s0) (runB1 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.2.2.1), s.s1, s.s2, arg12.view.read (Elt F) (arg12.view.writes (Elt F) (harg12.unread s.s3) (runB1 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.2.2.2.2.2.1), arg14.view.read (Elt F) (arg14.view.writes (Elt F) (harg14.unread s.s5) (runB1 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.2.2.2.2.2.2.1), arg15.view.read (Elt F) (arg15.view.writes (Elt F) (harg15.unread s.s6) (runB1 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.2.2.2.2.2.2.2.1)⟩ : Scr F)
  isplitr
  swap
  · isplitl [H0]; · iexact H0
    isplitl [H1]; · iexact H1
    isplitl [H2]; · iexact H2
    isplitl [H3]; · iexact H3
    isplitl [H4]
    · unfold owns; iexists _; isplitr
      swap; · iexact H4
      ipureintro; rfl
    isplitl [H5]
    · unfold owns; iexists _; isplitr
      swap; · iexact H5
      ipureintro; rfl
    isplitl [H6]
    · unfold owns; iexists _; isplitr
      swap; · iexact H6
      ipureintro; rfl
    isplitl [H7]
    · unfold owns; iexists _; isplitr
      swap; · iexact H7
      ipureintro; rfl
    isplitl [H8]
    · unfold owns; iexists _; isplitr
      swap; · iexact H8
      ipureintro; exact harg10.read_unread _
    isplitl [H9]
    · unfold owns; iexists _; isplitr
      swap; · iexact H9
      ipureintro; exact harg11.read_unread _
    isplitl [H10]
    · unfold owns; iexists _; isplitr
      swap; · iexact H10
      ipureintro; rfl
    isplitl [H11]; · iexact H11
    isplitl [H12]
    · unfold owns; iexists _; isplitr
      swap; · iexact H12
      ipureintro; rfl
    isplitl [H13]
    · unfold owns; iexists _; isplitr
      swap; · iexact H13
      ipureintro; rfl
    iexact HT0
  ipureintro
  exact ⟨rfl, rfl, rfl, rfl, rfl, rfl, rfl, rfl, rfl⟩

/-- What the body leaves at a point of case B0, from what it found. -/
def StepB0 (c : Dev nD) (i : grid0.Coords) (arg2 : Memref sig .tc .vmem S16384x256 .fp8e4m3) (harg2 : arg2.IsWhole) (arg3 : Memref sig .tc .vmem S1x256 .f32) (harg3 : arg3.IsWhole) (arg4 : Memref sig .tc .vmem S4x16384 .bf16) (harg4 : arg4.IsWhole) (arg5 : Memref sig .tc .vmem S1x16384 .bf16) (harg5 : arg5.IsWhole) (arg6 : Memref sig .tc .vmem S16384x256 .fp8e4m3) (harg6 : arg6.IsWhole) (arg7 : Memref sig .tc .vmem S1x256 .f32) (harg7 : arg7.IsWhole) (arg8 : Memref sig .tc .vmem S64x16384 .bf16) (harg8 : arg8.IsWhole) (arg9 : Memref sig .tc .vmem S16384x256 .f32) (harg9 : arg9.IsWhole) (arg10 : Memref sig .tc .vmem S16384x256 .bf16) (harg10 : arg10.IsWhole) (arg11 : Memref sig .tc .vmem S16384x128 .f32) (harg11 : arg11.IsWhole) (arg12 : Memref sig .tc .vmem S16384x128 .fp8e4m3) (harg12 : arg12.IsWhole) (arg13 : Memref sig .tc .vmem S64x256 .bf16) (harg13 : arg13.IsWhole) (arg14 : Memref sig .tc .vmem S8x256 .f32) (harg14 : arg14.IsWhole) (arg15 : Memref sig .tc .vmem S8x128 .f32) (harg15 : arg15.IsWhole) (xt0 : TbBuf0 (F := F) c tbM0_0) (hc0 : ¬cond0_0 i) (hc1 : cond0_1 i) (hc2 : ¬cond0_2 i) (hc3 : cond0_3 i) (hc4 : ¬cond0_4 i) (ht : ¬Touched i xt0) (x0 : Vec F S16384x256 .fp8e4m3) (x1 : Vec F S1x256 .f32) (x2 : Vec F S4x16384 .bf16) (x3 : Vec F S1x16384 .bf16) (o : Outs F) (s : Scr F) (o' : Outs F) (s' : Scr F) : Prop :=
  o'.o4 = arg6.view.read (Elt F) (arg6.view.writes (Elt F) (harg6.unread o.o4) (runB0 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).1)
  ∧ o'.o5 = arg7.view.read (Elt F) (arg7.view.writes (Elt F) (harg7.unread o.o5) (runB0 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.1)
  ∧ o'.o6 = o.o6
  ∧ s'.s0 = arg9.view.read (Elt F) (arg9.view.writes (Elt F) (harg9.unread s.s0) (runB0 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.2.2.1)
  ∧ s'.s1 = s.s1
  ∧ s'.s2 = s.s2
  ∧ s'.s3 = arg12.view.read (Elt F) (arg12.view.writes (Elt F) (harg12.unread s.s3) (runB0 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.2.2.2.2.2.1)
  ∧ s'.s5 = arg14.view.read (Elt F) (arg14.view.writes (Elt F) (harg14.unread s.s5) (runB0 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.2.2.2.2.2.2.1)
  ∧ s'.s6 = arg15.view.read (Elt F) (arg15.view.writes (Elt F) (harg15.unread s.s6) (runB0 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.2.2.2.2.2.2.2.1)

set_option maxHeartbeats 1600000 in
/-- The body at a middle point, without edges in the block. -/
theorem bodyB0 (c : Dev nD) (i : grid0.Coords) (arg2 : Memref sig .tc .vmem S16384x256 .fp8e4m3) (harg2 : arg2.IsWhole) (arg3 : Memref sig .tc .vmem S1x256 .f32) (harg3 : arg3.IsWhole) (arg4 : Memref sig .tc .vmem S4x16384 .bf16) (harg4 : arg4.IsWhole) (arg5 : Memref sig .tc .vmem S1x16384 .bf16) (harg5 : arg5.IsWhole) (arg6 : Memref sig .tc .vmem S16384x256 .fp8e4m3) (harg6 : arg6.IsWhole) (arg7 : Memref sig .tc .vmem S1x256 .f32) (harg7 : arg7.IsWhole) (arg8 : Memref sig .tc .vmem S64x16384 .bf16) (harg8 : arg8.IsWhole) (arg9 : Memref sig .tc .vmem S16384x256 .f32) (harg9 : arg9.IsWhole) (arg10 : Memref sig .tc .vmem S16384x256 .bf16) (harg10 : arg10.IsWhole) (arg11 : Memref sig .tc .vmem S16384x128 .f32) (harg11 : arg11.IsWhole) (arg12 : Memref sig .tc .vmem S16384x128 .fp8e4m3) (harg12 : arg12.IsWhole) (arg13 : Memref sig .tc .vmem S64x256 .bf16) (harg13 : arg13.IsWhole) (arg14 : Memref sig .tc .vmem S8x256 .f32) (harg14 : arg14.IsWhole) (arg15 : Memref sig .tc .vmem S8x128 .f32) (harg15 : arg15.IsWhole) (xt0 : TbBuf0 (F := F) c tbM0_0) (hc0 : ¬cond0_0 i) (hc1 : cond0_1 i) (hc2 : ¬cond0_2 i) (hc3 : cond0_3 i) (hc4 : ¬cond0_4 i) (ht : ¬Touched i xt0) (x0 : Vec F S16384x256 .fp8e4m3) (x1 : Vec F S1x256 .f32) (x2 : Vec F S4x16384 .bf16) (x3 : Vec F S1x16384 .bf16) (o : Outs F) (s : Scr F) (E : Set ℕ) :
    held c arg2 arg3 arg4 arg5 arg6 arg7 arg8 arg9 arg10 arg11 arg12 arg13 arg14 arg15 xt0 x0 x1 x2 x3 o s
      ⊢ wp frame (wpE (defs₀ (F := F)) Variants.none c none) E (cc0_conv i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15) (fun _ =>
          iprop(∃ o' s', ⌜StepB0 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o s o' s'⌝ ∗ held c arg2 arg3 arg4 arg5 arg6 arg7 arg8 arg9 arg10 arg11 arg12 arg13 arg14 arg15 xt0 x0 x1 x2 x3 o' s')) := by
  unfold held
  iintro ⟨H0, H1, H2, H3, H4, H5, H6, H7, H8, H9, H10, H11, H12, H13, HT0⟩
  iapply ((runB0 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.2.2.2.2.2.2.2.2 E _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [HT0]; · iexact HT0
  iintro ⟨H0, H1, H2, H3, H4, H5, H6, H7, H8, H9, H10, H11, H12, H13, HT0⟩
  iexists (⟨arg6.view.read (Elt F) (arg6.view.writes (Elt F) (harg6.unread o.o4) (runB0 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).1), arg7.view.read (Elt F) (arg7.view.writes (Elt F) (harg7.unread o.o5) (runB0 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.1), o.o6⟩ : Outs F), (⟨arg9.view.read (Elt F) (arg9.view.writes (Elt F) (harg9.unread s.s0) (runB0 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.2.2.1), s.s1, s.s2, arg12.view.read (Elt F) (arg12.view.writes (Elt F) (harg12.unread s.s3) (runB0 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.2.2.2.2.2.1), arg14.view.read (Elt F) (arg14.view.writes (Elt F) (harg14.unread s.s5) (runB0 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.2.2.2.2.2.2.1), arg15.view.read (Elt F) (arg15.view.writes (Elt F) (harg15.unread s.s6) (runB0 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.2.2.2.2.2.2.2.1)⟩ : Scr F)
  isplitr
  swap
  · isplitl [H0]; · iexact H0
    isplitl [H1]; · iexact H1
    isplitl [H2]; · iexact H2
    isplitl [H3]; · iexact H3
    isplitl [H4]
    · unfold owns; iexists _; isplitr
      swap; · iexact H4
      ipureintro; rfl
    isplitl [H5]
    · unfold owns; iexists _; isplitr
      swap; · iexact H5
      ipureintro; rfl
    isplitl [H6]
    · unfold owns; iexists _; isplitr
      swap; · iexact H6
      ipureintro; exact harg8.read_unread _
    isplitl [H7]
    · unfold owns; iexists _; isplitr
      swap; · iexact H7
      ipureintro; rfl
    isplitl [H8]
    · unfold owns; iexists _; isplitr
      swap; · iexact H8
      ipureintro; exact harg10.read_unread _
    isplitl [H9]
    · unfold owns; iexists _; isplitr
      swap; · iexact H9
      ipureintro; exact harg11.read_unread _
    isplitl [H10]
    · unfold owns; iexists _; isplitr
      swap; · iexact H10
      ipureintro; rfl
    isplitl [H11]; · iexact H11
    isplitl [H12]
    · unfold owns; iexists _; isplitr
      swap; · iexact H12
      ipureintro; rfl
    isplitl [H13]
    · unfold owns; iexists _; isplitr
      swap; · iexact H13
      ipureintro; rfl
    iexact HT0
  ipureintro
  exact ⟨rfl, rfl, rfl, rfl, rfl, rfl, rfl, rfl, rfl⟩

/-- What the body leaves at a point of case C, from what it found. -/
def StepC (c : Dev nD) (i : grid0.Coords) (arg2 : Memref sig .tc .vmem S16384x256 .fp8e4m3) (harg2 : arg2.IsWhole) (arg3 : Memref sig .tc .vmem S1x256 .f32) (harg3 : arg3.IsWhole) (arg4 : Memref sig .tc .vmem S4x16384 .bf16) (harg4 : arg4.IsWhole) (arg5 : Memref sig .tc .vmem S1x16384 .bf16) (harg5 : arg5.IsWhole) (arg6 : Memref sig .tc .vmem S16384x256 .fp8e4m3) (harg6 : arg6.IsWhole) (arg7 : Memref sig .tc .vmem S1x256 .f32) (harg7 : arg7.IsWhole) (arg8 : Memref sig .tc .vmem S64x16384 .bf16) (harg8 : arg8.IsWhole) (arg9 : Memref sig .tc .vmem S16384x256 .f32) (harg9 : arg9.IsWhole) (arg10 : Memref sig .tc .vmem S16384x256 .bf16) (harg10 : arg10.IsWhole) (arg11 : Memref sig .tc .vmem S16384x128 .f32) (harg11 : arg11.IsWhole) (arg12 : Memref sig .tc .vmem S16384x128 .fp8e4m3) (harg12 : arg12.IsWhole) (arg13 : Memref sig .tc .vmem S64x256 .bf16) (harg13 : arg13.IsWhole) (arg14 : Memref sig .tc .vmem S8x256 .f32) (harg14 : arg14.IsWhole) (arg15 : Memref sig .tc .vmem S8x128 .f32) (harg15 : arg15.IsWhole) (xt0 : TbBuf0 (F := F) c tbM0_0) (hc0 : ¬cond0_0 i) (hc1 : ¬cond0_1 i) (hc2 : ¬cond0_2 i) (hc3 : ¬cond0_3 i) (hc4 : cond0_4 i) (x0 : Vec F S16384x256 .fp8e4m3) (x1 : Vec F S1x256 .f32) (x2 : Vec F S4x16384 .bf16) (x3 : Vec F S1x16384 .bf16) (o : Outs F) (s : Scr F) (o' : Outs F) (s' : Scr F) : Prop :=
  o'.o4 = arg6.view.read (Elt F) (arg6.view.writes (Elt F) (harg6.unread o.o4) (runC c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 x0 x1 x2 x3 o.o4 o.o5 o.o6 s.s0 s.s1 s.s2 s.s3 s.s5 s.s6).1)
  ∧ o'.o5 = o.o5
  ∧ o'.o6 = o.o6
  ∧ s'.s0 = s.s0
  ∧ s'.s1 = s.s1
  ∧ s'.s2 = s.s2
  ∧ s'.s3 = s.s3
  ∧ s'.s5 = s.s5
  ∧ s'.s6 = s.s6

set_option maxHeartbeats 1600000 in
/-- The body at the last point. -/
theorem bodyC (c : Dev nD) (i : grid0.Coords) (arg2 : Memref sig .tc .vmem S16384x256 .fp8e4m3) (harg2 : arg2.IsWhole) (arg3 : Memref sig .tc .vmem S1x256 .f32) (harg3 : arg3.IsWhole) (arg4 : Memref sig .tc .vmem S4x16384 .bf16) (harg4 : arg4.IsWhole) (arg5 : Memref sig .tc .vmem S1x16384 .bf16) (harg5 : arg5.IsWhole) (arg6 : Memref sig .tc .vmem S16384x256 .fp8e4m3) (harg6 : arg6.IsWhole) (arg7 : Memref sig .tc .vmem S1x256 .f32) (harg7 : arg7.IsWhole) (arg8 : Memref sig .tc .vmem S64x16384 .bf16) (harg8 : arg8.IsWhole) (arg9 : Memref sig .tc .vmem S16384x256 .f32) (harg9 : arg9.IsWhole) (arg10 : Memref sig .tc .vmem S16384x256 .bf16) (harg10 : arg10.IsWhole) (arg11 : Memref sig .tc .vmem S16384x128 .f32) (harg11 : arg11.IsWhole) (arg12 : Memref sig .tc .vmem S16384x128 .fp8e4m3) (harg12 : arg12.IsWhole) (arg13 : Memref sig .tc .vmem S64x256 .bf16) (harg13 : arg13.IsWhole) (arg14 : Memref sig .tc .vmem S8x256 .f32) (harg14 : arg14.IsWhole) (arg15 : Memref sig .tc .vmem S8x128 .f32) (harg15 : arg15.IsWhole) (xt0 : TbBuf0 (F := F) c tbM0_0) (hc0 : ¬cond0_0 i) (hc1 : ¬cond0_1 i) (hc2 : ¬cond0_2 i) (hc3 : ¬cond0_3 i) (hc4 : cond0_4 i) (x0 : Vec F S16384x256 .fp8e4m3) (x1 : Vec F S1x256 .f32) (x2 : Vec F S4x16384 .bf16) (x3 : Vec F S1x16384 .bf16) (o : Outs F) (s : Scr F) (E : Set ℕ) :
    held c arg2 arg3 arg4 arg5 arg6 arg7 arg8 arg9 arg10 arg11 arg12 arg13 arg14 arg15 xt0 x0 x1 x2 x3 o s
      ⊢ wp frame (wpE (defs₀ (F := F)) Variants.none c none) E (cc0_conv i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15) (fun _ =>
          iprop(∃ o' s', ⌜StepC c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 x0 x1 x2 x3 o s o' s'⌝ ∗ held c arg2 arg3 arg4 arg5 arg6 arg7 arg8 arg9 arg10 arg11 arg12 arg13 arg14 arg15 xt0 x0 x1 x2 x3 o' s')) := by
  unfold held
  iintro ⟨H0, H1, H2, H3, H4, H5, H6, H7, H8, H9, H10, H11, H12, H13, HT0⟩
  iapply ((runC c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 x0 x1 x2 x3 o.o4 o.o5 o.o6 s.s0 s.s1 s.s2 s.s3 s.s5 s.s6).2.2.2.2.2.2.2.2.2 E _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [HT0]; · iexact HT0
  iintro ⟨H0, H1, H2, H3, H4, H5, H6, H7, H8, H9, H10, H11, H12, H13, HT0⟩
  iexists (⟨arg6.view.read (Elt F) (arg6.view.writes (Elt F) (harg6.unread o.o4) (runC c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 x0 x1 x2 x3 o.o4 o.o5 o.o6 s.s0 s.s1 s.s2 s.s3 s.s5 s.s6).1), o.o5, o.o6⟩ : Outs F), (⟨s.s0, s.s1, s.s2, s.s3, s.s5, s.s6⟩ : Scr F)
  isplitr
  swap
  · isplitl [H0]; · iexact H0
    isplitl [H1]; · iexact H1
    isplitl [H2]; · iexact H2
    isplitl [H3]; · iexact H3
    isplitl [H4]
    · unfold owns; iexists _; isplitr
      swap; · iexact H4
      ipureintro; rfl
    isplitl [H5]
    · unfold owns; iexists _; isplitr
      swap; · iexact H5
      ipureintro; exact harg7.read_unread _
    isplitl [H6]
    · unfold owns; iexists _; isplitr
      swap; · iexact H6
      ipureintro; exact harg8.read_unread _
    isplitl [H7]
    · unfold owns; iexists _; isplitr
      swap; · iexact H7
      ipureintro; exact harg9.read_unread _
    isplitl [H8]
    · unfold owns; iexists _; isplitr
      swap; · iexact H8
      ipureintro; exact harg10.read_unread _
    isplitl [H9]
    · unfold owns; iexists _; isplitr
      swap; · iexact H9
      ipureintro; exact harg11.read_unread _
    isplitl [H10]
    · unfold owns; iexists _; isplitr
      swap; · iexact H10
      ipureintro; exact harg12.read_unread _
    isplitl [H11]; · iexact H11
    isplitl [H12]
    · unfold owns; iexists _; isplitr
      swap; · iexact H12
      ipureintro; exact harg14.read_unread _
    isplitl [H13]
    · unfold owns; iexists _; isplitr
      swap; · iexact H13
      ipureintro; exact harg15.read_unread _
    iexact HT0
  ipureintro
  exact ⟨rfl, rfl, rfl, rfl, rfl, rfl, rfl, rfl, rfl⟩

end Cert.Conv.Body

end
-- ==== Proof.Body.Conv.Frame.lean ====
/- The body obligation of the pipeline, for any property of the carried scratch and of the outputs, and the run it gives. -/
module

public import proofs.«01_k».proof.Proof.Body.Conv.Steps

@[expose] public section

set_option maxRecDepth 16384

noncomputable section

namespace Cert.Conv.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Conv Cert.Conv.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## One grid point -/

/-- What the body leaves at point `t`, from what it found: the case the point is in. -/
def StepAt (hO : Ok m) (c : Dev nD) (t : Fin (cfgM m hO).N) (o : Outs F) (s : Scr F) (o' : Outs F) (s' : Scr F) : Prop :=
  (∃ (hc0 : cond0_0 (grid0.coords t)) (hc1 : cond0_1 (grid0.coords t)) (hc2 : cond0_2 (grid0.coords t)) (hc3 : ¬cond0_3 (grid0.coords t)) (hc4 : ¬cond0_4 (grid0.coords t)) (ht : Touched (c := c) (grid0.coords t) (tbl m 0)), StepA1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (tbl m 0) hc0 hc1 hc2 hc3 hc4 ht (iblk m hO c 0 t) (iblk m hO c 1 t) (iblk m hO c 2 t) (iblk m hO c 3 t) o s o' s') ∨
  (∃ (hc0 : cond0_0 (grid0.coords t)) (hc1 : cond0_1 (grid0.coords t)) (hc2 : cond0_2 (grid0.coords t)) (hc3 : ¬cond0_3 (grid0.coords t)) (hc4 : ¬cond0_4 (grid0.coords t)) (ht : ¬Touched (c := c) (grid0.coords t) (tbl m 0)), StepA0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (tbl m 0) hc0 hc1 hc2 hc3 hc4 ht (iblk m hO c 0 t) (iblk m hO c 1 t) (iblk m hO c 2 t) (iblk m hO c 3 t) o s o' s') ∨
  (∃ (hc0 : ¬cond0_0 (grid0.coords t)) (hc1 : cond0_1 (grid0.coords t)) (hc2 : ¬cond0_2 (grid0.coords t)) (hc3 : cond0_3 (grid0.coords t)) (hc4 : ¬cond0_4 (grid0.coords t)) (ht : Touched (c := c) (grid0.coords t) (tbl m 0)), StepB1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (tbl m 0) hc0 hc1 hc2 hc3 hc4 ht (iblk m hO c 0 t) (iblk m hO c 1 t) (iblk m hO c 2 t) (iblk m hO c 3 t) o s o' s') ∨
  (∃ (hc0 : ¬cond0_0 (grid0.coords t)) (hc1 : cond0_1 (grid0.coords t)) (hc2 : ¬cond0_2 (grid0.coords t)) (hc3 : cond0_3 (grid0.coords t)) (hc4 : ¬cond0_4 (grid0.coords t)) (ht : ¬Touched (c := c) (grid0.coords t) (tbl m 0)), StepB0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (tbl m 0) hc0 hc1 hc2 hc3 hc4 ht (iblk m hO c 0 t) (iblk m hO c 1 t) (iblk m hO c 2 t) (iblk m hO c 3 t) o s o' s') ∨
  (∃ (hc0 : ¬cond0_0 (grid0.coords t)) (hc1 : ¬cond0_1 (grid0.coords t)) (hc2 : ¬cond0_2 (grid0.coords t)) (hc3 : ¬cond0_3 (grid0.coords t)) (hc4 : cond0_4 (grid0.coords t)), StepC c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (tbl m 0) hc0 hc1 hc2 hc3 hc4 (iblk m hO c 0 t) (iblk m hO c 1 t) (iblk m hO c 2 t) (iblk m hO c 3 t) o s o' s')

set_option maxHeartbeats 1600000 in
/-- The body at one grid point keeps the invariant. -/
theorem body_at (hO : Ok m) (c : Dev nD) (t : Fin (cfgM m hO).N) (o : Outs F) (s : Scr F) :
    held c (ms0_0 m hO t) (ms0_1 m hO t) (ms0_2 m hO t) (ms0_3 m hO t) (ms0_4 m hO t) (ms0_5 m hO t) (ms0_6 m hO t) scM0_0 scM0_1 scM0_2 scM0_3 scM0_4 scM0_5 scM0_6 (tbl m 0) (iblk m hO c 0 t) (iblk m hO c 1 t) (iblk m hO c 2 t) (iblk m hO c 3 t) o s
      ⊢ wp frame (wpE (defs₀ (F := F)) Variants.none c none) Set.univ (bodyAt0 (adm m hO) t) (fun _ =>
          iprop(∃ o' s', ⌜StepAt m hO c t o s o' s'⌝ ∗ held c (ms0_0 m hO t) (ms0_1 m hO t) (ms0_2 m hO t) (ms0_3 m hO t) (ms0_4 m hO t) (ms0_5 m hO t) (ms0_6 m hO t) scM0_0 scM0_1 scM0_2 scM0_3 scM0_4 scM0_5 scM0_6 (tbl m 0) (iblk m hO c 0 t) (iblk m hO c 1 t) (iblk m hO c 2 t) (iblk m hO c 3 t) o' s')) := by
  unfold bodyAt0
  have hN : t.val < 33 := lt_of_lt_of_eq t.isLt (show (cfgM m hO).N = 33 from N_0)
  by_cases h0 : t.val = 0
  · have hc0 : cond0_0 (grid0.coords t) := (hcond0_0 t).mpr (by omega)
    have hc1 : cond0_1 (grid0.coords t) := (hcond0_1 t).mpr (by omega)
    have hc2 : cond0_2 (grid0.coords t) := (hcond0_2 t).mpr (by omega)
    have hc3 : ¬cond0_3 (grid0.coords t) := fun h => by have := (hcond0_3 t).mp h; omega
    have hc4 : ¬cond0_4 (grid0.coords t) := fun h => by have := (hcond0_4 t).mp h; omega
    by_cases ht : Touched (c := c) (grid0.coords t) (tbl m 0)
    · refine (bodyA1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (tbl m 0) hc0 hc1 hc2 hc3 hc4 ht (iblk m hO c 0 t) (iblk m hO c 1 t) (iblk m hO c 2 t) (iblk m hO c 3 t) o s Set.univ).trans (wp_mono _ _ _ fun _ => ?_)
      iintro ⟨%o', %s', %hs, H⟩; iexists o', s'; isplitr
      · ipureintro; exact Or.inl ⟨hc0, hc1, hc2, hc3, hc4, ht, hs⟩
      · iexact H
    · refine (bodyA0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (tbl m 0) hc0 hc1 hc2 hc3 hc4 ht (iblk m hO c 0 t) (iblk m hO c 1 t) (iblk m hO c 2 t) (iblk m hO c 3 t) o s Set.univ).trans (wp_mono _ _ _ fun _ => ?_)
      iintro ⟨%o', %s', %hs, H⟩; iexists o', s'; isplitr
      · ipureintro; exact Or.inr (Or.inl ⟨hc0, hc1, hc2, hc3, hc4, ht, hs⟩)
      · iexact H
  by_cases h1 : t.val < 32
  · have hc0 : ¬cond0_0 (grid0.coords t) := fun h => by have := (hcond0_0 t).mp h; omega
    have hc1 : cond0_1 (grid0.coords t) := (hcond0_1 t).mpr (by omega)
    have hc2 : ¬cond0_2 (grid0.coords t) := fun h => by have := (hcond0_2 t).mp h; omega
    have hc3 : cond0_3 (grid0.coords t) := (hcond0_3 t).mpr (by omega)
    have hc4 : ¬cond0_4 (grid0.coords t) := fun h => by have := (hcond0_4 t).mp h; omega
    by_cases ht : Touched (c := c) (grid0.coords t) (tbl m 0)
    · refine (bodyB1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (tbl m 0) hc0 hc1 hc2 hc3 hc4 ht (iblk m hO c 0 t) (iblk m hO c 1 t) (iblk m hO c 2 t) (iblk m hO c 3 t) o s Set.univ).trans (wp_mono _ _ _ fun _ => ?_)
      iintro ⟨%o', %s', %hs, H⟩; iexists o', s'; isplitr
      · ipureintro; exact Or.inr (Or.inr (Or.inl ⟨hc0, hc1, hc2, hc3, hc4, ht, hs⟩))
      · iexact H
    · refine (bodyB0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (tbl m 0) hc0 hc1 hc2 hc3 hc4 ht (iblk m hO c 0 t) (iblk m hO c 1 t) (iblk m hO c 2 t) (iblk m hO c 3 t) o s Set.univ).trans (wp_mono _ _ _ fun _ => ?_)
      iintro ⟨%o', %s', %hs, H⟩; iexists o', s'; isplitr
      · ipureintro; exact Or.inr (Or.inr (Or.inr (Or.inl ⟨hc0, hc1, hc2, hc3, hc4, ht, hs⟩)))
      · iexact H
  have hc0 : ¬cond0_0 (grid0.coords t) := fun h => by have := (hcond0_0 t).mp h; omega
  have hc1 : ¬cond0_1 (grid0.coords t) := fun h => by have := (hcond0_1 t).mp h; omega
  have hc2 : ¬cond0_2 (grid0.coords t) := fun h => by have := (hcond0_2 t).mp h; omega
  have hc3 : ¬cond0_3 (grid0.coords t) := fun h => by have := (hcond0_3 t).mp h; omega
  have hc4 : cond0_4 (grid0.coords t) := (hcond0_4 t).mpr (by omega)
  refine (bodyC c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (tbl m 0) hc0 hc1 hc2 hc3 hc4 (iblk m hO c 0 t) (iblk m hO c 1 t) (iblk m hO c 2 t) (iblk m hO c 3 t) o s Set.univ).trans (wp_mono _ _ _ fun _ => ?_)
  iintro ⟨%o', %s', %hs, H⟩; iexists o', s'; isplitr
  · ipureintro; exact Or.inr (Or.inr (Or.inr (Or.inr ⟨hc0, hc1, hc2, hc3, hc4, hs⟩)))
  · iexact H

/-! ## The pipeline's data, for any property of what is carried and of what is left in the outputs -/

section Data

variable (I : ℕ → Scr F → Prop) (R4 : ℕ → Vec F S16384x256 .fp8e4m3 → Prop) (R5 : ℕ → Vec F S1x256 .f32 → Prop)
  (R6 : ℕ → Vec F S64x16384 .bf16 → Prop)

/-- The carried scratch buffers at the contents `s`, the one that is not carried at anything. -/
def scrHeld (c : Dev nD) (s : Scr F) : sProp 𝕄 :=
  iprop(owns (c : Thread nD τ) scM0_0 fullShare s.s0 ∗ owns (c : Thread nD τ) scM0_1 fullShare s.s1 ∗ owns (c : Thread nD τ) scM0_2 fullShare s.s2 ∗ owns (c : Thread nD τ) scM0_3 fullShare s.s3 ∗ (∃ d, owns (c : Thread nD τ) scM0_4 fullShare d) ∗ owns (c : Thread nD τ) scM0_5 fullShare s.s5 ∗ owns (c : Thread nD τ) scM0_6 fullShare s.s6)

/-- Between two points: the scratch buffers at contents with the property `I`. -/
def PhiS (c : Dev nD) (n : ℕ) : sProp 𝕄 :=
  iprop((∃ s, ⌜I n s⌝ ∗ scrHeld c s) ∗ (∃ r, prngReg c r) ∗ Pipeline.ΦT pre0 (tbl m) c)

/-- The outputs, of which only a property is kept. -/
def marked : Fin 7 → Bool := fun w => w.val == 4 || w.val == 5 || w.val == 6

/-- That property. -/
def Rl (hO : Ok m) (w : Fin (cfgM m hO).W) (t : Fin (cfgM m hO).N) : (((cfgM m hO).win w).block.Idx → Elt F ((cfgM m hO).win w).elt) → Prop :=
  match w with
  | ⟨4, _⟩ => fun X => R4 t.val X
  | ⟨5, _⟩ => fun X => R5 t.val X
  | ⟨6, _⟩ => fun X => R6 t.val X
  | _ => fun _ => True

/-- What the pipeline holds in each window before and after each point. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, h⟩ => Pipeline.Dat.unnamed (cfg := (cfgM m hO)) ⟨4, h⟩ t
    | ⟨5, h⟩ => Pipeline.Dat.unnamed (cfg := (cfgM m hO)) ⟨5, h⟩ t
    | ⟨6, h⟩ => Pipeline.Dat.unnamed (cfg := (cfgM m hO)) ⟨6, h⟩ t
  Φ t := PhiS m I c t.val
  q _ := fullShare
  owed _ := 0

/-- The data with the outputs held to their property. -/
abbrev rdat (hO : Ok m) (c : Dev nD) : RDat τ (Elt F) Unit ℕ (UR sig nD τ) ℕ (cfgM m hO) c :=
  (dats m I hO 0 c).toRRel marked (Rl m R4 R5 R6 hO)

/-- The array behind a window. -/
theorem A_eq (hO : Ok m) (c : Dev nD) (w : Fin (cfgM m hO).W) : (dats m I hO 0 c).A w = V m c (Pipeline.arrRef spec0 w) := by
  dsimp only [dats]
/-- An input block is unchanged after a point. -/
theorem after0_0 (hO : Ok m) (c : Dev nD) (t : Fin (cfgM m hO).N) : (dats m I hO 0 c).after 0 t = iblk m hO c 0 t := by dsimp only [dats]; try rfl
/-- An input block is unchanged after a point. -/
theorem after0_1 (hO : Ok m) (c : Dev nD) (t : Fin (cfgM m hO).N) : (dats m I hO 0 c).after 1 t = iblk m hO c 1 t := by dsimp only [dats]; try rfl
/-- An input block is unchanged after a point. -/
theorem after0_2 (hO : Ok m) (c : Dev nD) (t : Fin (cfgM m hO).N) : (dats m I hO 0 c).after 2 t = iblk m hO c 2 t := by dsimp only [dats]; try rfl
/-- An input block is unchanged after a point. -/
theorem after0_3 (hO : Ok m) (c : Dev nD) (t : Fin (cfgM m hO).N) : (dats m I hO 0 c).after 3 t = iblk m hO c 3 t := by dsimp only [dats]; try rfl
/-- An input block is fetched before a point. -/
theorem before0_0 (hO : Ok m) (c : Dev nD) (t : Fin (cfgM m hO).N) (d) : (dats m I hO 0 c).before 0 t d = iblk m hO c 0 t :=
  before0_0_of m hO (dats m I hO 0 c) (A_eq m I hO c 0) (after0_0 m I hO c) t d
/-- An input block is fetched before a point. -/
theorem before0_1 (hO : Ok m) (c : Dev nD) (t : Fin (cfgM m hO).N) (d) : (dats m I hO 0 c).before 1 t d = iblk m hO c 1 t :=
  before0_1_of m hO (dats m I hO 0 c) (A_eq m I hO c 1) (after0_1 m I hO c) t d
/-- An input block is fetched before a point. -/
theorem before0_2 (hO : Ok m) (c : Dev nD) (t : Fin (cfgM m hO).N) (d) : (dats m I hO 0 c).before 2 t d = iblk m hO c 2 t :=
  before0_2_of m hO (dats m I hO 0 c) (A_eq m I hO c 2) (after0_2 m I hO c) t d
/-- An input block is fetched before a point. -/
theorem before0_3 (hO : Ok m) (c : Dev nD) (t : Fin (cfgM m hO).N) (d) : (dats m I hO 0 c).before 3 t d = iblk m hO c 3 t :=
  before0_3_of m hO (dats m I hO 0 c) (A_eq m I hO c 3) (after0_3 m I hO c) t d

/-- The body keeps `I` and leaves the outputs with their property. -/
def Keeps (hO : Ok m) : Prop := ∀ (c : Dev nD) (t : Fin (cfgM m hO).N) (o : Outs F) (s : Scr F) (o' : Outs F) (s' : Scr F),
  I t.val s → (rdat m I R4 R5 R6 hO c).Finds 4 t o.o4 → (rdat m I R4 R5 R6 hO c).Finds 5 t o.o5 → (rdat m I R4 R5 R6 hO c).Finds 6 t o.o6 →
  StepAt m hO c t o s o' s' → I (t.val + 1) s' ∧ R4 t.val o'.o4 ∧ R5 t.val o'.o5 ∧ R6 t.val o'.o6

/-- What the body is given at a point. -/
def bodyPre (hO : Ok m) (c : Dev nD) (t : Fin (cfgM m hO).N) : sProp 𝕄 :=
  iprop((dats m I hO 0 c).Φ t.castSucc ∗ (dats m I hO 0 c).owesAt () t.castSucc
    ∗ (∃ d, owns (c : Thread nD τ) (ms0_0 m hO t) fullShare ((dats m I hO 0 c).before 0 t d))
    ∗ (∃ d, owns (c : Thread nD τ) (ms0_1 m hO t) fullShare ((dats m I hO 0 c).before 1 t d))
    ∗ (∃ d, owns (c : Thread nD τ) (ms0_2 m hO t) fullShare ((dats m I hO 0 c).before 2 t d))
    ∗ (∃ d, owns (c : Thread nD τ) (ms0_3 m hO t) fullShare ((dats m I hO 0 c).before 3 t d))
    ∗ (∃ Y, ⌜(rdat m I R4 R5 R6 hO c).Finds 4 t Y⌝ ∗ owns (c : Thread nD τ) (ms0_4 m hO t) fullShare Y)
    ∗ (∃ Y, ⌜(rdat m I R4 R5 R6 hO c).Finds 5 t Y⌝ ∗ owns (c : Thread nD τ) (ms0_5 m hO t) fullShare Y)
    ∗ (∃ Y, ⌜(rdat m I R4 R5 R6 hO c).Finds 6 t Y⌝ ∗ owns (c : Thread nD τ) (ms0_6 m hO t) fullShare Y))

/-- What the body gives back at a point. -/
def bodyPost (hO : Ok m) (c : Dev nD) (t : Fin (cfgM m hO).N) : sProp 𝕄 :=
  iprop((dats m I hO 0 c).Φ t.succ ∗ (dats m I hO 0 c).owesAt () t.succ
    ∗ owns (c : Thread nD τ) (ms0_0 m hO t) fullShare ((dats m I hO 0 c).after 0 t)
    ∗ owns (c : Thread nD τ) (ms0_1 m hO t) fullShare ((dats m I hO 0 c).after 1 t)
    ∗ owns (c : Thread nD τ) (ms0_2 m hO t) fullShare ((dats m I hO 0 c).after 2 t)
    ∗ owns (c : Thread nD τ) (ms0_3 m hO t) fullShare ((dats m I hO 0 c).after 3 t)
    ∗ (∃ X, ⌜Rl m R4 R5 R6 hO 4 t X⌝ ∗ owns (c : Thread nD τ) (ms0_4 m hO t) fullShare X)
    ∗ (∃ X, ⌜Rl m R4 R5 R6 hO 5 t X⌝ ∗ owns (c : Thread nD τ) (ms0_5 m hO t) fullShare X)
    ∗ (∃ X, ⌜Rl m R4 R5 R6 hO 6 t X⌝ ∗ owns (c : Thread nD τ) (ms0_6 m hO t) fullShare X))

set_option maxHeartbeats 3200000 in
/-- The body takes what it is given at a point to what it must give back. -/
theorem sound_body (hO : Ok m) (hk : Keeps m I R4 R5 R6 hO) (c : Dev nD) (t : Fin (cfgM m hO).N) :
    bodyPre m I R4 R5 R6 hO c t ⊢ wp frame (wpE (defs₀ (F := F)) Variants.none c none) Set.univ (bodyAt0 (adm m hO) t) (fun _ => bodyPost m I R4 R5 R6 hO c t) := by
  unfold bodyPre bodyPost
  simp only [before0_0, before0_1, before0_2, before0_3, after0_0, after0_1, after0_2, after0_3]
  rw [show (dats m I hO 0 c).owesAt () t.succ = (dats m I hO 0 c).owesAt () t.castSucc from rfl,
    show (dats m I hO 0 c).Φ t.succ = PhiS m I c (t.val + 1) from rfl,
    show (dats m I hO 0 c).Φ t.castSucc = PhiS m I c t.val from rfl]
  unfold PhiS scrHeld
  rw [PhiT0_eq]
  iintro ⟨⟨⟨%s, %hI, HS0, HS1, HS2, HS3, HS4, HS5, HS6⟩, Hg, HT0⟩, Ho, ⟨%d0, H0⟩, ⟨%d1, H1⟩, ⟨%d2, H2⟩, ⟨%d3, H3⟩, ⟨%d4, %hf4, H4⟩, ⟨%d5, %hf5, H5⟩, ⟨%d6, %hf6, H6⟩⟩
  iapply (wp_wand_r frame (wpE (defs₀ (F := F)) Variants.none c none) Set.univ)
  isplitl [H0 H1 H2 H3 H4 H5 H6 HS0 HS1 HS2 HS3 HS4 HS5 HS6 HT0]
  · iapply (body_at m hO c t ⟨d4, d5, d6⟩ s)
    unfold held
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    iexact HT0
  iintro %a ⟨%o', %s', %hs, H⟩
  obtain ⟨hI', h4, h5, h6⟩ := hk c t ⟨d4, d5, d6⟩ s o' s' hI hf4 hf5 hf6 hs
  unfold held
  icases H with ⟨H0, H1, H2, H3, H4, H5, H6, HS0, HS1, HS2, HS3, HS4, HS5, HS6, HT0⟩
  isplitl [HS0 HS1 HS2 HS3 HS4 HS5 HS6 Hg HT0]
  · isplitl [HS0 HS1 HS2 HS3 HS4 HS5 HS6]
    · iexists s'
      isplitr; · ipureintro; exact hI'
      isplitl [HS0]; · iexact HS0
      isplitl [HS1]; · iexact HS1
      isplitl [HS2]; · iexact HS2
      isplitl [HS3]; · iexact HS3
      isplitl [HS4]; · iexact HS4
      isplitl [HS5]; · iexact HS5
      iexact HS6
    isplitl [Hg]; · iexact Hg
    iexact HT0
  isplitl [Ho]; · iexact Ho
  isplitl [H0]; · iexact H0
  isplitl [H1]; · iexact H1
  isplitl [H2]; · iexact H2
  isplitl [H3]; · iexact H3
  isplitl [H4]
  · iexists _; isplitr
    · ipureintro; exact h4
    · iexact H4
  isplitl [H5]
  · iexists _; isplitr
    · ipureintro; exact h5
    · iexact H5
  iexists _; isplitr
  · ipureintro; exact h6
  · iexact H6

/-- The body that the pipeline calls is the kernel at the point. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The body meets what the pipeline asks of it at every point. -/
theorem body_obligation (hO : Ok m) (hk : Keeps m I R4 R5 R6 hO) (c : Dev nD) :
    Pipeline.BodyObligationRel (dats m I hO 0 c) (defs₀ (F := F)) Variants.none () Set.univ marked (Rl m R4 R5 R6 hO) := fun t => by
  rw [bigSep_W0, bigSep_W0, defs₀_row m hO]
  exact triple_restated (sound_body m I R4 R5 R6 hO hk c t) rfl .rfl fun _ => .rfl

/-- The invariant holds before the first point. -/
theorem hin (hO : Ok m) (hI : ∀ s, I 0 s) (c : Dev nD) : iprop(Pipeline.ΦA spec0 c ∗ Pipeline.ΦT pre0 (tbl m) c) ⊢ (dats m I hO 0 c).Φ 0 := by
  rw [show (dats m I hO 0 c).Φ 0 = PhiS m I c 0 from rfl, PhiA0_eq]
  unfold PhiS scrHeld
  iintro ⟨⟨⟨⟨%e0, HS0⟩, ⟨%e1, HS1⟩, ⟨%e2, HS2⟩, ⟨%e3, HS3⟩, HS4, ⟨%e5, HS5⟩, ⟨%e6, HS6⟩⟩, Hg⟩, HT⟩
  isplitl [HS0 HS1 HS2 HS3 HS4 HS5 HS6]
  · iexists (⟨e0, e1, e2, e3, e5, e6⟩ : Scr F)
    isplitr; · ipureintro; exact hI _
    isplitl [HS0]; · iexact HS0
    isplitl [HS1]; · iexact HS1
    isplitl [HS2]; · iexact HS2
    isplitl [HS3]; · iexact HS3
    isplitl [HS4]; · iexact HS4
    isplitl [HS5]; · iexact HS5
    iexact HS6
  isplitl [Hg]; · iexact Hg
  iexact HT

/-- The scratch buffers are given back after the last point. -/
theorem hout (hO : Ok m) (c : Dev nD) : (dats m I hO 0 c).Φ (Fin.last (cfgM m hO).N) ⊢ Pipeline.ΦA spec0 c := by
  rw [show (dats m I hO 0 c).Φ (Fin.last (cfgM m hO).N) = PhiS m I c (cfgM m hO).N from rfl, PhiA0_eq]
  unfold PhiS scrHeld
  iintro ⟨⟨%s, -, HS0, HS1, HS2, HS3, HS4, HS5, HS6⟩, Hg, -⟩
  isplitl [HS0 HS1 HS2 HS3 HS4 HS5 HS6]
  · isplitl [HS0]; · iexists _; iexact HS0
    isplitl [HS1]; · iexists _; iexact HS1
    isplitl [HS2]; · iexists _; iexact HS2
    isplitl [HS3]; · iexists _; iexact HS3
    isplitl [HS4]; · iexact HS4
    isplitl [HS5]; · iexists _; iexact HS5
    iexists _; iexact HS6
  iexact Hg

set_option backward.isDefEq.respectTransparency.types false in
/-- The run: every execution ends with the arrays as the data say, and every counter at zero. -/
theorem run_main (hO : Ok m) (hk : Keeps m I R4 R5 R6 hO) (hI : ∀ s, I 0 s) :
    θ_run defs (onTc (τ := τ) (main (F := F))) (s₀ m ρ) (fun r => RDat.FramePost ((Pipeline.pin pcfgs fun _ => adm m hO) 0) (fun c => rdat m I R4 R5 R6 hO c) (V m) r ∧ r.2.sem = fun _ => 0) :=
  Pipeline.RDat.θ_run_frameP_track (Q' := _) pcfgs (fun _ => adm m hO) (0 : Fin 1) launch0 defs₀ Variants.none (fun c => rdat m I R4 R5 R6 hO c) m ρ main
    (hbody := fun c => (body_obligation m I R4 R5 R6 hO hk c).toRRel) (hshare := fun c => (dats m I hO 0 c).share_full fun _ => rfl)
    (howed := fun _ _ => rfl) (V := V m) (hmain := hmain m Variants.none) (hA := A_eq m I hO) (hpf := V_pre m) (hin := hin m I hO hI) (hout := hout m I hO)

end Data

/-! ## The frame -/

/-- The tables' side condition: no index map reads a table. -/
theorem ok : Ok m := by first | trivial | exact of_decide_eq_true rfl

/-- The program terminates, leaves its arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  have h := run_main m ρ (fun _ _ => True) (fun _ _ => True) (fun _ _ => True) (fun _ _ => True) (ok m)
    (fun _ _ _ _ _ _ _ _ _ _ _ => ⟨trivial, trivial, trivial, trivial⟩) fun _ => trivial
  θ_run_and (frame_of m ρ (ok m) (fun c => rdat m (fun _ _ => True) (fun _ _ => True) (fun _ _ => True) (fun _ _ => True) (ok m) c) (A_eq m (fun _ _ => True) (ok m)) ((θ_run defs _ _).mono (fun _ h => h.1) h)) ((θ_run defs _ _).mono (fun _ h => h.2) h)

end Cert.Conv.Body

end
-- ==== Proof.Body.ConvIdeal.Runs.lean ====
/- What the runs of the body and the frame share: the contents the region finds, the table, the branch conditions over the points, the staging and scratch memrefs, where each window is fetched and flushed. -/
module

public import proofs.«01_k».proof.Proof.Gen.ConvIdeal.Launch
public import proofs.«01_k».proof.Proof.Gen.ConvIdeal.Skeleton
public import proofs.«01_k».proof.Proof.Gen.ConvIdeal.Loops
public import Idealize.ShloMosaic.Lib.Pipeline.FrameBody
public import Idealize.ShloMosaic.Lib.Pipeline.DatRel
public import Idealize.ShloMosaic.Lib.Pipeline.ArrRel
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.ConvIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.ConvIdeal Cert.ConvIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

-- window 0 is fetched at points [0, 1, 2, 3, 4, 5, 6, 7, 8, 9, 10, 11]…: no closed form stated
-- window 1 is fetched at points [0, 1, 2, 3, 4, 5, 6, 7, 8, 9, 10, 11]…: no closed form stated
/-- Window 2 (operand 3 (%0)) is fetched at the first point only, at any contents of the tables (its index map reads none). -/
theorem fetch0_2 (a : (pcfg0 (F := F)).Adm) : ∀ t : Fin (cfg0 a).N, ((cfg0 a).win 2).fetch t = true ↔ t.val % 33 = 0 :=
  (fun t => Pipeline.Window.fetchOf_const cc0_transform_2 (fun _ _ => rfl) (n := 33) (by decide) t : ∀ t : Fin grid0.N, Pipeline.Window.fetchOf grid0 false cc0_transform_2 t = true ↔ t.val % 33 = 0)
/-- Window 3 (operand 4 (%1)) is fetched at the first point only, at any contents of the tables (its index map reads none). -/
theorem fetch0_3 (a : (pcfg0 (F := F)).Adm) : ∀ t : Fin (cfg0 a).N, ((cfg0 a).win 3).fetch t = true ↔ t.val % 33 = 0 :=
  (fun t => Pipeline.Window.fetchOf_const cc0_transform_3 (fun _ _ => rfl) (n := 33) (by decide) t : ∀ t : Fin grid0.N, Pipeline.Window.fetchOf grid0 false cc0_transform_3 t = true ↔ t.val % 33 = 0)
-- window 4 is written back at points [1, 2, 3, 4, 5, 6, 7, 8, 9, 10, 11, 12]…: no closed form stated
-- window 5 is written back at points [0, 1, 2, 3, 4, 5, 6, 7, 8, 9, 10, 11]…: no closed form stated
/-- Window 6 (result 2 (%2#2)) is written back at the last point only, at any contents of the tables (its index map reads none). -/
theorem flush0_6 (a : (pcfg0 (F := F)).Adm) : ∀ t : Fin (cfg0 a).N, ((cfg0 a).win 6).flush t = true ↔ t.val % 33 = 32 :=
  (fun t => Pipeline.Window.flushOf_const cc0_transform_6 (fun _ _ => rfl) (n := 33) (by decide) rfl t : ∀ t : Fin grid0.N, Pipeline.Window.flushOf grid0 true cc0_transform_6 t = true ↔ t.val % 33 = 32)

/-- The current staging memref of each window at point `t`: which of its buffers it is on. -/
abbrev st0_0 (a : (pcfg0 (F := F)).Adm) (t : Fin (cfg0 a).N) := ((cfg0 a).win 0).stage ((cfg0 a).slots t 0)
/-- The buffer of window 1 at a point. -/
abbrev st0_1 (a : (pcfg0 (F := F)).Adm) (t : Fin (cfg0 a).N) := ((cfg0 a).win 1).stage ((cfg0 a).slots t 1)
/-- The buffer of window 2 at a point. -/
abbrev st0_2 (a : (pcfg0 (F := F)).Adm) (t : Fin (cfg0 a).N) := ((cfg0 a).win 2).stage ((cfg0 a).slots t 2)
/-- The buffer of window 3 at a point. -/
abbrev st0_3 (a : (pcfg0 (F := F)).Adm) (t : Fin (cfg0 a).N) := ((cfg0 a).win 3).stage ((cfg0 a).slots t 3)
/-- The buffer of window 4 at a point. -/
abbrev st0_4 (a : (pcfg0 (F := F)).Adm) (t : Fin (cfg0 a).N) := ((cfg0 a).win 4).stage ((cfg0 a).slots t 4)
/-- The buffer of window 5 at a point. -/
abbrev st0_5 (a : (pcfg0 (F := F)).Adm) (t : Fin (cfg0 a).N) := ((cfg0 a).win 5).stage ((cfg0 a).slots t 5)
/-- The buffer of window 6 at a point. -/
abbrev st0_6 (a : (pcfg0 (F := F)).Adm) (t : Fin (cfg0 a).N) := ((cfg0 a).win 6).stage ((cfg0 a).slots t 6)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_conv (grid0.coords t) (Memref.whole main_arg2) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _)

/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

/-- The operations before the call make no new buffer. -/
theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
/-- The pipeline for the memory's boundaries. -/
abbrev cfgM (hO : Ok m) : Pipeline.Cfg sig Λ₀ := cfg0 (adm m hO)

/-- Each table as the body is handed it: its whole buffer as a memref, and that memref's wholeness. -/
abbrev tbM0_0 : Memref sig .tc .smem S10 .i32 := Memref.whole main_arg2
/-- The table is a whole buffer. -/
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
/-- Half of the share of a table buffer with its contents. -/
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Conv`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin grid0.N, cond0_0 (grid0.coords t) ↔ t.val % 33 = 0 :=
  (fun t => by
    have ht : t.val < 33 := Nat.lt_of_lt_of_eq t.isLt N_0
    have e0 : (grid0.coords t 0).val = t.val / 1 % 33 := Pipeline.Grid.coords_val t 0 (by decide) rfl
    simp only [cond0_0, k0_cond1, e0]
    word_cmp
   : ∀ t : Fin grid0.N, cond0_0 (grid0.coords t) ↔ t.val % 33 = 0)

/-- The condition of the body's `scf.if` 1 (`k0_h2`), from the grid coordinates (the skeleton's scalar
    chain substituted). -/
abbrev cond0_1 (i : grid0.Coords) : Prop := k0_cond2 i = 1#1
/-- It holds at the points before point 32 — decided over the grid. -/
theorem hcond0_1 : ∀ t : Fin grid0.N, cond0_1 (grid0.coords t) ↔ t.val < 32 :=
  (by decide +kernel : ∀ t : Fin grid0.N, cond0_1 (grid0.coords t) ↔ t.val < 32)

/-- The condition of the body's `scf.if` 2 (`k0_h4`), from the grid coordinates (the skeleton's scalar
    chain substituted). -/
abbrev cond0_2 (i : grid0.Coords) : Prop := k0_cond4 i = 1#1
/-- It holds at the first point only — by arithmetic of the point. -/
theorem hcond0_2 : ∀ t : Fin grid0.N, cond0_2 (grid0.coords t) ↔ t.val % 33 = 0 :=
  (fun t => by
    have ht : t.val < 33 := Nat.lt_of_lt_of_eq t.isLt N_0
    have e0 : (grid0.coords t 0).val = t.val / 1 % 33 := Pipeline.Grid.coords_val t 0 (by decide) rfl
    simp only [cond0_2, k0_cond4, e0]
    word_cmp
   : ∀ t : Fin grid0.N, cond0_2 (grid0.coords t) ↔ t.val % 33 = 0)

/-- The condition of the body's `scf.if` 3 (`k0_h5`), from the grid coordinates (the skeleton's scalar
    chain substituted). -/
abbrev cond0_3 (i : grid0.Coords) : Prop := k0_cond5 i = 1#1
/-- It holds at the points whose coordinates have 1 ≤ i0 and i0 ≤ 31 — decided over the grid. -/
theorem hcond0_3 : ∀ t : Fin grid0.N, cond0_3 (grid0.coords t) ↔ (1 ≤ t.val % 33 ∧ t.val % 33 ≤ 31) :=
  (by decide +kernel : ∀ t : Fin grid0.N, cond0_3 (grid0.coords t) ↔ (1 ≤ t.val % 33 ∧ t.val % 33 ≤ 31))

/-- The condition of the body's `scf.if` 4 (`k0_h6`), from the grid coordinates (the skeleton's scalar
    chain substituted). -/
abbrev cond0_4 (i : grid0.Coords) : Prop := k0_cond6 i = 1#1
/-- It holds at the last point only — by arithmetic of the point. -/
theorem hcond0_4 : ∀ t : Fin grid0.N, cond0_4 (grid0.coords t) ↔ t.val % 33 = 32 :=
  (fun t => by
    have ht : t.val < 33 := Nat.lt_of_lt_of_eq t.isLt N_0
    have e0 : (grid0.coords t 0).val = t.val / 1 % 33 := Pipeline.Grid.coords_val t 0 (by decide) rfl
    simp only [cond0_4, k0_cond6, e0]
    word_cmp
   : ∀ t : Fin grid0.N, cond0_4 (grid0.coords t) ↔ t.val % 33 = 32)

/-! ## Where the windows are idle (the printed configuration's table `Cfg.idle`) -/

/-- Window 0 is never idle (an input). -/
theorem liveAt0_0 (hO : Ok m) : ∀ t : Fin (cfgM m hO).N, (cfgM m hO).idle 0 (grid0.coords t) = false :=
  (fun _ => rfl : ∀ t : Fin grid0.N, idle0 (tbl m) 0 (grid0.coords t) = false)
/-- Window 1 is never idle (an input). -/
theorem liveAt0_1 (hO : Ok m) : ∀ t : Fin (cfgM m hO).N, (cfgM m hO).idle 1 (grid0.coords t) = false :=
  (fun _ => rfl : ∀ t : Fin grid0.N, idle0 (tbl m) 1 (grid0.coords t) = false)
/-- Window 2 is never idle (an input). -/
theorem liveAt0_2 (hO : Ok m) : ∀ t : Fin (cfgM m hO).N, (cfgM m hO).idle 2 (grid0.coords t) = false :=
  (fun _ => rfl : ∀ t : Fin grid0.N, idle0 (tbl m) 2 (grid0.coords t) = false)
/-- Window 3 is never idle (an input). -/
theorem liveAt0_3 (hO : Ok m) : ∀ t : Fin (cfgM m hO).N, (cfgM m hO).idle 3 (grid0.coords t) = false :=
  (fun _ => rfl : ∀ t : Fin grid0.N, idle0 (tbl m) 3 (grid0.coords t) = false)
/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S16384x256 .fp8e4m3 := spec0_0.stage ((cfgM m hO).slots t 0)
/-- The buffer of window 0 is whole. -/
abbrev hs0_0 (hO : Ok m) (t : Fin (cfgM m hO).N) : (ms0_0 m hO t).IsWhole := hstage0_0 (((cfgM m hO).slots t 0).cast nbuf0_0)
/-- The buffer of window 1 at a point, as the body is handed it. -/
abbrev ms0_1 (hO : Ok m) (t : Fin (cfgM m hO).N) : Memref sig .tc .vmem S1x256 .f32 := spec0_1.stage ((cfgM m hO).slots t 1)
/-- The buffer of window 1 is whole. -/
abbrev hs0_1 (hO : Ok m) (t : Fin (cfgM m hO).N) : (ms0_1 m hO t).IsWhole := hstage0_1 (((cfgM m hO).slots t 1).cast nbuf0_1)
/-- The buffer of window 2 at a point, as the body is handed it. -/
abbrev ms0_2 (hO : Ok m) (t : Fin (cfgM m hO).N) : Memref sig .tc .vmem S4x16384 .bf16 := spec0_2.stage ((cfgM m hO).slots t 2)
/-- The buffer of window 2 is whole. -/
abbrev hs0_2 (hO : Ok m) (t : Fin (cfgM m hO).N) : (ms0_2 m hO t).IsWhole := hstage0_2 (((cfgM m hO).slots t 2).cast nbuf0_2)
/-- The buffer of window 3 at a point, as the body is handed it. -/
abbrev ms0_3 (hO : Ok m) (t : Fin (cfgM m hO).N) : Memref sig .tc .vmem S1x16384 .bf16 := spec0_3.stage ((cfgM m hO).slots t 3)
/-- The buffer of window 3 is whole. -/
abbrev hs0_3 (hO : Ok m) (t : Fin (cfgM m hO).N) : (ms0_3 m hO t).IsWhole := hstage0_3 (((cfgM m hO).slots t 3).cast nbuf0_3)
/-- The buffer of window 4 at a point, as the body is handed it. -/
abbrev ms0_4 (hO : Ok m) (t : Fin (cfgM m hO).N) : Memref sig .tc .vmem S16384x256 .fp8e4m3 := spec0_4.stage ((cfgM m hO).slots t 4)
/-- The buffer of window 4 is whole. -/
abbrev hs0_4 (hO : Ok m) (t : Fin (cfgM m hO).N) : (ms0_4 m hO t).IsWhole := hstage0_4 (((cfgM m hO).slots t 4).cast nbuf0_4)
/-- The buffer of window 5 at a point, as the body is handed it. -/
abbrev ms0_5 (hO : Ok m) (t : Fin (cfgM m hO).N) : Memref sig .tc .vmem S1x256 .f32 := spec0_5.stage ((cfgM m hO).slots t 5)
/-- The buffer of window 5 is whole. -/
abbrev hs0_5 (hO : Ok m) (t : Fin (cfgM m hO).N) : (ms0_5 m hO t).IsWhole := hstage0_5 (((cfgM m hO).slots t 5).cast nbuf0_5)
/-- The buffer of window 6 at a point, as the body is handed it. -/
abbrev ms0_6 (hO : Ok m) (t : Fin (cfgM m hO).N) : Memref sig .tc .vmem S64x16384 .bf16 := spec0_6.stage ((cfgM m hO).slots t 6)
/-- The buffer of window 6 is whole. -/
abbrev hs0_6 (hO : Ok m) (t : Fin (cfgM m hO).N) : (ms0_6 m hO t).IsWhole := hstage0_6 (((cfgM m hO).slots t 6).cast nbuf0_6)
/-- The scratch operands: whole scoped buffers of the kernel's own, passed beside the windows. -/
abbrev scM0_0 : Memref sig .tc .vmem S16384x256 .f32 := Memref.whole cc0_scratch0
/-- Scratch buffer 1. -/
abbrev scM0_1 : Memref sig .tc .vmem S16384x256 .bf16 := Memref.whole cc0_scratch1
/-- Scratch buffer 2. -/
abbrev scM0_2 : Memref sig .tc .vmem S16384x128 .f32 := Memref.whole cc0_scratch2
/-- Scratch buffer 3. -/
abbrev scM0_3 : Memref sig .tc .vmem S16384x128 .fp8e4m3 := Memref.whole cc0_scratch3
/-- Scratch buffer 4. -/
abbrev scM0_4 : Memref sig .tc .vmem S64x256 .bf16 := Memref.whole cc0_scratch4
/-- Scratch buffer 5. -/
abbrev scM0_5 : Memref sig .tc .vmem S8x256 .f32 := Memref.whole cc0_scratch5
/-- Scratch buffer 6. -/
abbrev scM0_6 : Memref sig .tc .vmem S8x128 .f32 := Memref.whole cc0_scratch6
/-- The scratch `arg9` the kernel carries between points, as a view: what it holds is stated through it. -/
abbrev VS0_0 : View sig .tc .vmem S16384x256 .f32 := scM0_0.view
/-- The scratch `arg10` the kernel carries between points, as a view: what it holds is stated through it. -/
abbrev VS0_1 : View sig .tc .vmem S16384x256 .bf16 := scM0_1.view
/-- The scratch `arg11` the kernel carries between points, as a view: what it holds is stated through it. -/
abbrev VS0_2 : View sig .tc .vmem S16384x128 .f32 := scM0_2.view
/-- The scratch `arg12` the kernel carries between points, as a view: what it holds is stated through it. -/
abbrev VS0_3 : View sig .tc .vmem S16384x128 .fp8e4m3 := scM0_3.view
/-- The scratch `arg14` the kernel carries between points, as a view: what it holds is stated through it. -/
abbrev VS0_5 : View sig .tc .vmem S8x256 .f32 := scM0_5.view
/-- The scratch `arg15` the kernel carries between points, as a view: what it holds is stated through it. -/
abbrev VS0_6 : View sig .tc .vmem S8x128 .f32 := scM0_6.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA; rw [scopedRest0_eq]; simp only [scM0_0, scM0_1, scM0_2, scM0_3, scM0_4, scM0_5, scM0_6, owns_whole]; try rfl

/-- The table's contents, as the region's contents of its tables. -/
abbrev tabOf (c : Dev nD) (xt0 : TbBuf0 (F := F) c tbM0_0) : pre0.Contents (Elt F) := fun | 0 => xt0
/-- A boundary between two sequences lies where this point has to collect edge columns: the condition of the body's
    `scf.if` over the table's words. -/
abbrev Touched {c : Dev nD} (i : grid0.Coords) (xt0 : TbBuf0 (F := F) c tbM0_0) : Prop :=
  let pf := tabOf c xt0
  k0_cond3 i (pf.atD 0 ![0]) (pf.atD 0 ![0]) (pf.atD 0 ![0]) (pf.atD 0 ![1]) (pf.atD 0 ![1]) (pf.atD 0 ![2]) (pf.atD 0 ![2]) (pf.atD 0 ![3]) (pf.atD 0 ![3]) (pf.atD 0 ![4]) (pf.atD 0 ![4]) (pf.atD 0 ![5]) (pf.atD 0 ![5]) (pf.atD 0 ![6]) (pf.atD 0 ![6]) (pf.atD 0 ![7]) (pf.atD 0 ![7]) (pf.atD 0 ![8]) (pf.atD 0 ![8]) (pf.atD 0 ![9]) (pf.atD 0 ![9]) = 1#1

end Cert.ConvIdeal.Body

end
-- ==== Proof.Body.ConvIdeal.RunA1.lean ====
/- The body run at the points of case A1. -/
module

public import proofs.«01_k».proof.Proof.Body.ConvIdeal.Runs

@[expose] public section

set_option maxRecDepth 16384

noncomputable section

namespace Cert.ConvIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.ConvIdeal Cert.ConvIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1600000 in
/-- doc -/
noncomputable def runA1 (c : Dev nD) (i : grid0.Coords) (arg2 : Memref sig .tc .vmem S16384x256 .fp8e4m3) (harg2 : arg2.IsWhole) (arg3 : Memref sig .tc .vmem S1x256 .f32) (harg3 : arg3.IsWhole) (arg4 : Memref sig .tc .vmem S4x16384 .bf16) (harg4 : arg4.IsWhole) (arg5 : Memref sig .tc .vmem S1x16384 .bf16) (harg5 : arg5.IsWhole) (arg6 : Memref sig .tc .vmem S16384x256 .fp8e4m3) (harg6 : arg6.IsWhole) (arg7 : Memref sig .tc .vmem S1x256 .f32) (harg7 : arg7.IsWhole) (arg8 : Memref sig .tc .vmem S64x16384 .bf16) (harg8 : arg8.IsWhole) (arg9 : Memref sig .tc .vmem S16384x256 .f32) (harg9 : arg9.IsWhole) (arg10 : Memref sig .tc .vmem S16384x256 .bf16) (harg10 : arg10.IsWhole) (arg11 : Memref sig .tc .vmem S16384x128 .f32) (harg11 : arg11.IsWhole) (arg12 : Memref sig .tc .vmem S16384x128 .fp8e4m3) (harg12 : arg12.IsWhole) (arg13 : Memref sig .tc .vmem S64x256 .bf16) (harg13 : arg13.IsWhole) (arg14 : Memref sig .tc .vmem S8x256 .f32) (harg14 : arg14.IsWhole) (arg15 : Memref sig .tc .vmem S8x128 .f32) (harg15 : arg15.IsWhole)
    (xt0 : TbBuf0 (F := F) c tbM0_0) (hc0 : cond0_0 i) (hc1 : cond0_1 i) (hc2 : cond0_2 i) (hc3 : ¬cond0_3 i) (hc4 : ¬cond0_4 i) (ht : Touched i xt0)
    (x0 : Vec F S16384x256 .fp8e4m3) (x1 : Vec F S1x256 .f32) (x2 : Vec F S4x16384 .bf16) (x3 : Vec F S1x16384 .bf16) (d4 : Vec F S16384x256 .fp8e4m3) (d5 : Vec F S1x256 .f32) (d6 : Vec F S64x16384 .bf16) (xs0 : Vec F S16384x256 .f32) (xs1 : Vec F S16384x256 .bf16) (xs2 : Vec F S16384x128 .f32) (xs3 : Vec F S16384x128 .fp8e4m3) (xs5 : Vec F S8x256 .f32) (xs6 : Vec F S8x128 .f32) :
    Σ' (LO4 : List (View.Piece (Elt F) S16384x256 .fp8e4m3)), Σ' (LO5 : List (View.Piece (Elt F) S1x256 .f32)), Σ' (LO6 : List (View.Piece (Elt F) S64x16384 .bf16)), Σ' (LS0 : List (View.Piece (Elt F) S16384x256 .f32)), Σ' (LS1 : List (View.Piece (Elt F) S16384x256 .bf16)), Σ' (LS2 : List (View.Piece (Elt F) S16384x128 .f32)), Σ' (LS3 : List (View.Piece (Elt F) S16384x128 .fp8e4m3)), Σ' (LS5 : List (View.Piece (Elt F) S8x256 .f32)), { LS6 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare d4 ∗ owns (c : Thread nD τ) arg7 fullShare d5 ∗ owns (c : Thread nD τ) arg8 fullShare d6 ∗ owns (c : Thread nD τ) arg9 fullShare xs0 ∗ owns (c : Thread nD τ) arg10 fullShare xs1 ∗ owns (c : Thread nD τ) arg11 fullShare xs2 ∗ owns (c : Thread nD τ) arg12 fullShare xs3 ∗ (∃ d, owns (c : Thread nD τ) arg13 fullShare d) ∗ owns (c : Thread nD τ) arg14 fullShare xs5 ∗ owns (c : Thread nD τ) arg15 fullShare xs6 ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (arg6.view.loc (c : Thread nD τ) ↦[arg6.view.set]{fullShare} arg6.view.writes (Elt F) (harg6.unread d4) LO4) ∗ (arg7.view.loc (c : Thread nD τ) ↦[arg7.view.set]{fullShare} arg7.view.writes (Elt F) (harg7.unread d5) LO5) ∗ (arg8.view.loc (c : Thread nD τ) ↦[arg8.view.set]{fullShare} arg8.view.writes (Elt F) (arg8.view.junk) LO6) ∗ (arg9.view.loc (c : Thread nD τ) ↦[arg9.view.set]{fullShare} arg9.view.writes (Elt F) (harg9.unread xs0) LS0) ∗ (arg10.view.loc (c : Thread nD τ) ↦[arg10.view.set]{fullShare} arg10.view.writes (Elt F) (harg10.unread xs1) LS1) ∗ (arg11.view.loc (c : Thread nD τ) ↦[arg11.view.set]{fullShare} arg11.view.writes (Elt F) (harg11.unread xs2) LS2) ∗ (arg12.view.loc (c : Thread nD τ) ↦[arg12.view.set]{fullShare} arg12.view.writes (Elt F) (arg12.view.junk) LS3) ∗ (∃ d, owns (c : Thread nD τ) arg13 fullShare d) ∗ (arg14.view.loc (c : Thread nD τ) ↦[arg14.view.set]{fullShare} arg14.view.writes (Elt F) (harg14.unread xs5) LS5) ∗ (arg15.view.loc (c : Thread nD τ) ↦[arg15.view.set]{fullShare} arg15.view.writes (Elt F) (arg15.view.junk) LS6) ∗ tbPt0 c tbM0_0 xt0) -∗ K ⟨⟩))
          ⊢ wp frame (wpE (defs₀ (F := F)) Variants.none c none) E (cc0_conv i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨[], ?_, ?_, ?_, ?_, ?_, ?_, ?_, ?_, fun E K => ?run⟩
  case run =>
    simp only [cc0_conv_eq_skeleton]; unfold cc0_conv_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%xs4, %f11, %hf11, H11⟩, ⟨%f12, %hf12, H12⟩, ⟨%f13, %hf13, H13⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
    sl_exec (disch := first | sl_exact hc0 | sl_exact hc1 | sl_exact hc2 | sl_exact hc3 | sl_exact hc4 | sl_exact ht)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]
    · iexists _, _; isplitr; swap; · iexact H11
      ipureintro; rfl
    isplitl [H12]; · iexact H12
    isplitl [H13]; · iexact H13
    iexact HT0

end Cert.ConvIdeal.Body

end
-- ==== Proof.Body.ConvIdeal.RunA0.lean ====
/- The body run at the points of case A0. -/
module

public import proofs.«01_k».proof.Proof.Body.ConvIdeal.Runs

@[expose] public section

set_option maxRecDepth 16384

noncomputable section

namespace Cert.ConvIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.ConvIdeal Cert.ConvIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1600000 in
/-- doc -/
noncomputable def runA0 (c : Dev nD) (i : grid0.Coords) (arg2 : Memref sig .tc .vmem S16384x256 .fp8e4m3) (harg2 : arg2.IsWhole) (arg3 : Memref sig .tc .vmem S1x256 .f32) (harg3 : arg3.IsWhole) (arg4 : Memref sig .tc .vmem S4x16384 .bf16) (harg4 : arg4.IsWhole) (arg5 : Memref sig .tc .vmem S1x16384 .bf16) (harg5 : arg5.IsWhole) (arg6 : Memref sig .tc .vmem S16384x256 .fp8e4m3) (harg6 : arg6.IsWhole) (arg7 : Memref sig .tc .vmem S1x256 .f32) (harg7 : arg7.IsWhole) (arg8 : Memref sig .tc .vmem S64x16384 .bf16) (harg8 : arg8.IsWhole) (arg9 : Memref sig .tc .vmem S16384x256 .f32) (harg9 : arg9.IsWhole) (arg10 : Memref sig .tc .vmem S16384x256 .bf16) (harg10 : arg10.IsWhole) (arg11 : Memref sig .tc .vmem S16384x128 .f32) (harg11 : arg11.IsWhole) (arg12 : Memref sig .tc .vmem S16384x128 .fp8e4m3) (harg12 : arg12.IsWhole) (arg13 : Memref sig .tc .vmem S64x256 .bf16) (harg13 : arg13.IsWhole) (arg14 : Memref sig .tc .vmem S8x256 .f32) (harg14 : arg14.IsWhole) (arg15 : Memref sig .tc .vmem S8x128 .f32) (harg15 : arg15.IsWhole)
    (xt0 : TbBuf0 (F := F) c tbM0_0) (hc0 : cond0_0 i) (hc1 : cond0_1 i) (hc2 : cond0_2 i) (hc3 : ¬cond0_3 i) (hc4 : ¬cond0_4 i) (ht : ¬Touched i xt0)
    (x0 : Vec F S16384x256 .fp8e4m3) (x1 : Vec F S1x256 .f32) (x2 : Vec F S4x16384 .bf16) (x3 : Vec F S1x16384 .bf16) (d4 : Vec F S16384x256 .fp8e4m3) (d5 : Vec F S1x256 .f32) (d6 : Vec F S64x16384 .bf16) (xs0 : Vec F S16384x256 .f32) (xs1 : Vec F S16384x256 .bf16) (xs2 : Vec F S16384x128 .f32) (xs3 : Vec F S16384x128 .fp8e4m3) (xs5 : Vec F S8x256 .f32) (xs6 : Vec F S8x128 .f32) :
    Σ' (LO4 : List (View.Piece (Elt F) S16384x256 .fp8e4m3)), Σ' (LO5 : List (View.Piece (Elt F) S1x256 .f32)), Σ' (LO6 : List (View.Piece (Elt F) S64x16384 .bf16)), Σ' (LS0 : List (View.Piece (Elt F) S16384x256 .f32)), Σ' (LS1 : List (View.Piece (Elt F) S16384x256 .bf16)), Σ' (LS2 : List (View.Piece (Elt F) S16384x128 .f32)), Σ' (LS3 : List (View.Piece (Elt F) S16384x128 .fp8e4m3)), Σ' (LS5 : List (View.Piece (Elt F) S8x256 .f32)), { LS6 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare d4 ∗ owns (c : Thread nD τ) arg7 fullShare d5 ∗ owns (c : Thread nD τ) arg8 fullShare d6 ∗ owns (c : Thread nD τ) arg9 fullShare xs0 ∗ owns (c : Thread nD τ) arg10 fullShare xs1 ∗ owns (c : Thread nD τ) arg11 fullShare xs2 ∗ owns (c : Thread nD τ) arg12 fullShare xs3 ∗ (∃ d, owns (c : Thread nD τ) arg13 fullShare d) ∗ owns (c : Thread nD τ) arg14 fullShare xs5 ∗ owns (c : Thread nD τ) arg15 fullShare xs6 ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (arg6.view.loc (c : Thread nD τ) ↦[arg6.view.set]{fullShare} arg6.view.writes (Elt F) (harg6.unread d4) LO4) ∗ (arg7.view.loc (c : Thread nD τ) ↦[arg7.view.set]{fullShare} arg7.view.writes (Elt F) (harg7.unread d5) LO5) ∗ (arg8.view.loc (c : Thread nD τ) ↦[arg8.view.set]{fullShare} arg8.view.writes (Elt F) (arg8.view.junk) LO6) ∗ (arg9.view.loc (c : Thread nD τ) ↦[arg9.view.set]{fullShare} arg9.view.writes (Elt F) (harg9.unread xs0) LS0) ∗ (arg10.view.loc (c : Thread nD τ) ↦[arg10.view.set]{fullShare} arg10.view.writes (Elt F) (harg10.unread xs1) LS1) ∗ (arg11.view.loc (c : Thread nD τ) ↦[arg11.view.set]{fullShare} arg11.view.writes (Elt F) (harg11.unread xs2) LS2) ∗ (arg12.view.loc (c : Thread nD τ) ↦[arg12.view.set]{fullShare} arg12.view.writes (Elt F) (arg12.view.junk) LS3) ∗ (∃ d, owns (c : Thread nD τ) arg13 fullShare d) ∗ (arg14.view.loc (c : Thread nD τ) ↦[arg14.view.set]{fullShare} arg14.view.writes (Elt F) (harg14.unread xs5) LS5) ∗ (arg15.view.loc (c : Thread nD τ) ↦[arg15.view.set]{fullShare} arg15.view.writes (Elt F) (arg15.view.junk) LS6) ∗ tbPt0 c tbM0_0 xt0) -∗ K ⟨⟩))
          ⊢ wp frame (wpE (defs₀ (F := F)) Variants.none c none) E (cc0_conv i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨[], ?_, ?_, ?_, ?_, ?_, ?_, ?_, ?_, fun E K => ?run⟩
  case run =>
    simp only [cc0_conv_eq_skeleton]; unfold cc0_conv_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%xs4, %f11, %hf11, H11⟩, ⟨%f12, %hf12, H12⟩, ⟨%f13, %hf13, H13⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
    sl_exec (disch := first | sl_exact hc0 | sl_exact hc1 | sl_exact hc2 | sl_exact hc3 | sl_exact hc4 | sl_exact ht)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]
    · iexists _, _; isplitr; swap; · iexact H11
      ipureintro; rfl
    isplitl [H12]; · iexact H12
    isplitl [H13]; · iexact H13
    iexact HT0

end Cert.ConvIdeal.Body

end
-- ==== Proof.Body.ConvIdeal.RunB1.lean ====
/- The body run at the points of case B1. -/
module

public import proofs.«01_k».proof.Proof.Body.ConvIdeal.Runs

@[expose] public section

set_option maxRecDepth 16384

noncomputable section

namespace Cert.ConvIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.ConvIdeal Cert.ConvIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1600000 in
/-- doc -/
noncomputable def runB1 (c : Dev nD) (i : grid0.Coords) (arg2 : Memref sig .tc .vmem S16384x256 .fp8e4m3) (harg2 : arg2.IsWhole) (arg3 : Memref sig .tc .vmem S1x256 .f32) (harg3 : arg3.IsWhole) (arg4 : Memref sig .tc .vmem S4x16384 .bf16) (harg4 : arg4.IsWhole) (arg5 : Memref sig .tc .vmem S1x16384 .bf16) (harg5 : arg5.IsWhole) (arg6 : Memref sig .tc .vmem S16384x256 .fp8e4m3) (harg6 : arg6.IsWhole) (arg7 : Memref sig .tc .vmem S1x256 .f32) (harg7 : arg7.IsWhole) (arg8 : Memref sig .tc .vmem S64x16384 .bf16) (harg8 : arg8.IsWhole) (arg9 : Memref sig .tc .vmem S16384x256 .f32) (harg9 : arg9.IsWhole) (arg10 : Memref sig .tc .vmem S16384x256 .bf16) (harg10 : arg10.IsWhole) (arg11 : Memref sig .tc .vmem S16384x128 .f32) (harg11 : arg11.IsWhole) (arg12 : Memref sig .tc .vmem S16384x128 .fp8e4m3) (harg12 : arg12.IsWhole) (arg13 : Memref sig .tc .vmem S64x256 .bf16) (harg13 : arg13.IsWhole) (arg14 : Memref sig .tc .vmem S8x256 .f32) (harg14 : arg14.IsWhole) (arg15 : Memref sig .tc .vmem S8x128 .f32) (harg15 : arg15.IsWhole)
    (xt0 : TbBuf0 (F := F) c tbM0_0) (hc0 : ¬cond0_0 i) (hc1 : cond0_1 i) (hc2 : ¬cond0_2 i) (hc3 : cond0_3 i) (hc4 : ¬cond0_4 i) (ht : Touched i xt0)
    (x0 : Vec F S16384x256 .fp8e4m3) (x1 : Vec F S1x256 .f32) (x2 : Vec F S4x16384 .bf16) (x3 : Vec F S1x16384 .bf16) (d4 : Vec F S16384x256 .fp8e4m3) (d5 : Vec F S1x256 .f32) (d6 : Vec F S64x16384 .bf16) (xs0 : Vec F S16384x256 .f32) (xs1 : Vec F S16384x256 .bf16) (xs2 : Vec F S16384x128 .f32) (xs3 : Vec F S16384x128 .fp8e4m3) (xs5 : Vec F S8x256 .f32) (xs6 : Vec F S8x128 .f32) :
    Σ' (LO4 : List (View.Piece (Elt F) S16384x256 .fp8e4m3)), Σ' (LO5 : List (View.Piece (Elt F) S1x256 .f32)), Σ' (LO6 : List (View.Piece (Elt F) S64x16384 .bf16)), Σ' (LS0 : List (View.Piece (Elt F) S16384x256 .f32)), Σ' (LS1 : List (View.Piece (Elt F) S16384x256 .bf16)), Σ' (LS2 : List (View.Piece (Elt F) S16384x128 .f32)), Σ' (LS3 : List (View.Piece (Elt F) S16384x128 .fp8e4m3)), Σ' (LS5 : List (View.Piece (Elt F) S8x256 .f32)), { LS6 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare d4 ∗ owns (c : Thread nD τ) arg7 fullShare d5 ∗ owns (c : Thread nD τ) arg8 fullShare d6 ∗ owns (c : Thread nD τ) arg9 fullShare xs0 ∗ owns (c : Thread nD τ) arg10 fullShare xs1 ∗ owns (c : Thread nD τ) arg11 fullShare xs2 ∗ owns (c : Thread nD τ) arg12 fullShare xs3 ∗ (∃ d, owns (c : Thread nD τ) arg13 fullShare d) ∗ owns (c : Thread nD τ) arg14 fullShare xs5 ∗ owns (c : Thread nD τ) arg15 fullShare xs6 ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (arg6.view.loc (c : Thread nD τ) ↦[arg6.view.set]{fullShare} arg6.view.writes (Elt F) (harg6.unread d4) LO4) ∗ (arg7.view.loc (c : Thread nD τ) ↦[arg7.view.set]{fullShare} arg7.view.writes (Elt F) (harg7.unread d5) LO5) ∗ (arg8.view.loc (c : Thread nD τ) ↦[arg8.view.set]{fullShare} arg8.view.writes (Elt F) (harg8.unread d6) LO6) ∗ (arg9.view.loc (c : Thread nD τ) ↦[arg9.view.set]{fullShare} arg9.view.writes (Elt F) (harg9.unread xs0) LS0) ∗ (arg10.view.loc (c : Thread nD τ) ↦[arg10.view.set]{fullShare} arg10.view.writes (Elt F) (harg10.unread xs1) LS1) ∗ (arg11.view.loc (c : Thread nD τ) ↦[arg11.view.set]{fullShare} arg11.view.writes (Elt F) (harg11.unread xs2) LS2) ∗ (arg12.view.loc (c : Thread nD τ) ↦[arg12.view.set]{fullShare} arg12.view.writes (Elt F) (harg12.unread xs3) LS3) ∗ (∃ d, owns (c : Thread nD τ) arg13 fullShare d) ∗ (arg14.view.loc (c : Thread nD τ) ↦[arg14.view.set]{fullShare} arg14.view.writes (Elt F) (harg14.unread xs5) LS5) ∗ (arg15.view.loc (c : Thread nD τ) ↦[arg15.view.set]{fullShare} arg15.view.writes (Elt F) (harg15.unread xs6) LS6) ∗ tbPt0 c tbM0_0 xt0) -∗ K ⟨⟩))
          ⊢ wp frame (wpE (defs₀ (F := F)) Variants.none c none) E (cc0_conv i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, [], [], ?_, ?_, ?_, fun E K => ?run⟩
  case run =>
    simp only [cc0_conv_eq_skeleton]; unfold cc0_conv_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%xs4, %f11, %hf11, H11⟩, ⟨%f12, %hf12, H12⟩, ⟨%f13, %hf13, H13⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
    sl_exec (disch := first | sl_exact hc0 | sl_exact hc1 | sl_exact hc2 | sl_exact hc3 | sl_exact hc4 | sl_exact ht)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]
    · iexists _, _; isplitr; swap; · iexact H11
      ipureintro; rfl
    isplitl [H12]; · iexact H12
    isplitl [H13]; · iexact H13
    iexact HT0

end Cert.ConvIdeal.Body

end
-- ==== Proof.Body.ConvIdeal.RunB0.lean ====
/- The body run at the points of case B0. -/
module

public import proofs.«01_k».proof.Proof.Body.ConvIdeal.Runs

@[expose] public section

set_option maxRecDepth 16384

noncomputable section

namespace Cert.ConvIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.ConvIdeal Cert.ConvIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1600000 in
/-- doc -/
noncomputable def runB0 (c : Dev nD) (i : grid0.Coords) (arg2 : Memref sig .tc .vmem S16384x256 .fp8e4m3) (harg2 : arg2.IsWhole) (arg3 : Memref sig .tc .vmem S1x256 .f32) (harg3 : arg3.IsWhole) (arg4 : Memref sig .tc .vmem S4x16384 .bf16) (harg4 : arg4.IsWhole) (arg5 : Memref sig .tc .vmem S1x16384 .bf16) (harg5 : arg5.IsWhole) (arg6 : Memref sig .tc .vmem S16384x256 .fp8e4m3) (harg6 : arg6.IsWhole) (arg7 : Memref sig .tc .vmem S1x256 .f32) (harg7 : arg7.IsWhole) (arg8 : Memref sig .tc .vmem S64x16384 .bf16) (harg8 : arg8.IsWhole) (arg9 : Memref sig .tc .vmem S16384x256 .f32) (harg9 : arg9.IsWhole) (arg10 : Memref sig .tc .vmem S16384x256 .bf16) (harg10 : arg10.IsWhole) (arg11 : Memref sig .tc .vmem S16384x128 .f32) (harg11 : arg11.IsWhole) (arg12 : Memref sig .tc .vmem S16384x128 .fp8e4m3) (harg12 : arg12.IsWhole) (arg13 : Memref sig .tc .vmem S64x256 .bf16) (harg13 : arg13.IsWhole) (arg14 : Memref sig .tc .vmem S8x256 .f32) (harg14 : arg14.IsWhole) (arg15 : Memref sig .tc .vmem S8x128 .f32) (harg15 : arg15.IsWhole)
    (xt0 : TbBuf0 (F := F) c tbM0_0) (hc0 : ¬cond0_0 i) (hc1 : cond0_1 i) (hc2 : ¬cond0_2 i) (hc3 : cond0_3 i) (hc4 : ¬cond0_4 i) (ht : ¬Touched i xt0)
    (x0 : Vec F S16384x256 .fp8e4m3) (x1 : Vec F S1x256 .f32) (x2 : Vec F S4x16384 .bf16) (x3 : Vec F S1x16384 .bf16) (d4 : Vec F S16384x256 .fp8e4m3) (d5 : Vec F S1x256 .f32) (d6 : Vec F S64x16384 .bf16) (xs0 : Vec F S16384x256 .f32) (xs1 : Vec F S16384x256 .bf16) (xs2 : Vec F S16384x128 .f32) (xs3 : Vec F S16384x128 .fp8e4m3) (xs5 : Vec F S8x256 .f32) (xs6 : Vec F S8x128 .f32) :
    Σ' (LO4 : List (View.Piece (Elt F) S16384x256 .fp8e4m3)), Σ' (LO5 : List (View.Piece (Elt F) S1x256 .f32)), Σ' (LO6 : List (View.Piece (Elt F) S64x16384 .bf16)), Σ' (LS0 : List (View.Piece (Elt F) S16384x256 .f32)), Σ' (LS1 : List (View.Piece (Elt F) S16384x256 .bf16)), Σ' (LS2 : List (View.Piece (Elt F) S16384x128 .f32)), Σ' (LS3 : List (View.Piece (Elt F) S16384x128 .fp8e4m3)), Σ' (LS5 : List (View.Piece (Elt F) S8x256 .f32)), { LS6 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare d4 ∗ owns (c : Thread nD τ) arg7 fullShare d5 ∗ owns (c : Thread nD τ) arg8 fullShare d6 ∗ owns (c : Thread nD τ) arg9 fullShare xs0 ∗ owns (c : Thread nD τ) arg10 fullShare xs1 ∗ owns (c : Thread nD τ) arg11 fullShare xs2 ∗ owns (c : Thread nD τ) arg12 fullShare xs3 ∗ (∃ d, owns (c : Thread nD τ) arg13 fullShare d) ∗ owns (c : Thread nD τ) arg14 fullShare xs5 ∗ owns (c : Thread nD τ) arg15 fullShare xs6 ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (arg6.view.loc (c : Thread nD τ) ↦[arg6.view.set]{fullShare} arg6.view.writes (Elt F) (harg6.unread d4) LO4) ∗ (arg7.view.loc (c : Thread nD τ) ↦[arg7.view.set]{fullShare} arg7.view.writes (Elt F) (harg7.unread d5) LO5) ∗ (arg8.view.loc (c : Thread nD τ) ↦[arg8.view.set]{fullShare} arg8.view.writes (Elt F) (harg8.unread d6) LO6) ∗ (arg9.view.loc (c : Thread nD τ) ↦[arg9.view.set]{fullShare} arg9.view.writes (Elt F) (harg9.unread xs0) LS0) ∗ (arg10.view.loc (c : Thread nD τ) ↦[arg10.view.set]{fullShare} arg10.view.writes (Elt F) (harg10.unread xs1) LS1) ∗ (arg11.view.loc (c : Thread nD τ) ↦[arg11.view.set]{fullShare} arg11.view.writes (Elt F) (harg11.unread xs2) LS2) ∗ (arg12.view.loc (c : Thread nD τ) ↦[arg12.view.set]{fullShare} arg12.view.writes (Elt F) (harg12.unread xs3) LS3) ∗ (∃ d, owns (c : Thread nD τ) arg13 fullShare d) ∗ (arg14.view.loc (c : Thread nD τ) ↦[arg14.view.set]{fullShare} arg14.view.writes (Elt F) (harg14.unread xs5) LS5) ∗ (arg15.view.loc (c : Thread nD τ) ↦[arg15.view.set]{fullShare} arg15.view.writes (Elt F) (harg15.unread xs6) LS6) ∗ tbPt0 c tbM0_0 xt0) -∗ K ⟨⟩))
          ⊢ wp frame (wpE (defs₀ (F := F)) Variants.none c none) E (cc0_conv i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, [], ?_, [], [], ?_, ?_, ?_, fun E K => ?run⟩
  case run =>
    simp only [cc0_conv_eq_skeleton]; unfold cc0_conv_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%xs4, %f11, %hf11, H11⟩, ⟨%f12, %hf12, H12⟩, ⟨%f13, %hf13, H13⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
    sl_exec (disch := first | sl_exact hc0 | sl_exact hc1 | sl_exact hc2 | sl_exact hc3 | sl_exact hc4 | sl_exact ht)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]
    · iexists _, _; isplitr; swap; · iexact H11
      ipureintro; rfl
    isplitl [H12]; · iexact H12
    isplitl [H13]; · iexact H13
    iexact HT0

end Cert.ConvIdeal.Body

end
-- ==== Proof.Body.ConvIdeal.RunC.lean ====
/- The body run at the points of case C. -/
module

public import proofs.«01_k».proof.Proof.Body.ConvIdeal.Runs

@[expose] public section

set_option maxRecDepth 16384

noncomputable section

namespace Cert.ConvIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.ConvIdeal Cert.ConvIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1600000 in
/-- doc -/
noncomputable def runC (c : Dev nD) (i : grid0.Coords) (arg2 : Memref sig .tc .vmem S16384x256 .fp8e4m3) (harg2 : arg2.IsWhole) (arg3 : Memref sig .tc .vmem S1x256 .f32) (harg3 : arg3.IsWhole) (arg4 : Memref sig .tc .vmem S4x16384 .bf16) (harg4 : arg4.IsWhole) (arg5 : Memref sig .tc .vmem S1x16384 .bf16) (harg5 : arg5.IsWhole) (arg6 : Memref sig .tc .vmem S16384x256 .fp8e4m3) (harg6 : arg6.IsWhole) (arg7 : Memref sig .tc .vmem S1x256 .f32) (harg7 : arg7.IsWhole) (arg8 : Memref sig .tc .vmem S64x16384 .bf16) (harg8 : arg8.IsWhole) (arg9 : Memref sig .tc .vmem S16384x256 .f32) (harg9 : arg9.IsWhole) (arg10 : Memref sig .tc .vmem S16384x256 .bf16) (harg10 : arg10.IsWhole) (arg11 : Memref sig .tc .vmem S16384x128 .f32) (harg11 : arg11.IsWhole) (arg12 : Memref sig .tc .vmem S16384x128 .fp8e4m3) (harg12 : arg12.IsWhole) (arg13 : Memref sig .tc .vmem S64x256 .bf16) (harg13 : arg13.IsWhole) (arg14 : Memref sig .tc .vmem S8x256 .f32) (harg14 : arg14.IsWhole) (arg15 : Memref sig .tc .vmem S8x128 .f32) (harg15 : arg15.IsWhole)
    (xt0 : TbBuf0 (F := F) c tbM0_0) (hc0 : ¬cond0_0 i) (hc1 : ¬cond0_1 i) (hc2 : ¬cond0_2 i) (hc3 : ¬cond0_3 i) (hc4 : cond0_4 i)
    (x0 : Vec F S16384x256 .fp8e4m3) (x1 : Vec F S1x256 .f32) (x2 : Vec F S4x16384 .bf16) (x3 : Vec F S1x16384 .bf16) (d4 : Vec F S16384x256 .fp8e4m3) (d5 : Vec F S1x256 .f32) (d6 : Vec F S64x16384 .bf16) (xs0 : Vec F S16384x256 .f32) (xs1 : Vec F S16384x256 .bf16) (xs2 : Vec F S16384x128 .f32) (xs3 : Vec F S16384x128 .fp8e4m3) (xs5 : Vec F S8x256 .f32) (xs6 : Vec F S8x128 .f32) :
    Σ' (LO4 : List (View.Piece (Elt F) S16384x256 .fp8e4m3)), Σ' (LO5 : List (View.Piece (Elt F) S1x256 .f32)), Σ' (LO6 : List (View.Piece (Elt F) S64x16384 .bf16)), Σ' (LS0 : List (View.Piece (Elt F) S16384x256 .f32)), Σ' (LS1 : List (View.Piece (Elt F) S16384x256 .bf16)), Σ' (LS2 : List (View.Piece (Elt F) S16384x128 .f32)), Σ' (LS3 : List (View.Piece (Elt F) S16384x128 .fp8e4m3)), Σ' (LS5 : List (View.Piece (Elt F) S8x256 .f32)), { LS6 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare d4 ∗ owns (c : Thread nD τ) arg7 fullShare d5 ∗ owns (c : Thread nD τ) arg8 fullShare d6 ∗ owns (c : Thread nD τ) arg9 fullShare xs0 ∗ owns (c : Thread nD τ) arg10 fullShare xs1 ∗ owns (c : Thread nD τ) arg11 fullShare xs2 ∗ owns (c : Thread nD τ) arg12 fullShare xs3 ∗ (∃ d, owns (c : Thread nD τ) arg13 fullShare d) ∗ owns (c : Thread nD τ) arg14 fullShare xs5 ∗ owns (c : Thread nD τ) arg15 fullShare xs6 ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (arg6.view.loc (c : Thread nD τ) ↦[arg6.view.set]{fullShare} arg6.view.writes (Elt F) (harg6.unread d4) LO4) ∗ (arg7.view.loc (c : Thread nD τ) ↦[arg7.view.set]{fullShare} arg7.view.writes (Elt F) (harg7.unread d5) LO5) ∗ (arg8.view.loc (c : Thread nD τ) ↦[arg8.view.set]{fullShare} arg8.view.writes (Elt F) (harg8.unread d6) LO6) ∗ (arg9.view.loc (c : Thread nD τ) ↦[arg9.view.set]{fullShare} arg9.view.writes (Elt F) (harg9.unread xs0) LS0) ∗ (arg10.view.loc (c : Thread nD τ) ↦[arg10.view.set]{fullShare} arg10.view.writes (Elt F) (harg10.unread xs1) LS1) ∗ (arg11.view.loc (c : Thread nD τ) ↦[arg11.view.set]{fullShare} arg11.view.writes (Elt F) (harg11.unread xs2) LS2) ∗ (arg12.view.loc (c : Thread nD τ) ↦[arg12.view.set]{fullShare} arg12.view.writes (Elt F) (harg12.unread xs3) LS3) ∗ (∃ d, owns (c : Thread nD τ) arg13 fullShare d) ∗ (arg14.view.loc (c : Thread nD τ) ↦[arg14.view.set]{fullShare} arg14.view.writes (Elt F) (harg14.unread xs5) LS5) ∗ (arg15.view.loc (c : Thread nD τ) ↦[arg15.view.set]{fullShare} arg15.view.writes (Elt F) (harg15.unread xs6) LS6) ∗ tbPt0 c tbM0_0 xt0) -∗ K ⟨⟩))
          ⊢ wp frame (wpE (defs₀ (F := F)) Variants.none c none) E (cc0_conv i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, [], [], [], [], [], [], [], [], fun E K => ?run⟩
  case run =>
    simp only [cc0_conv_eq_skeleton]; unfold cc0_conv_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%xs4, %f11, %hf11, H11⟩, ⟨%f12, %hf12, H12⟩, ⟨%f13, %hf13, H13⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]
    · iexists _, _; isplitr; swap; · iexact H11
      ipureintro; rfl
    isplitl [H12]; · iexact H12
    isplitl [H13]; · iexact H13
    iexact HT0

end Cert.ConvIdeal.Body

end
-- ==== Proof.Body.ConvIdeal.Steps.lean ====
/- The body at a point of each case, from named contents to named contents. -/
module

public import proofs.«01_k».proof.Proof.Body.ConvIdeal.RunA1
public import proofs.«01_k».proof.Proof.Body.ConvIdeal.RunA0
public import proofs.«01_k».proof.Proof.Body.ConvIdeal.RunB1
public import proofs.«01_k».proof.Proof.Body.ConvIdeal.RunB0
public import proofs.«01_k».proof.Proof.Body.ConvIdeal.RunC

@[expose] public section

set_option maxRecDepth 16384

noncomputable section

namespace Cert.ConvIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.ConvIdeal Cert.ConvIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the carried scratch buffers hold: the activations before quantisation, the tap matrices, the halved bias, the last
    columns of the block before, the inverse scales, the scales of the block before. -/
structure Scr (F : FTy → Type) [FloatOps F] where
  s0 : Vec F S16384x256 .f32
  s1 : Vec F S16384x256 .bf16
  s2 : Vec F S16384x128 .f32
  s3 : Vec F S16384x128 .fp8e4m3
  s5 : Vec F S8x256 .f32
  s6 : Vec F S8x128 .f32

/-- What the staging buffers of the three outputs hold: the codes, the scales, the edge columns. -/
structure Outs (F : FTy → Type) [FloatOps F] where
  o4 : Vec F S16384x256 .fp8e4m3
  o5 : Vec F S1x256 .f32
  o6 : Vec F S64x16384 .bf16

/-- Every buffer the body is handed, at named contents. -/
def held (c : Dev nD) (arg2 : Memref sig .tc .vmem S16384x256 .fp8e4m3) (arg3 : Memref sig .tc .vmem S1x256 .f32) (arg4 : Memref sig .tc .vmem S4x16384 .bf16) (arg5 : Memref sig .tc .vmem S1x16384 .bf16) (arg6 : Memref sig .tc .vmem S16384x256 .fp8e4m3) (arg7 : Memref sig .tc .vmem S1x256 .f32) (arg8 : Memref sig .tc .vmem S64x16384 .bf16) (arg9 : Memref sig .tc .vmem S16384x256 .f32) (arg10 : Memref sig .tc .vmem S16384x256 .bf16) (arg11 : Memref sig .tc .vmem S16384x128 .f32) (arg12 : Memref sig .tc .vmem S16384x128 .fp8e4m3) (arg13 : Memref sig .tc .vmem S64x256 .bf16) (arg14 : Memref sig .tc .vmem S8x256 .f32) (arg15 : Memref sig .tc .vmem S8x128 .f32) (xt0 : TbBuf0 (F := F) c tbM0_0) (x0 : Vec F S16384x256 .fp8e4m3) (x1 : Vec F S1x256 .f32) (x2 : Vec F S4x16384 .bf16) (x3 : Vec F S1x16384 .bf16) (o : Outs F) (s : Scr F) : sProp 𝕄 :=
  iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare o.o4 ∗ owns (c : Thread nD τ) arg7 fullShare o.o5 ∗ owns (c : Thread nD τ) arg8 fullShare o.o6 ∗ owns (c : Thread nD τ) arg9 fullShare s.s0 ∗ owns (c : Thread nD τ) arg10 fullShare s.s1 ∗ owns (c : Thread nD τ) arg11 fullShare s.s2 ∗ owns (c : Thread nD τ) arg12 fullShare s.s3 ∗ (∃ d, owns (c : Thread nD τ) arg13 fullShare d) ∗ owns (c : Thread nD τ) arg14 fullShare s.s5 ∗ owns (c : Thread nD τ) arg15 fullShare s.s6 ∗ tbPt0 c tbM0_0 xt0)

/-- What the body leaves at a point of case A1, from what it found. -/
def StepA1 (c : Dev nD) (i : grid0.Coords) (arg2 : Memref sig .tc .vmem S16384x256 .fp8e4m3) (harg2 : arg2.IsWhole) (arg3 : Memref sig .tc .vmem S1x256 .f32) (harg3 : arg3.IsWhole) (arg4 : Memref sig .tc .vmem S4x16384 .bf16) (harg4 : arg4.IsWhole) (arg5 : Memref sig .tc .vmem S1x16384 .bf16) (harg5 : arg5.IsWhole) (arg6 : Memref sig .tc .vmem S16384x256 .fp8e4m3) (harg6 : arg6.IsWhole) (arg7 : Memref sig .tc .vmem S1x256 .f32) (harg7 : arg7.IsWhole) (arg8 : Memref sig .tc .vmem S64x16384 .bf16) (harg8 : arg8.IsWhole) (arg9 : Memref sig .tc .vmem S16384x256 .f32) (harg9 : arg9.IsWhole) (arg10 : Memref sig .tc .vmem S16384x256 .bf16) (harg10 : arg10.IsWhole) (arg11 : Memref sig .tc .vmem S16384x128 .f32) (harg11 : arg11.IsWhole) (arg12 : Memref sig .tc .vmem S16384x128 .fp8e4m3) (harg12 : arg12.IsWhole) (arg13 : Memref sig .tc .vmem S64x256 .bf16) (harg13 : arg13.IsWhole) (arg14 : Memref sig .tc .vmem S8x256 .f32) (harg14 : arg14.IsWhole) (arg15 : Memref sig .tc .vmem S8x128 .f32) (harg15 : arg15.IsWhole) (xt0 : TbBuf0 (F := F) c tbM0_0) (hc0 : cond0_0 i) (hc1 : cond0_1 i) (hc2 : cond0_2 i) (hc3 : ¬cond0_3 i) (hc4 : ¬cond0_4 i) (ht : Touched i xt0) (x0 : Vec F S16384x256 .fp8e4m3) (x1 : Vec F S1x256 .f32) (x2 : Vec F S4x16384 .bf16) (x3 : Vec F S1x16384 .bf16) (o : Outs F) (s : Scr F) (o' : Outs F) (s' : Scr F) : Prop :=
  o'.o4 = o.o4
  ∧ o'.o5 = arg7.view.read (Elt F) (arg7.view.writes (Elt F) (harg7.unread o.o5) (runA1 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.1)
  ∧ o'.o6 = arg8.view.read (Elt F) (arg8.view.writes (Elt F) (arg8.view.junk) (runA1 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.2.1)
  ∧ s'.s0 = arg9.view.read (Elt F) (arg9.view.writes (Elt F) (harg9.unread s.s0) (runA1 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.2.2.1)
  ∧ s'.s1 = arg10.view.read (Elt F) (arg10.view.writes (Elt F) (harg10.unread s.s1) (runA1 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.2.2.2.1)
  ∧ s'.s2 = arg11.view.read (Elt F) (arg11.view.writes (Elt F) (harg11.unread s.s2) (runA1 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.2.2.2.2.1)
  ∧ s'.s3 = arg12.view.read (Elt F) (arg12.view.writes (Elt F) (arg12.view.junk) (runA1 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.2.2.2.2.2.1)
  ∧ s'.s5 = arg14.view.read (Elt F) (arg14.view.writes (Elt F) (harg14.unread s.s5) (runA1 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.2.2.2.2.2.2.1)
  ∧ s'.s6 = arg15.view.read (Elt F) (arg15.view.writes (Elt F) (arg15.view.junk) (runA1 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.2.2.2.2.2.2.2.1)

set_option maxHeartbeats 1600000 in
/-- The body at the first point, with edges in the block. -/
theorem bodyA1 (c : Dev nD) (i : grid0.Coords) (arg2 : Memref sig .tc .vmem S16384x256 .fp8e4m3) (harg2 : arg2.IsWhole) (arg3 : Memref sig .tc .vmem S1x256 .f32) (harg3 : arg3.IsWhole) (arg4 : Memref sig .tc .vmem S4x16384 .bf16) (harg4 : arg4.IsWhole) (arg5 : Memref sig .tc .vmem S1x16384 .bf16) (harg5 : arg5.IsWhole) (arg6 : Memref sig .tc .vmem S16384x256 .fp8e4m3) (harg6 : arg6.IsWhole) (arg7 : Memref sig .tc .vmem S1x256 .f32) (harg7 : arg7.IsWhole) (arg8 : Memref sig .tc .vmem S64x16384 .bf16) (harg8 : arg8.IsWhole) (arg9 : Memref sig .tc .vmem S16384x256 .f32) (harg9 : arg9.IsWhole) (arg10 : Memref sig .tc .vmem S16384x256 .bf16) (harg10 : arg10.IsWhole) (arg11 : Memref sig .tc .vmem S16384x128 .f32) (harg11 : arg11.IsWhole) (arg12 : Memref sig .tc .vmem S16384x128 .fp8e4m3) (harg12 : arg12.IsWhole) (arg13 : Memref sig .tc .vmem S64x256 .bf16) (harg13 : arg13.IsWhole) (arg14 : Memref sig .tc .vmem S8x256 .f32) (harg14 : arg14.IsWhole) (arg15 : Memref sig .tc .vmem S8x128 .f32) (harg15 : arg15.IsWhole) (xt0 : TbBuf0 (F := F) c tbM0_0) (hc0 : cond0_0 i) (hc1 : cond0_1 i) (hc2 : cond0_2 i) (hc3 : ¬cond0_3 i) (hc4 : ¬cond0_4 i) (ht : Touched i xt0) (x0 : Vec F S16384x256 .fp8e4m3) (x1 : Vec F S1x256 .f32) (x2 : Vec F S4x16384 .bf16) (x3 : Vec F S1x16384 .bf16) (o : Outs F) (s : Scr F) (E : Set ℕ) :
    held c arg2 arg3 arg4 arg5 arg6 arg7 arg8 arg9 arg10 arg11 arg12 arg13 arg14 arg15 xt0 x0 x1 x2 x3 o s
      ⊢ wp frame (wpE (defs₀ (F := F)) Variants.none c none) E (cc0_conv i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15) (fun _ =>
          iprop(∃ o' s', ⌜StepA1 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o s o' s'⌝ ∗ held c arg2 arg3 arg4 arg5 arg6 arg7 arg8 arg9 arg10 arg11 arg12 arg13 arg14 arg15 xt0 x0 x1 x2 x3 o' s')) := by
  unfold held
  iintro ⟨H0, H1, H2, H3, H4, H5, H6, H7, H8, H9, H10, H11, H12, H13, HT0⟩
  iapply ((runA1 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.2.2.2.2.2.2.2.2 E _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [HT0]; · iexact HT0
  iintro ⟨H0, H1, H2, H3, H4, H5, H6, H7, H8, H9, H10, H11, H12, H13, HT0⟩
  iexists (⟨o.o4, arg7.view.read (Elt F) (arg7.view.writes (Elt F) (harg7.unread o.o5) (runA1 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.1), arg8.view.read (Elt F) (arg8.view.writes (Elt F) (arg8.view.junk) (runA1 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.2.1)⟩ : Outs F), (⟨arg9.view.read (Elt F) (arg9.view.writes (Elt F) (harg9.unread s.s0) (runA1 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.2.2.1), arg10.view.read (Elt F) (arg10.view.writes (Elt F) (harg10.unread s.s1) (runA1 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.2.2.2.1), arg11.view.read (Elt F) (arg11.view.writes (Elt F) (harg11.unread s.s2) (runA1 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.2.2.2.2.1), arg12.view.read (Elt F) (arg12.view.writes (Elt F) (arg12.view.junk) (runA1 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.2.2.2.2.2.1), arg14.view.read (Elt F) (arg14.view.writes (Elt F) (harg14.unread s.s5) (runA1 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.2.2.2.2.2.2.1), arg15.view.read (Elt F) (arg15.view.writes (Elt F) (arg15.view.junk) (runA1 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.2.2.2.2.2.2.2.1)⟩ : Scr F)
  isplitr
  swap
  · isplitl [H0]; · iexact H0
    isplitl [H1]; · iexact H1
    isplitl [H2]; · iexact H2
    isplitl [H3]; · iexact H3
    isplitl [H4]
    · unfold owns; iexists _; isplitr
      swap; · iexact H4
      ipureintro; exact harg6.read_unread _
    isplitl [H5]
    · unfold owns; iexists _; isplitr
      swap; · iexact H5
      ipureintro; rfl
    isplitl [H6]
    · unfold owns; iexists _; isplitr
      swap; · iexact H6
      ipureintro; rfl
    isplitl [H7]
    · unfold owns; iexists _; isplitr
      swap; · iexact H7
      ipureintro; rfl
    isplitl [H8]
    · unfold owns; iexists _; isplitr
      swap; · iexact H8
      ipureintro; rfl
    isplitl [H9]
    · unfold owns; iexists _; isplitr
      swap; · iexact H9
      ipureintro; rfl
    isplitl [H10]
    · unfold owns; iexists _; isplitr
      swap; · iexact H10
      ipureintro; rfl
    isplitl [H11]; · iexact H11
    isplitl [H12]
    · unfold owns; iexists _; isplitr
      swap; · iexact H12
      ipureintro; rfl
    isplitl [H13]
    · unfold owns; iexists _; isplitr
      swap; · iexact H13
      ipureintro; rfl
    iexact HT0
  ipureintro
  exact ⟨rfl, rfl, rfl, rfl, rfl, rfl, rfl, rfl, rfl⟩

/-- What the body leaves at a point of case A0, from what it found. -/
def StepA0 (c : Dev nD) (i : grid0.Coords) (arg2 : Memref sig .tc .vmem S16384x256 .fp8e4m3) (harg2 : arg2.IsWhole) (arg3 : Memref sig .tc .vmem S1x256 .f32) (harg3 : arg3.IsWhole) (arg4 : Memref sig .tc .vmem S4x16384 .bf16) (harg4 : arg4.IsWhole) (arg5 : Memref sig .tc .vmem S1x16384 .bf16) (harg5 : arg5.IsWhole) (arg6 : Memref sig .tc .vmem S16384x256 .fp8e4m3) (harg6 : arg6.IsWhole) (arg7 : Memref sig .tc .vmem S1x256 .f32) (harg7 : arg7.IsWhole) (arg8 : Memref sig .tc .vmem S64x16384 .bf16) (harg8 : arg8.IsWhole) (arg9 : Memref sig .tc .vmem S16384x256 .f32) (harg9 : arg9.IsWhole) (arg10 : Memref sig .tc .vmem S16384x256 .bf16) (harg10 : arg10.IsWhole) (arg11 : Memref sig .tc .vmem S16384x128 .f32) (harg11 : arg11.IsWhole) (arg12 : Memref sig .tc .vmem S16384x128 .fp8e4m3) (harg12 : arg12.IsWhole) (arg13 : Memref sig .tc .vmem S64x256 .bf16) (harg13 : arg13.IsWhole) (arg14 : Memref sig .tc .vmem S8x256 .f32) (harg14 : arg14.IsWhole) (arg15 : Memref sig .tc .vmem S8x128 .f32) (harg15 : arg15.IsWhole) (xt0 : TbBuf0 (F := F) c tbM0_0) (hc0 : cond0_0 i) (hc1 : cond0_1 i) (hc2 : cond0_2 i) (hc3 : ¬cond0_3 i) (hc4 : ¬cond0_4 i) (ht : ¬Touched i xt0) (x0 : Vec F S16384x256 .fp8e4m3) (x1 : Vec F S1x256 .f32) (x2 : Vec F S4x16384 .bf16) (x3 : Vec F S1x16384 .bf16) (o : Outs F) (s : Scr F) (o' : Outs F) (s' : Scr F) : Prop :=
  o'.o4 = o.o4
  ∧ o'.o5 = arg7.view.read (Elt F) (arg7.view.writes (Elt F) (harg7.unread o.o5) (runA0 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.1)
  ∧ o'.o6 = arg8.view.read (Elt F) (arg8.view.writes (Elt F) (arg8.view.junk) (runA0 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.2.1)
  ∧ s'.s0 = arg9.view.read (Elt F) (arg9.view.writes (Elt F) (harg9.unread s.s0) (runA0 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.2.2.1)
  ∧ s'.s1 = arg10.view.read (Elt F) (arg10.view.writes (Elt F) (harg10.unread s.s1) (runA0 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.2.2.2.1)
  ∧ s'.s2 = arg11.view.read (Elt F) (arg11.view.writes (Elt F) (harg11.unread s.s2) (runA0 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.2.2.2.2.1)
  ∧ s'.s3 = arg12.view.read (Elt F) (arg12.view.writes (Elt F) (arg12.view.junk) (runA0 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.2.2.2.2.2.1)
  ∧ s'.s5 = arg14.view.read (Elt F) (arg14.view.writes (Elt F) (harg14.unread s.s5) (runA0 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.2.2.2.2.2.2.1)
  ∧ s'.s6 = arg15.view.read (Elt F) (arg15.view.writes (Elt F) (arg15.view.junk) (runA0 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.2.2.2.2.2.2.2.1)

set_option maxHeartbeats 1600000 in
/-- The body at the first point, without edges in the block. -/
theorem bodyA0 (c : Dev nD) (i : grid0.Coords) (arg2 : Memref sig .tc .vmem S16384x256 .fp8e4m3) (harg2 : arg2.IsWhole) (arg3 : Memref sig .tc .vmem S1x256 .f32) (harg3 : arg3.IsWhole) (arg4 : Memref sig .tc .vmem S4x16384 .bf16) (harg4 : arg4.IsWhole) (arg5 : Memref sig .tc .vmem S1x16384 .bf16) (harg5 : arg5.IsWhole) (arg6 : Memref sig .tc .vmem S16384x256 .fp8e4m3) (harg6 : arg6.IsWhole) (arg7 : Memref sig .tc .vmem S1x256 .f32) (harg7 : arg7.IsWhole) (arg8 : Memref sig .tc .vmem S64x16384 .bf16) (harg8 : arg8.IsWhole) (arg9 : Memref sig .tc .vmem S16384x256 .f32) (harg9 : arg9.IsWhole) (arg10 : Memref sig .tc .vmem S16384x256 .bf16) (harg10 : arg10.IsWhole) (arg11 : Memref sig .tc .vmem S16384x128 .f32) (harg11 : arg11.IsWhole) (arg12 : Memref sig .tc .vmem S16384x128 .fp8e4m3) (harg12 : arg12.IsWhole) (arg13 : Memref sig .tc .vmem S64x256 .bf16) (harg13 : arg13.IsWhole) (arg14 : Memref sig .tc .vmem S8x256 .f32) (harg14 : arg14.IsWhole) (arg15 : Memref sig .tc .vmem S8x128 .f32) (harg15 : arg15.IsWhole) (xt0 : TbBuf0 (F := F) c tbM0_0) (hc0 : cond0_0 i) (hc1 : cond0_1 i) (hc2 : cond0_2 i) (hc3 : ¬cond0_3 i) (hc4 : ¬cond0_4 i) (ht : ¬Touched i xt0) (x0 : Vec F S16384x256 .fp8e4m3) (x1 : Vec F S1x256 .f32) (x2 : Vec F S4x16384 .bf16) (x3 : Vec F S1x16384 .bf16) (o : Outs F) (s : Scr F) (E : Set ℕ) :
    held c arg2 arg3 arg4 arg5 arg6 arg7 arg8 arg9 arg10 arg11 arg12 arg13 arg14 arg15 xt0 x0 x1 x2 x3 o s
      ⊢ wp frame (wpE (defs₀ (F := F)) Variants.none c none) E (cc0_conv i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15) (fun _ =>
          iprop(∃ o' s', ⌜StepA0 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o s o' s'⌝ ∗ held c arg2 arg3 arg4 arg5 arg6 arg7 arg8 arg9 arg10 arg11 arg12 arg13 arg14 arg15 xt0 x0 x1 x2 x3 o' s')) := by
  unfold held
  iintro ⟨H0, H1, H2, H3, H4, H5, H6, H7, H8, H9, H10, H11, H12, H13, HT0⟩
  iapply ((runA0 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.2.2.2.2.2.2.2.2 E _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [HT0]; · iexact HT0
  iintro ⟨H0, H1, H2, H3, H4, H5, H6, H7, H8, H9, H10, H11, H12, H13, HT0⟩
  iexists (⟨o.o4, arg7.view.read (Elt F) (arg7.view.writes (Elt F) (harg7.unread o.o5) (runA0 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.1), arg8.view.read (Elt F) (arg8.view.writes (Elt F) (arg8.view.junk) (runA0 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.2.1)⟩ : Outs F), (⟨arg9.view.read (Elt F) (arg9.view.writes (Elt F) (harg9.unread s.s0) (runA0 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.2.2.1), arg10.view.read (Elt F) (arg10.view.writes (Elt F) (harg10.unread s.s1) (runA0 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.2.2.2.1), arg11.view.read (Elt F) (arg11.view.writes (Elt F) (harg11.unread s.s2) (runA0 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.2.2.2.2.1), arg12.view.read (Elt F) (arg12.view.writes (Elt F) (arg12.view.junk) (runA0 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.2.2.2.2.2.1), arg14.view.read (Elt F) (arg14.view.writes (Elt F) (harg14.unread s.s5) (runA0 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.2.2.2.2.2.2.1), arg15.view.read (Elt F) (arg15.view.writes (Elt F) (arg15.view.junk) (runA0 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.2.2.2.2.2.2.2.1)⟩ : Scr F)
  isplitr
  swap
  · isplitl [H0]; · iexact H0
    isplitl [H1]; · iexact H1
    isplitl [H2]; · iexact H2
    isplitl [H3]; · iexact H3
    isplitl [H4]
    · unfold owns; iexists _; isplitr
      swap; · iexact H4
      ipureintro; exact harg6.read_unread _
    isplitl [H5]
    · unfold owns; iexists _; isplitr
      swap; · iexact H5
      ipureintro; rfl
    isplitl [H6]
    · unfold owns; iexists _; isplitr
      swap; · iexact H6
      ipureintro; rfl
    isplitl [H7]
    · unfold owns; iexists _; isplitr
      swap; · iexact H7
      ipureintro; rfl
    isplitl [H8]
    · unfold owns; iexists _; isplitr
      swap; · iexact H8
      ipureintro; rfl
    isplitl [H9]
    · unfold owns; iexists _; isplitr
      swap; · iexact H9
      ipureintro; rfl
    isplitl [H10]
    · unfold owns; iexists _; isplitr
      swap; · iexact H10
      ipureintro; rfl
    isplitl [H11]; · iexact H11
    isplitl [H12]
    · unfold owns; iexists _; isplitr
      swap; · iexact H12
      ipureintro; rfl
    isplitl [H13]
    · unfold owns; iexists _; isplitr
      swap; · iexact H13
      ipureintro; rfl
    iexact HT0
  ipureintro
  exact ⟨rfl, rfl, rfl, rfl, rfl, rfl, rfl, rfl, rfl⟩

/-- What the body leaves at a point of case B1, from what it found. -/
def StepB1 (c : Dev nD) (i : grid0.Coords) (arg2 : Memref sig .tc .vmem S16384x256 .fp8e4m3) (harg2 : arg2.IsWhole) (arg3 : Memref sig .tc .vmem S1x256 .f32) (harg3 : arg3.IsWhole) (arg4 : Memref sig .tc .vmem S4x16384 .bf16) (harg4 : arg4.IsWhole) (arg5 : Memref sig .tc .vmem S1x16384 .bf16) (harg5 : arg5.IsWhole) (arg6 : Memref sig .tc .vmem S16384x256 .fp8e4m3) (harg6 : arg6.IsWhole) (arg7 : Memref sig .tc .vmem S1x256 .f32) (harg7 : arg7.IsWhole) (arg8 : Memref sig .tc .vmem S64x16384 .bf16) (harg8 : arg8.IsWhole) (arg9 : Memref sig .tc .vmem S16384x256 .f32) (harg9 : arg9.IsWhole) (arg10 : Memref sig .tc .vmem S16384x256 .bf16) (harg10 : arg10.IsWhole) (arg11 : Memref sig .tc .vmem S16384x128 .f32) (harg11 : arg11.IsWhole) (arg12 : Memref sig .tc .vmem S16384x128 .fp8e4m3) (harg12 : arg12.IsWhole) (arg13 : Memref sig .tc .vmem S64x256 .bf16) (harg13 : arg13.IsWhole) (arg14 : Memref sig .tc .vmem S8x256 .f32) (harg14 : arg14.IsWhole) (arg15 : Memref sig .tc .vmem S8x128 .f32) (harg15 : arg15.IsWhole) (xt0 : TbBuf0 (F := F) c tbM0_0) (hc0 : ¬cond0_0 i) (hc1 : cond0_1 i) (hc2 : ¬cond0_2 i) (hc3 : cond0_3 i) (hc4 : ¬cond0_4 i) (ht : Touched i xt0) (x0 : Vec F S16384x256 .fp8e4m3) (x1 : Vec F S1x256 .f32) (x2 : Vec F S4x16384 .bf16) (x3 : Vec F S1x16384 .bf16) (o : Outs F) (s : Scr F) (o' : Outs F) (s' : Scr F) : Prop :=
  o'.o4 = arg6.view.read (Elt F) (arg6.view.writes (Elt F) (harg6.unread o.o4) (runB1 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).1)
  ∧ o'.o5 = arg7.view.read (Elt F) (arg7.view.writes (Elt F) (harg7.unread o.o5) (runB1 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.1)
  ∧ o'.o6 = arg8.view.read (Elt F) (arg8.view.writes (Elt F) (harg8.unread o.o6) (runB1 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.2.1)
  ∧ s'.s0 = arg9.view.read (Elt F) (arg9.view.writes (Elt F) (harg9.unread s.s0) (runB1 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.2.2.1)
  ∧ s'.s1 = s.s1
  ∧ s'.s2 = s.s2
  ∧ s'.s3 = arg12.view.read (Elt F) (arg12.view.writes (Elt F) (harg12.unread s.s3) (runB1 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.2.2.2.2.2.1)
  ∧ s'.s5 = arg14.view.read (Elt F) (arg14.view.writes (Elt F) (harg14.unread s.s5) (runB1 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.2.2.2.2.2.2.1)
  ∧ s'.s6 = arg15.view.read (Elt F) (arg15.view.writes (Elt F) (harg15.unread s.s6) (runB1 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.2.2.2.2.2.2.2.1)

set_option maxHeartbeats 1600000 in
/-- The body at a middle point, with edges in the block. -/
theorem bodyB1 (c : Dev nD) (i : grid0.Coords) (arg2 : Memref sig .tc .vmem S16384x256 .fp8e4m3) (harg2 : arg2.IsWhole) (arg3 : Memref sig .tc .vmem S1x256 .f32) (harg3 : arg3.IsWhole) (arg4 : Memref sig .tc .vmem S4x16384 .bf16) (harg4 : arg4.IsWhole) (arg5 : Memref sig .tc .vmem S1x16384 .bf16) (harg5 : arg5.IsWhole) (arg6 : Memref sig .tc .vmem S16384x256 .fp8e4m3) (harg6 : arg6.IsWhole) (arg7 : Memref sig .tc .vmem S1x256 .f32) (harg7 : arg7.IsWhole) (arg8 : Memref sig .tc .vmem S64x16384 .bf16) (harg8 : arg8.IsWhole) (arg9 : Memref sig .tc .vmem S16384x256 .f32) (harg9 : arg9.IsWhole) (arg10 : Memref sig .tc .vmem S16384x256 .bf16) (harg10 : arg10.IsWhole) (arg11 : Memref sig .tc .vmem S16384x128 .f32) (harg11 : arg11.IsWhole) (arg12 : Memref sig .tc .vmem S16384x128 .fp8e4m3) (harg12 : arg12.IsWhole) (arg13 : Memref sig .tc .vmem S64x256 .bf16) (harg13 : arg13.IsWhole) (arg14 : Memref sig .tc .vmem S8x256 .f32) (harg14 : arg14.IsWhole) (arg15 : Memref sig .tc .vmem S8x128 .f32) (harg15 : arg15.IsWhole) (xt0 : TbBuf0 (F := F) c tbM0_0) (hc0 : ¬cond0_0 i) (hc1 : cond0_1 i) (hc2 : ¬cond0_2 i) (hc3 : cond0_3 i) (hc4 : ¬cond0_4 i) (ht : Touched i xt0) (x0 : Vec F S16384x256 .fp8e4m3) (x1 : Vec F S1x256 .f32) (x2 : Vec F S4x16384 .bf16) (x3 : Vec F S1x16384 .bf16) (o : Outs F) (s : Scr F) (E : Set ℕ) :
    held c arg2 arg3 arg4 arg5 arg6 arg7 arg8 arg9 arg10 arg11 arg12 arg13 arg14 arg15 xt0 x0 x1 x2 x3 o s
      ⊢ wp frame (wpE (defs₀ (F := F)) Variants.none c none) E (cc0_conv i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15) (fun _ =>
          iprop(∃ o' s', ⌜StepB1 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o s o' s'⌝ ∗ held c arg2 arg3 arg4 arg5 arg6 arg7 arg8 arg9 arg10 arg11 arg12 arg13 arg14 arg15 xt0 x0 x1 x2 x3 o' s')) := by
  unfold held
  iintro ⟨H0, H1, H2, H3, H4, H5, H6, H7, H8, H9, H10, H11, H12, H13, HT0⟩
  iapply ((runB1 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.2.2.2.2.2.2.2.2 E _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [HT0]; · iexact HT0
  iintro ⟨H0, H1, H2, H3, H4, H5, H6, H7, H8, H9, H10, H11, H12, H13, HT0⟩
  iexists (⟨arg6.view.read (Elt F) (arg6.view.writes (Elt F) (harg6.unread o.o4) (runB1 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).1), arg7.view.read (Elt F) (arg7.view.writes (Elt F) (harg7.unread o.o5) (runB1 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.1), arg8.view.read (Elt F) (arg8.view.writes (Elt F) (harg8.unread o.o6) (runB1 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.2.1)⟩ : Outs F), (⟨arg9.view.read (Elt F) (arg9.view.writes (Elt F) (harg9.unread s.s0) (runB1 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.2.2.1), s.s1, s.s2, arg12.view.read (Elt F) (arg12.view.writes (Elt F) (harg12.unread s.s3) (runB1 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.2.2.2.2.2.1), arg14.view.read (Elt F) (arg14.view.writes (Elt F) (harg14.unread s.s5) (runB1 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.2.2.2.2.2.2.1), arg15.view.read (Elt F) (arg15.view.writes (Elt F) (harg15.unread s.s6) (runB1 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.2.2.2.2.2.2.2.1)⟩ : Scr F)
  isplitr
  swap
  · isplitl [H0]; · iexact H0
    isplitl [H1]; · iexact H1
    isplitl [H2]; · iexact H2
    isplitl [H3]; · iexact H3
    isplitl [H4]
    · unfold owns; iexists _; isplitr
      swap; · iexact H4
      ipureintro; rfl
    isplitl [H5]
    · unfold owns; iexists _; isplitr
      swap; · iexact H5
      ipureintro; rfl
    isplitl [H6]
    · unfold owns; iexists _; isplitr
      swap; · iexact H6
      ipureintro; rfl
    isplitl [H7]
    · unfold owns; iexists _; isplitr
      swap; · iexact H7
      ipureintro; rfl
    isplitl [H8]
    · unfold owns; iexists _; isplitr
      swap; · iexact H8
      ipureintro; exact harg10.read_unread _
    isplitl [H9]
    · unfold owns; iexists _; isplitr
      swap; · iexact H9
      ipureintro; exact harg11.read_unread _
    isplitl [H10]
    · unfold owns; iexists _; isplitr
      swap; · iexact H10
      ipureintro; rfl
    isplitl [H11]; · iexact H11
    isplitl [H12]
    · unfold owns; iexists _; isplitr
      swap; · iexact H12
      ipureintro; rfl
    isplitl [H13]
    · unfold owns; iexists _; isplitr
      swap; · iexact H13
      ipureintro; rfl
    iexact HT0
  ipureintro
  exact ⟨rfl, rfl, rfl, rfl, rfl, rfl, rfl, rfl, rfl⟩

/-- What the body leaves at a point of case B0, from what it found. -/
def StepB0 (c : Dev nD) (i : grid0.Coords) (arg2 : Memref sig .tc .vmem S16384x256 .fp8e4m3) (harg2 : arg2.IsWhole) (arg3 : Memref sig .tc .vmem S1x256 .f32) (harg3 : arg3.IsWhole) (arg4 : Memref sig .tc .vmem S4x16384 .bf16) (harg4 : arg4.IsWhole) (arg5 : Memref sig .tc .vmem S1x16384 .bf16) (harg5 : arg5.IsWhole) (arg6 : Memref sig .tc .vmem S16384x256 .fp8e4m3) (harg6 : arg6.IsWhole) (arg7 : Memref sig .tc .vmem S1x256 .f32) (harg7 : arg7.IsWhole) (arg8 : Memref sig .tc .vmem S64x16384 .bf16) (harg8 : arg8.IsWhole) (arg9 : Memref sig .tc .vmem S16384x256 .f32) (harg9 : arg9.IsWhole) (arg10 : Memref sig .tc .vmem S16384x256 .bf16) (harg10 : arg10.IsWhole) (arg11 : Memref sig .tc .vmem S16384x128 .f32) (harg11 : arg11.IsWhole) (arg12 : Memref sig .tc .vmem S16384x128 .fp8e4m3) (harg12 : arg12.IsWhole) (arg13 : Memref sig .tc .vmem S64x256 .bf16) (harg13 : arg13.IsWhole) (arg14 : Memref sig .tc .vmem S8x256 .f32) (harg14 : arg14.IsWhole) (arg15 : Memref sig .tc .vmem S8x128 .f32) (harg15 : arg15.IsWhole) (xt0 : TbBuf0 (F := F) c tbM0_0) (hc0 : ¬cond0_0 i) (hc1 : cond0_1 i) (hc2 : ¬cond0_2 i) (hc3 : cond0_3 i) (hc4 : ¬cond0_4 i) (ht : ¬Touched i xt0) (x0 : Vec F S16384x256 .fp8e4m3) (x1 : Vec F S1x256 .f32) (x2 : Vec F S4x16384 .bf16) (x3 : Vec F S1x16384 .bf16) (o : Outs F) (s : Scr F) (o' : Outs F) (s' : Scr F) : Prop :=
  o'.o4 = arg6.view.read (Elt F) (arg6.view.writes (Elt F) (harg6.unread o.o4) (runB0 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).1)
  ∧ o'.o5 = arg7.view.read (Elt F) (arg7.view.writes (Elt F) (harg7.unread o.o5) (runB0 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.1)
  ∧ o'.o6 = o.o6
  ∧ s'.s0 = arg9.view.read (Elt F) (arg9.view.writes (Elt F) (harg9.unread s.s0) (runB0 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.2.2.1)
  ∧ s'.s1 = s.s1
  ∧ s'.s2 = s.s2
  ∧ s'.s3 = arg12.view.read (Elt F) (arg12.view.writes (Elt F) (harg12.unread s.s3) (runB0 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.2.2.2.2.2.1)
  ∧ s'.s5 = arg14.view.read (Elt F) (arg14.view.writes (Elt F) (harg14.unread s.s5) (runB0 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.2.2.2.2.2.2.1)
  ∧ s'.s6 = arg15.view.read (Elt F) (arg15.view.writes (Elt F) (harg15.unread s.s6) (runB0 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.2.2.2.2.2.2.2.1)

set_option maxHeartbeats 1600000 in
/-- The body at a middle point, without edges in the block. -/
theorem bodyB0 (c : Dev nD) (i : grid0.Coords) (arg2 : Memref sig .tc .vmem S16384x256 .fp8e4m3) (harg2 : arg2.IsWhole) (arg3 : Memref sig .tc .vmem S1x256 .f32) (harg3 : arg3.IsWhole) (arg4 : Memref sig .tc .vmem S4x16384 .bf16) (harg4 : arg4.IsWhole) (arg5 : Memref sig .tc .vmem S1x16384 .bf16) (harg5 : arg5.IsWhole) (arg6 : Memref sig .tc .vmem S16384x256 .fp8e4m3) (harg6 : arg6.IsWhole) (arg7 : Memref sig .tc .vmem S1x256 .f32) (harg7 : arg7.IsWhole) (arg8 : Memref sig .tc .vmem S64x16384 .bf16) (harg8 : arg8.IsWhole) (arg9 : Memref sig .tc .vmem S16384x256 .f32) (harg9 : arg9.IsWhole) (arg10 : Memref sig .tc .vmem S16384x256 .bf16) (harg10 : arg10.IsWhole) (arg11 : Memref sig .tc .vmem S16384x128 .f32) (harg11 : arg11.IsWhole) (arg12 : Memref sig .tc .vmem S16384x128 .fp8e4m3) (harg12 : arg12.IsWhole) (arg13 : Memref sig .tc .vmem S64x256 .bf16) (harg13 : arg13.IsWhole) (arg14 : Memref sig .tc .vmem S8x256 .f32) (harg14 : arg14.IsWhole) (arg15 : Memref sig .tc .vmem S8x128 .f32) (harg15 : arg15.IsWhole) (xt0 : TbBuf0 (F := F) c tbM0_0) (hc0 : ¬cond0_0 i) (hc1 : cond0_1 i) (hc2 : ¬cond0_2 i) (hc3 : cond0_3 i) (hc4 : ¬cond0_4 i) (ht : ¬Touched i xt0) (x0 : Vec F S16384x256 .fp8e4m3) (x1 : Vec F S1x256 .f32) (x2 : Vec F S4x16384 .bf16) (x3 : Vec F S1x16384 .bf16) (o : Outs F) (s : Scr F) (E : Set ℕ) :
    held c arg2 arg3 arg4 arg5 arg6 arg7 arg8 arg9 arg10 arg11 arg12 arg13 arg14 arg15 xt0 x0 x1 x2 x3 o s
      ⊢ wp frame (wpE (defs₀ (F := F)) Variants.none c none) E (cc0_conv i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15) (fun _ =>
          iprop(∃ o' s', ⌜StepB0 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o s o' s'⌝ ∗ held c arg2 arg3 arg4 arg5 arg6 arg7 arg8 arg9 arg10 arg11 arg12 arg13 arg14 arg15 xt0 x0 x1 x2 x3 o' s')) := by
  unfold held
  iintro ⟨H0, H1, H2, H3, H4, H5, H6, H7, H8, H9, H10, H11, H12, H13, HT0⟩
  iapply ((runB0 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.2.2.2.2.2.2.2.2 E _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [HT0]; · iexact HT0
  iintro ⟨H0, H1, H2, H3, H4, H5, H6, H7, H8, H9, H10, H11, H12, H13, HT0⟩
  iexists (⟨arg6.view.read (Elt F) (arg6.view.writes (Elt F) (harg6.unread o.o4) (runB0 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).1), arg7.view.read (Elt F) (arg7.view.writes (Elt F) (harg7.unread o.o5) (runB0 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.1), o.o6⟩ : Outs F), (⟨arg9.view.read (Elt F) (arg9.view.writes (Elt F) (harg9.unread s.s0) (runB0 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.2.2.1), s.s1, s.s2, arg12.view.read (Elt F) (arg12.view.writes (Elt F) (harg12.unread s.s3) (runB0 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.2.2.2.2.2.1), arg14.view.read (Elt F) (arg14.view.writes (Elt F) (harg14.unread s.s5) (runB0 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.2.2.2.2.2.2.1), arg15.view.read (Elt F) (arg15.view.writes (Elt F) (harg15.unread s.s6) (runB0 c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o.o4 o.o5 o.o6 s.s0 s.s1 s.s2 s.s3 s.s5 s.s6).2.2.2.2.2.2.2.2.1)⟩ : Scr F)
  isplitr
  swap
  · isplitl [H0]; · iexact H0
    isplitl [H1]; · iexact H1
    isplitl [H2]; · iexact H2
    isplitl [H3]; · iexact H3
    isplitl [H4]
    · unfold owns; iexists _; isplitr
      swap; · iexact H4
      ipureintro; rfl
    isplitl [H5]
    · unfold owns; iexists _; isplitr
      swap; · iexact H5
      ipureintro; rfl
    isplitl [H6]
    · unfold owns; iexists _; isplitr
      swap; · iexact H6
      ipureintro; exact harg8.read_unread _
    isplitl [H7]
    · unfold owns; iexists _; isplitr
      swap; · iexact H7
      ipureintro; rfl
    isplitl [H8]
    · unfold owns; iexists _; isplitr
      swap; · iexact H8
      ipureintro; exact harg10.read_unread _
    isplitl [H9]
    · unfold owns; iexists _; isplitr
      swap; · iexact H9
      ipureintro; exact harg11.read_unread _
    isplitl [H10]
    · unfold owns; iexists _; isplitr
      swap; · iexact H10
      ipureintro; rfl
    isplitl [H11]; · iexact H11
    isplitl [H12]
    · unfold owns; iexists _; isplitr
      swap; · iexact H12
      ipureintro; rfl
    isplitl [H13]
    · unfold owns; iexists _; isplitr
      swap; · iexact H13
      ipureintro; rfl
    iexact HT0
  ipureintro
  exact ⟨rfl, rfl, rfl, rfl, rfl, rfl, rfl, rfl, rfl⟩

/-- What the body leaves at a point of case C, from what it found. -/
def StepC (c : Dev nD) (i : grid0.Coords) (arg2 : Memref sig .tc .vmem S16384x256 .fp8e4m3) (harg2 : arg2.IsWhole) (arg3 : Memref sig .tc .vmem S1x256 .f32) (harg3 : arg3.IsWhole) (arg4 : Memref sig .tc .vmem S4x16384 .bf16) (harg4 : arg4.IsWhole) (arg5 : Memref sig .tc .vmem S1x16384 .bf16) (harg5 : arg5.IsWhole) (arg6 : Memref sig .tc .vmem S16384x256 .fp8e4m3) (harg6 : arg6.IsWhole) (arg7 : Memref sig .tc .vmem S1x256 .f32) (harg7 : arg7.IsWhole) (arg8 : Memref sig .tc .vmem S64x16384 .bf16) (harg8 : arg8.IsWhole) (arg9 : Memref sig .tc .vmem S16384x256 .f32) (harg9 : arg9.IsWhole) (arg10 : Memref sig .tc .vmem S16384x256 .bf16) (harg10 : arg10.IsWhole) (arg11 : Memref sig .tc .vmem S16384x128 .f32) (harg11 : arg11.IsWhole) (arg12 : Memref sig .tc .vmem S16384x128 .fp8e4m3) (harg12 : arg12.IsWhole) (arg13 : Memref sig .tc .vmem S64x256 .bf16) (harg13 : arg13.IsWhole) (arg14 : Memref sig .tc .vmem S8x256 .f32) (harg14 : arg14.IsWhole) (arg15 : Memref sig .tc .vmem S8x128 .f32) (harg15 : arg15.IsWhole) (xt0 : TbBuf0 (F := F) c tbM0_0) (hc0 : ¬cond0_0 i) (hc1 : ¬cond0_1 i) (hc2 : ¬cond0_2 i) (hc3 : ¬cond0_3 i) (hc4 : cond0_4 i) (x0 : Vec F S16384x256 .fp8e4m3) (x1 : Vec F S1x256 .f32) (x2 : Vec F S4x16384 .bf16) (x3 : Vec F S1x16384 .bf16) (o : Outs F) (s : Scr F) (o' : Outs F) (s' : Scr F) : Prop :=
  o'.o4 = arg6.view.read (Elt F) (arg6.view.writes (Elt F) (harg6.unread o.o4) (runC c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 x0 x1 x2 x3 o.o4 o.o5 o.o6 s.s0 s.s1 s.s2 s.s3 s.s5 s.s6).1)
  ∧ o'.o5 = o.o5
  ∧ o'.o6 = o.o6
  ∧ s'.s0 = s.s0
  ∧ s'.s1 = s.s1
  ∧ s'.s2 = s.s2
  ∧ s'.s3 = s.s3
  ∧ s'.s5 = s.s5
  ∧ s'.s6 = s.s6

set_option maxHeartbeats 1600000 in
/-- The body at the last point. -/
theorem bodyC (c : Dev nD) (i : grid0.Coords) (arg2 : Memref sig .tc .vmem S16384x256 .fp8e4m3) (harg2 : arg2.IsWhole) (arg3 : Memref sig .tc .vmem S1x256 .f32) (harg3 : arg3.IsWhole) (arg4 : Memref sig .tc .vmem S4x16384 .bf16) (harg4 : arg4.IsWhole) (arg5 : Memref sig .tc .vmem S1x16384 .bf16) (harg5 : arg5.IsWhole) (arg6 : Memref sig .tc .vmem S16384x256 .fp8e4m3) (harg6 : arg6.IsWhole) (arg7 : Memref sig .tc .vmem S1x256 .f32) (harg7 : arg7.IsWhole) (arg8 : Memref sig .tc .vmem S64x16384 .bf16) (harg8 : arg8.IsWhole) (arg9 : Memref sig .tc .vmem S16384x256 .f32) (harg9 : arg9.IsWhole) (arg10 : Memref sig .tc .vmem S16384x256 .bf16) (harg10 : arg10.IsWhole) (arg11 : Memref sig .tc .vmem S16384x128 .f32) (harg11 : arg11.IsWhole) (arg12 : Memref sig .tc .vmem S16384x128 .fp8e4m3) (harg12 : arg12.IsWhole) (arg13 : Memref sig .tc .vmem S64x256 .bf16) (harg13 : arg13.IsWhole) (arg14 : Memref sig .tc .vmem S8x256 .f32) (harg14 : arg14.IsWhole) (arg15 : Memref sig .tc .vmem S8x128 .f32) (harg15 : arg15.IsWhole) (xt0 : TbBuf0 (F := F) c tbM0_0) (hc0 : ¬cond0_0 i) (hc1 : ¬cond0_1 i) (hc2 : ¬cond0_2 i) (hc3 : ¬cond0_3 i) (hc4 : cond0_4 i) (x0 : Vec F S16384x256 .fp8e4m3) (x1 : Vec F S1x256 .f32) (x2 : Vec F S4x16384 .bf16) (x3 : Vec F S1x16384 .bf16) (o : Outs F) (s : Scr F) (E : Set ℕ) :
    held c arg2 arg3 arg4 arg5 arg6 arg7 arg8 arg9 arg10 arg11 arg12 arg13 arg14 arg15 xt0 x0 x1 x2 x3 o s
      ⊢ wp frame (wpE (defs₀ (F := F)) Variants.none c none) E (cc0_conv i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15) (fun _ =>
          iprop(∃ o' s', ⌜StepC c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 x0 x1 x2 x3 o s o' s'⌝ ∗ held c arg2 arg3 arg4 arg5 arg6 arg7 arg8 arg9 arg10 arg11 arg12 arg13 arg14 arg15 xt0 x0 x1 x2 x3 o' s')) := by
  unfold held
  iintro ⟨H0, H1, H2, H3, H4, H5, H6, H7, H8, H9, H10, H11, H12, H13, HT0⟩
  iapply ((runC c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 x0 x1 x2 x3 o.o4 o.o5 o.o6 s.s0 s.s1 s.s2 s.s3 s.s5 s.s6).2.2.2.2.2.2.2.2.2 E _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [HT0]; · iexact HT0
  iintro ⟨H0, H1, H2, H3, H4, H5, H6, H7, H8, H9, H10, H11, H12, H13, HT0⟩
  iexists (⟨arg6.view.read (Elt F) (arg6.view.writes (Elt F) (harg6.unread o.o4) (runC c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 x0 x1 x2 x3 o.o4 o.o5 o.o6 s.s0 s.s1 s.s2 s.s3 s.s5 s.s6).1), o.o5, o.o6⟩ : Outs F), (⟨s.s0, s.s1, s.s2, s.s3, s.s5, s.s6⟩ : Scr F)
  isplitr
  swap
  · isplitl [H0]; · iexact H0
    isplitl [H1]; · iexact H1
    isplitl [H2]; · iexact H2
    isplitl [H3]; · iexact H3
    isplitl [H4]
    · unfold owns; iexists _; isplitr
      swap; · iexact H4
      ipureintro; rfl
    isplitl [H5]
    · unfold owns; iexists _; isplitr
      swap; · iexact H5
      ipureintro; exact harg7.read_unread _
    isplitl [H6]
    · unfold owns; iexists _; isplitr
      swap; · iexact H6
      ipureintro; exact harg8.read_unread _
    isplitl [H7]
    · unfold owns; iexists _; isplitr
      swap; · iexact H7
      ipureintro; exact harg9.read_unread _
    isplitl [H8]
    · unfold owns; iexists _; isplitr
      swap; · iexact H8
      ipureintro; exact harg10.read_unread _
    isplitl [H9]
    · unfold owns; iexists _; isplitr
      swap; · iexact H9
      ipureintro; exact harg11.read_unread _
    isplitl [H10]
    · unfold owns; iexists _; isplitr
      swap; · iexact H10
      ipureintro; exact harg12.read_unread _
    isplitl [H11]; · iexact H11
    isplitl [H12]
    · unfold owns; iexists _; isplitr
      swap; · iexact H12
      ipureintro; exact harg14.read_unread _
    isplitl [H13]
    · unfold owns; iexists _; isplitr
      swap; · iexact H13
      ipureintro; exact harg15.read_unread _
    iexact HT0
  ipureintro
  exact ⟨rfl, rfl, rfl, rfl, rfl, rfl, rfl, rfl, rfl⟩

end Cert.ConvIdeal.Body

end
-- ==== Proof.Body.ConvIdeal.Frame.lean ====
/- The body obligation of the pipeline, for any property of the carried scratch and of the outputs, and the run it gives. -/
module

public import proofs.«01_k».proof.Proof.Body.ConvIdeal.Steps

@[expose] public section

set_option maxRecDepth 16384

noncomputable section

namespace Cert.ConvIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.ConvIdeal Cert.ConvIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## One grid point -/

/-- What the body leaves at point `t`, from what it found: the case the point is in. -/
def StepAt (hO : Ok m) (c : Dev nD) (t : Fin (cfgM m hO).N) (o : Outs F) (s : Scr F) (o' : Outs F) (s' : Scr F) : Prop :=
  (∃ (hc0 : cond0_0 (grid0.coords t)) (hc1 : cond0_1 (grid0.coords t)) (hc2 : cond0_2 (grid0.coords t)) (hc3 : ¬cond0_3 (grid0.coords t)) (hc4 : ¬cond0_4 (grid0.coords t)) (ht : Touched (c := c) (grid0.coords t) (tbl m 0)), StepA1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (tbl m 0) hc0 hc1 hc2 hc3 hc4 ht (iblk m hO c 0 t) (iblk m hO c 1 t) (iblk m hO c 2 t) (iblk m hO c 3 t) o s o' s') ∨
  (∃ (hc0 : cond0_0 (grid0.coords t)) (hc1 : cond0_1 (grid0.coords t)) (hc2 : cond0_2 (grid0.coords t)) (hc3 : ¬cond0_3 (grid0.coords t)) (hc4 : ¬cond0_4 (grid0.coords t)) (ht : ¬Touched (c := c) (grid0.coords t) (tbl m 0)), StepA0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (tbl m 0) hc0 hc1 hc2 hc3 hc4 ht (iblk m hO c 0 t) (iblk m hO c 1 t) (iblk m hO c 2 t) (iblk m hO c 3 t) o s o' s') ∨
  (∃ (hc0 : ¬cond0_0 (grid0.coords t)) (hc1 : cond0_1 (grid0.coords t)) (hc2 : ¬cond0_2 (grid0.coords t)) (hc3 : cond0_3 (grid0.coords t)) (hc4 : ¬cond0_4 (grid0.coords t)) (ht : Touched (c := c) (grid0.coords t) (tbl m 0)), StepB1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (tbl m 0) hc0 hc1 hc2 hc3 hc4 ht (iblk m hO c 0 t) (iblk m hO c 1 t) (iblk m hO c 2 t) (iblk m hO c 3 t) o s o' s') ∨
  (∃ (hc0 : ¬cond0_0 (grid0.coords t)) (hc1 : cond0_1 (grid0.coords t)) (hc2 : ¬cond0_2 (grid0.coords t)) (hc3 : cond0_3 (grid0.coords t)) (hc4 : ¬cond0_4 (grid0.coords t)) (ht : ¬Touched (c := c) (grid0.coords t) (tbl m 0)), StepB0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (tbl m 0) hc0 hc1 hc2 hc3 hc4 ht (iblk m hO c 0 t) (iblk m hO c 1 t) (iblk m hO c 2 t) (iblk m hO c 3 t) o s o' s') ∨
  (∃ (hc0 : ¬cond0_0 (grid0.coords t)) (hc1 : ¬cond0_1 (grid0.coords t)) (hc2 : ¬cond0_2 (grid0.coords t)) (hc3 : ¬cond0_3 (grid0.coords t)) (hc4 : cond0_4 (grid0.coords t)), StepC c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (tbl m 0) hc0 hc1 hc2 hc3 hc4 (iblk m hO c 0 t) (iblk m hO c 1 t) (iblk m hO c 2 t) (iblk m hO c 3 t) o s o' s')

set_option maxHeartbeats 1600000 in
/-- The body at one grid point keeps the invariant. -/
theorem body_at (hO : Ok m) (c : Dev nD) (t : Fin (cfgM m hO).N) (o : Outs F) (s : Scr F) :
    held c (ms0_0 m hO t) (ms0_1 m hO t) (ms0_2 m hO t) (ms0_3 m hO t) (ms0_4 m hO t) (ms0_5 m hO t) (ms0_6 m hO t) scM0_0 scM0_1 scM0_2 scM0_3 scM0_4 scM0_5 scM0_6 (tbl m 0) (iblk m hO c 0 t) (iblk m hO c 1 t) (iblk m hO c 2 t) (iblk m hO c 3 t) o s
      ⊢ wp frame (wpE (defs₀ (F := F)) Variants.none c none) Set.univ (bodyAt0 (adm m hO) t) (fun _ =>
          iprop(∃ o' s', ⌜StepAt m hO c t o s o' s'⌝ ∗ held c (ms0_0 m hO t) (ms0_1 m hO t) (ms0_2 m hO t) (ms0_3 m hO t) (ms0_4 m hO t) (ms0_5 m hO t) (ms0_6 m hO t) scM0_0 scM0_1 scM0_2 scM0_3 scM0_4 scM0_5 scM0_6 (tbl m 0) (iblk m hO c 0 t) (iblk m hO c 1 t) (iblk m hO c 2 t) (iblk m hO c 3 t) o' s')) := by
  unfold bodyAt0
  have hN : t.val < 33 := lt_of_lt_of_eq t.isLt (show (cfgM m hO).N = 33 from N_0)
  by_cases h0 : t.val = 0
  · have hc0 : cond0_0 (grid0.coords t) := (hcond0_0 t).mpr (by omega)
    have hc1 : cond0_1 (grid0.coords t) := (hcond0_1 t).mpr (by omega)
    have hc2 : cond0_2 (grid0.coords t) := (hcond0_2 t).mpr (by omega)
    have hc3 : ¬cond0_3 (grid0.coords t) := fun h => by have := (hcond0_3 t).mp h; omega
    have hc4 : ¬cond0_4 (grid0.coords t) := fun h => by have := (hcond0_4 t).mp h; omega
    by_cases ht : Touched (c := c) (grid0.coords t) (tbl m 0)
    · refine (bodyA1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (tbl m 0) hc0 hc1 hc2 hc3 hc4 ht (iblk m hO c 0 t) (iblk m hO c 1 t) (iblk m hO c 2 t) (iblk m hO c 3 t) o s Set.univ).trans (wp_mono _ _ _ fun _ => ?_)
      iintro ⟨%o', %s', %hs, H⟩; iexists o', s'; isplitr
      · ipureintro; exact Or.inl ⟨hc0, hc1, hc2, hc3, hc4, ht, hs⟩
      · iexact H
    · refine (bodyA0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (tbl m 0) hc0 hc1 hc2 hc3 hc4 ht (iblk m hO c 0 t) (iblk m hO c 1 t) (iblk m hO c 2 t) (iblk m hO c 3 t) o s Set.univ).trans (wp_mono _ _ _ fun _ => ?_)
      iintro ⟨%o', %s', %hs, H⟩; iexists o', s'; isplitr
      · ipureintro; exact Or.inr (Or.inl ⟨hc0, hc1, hc2, hc3, hc4, ht, hs⟩)
      · iexact H
  by_cases h1 : t.val < 32
  · have hc0 : ¬cond0_0 (grid0.coords t) := fun h => by have := (hcond0_0 t).mp h; omega
    have hc1 : cond0_1 (grid0.coords t) := (hcond0_1 t).mpr (by omega)
    have hc2 : ¬cond0_2 (grid0.coords t) := fun h => by have := (hcond0_2 t).mp h; omega
    have hc3 : cond0_3 (grid0.coords t) := (hcond0_3 t).mpr (by omega)
    have hc4 : ¬cond0_4 (grid0.coords t) := fun h => by have := (hcond0_4 t).mp h; omega
    by_cases ht : Touched (c := c) (grid0.coords t) (tbl m 0)
    · refine (bodyB1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (tbl m 0) hc0 hc1 hc2 hc3 hc4 ht (iblk m hO c 0 t) (iblk m hO c 1 t) (iblk m hO c 2 t) (iblk m hO c 3 t) o s Set.univ).trans (wp_mono _ _ _ fun _ => ?_)
      iintro ⟨%o', %s', %hs, H⟩; iexists o', s'; isplitr
      · ipureintro; exact Or.inr (Or.inr (Or.inl ⟨hc0, hc1, hc2, hc3, hc4, ht, hs⟩))
      · iexact H
    · refine (bodyB0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (tbl m 0) hc0 hc1 hc2 hc3 hc4 ht (iblk m hO c 0 t) (iblk m hO c 1 t) (iblk m hO c 2 t) (iblk m hO c 3 t) o s Set.univ).trans (wp_mono _ _ _ fun _ => ?_)
      iintro ⟨%o', %s', %hs, H⟩; iexists o', s'; isplitr
      · ipureintro; exact Or.inr (Or.inr (Or.inr (Or.inl ⟨hc0, hc1, hc2, hc3, hc4, ht, hs⟩)))
      · iexact H
  have hc0 : ¬cond0_0 (grid0.coords t) := fun h => by have := (hcond0_0 t).mp h; omega
  have hc1 : ¬cond0_1 (grid0.coords t) := fun h => by have := (hcond0_1 t).mp h; omega
  have hc2 : ¬cond0_2 (grid0.coords t) := fun h => by have := (hcond0_2 t).mp h; omega
  have hc3 : ¬cond0_3 (grid0.coords t) := fun h => by have := (hcond0_3 t).mp h; omega
  have hc4 : cond0_4 (grid0.coords t) := (hcond0_4 t).mpr (by omega)
  refine (bodyC c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (tbl m 0) hc0 hc1 hc2 hc3 hc4 (iblk m hO c 0 t) (iblk m hO c 1 t) (iblk m hO c 2 t) (iblk m hO c 3 t) o s Set.univ).trans (wp_mono _ _ _ fun _ => ?_)
  iintro ⟨%o', %s', %hs, H⟩; iexists o', s'; isplitr
  · ipureintro; exact Or.inr (Or.inr (Or.inr (Or.inr ⟨hc0, hc1, hc2, hc3, hc4, hs⟩)))
  · iexact H

/-! ## The pipeline's data, for any property of what is carried and of what is left in the outputs -/

section Data

variable (I : ℕ → Scr F → Prop) (R4 : ℕ → Vec F S16384x256 .fp8e4m3 → Prop) (R5 : ℕ → Vec F S1x256 .f32 → Prop)
  (R6 : ℕ → Vec F S64x16384 .bf16 → Prop)

/-- The carried scratch buffers at the contents `s`, the one that is not carried at anything. -/
def scrHeld (c : Dev nD) (s : Scr F) : sProp 𝕄 :=
  iprop(owns (c : Thread nD τ) scM0_0 fullShare s.s0 ∗ owns (c : Thread nD τ) scM0_1 fullShare s.s1 ∗ owns (c : Thread nD τ) scM0_2 fullShare s.s2 ∗ owns (c : Thread nD τ) scM0_3 fullShare s.s3 ∗ (∃ d, owns (c : Thread nD τ) scM0_4 fullShare d) ∗ owns (c : Thread nD τ) scM0_5 fullShare s.s5 ∗ owns (c : Thread nD τ) scM0_6 fullShare s.s6)

/-- Between two points: the scratch buffers at contents with the property `I`. -/
def PhiS (c : Dev nD) (n : ℕ) : sProp 𝕄 :=
  iprop((∃ s, ⌜I n s⌝ ∗ scrHeld c s) ∗ (∃ r, prngReg c r) ∗ Pipeline.ΦT pre0 (tbl m) c)

/-- The outputs, of which only a property is kept. -/
def marked : Fin 7 → Bool := fun w => w.val == 4 || w.val == 5 || w.val == 6

/-- That property. -/
def Rl (hO : Ok m) (w : Fin (cfgM m hO).W) (t : Fin (cfgM m hO).N) : (((cfgM m hO).win w).block.Idx → Elt F ((cfgM m hO).win w).elt) → Prop :=
  match w with
  | ⟨4, _⟩ => fun X => R4 t.val X
  | ⟨5, _⟩ => fun X => R5 t.val X
  | ⟨6, _⟩ => fun X => R6 t.val X
  | _ => fun _ => True

/-- What the pipeline holds in each window before and after each point. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, h⟩ => Pipeline.Dat.unnamed (cfg := (cfgM m hO)) ⟨4, h⟩ t
    | ⟨5, h⟩ => Pipeline.Dat.unnamed (cfg := (cfgM m hO)) ⟨5, h⟩ t
    | ⟨6, h⟩ => Pipeline.Dat.unnamed (cfg := (cfgM m hO)) ⟨6, h⟩ t
  Φ t := PhiS m I c t.val
  q _ := fullShare
  owed _ := 0

/-- The data with the outputs held to their property. -/
abbrev rdat (hO : Ok m) (c : Dev nD) : RDat τ (Elt F) Unit ℕ (UR sig nD τ) ℕ (cfgM m hO) c :=
  (dats m I hO 0 c).toRRel marked (Rl m R4 R5 R6 hO)

/-- The array behind a window. -/
theorem A_eq (hO : Ok m) (c : Dev nD) (w : Fin (cfgM m hO).W) : (dats m I hO 0 c).A w = V m c (Pipeline.arrRef spec0 w) := by
  dsimp only [dats]
/-- An input block is unchanged after a point. -/
theorem after0_0 (hO : Ok m) (c : Dev nD) (t : Fin (cfgM m hO).N) : (dats m I hO 0 c).after 0 t = iblk m hO c 0 t := by dsimp only [dats]; try rfl
/-- An input block is unchanged after a point. -/
theorem after0_1 (hO : Ok m) (c : Dev nD) (t : Fin (cfgM m hO).N) : (dats m I hO 0 c).after 1 t = iblk m hO c 1 t := by dsimp only [dats]; try rfl
/-- An input block is unchanged after a point. -/
theorem after0_2 (hO : Ok m) (c : Dev nD) (t : Fin (cfgM m hO).N) : (dats m I hO 0 c).after 2 t = iblk m hO c 2 t := by dsimp only [dats]; try rfl
/-- An input block is unchanged after a point. -/
theorem after0_3 (hO : Ok m) (c : Dev nD) (t : Fin (cfgM m hO).N) : (dats m I hO 0 c).after 3 t = iblk m hO c 3 t := by dsimp only [dats]; try rfl
/-- An input block is fetched before a point. -/
theorem before0_0 (hO : Ok m) (c : Dev nD) (t : Fin (cfgM m hO).N) (d) : (dats m I hO 0 c).before 0 t d = iblk m hO c 0 t :=
  before0_0_of m hO (dats m I hO 0 c) (A_eq m I hO c 0) (after0_0 m I hO c) t d
/-- An input block is fetched before a point. -/
theorem before0_1 (hO : Ok m) (c : Dev nD) (t : Fin (cfgM m hO).N) (d) : (dats m I hO 0 c).before 1 t d = iblk m hO c 1 t :=
  before0_1_of m hO (dats m I hO 0 c) (A_eq m I hO c 1) (after0_1 m I hO c) t d
/-- An input block is fetched before a point. -/
theorem before0_2 (hO : Ok m) (c : Dev nD) (t : Fin (cfgM m hO).N) (d) : (dats m I hO 0 c).before 2 t d = iblk m hO c 2 t :=
  before0_2_of m hO (dats m I hO 0 c) (A_eq m I hO c 2) (after0_2 m I hO c) t d
/-- An input block is fetched before a point. -/
theorem before0_3 (hO : Ok m) (c : Dev nD) (t : Fin (cfgM m hO).N) (d) : (dats m I hO 0 c).before 3 t d = iblk m hO c 3 t :=
  before0_3_of m hO (dats m I hO 0 c) (A_eq m I hO c 3) (after0_3 m I hO c) t d

/-- The body keeps `I` and leaves the outputs with their property. -/
def Keeps (hO : Ok m) : Prop := ∀ (c : Dev nD) (t : Fin (cfgM m hO).N) (o : Outs F) (s : Scr F) (o' : Outs F) (s' : Scr F),
  I t.val s → (rdat m I R4 R5 R6 hO c).Finds 4 t o.o4 → (rdat m I R4 R5 R6 hO c).Finds 5 t o.o5 → (rdat m I R4 R5 R6 hO c).Finds 6 t o.o6 →
  StepAt m hO c t o s o' s' → I (t.val + 1) s' ∧ R4 t.val o'.o4 ∧ R5 t.val o'.o5 ∧ R6 t.val o'.o6

/-- What the body is given at a point. -/
def bodyPre (hO : Ok m) (c : Dev nD) (t : Fin (cfgM m hO).N) : sProp 𝕄 :=
  iprop((dats m I hO 0 c).Φ t.castSucc ∗ (dats m I hO 0 c).owesAt () t.castSucc
    ∗ (∃ d, owns (c : Thread nD τ) (ms0_0 m hO t) fullShare ((dats m I hO 0 c).before 0 t d))
    ∗ (∃ d, owns (c : Thread nD τ) (ms0_1 m hO t) fullShare ((dats m I hO 0 c).before 1 t d))
    ∗ (∃ d, owns (c : Thread nD τ) (ms0_2 m hO t) fullShare ((dats m I hO 0 c).before 2 t d))
    ∗ (∃ d, owns (c : Thread nD τ) (ms0_3 m hO t) fullShare ((dats m I hO 0 c).before 3 t d))
    ∗ (∃ Y, ⌜(rdat m I R4 R5 R6 hO c).Finds 4 t Y⌝ ∗ owns (c : Thread nD τ) (ms0_4 m hO t) fullShare Y)
    ∗ (∃ Y, ⌜(rdat m I R4 R5 R6 hO c).Finds 5 t Y⌝ ∗ owns (c : Thread nD τ) (ms0_5 m hO t) fullShare Y)
    ∗ (∃ Y, ⌜(rdat m I R4 R5 R6 hO c).Finds 6 t Y⌝ ∗ owns (c : Thread nD τ) (ms0_6 m hO t) fullShare Y))

/-- What the body gives back at a point. -/
def bodyPost (hO : Ok m) (c : Dev nD) (t : Fin (cfgM m hO).N) : sProp 𝕄 :=
  iprop((dats m I hO 0 c).Φ t.succ ∗ (dats m I hO 0 c).owesAt () t.succ
    ∗ owns (c : Thread nD τ) (ms0_0 m hO t) fullShare ((dats m I hO 0 c).after 0 t)
    ∗ owns (c : Thread nD τ) (ms0_1 m hO t) fullShare ((dats m I hO 0 c).after 1 t)
    ∗ owns (c : Thread nD τ) (ms0_2 m hO t) fullShare ((dats m I hO 0 c).after 2 t)
    ∗ owns (c : Thread nD τ) (ms0_3 m hO t) fullShare ((dats m I hO 0 c).after 3 t)
    ∗ (∃ X, ⌜Rl m R4 R5 R6 hO 4 t X⌝ ∗ owns (c : Thread nD τ) (ms0_4 m hO t) fullShare X)
    ∗ (∃ X, ⌜Rl m R4 R5 R6 hO 5 t X⌝ ∗ owns (c : Thread nD τ) (ms0_5 m hO t) fullShare X)
    ∗ (∃ X, ⌜Rl m R4 R5 R6 hO 6 t X⌝ ∗ owns (c : Thread nD τ) (ms0_6 m hO t) fullShare X))

set_option maxHeartbeats 3200000 in
/-- The body takes what it is given at a point to what it must give back. -/
theorem sound_body (hO : Ok m) (hk : Keeps m I R4 R5 R6 hO) (c : Dev nD) (t : Fin (cfgM m hO).N) :
    bodyPre m I R4 R5 R6 hO c t ⊢ wp frame (wpE (defs₀ (F := F)) Variants.none c none) Set.univ (bodyAt0 (adm m hO) t) (fun _ => bodyPost m I R4 R5 R6 hO c t) := by
  unfold bodyPre bodyPost
  simp only [before0_0, before0_1, before0_2, before0_3, after0_0, after0_1, after0_2, after0_3]
  rw [show (dats m I hO 0 c).owesAt () t.succ = (dats m I hO 0 c).owesAt () t.castSucc from rfl,
    show (dats m I hO 0 c).Φ t.succ = PhiS m I c (t.val + 1) from rfl,
    show (dats m I hO 0 c).Φ t.castSucc = PhiS m I c t.val from rfl]
  unfold PhiS scrHeld
  rw [PhiT0_eq]
  iintro ⟨⟨⟨%s, %hI, HS0, HS1, HS2, HS3, HS4, HS5, HS6⟩, Hg, HT0⟩, Ho, ⟨%d0, H0⟩, ⟨%d1, H1⟩, ⟨%d2, H2⟩, ⟨%d3, H3⟩, ⟨%d4, %hf4, H4⟩, ⟨%d5, %hf5, H5⟩, ⟨%d6, %hf6, H6⟩⟩
  iapply (wp_wand_r frame (wpE (defs₀ (F := F)) Variants.none c none) Set.univ)
  isplitl [H0 H1 H2 H3 H4 H5 H6 HS0 HS1 HS2 HS3 HS4 HS5 HS6 HT0]
  · iapply (body_at m hO c t ⟨d4, d5, d6⟩ s)
    unfold held
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    iexact HT0
  iintro %a ⟨%o', %s', %hs, H⟩
  obtain ⟨hI', h4, h5, h6⟩ := hk c t ⟨d4, d5, d6⟩ s o' s' hI hf4 hf5 hf6 hs
  unfold held
  icases H with ⟨H0, H1, H2, H3, H4, H5, H6, HS0, HS1, HS2, HS3, HS4, HS5, HS6, HT0⟩
  isplitl [HS0 HS1 HS2 HS3 HS4 HS5 HS6 Hg HT0]
  · isplitl [HS0 HS1 HS2 HS3 HS4 HS5 HS6]
    · iexists s'
      isplitr; · ipureintro; exact hI'
      isplitl [HS0]; · iexact HS0
      isplitl [HS1]; · iexact HS1
      isplitl [HS2]; · iexact HS2
      isplitl [HS3]; · iexact HS3
      isplitl [HS4]; · iexact HS4
      isplitl [HS5]; · iexact HS5
      iexact HS6
    isplitl [Hg]; · iexact Hg
    iexact HT0
  isplitl [Ho]; · iexact Ho
  isplitl [H0]; · iexact H0
  isplitl [H1]; · iexact H1
  isplitl [H2]; · iexact H2
  isplitl [H3]; · iexact H3
  isplitl [H4]
  · iexists _; isplitr
    · ipureintro; exact h4
    · iexact H4
  isplitl [H5]
  · iexists _; isplitr
    · ipureintro; exact h5
    · iexact H5
  iexists _; isplitr
  · ipureintro; exact h6
  · iexact H6

/-- The body that the pipeline calls is the kernel at the point. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The body meets what the pipeline asks of it at every point. -/
theorem body_obligation (hO : Ok m) (hk : Keeps m I R4 R5 R6 hO) (c : Dev nD) :
    Pipeline.BodyObligationRel (dats m I hO 0 c) (defs₀ (F := F)) Variants.none () Set.univ marked (Rl m R4 R5 R6 hO) := fun t => by
  rw [bigSep_W0, bigSep_W0, defs₀_row m hO]
  exact triple_restated (sound_body m I R4 R5 R6 hO hk c t) rfl .rfl fun _ => .rfl

/-- The invariant holds before the first point. -/
theorem hin (hO : Ok m) (hI : ∀ s, I 0 s) (c : Dev nD) : iprop(Pipeline.ΦA spec0 c ∗ Pipeline.ΦT pre0 (tbl m) c) ⊢ (dats m I hO 0 c).Φ 0 := by
  rw [show (dats m I hO 0 c).Φ 0 = PhiS m I c 0 from rfl, PhiA0_eq]
  unfold PhiS scrHeld
  iintro ⟨⟨⟨⟨%e0, HS0⟩, ⟨%e1, HS1⟩, ⟨%e2, HS2⟩, ⟨%e3, HS3⟩, HS4, ⟨%e5, HS5⟩, ⟨%e6, HS6⟩⟩, Hg⟩, HT⟩
  isplitl [HS0 HS1 HS2 HS3 HS4 HS5 HS6]
  · iexists (⟨e0, e1, e2, e3, e5, e6⟩ : Scr F)
    isplitr; · ipureintro; exact hI _
    isplitl [HS0]; · iexact HS0
    isplitl [HS1]; · iexact HS1
    isplitl [HS2]; · iexact HS2
    isplitl [HS3]; · iexact HS3
    isplitl [HS4]; · iexact HS4
    isplitl [HS5]; · iexact HS5
    iexact HS6
  isplitl [Hg]; · iexact Hg
  iexact HT

/-- The scratch buffers are given back after the last point. -/
theorem hout (hO : Ok m) (c : Dev nD) : (dats m I hO 0 c).Φ (Fin.last (cfgM m hO).N) ⊢ Pipeline.ΦA spec0 c := by
  rw [show (dats m I hO 0 c).Φ (Fin.last (cfgM m hO).N) = PhiS m I c (cfgM m hO).N from rfl, PhiA0_eq]
  unfold PhiS scrHeld
  iintro ⟨⟨%s, -, HS0, HS1, HS2, HS3, HS4, HS5, HS6⟩, Hg, -⟩
  isplitl [HS0 HS1 HS2 HS3 HS4 HS5 HS6]
  · isplitl [HS0]; · iexists _; iexact HS0
    isplitl [HS1]; · iexists _; iexact HS1
    isplitl [HS2]; · iexists _; iexact HS2
    isplitl [HS3]; · iexists _; iexact HS3
    isplitl [HS4]; · iexact HS4
    isplitl [HS5]; · iexists _; iexact HS5
    iexists _; iexact HS6
  iexact Hg

set_option backward.isDefEq.respectTransparency.types false in
/-- The run: every execution ends with the arrays as the data say, and every counter at zero. -/
theorem run_main (hO : Ok m) (hk : Keeps m I R4 R5 R6 hO) (hI : ∀ s, I 0 s) :
    θ_run defs (onTc (τ := τ) (main (F := F))) (s₀ m ρ) (fun r => RDat.FramePost ((Pipeline.pin pcfgs fun _ => adm m hO) 0) (fun c => rdat m I R4 R5 R6 hO c) (V m) r ∧ r.2.sem = fun _ => 0) :=
  Pipeline.RDat.θ_run_frameP_track (Q' := _) pcfgs (fun _ => adm m hO) (0 : Fin 1) launch0 defs₀ Variants.none (fun c => rdat m I R4 R5 R6 hO c) m ρ main
    (hbody := fun c => (body_obligation m I R4 R5 R6 hO hk c).toRRel) (hshare := fun c => (dats m I hO 0 c).share_full fun _ => rfl)
    (howed := fun _ _ => rfl) (V := V m) (hmain := hmain m Variants.none) (hA := A_eq m I hO) (hpf := V_pre m) (hin := hin m I hO hI) (hout := hout m I hO)

end Data

/-! ## The frame -/

/-- The tables' side condition: no index map reads a table. -/
theorem ok : Ok m := by first | trivial | exact of_decide_eq_true rfl

/-- The program terminates, leaves its arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  have h := run_main m ρ (fun _ _ => True) (fun _ _ => True) (fun _ _ => True) (fun _ _ => True) (ok m)
    (fun _ _ _ _ _ _ _ _ _ _ _ => ⟨trivial, trivial, trivial, trivial⟩) fun _ => trivial
  θ_run_and (frame_of m ρ (ok m) (fun c => rdat m (fun _ _ => True) (fun _ _ => True) (fun _ _ => True) (fun _ _ => True) (ok m) c) (A_eq m (fun _ _ => True) (ok m)) ((θ_run defs _ _).mono (fun _ h => h.1) h)) ((θ_run defs _ _).mono (fun _ h => h.2) h)

end Cert.ConvIdeal.Body

end
-- ==== Proof.Value.Taps.lean ====
/- What one chunk of 64 channels of a block of tokens is convolved and activated to, entry by entry. -/
module

public import proofs.«01_k».proof.Proof.Gen.ConvIdeal.Skeleton
public import proofs.«01_k».proof.Proof.Body.ConvIdeal.Frame
public import Idealize.ShloMosaic.Lib.Pipeline.ValueKit
public import Idealize.ShloMosaic.Lib.Pointwise

@[expose] public section

set_option maxRecDepth 16384

noncomputable section

namespace Cert.ConvIdeal.Value

open Idealize.ShloMosaic Idealize.ShloMosaic.TcCoe Idealize.SL.Sem
open Cert.ConvIdeal Cert.ConvIdeal.Gen Cert.ConvIdeal.Body

/-- A sum over the 256 columns of one row of the stacked weights, of which only the row's own column of each of the
    four 64-column groups can be other than zero. -/
theorem diag_sum (f : Fin 256 → EReal) (q : Fin 64) (h : ∀ j : Fin 256, j.val % 64 ≠ q.val → f j = 0) :
    ∑ j, f j = f ⟨q.val, by omega⟩ + f ⟨64 + q.val, by omega⟩ + f ⟨128 + q.val, by omega⟩ + f ⟨192 + q.val, by omega⟩ := by
  have hin : ∀ a : Fin 4, ∑ t : Fin 64, f ⟨a.val * 64 + t.val, by omega⟩ = f ⟨a.val * 64 + q.val, by omega⟩ := fun a =>
    Finset.sum_eq_single q (fun t _ ht => h _ (by
      show (a.val * 64 + t.val) % 64 ≠ q.val
      have : t.val ≠ q.val := fun e => ht (Fin.ext e)
      omega)) (fun hn => absurd (Finset.mem_univ q) hn)
  rw [Fin.sum_univ_tiles 4 64 rfl f, Finset.sum_congr rfl fun a _ => hin a, Fin.sum_univ_four]
  refine congrArg₂ (· + ·) (congrArg₂ (· + ·) (congrArg₂ (· + ·) (congrArg f (Fin.ext ?_)) (congrArg f (Fin.ext ?_))) (congrArg f (Fin.ext ?_))) (congrArg f (Fin.ext ?_)) <;> simp

/-- The comparison of two small words, signed. -/
theorem sge_small (a b : ℕ) (ha : a < 2 ^ 31) (hb : b < 2 ^ 31) :
    IntOp.cmpi .sge (BitVec.ofNat 32 a) (BitVec.ofNat 32 b) = BitVec.ofBool (decide (b ≤ a)) := by
  unfold IntOp.cmpi
  congr 1
  have h : ∀ n : ℕ, n < 2 ^ 31 → (BitVec.ofNat 32 n).toInt = n := fun n hn => by
    have hm : (BitVec.ofNat 32 n).toNat = n := by rw [BitVec.toNat_ofNat]; exact Nat.mod_eq_of_lt (by omega)
    rw [BitVec.toInt_eq_toNat_of_lt (by rw [hm]; omega), hm]
  exact (BitVec.sle_eq_decide ..).trans (by rw [h a ha, h b hb]; simp only [Int.ofNat_le])

/-- A selection by a decided condition. -/
theorem select_ofBool {α : Type} (p : Prop) [Decidable p] (a b : α) : Scalar.select (BitVec.ofBool (decide p)) a b = if p then a else b := by
  unfold Scalar.select
  by_cases h : p <;> simp [h]

/-- The SiLU by the hyperbolic tangent of half the argument. -/
def silu (h : EReal) : EReal := h + h * Ideal.tanh h

/-- The value `k` columns before column `l` of a block of 64 rows, the columns before the block's first in `p`. -/
def tap (k : ℕ) (x : FVec Ideal S64x256 .fp8e4m3) (p : FVec Ideal S64x128 .fp8e4m3) (q : Fin 64) (l : Fin 256) : EReal :=
  if h : k ≤ l.val then x (ix2 q ⟨l.val - k, by omega⟩) else p (ix2 q ⟨(128 + l.val - k) % 128, Nat.mod_lt _ (by decide)⟩)

/-- Two halves of codes, rolled by `k` with the columns before them, give the code `k` columns before. -/
theorem tap_read (k : ℕ) (hk : k = 1 ∨ k = 2 ∨ k = 3) (v0 : IVec S1x128 32) (h0 : ∀ l : Fin 128, v0 (ix2 0 l) = BitVec.ofNat 32 l.val)
    (thr : BitVec 32) (ht : thr = BitVec.ofNat 32 (128 - k)) (x : FVec Ideal S64x256 .fp8e4m3) (p : FVec Ideal S64x128 .fp8e4m3) (q : Fin 64) (l : Fin 256)
    (hl : ¬ l.val < 128 → 128 + (l.val - 128 + 128 - k) % 128 < 256)  :
    (if h : l.val < 128 then
        Scalar.select (IntOp.cmpi CmpIPredicate.sge (v0 (ix2 0 ⟨(l.val + 128 - k) % 128, Nat.mod_lt _ (by decide)⟩)) thr)
          (p (ix2 q ⟨(l.val + 128 - k) % 128, Nat.mod_lt _ (by decide)⟩)) (x (ix2 q ⟨(l.val + 128 - k) % 128, (Nat.mod_lt _ (by decide)).trans (by decide)⟩))
      else
        Scalar.select (IntOp.cmpi CmpIPredicate.sge (v0 (ix2 0 ⟨(l.val - 128 + 128 - k) % 128, Nat.mod_lt _ (by decide)⟩)) thr)
          (x (ix2 q ⟨(l.val - 128 + 128 - k) % 128, (Nat.mod_lt _ (by decide)).trans (by decide)⟩)) (x (ix2 q ⟨128 + (l.val - 128 + 128 - k) % 128, hl h⟩))) = tap k x p q l := by
  subst ht
  unfold tap
  by_cases hl1 : l.val < 128
  · rw [dif_pos hl1, h0, sge_small _ _ (by omega) (by omega), select_ofBool]
    by_cases hk1 : k ≤ l.val
    · rw [dif_pos hk1, if_neg (by simp only; omega)]
      congr 3; omega
    · rw [dif_neg hk1, if_pos (by simp only; omega)]
      congr 3; omega
  · rw [dif_neg hl1, h0, sge_small _ _ (by omega) (by omega), select_ofBool, dif_pos (by omega)]
    by_cases hk1 : k ≤ l.val - 128
    · rw [if_neg (by simp only; omega)]
      congr 3; omega
    · rw [if_pos (by simp only; omega)]
      congr 3; omega

/-- Half the activation's argument of row `q`, column `l` of a block: the four taps and the bias. -/
def pre (x : FVec Ideal S64x256 .fp8e4m3) (p : FVec Ideal S64x128 .fp8e4m3) (s0 s1 s2 s3 : FVec Ideal S64x256 .bf16)
    (d : FVec Ideal S64x256 .bf16) (hb : FVec Ideal S64x128 .f32) (q : Fin 64) (l : Fin 256) : EReal :=
  d (ix2 q ⟨q.val, by omega⟩) * (tap 3 x p q l * s3 (ix2 q l)) + d (ix2 q ⟨64 + q.val, by omega⟩) * (tap 2 x p q l * s2 (ix2 q l))
    + d (ix2 q ⟨128 + q.val, by omega⟩) * (tap 1 x p q l * s1 (ix2 q l)) + d (ix2 q ⟨192 + q.val, by omega⟩) * (x (ix2 q l) * s0 (ix2 q l))
    + hb (ix2 q ⟨l.val % 128, Nat.mod_lt _ (by decide)⟩)

end Cert.ConvIdeal.Value

end
-- ==== Proof.Value.Rows.lean ====
/- Buffers stored a block of rows at a time, and where each trip's block starts. -/
module

public import proofs.«01_k».proof.Proof.Value.Taps
public import Idealize.ShloMosaic.Lib.WritesUnit
public import Idealize.ShloMosaic.Lib.WordArith.Masks

@[expose] public section

set_option maxRecDepth 16384

noncomputable section

namespace Cert.ConvIdeal.Value

open Idealize.ShloMosaic Idealize.ShloMosaic.TcCoe Idealize.SL.Sem
open Cert.ConvIdeal Cert.ConvIdeal.Gen Cert.ConvIdeal.Body

section

variable {sig : RefSig} {κ : Kind} {sp : Space} {e : EltTy} {Val : EltTy → Type}

/-- A block of rows read from a buffer, entry by entry. -/
theorem readAt_rows {d : Fin 2 → ℕ} (v : View sig κ sp (⟨2, d⟩ : Shape) e) (f : v.ty.Contents Val) {off size : Fin 2 → ℕ}
    (inb : ∀ a : Fin 2, off a + size a ≤ d a) (o c : ℕ) (hoff : off = ![o, c])
    (x : (Rect.unit (s := ⟨2, d⟩) off size inb).shape.Idx) (y : (⟨2, d⟩ : Shape).Idx)
    (h0 : (y (0 : Fin 2)).val = o + (x (0 : Fin 2)).val) (h1 : (y (1 : Fin 2)).val = c + (x (1 : Fin 2)).val) :
    v.readAt Val (Rect.unit (s := ⟨2, d⟩) off size inb).toLoadRect f x = v.read Val f y := by
  subst hoff
  rw [View.readAt_apply]
  refine congrArg (v.read Val f) (funext fun a => Fin.ext ?_)
  have hb : ((Rect.unit (s := ⟨2, d⟩) ![o, c] size inb).toLoadRect.idx x a).val = (![o, c] : Fin 2 → ℕ) a + 1 * (x a).val := rfl
  rw [hb, Nat.one_mul]
  exact (Fin.forall_fin_two (p := fun a : Fin 2 => (![o, c] : Fin 2 → ℕ) a + (x a).val = (y a).val)).mpr ⟨h0.symm, h1.symm⟩ a

/-- A buffer whose rows a loop stores a block at a time, after `k` trips: the stored rows at their values, the rest as it was. -/
theorem rows_written {d : Fin 2 → ℕ} {n W : ℕ} (v : View sig κ sp (⟨2, d⟩ : Shape) e) (f : v.ty.Contents Val)
    {off : Fin n → Fin 2 → ℕ} {size : Fin 2 → ℕ} (inb : ∀ (k : Fin n) (a : Fin 2), off k a + size a ≤ d a)
    (w : ∀ k : Fin n, (Rect.unit (s := ⟨2, d⟩) (off k) size (inb k)).shape.Idx → Val e)
    (L : ℕ → List (View.Piece Val (⟨2, d⟩ : Shape) e)) (h0 : L 0 = [])
    (hs : ∀ k : Fin n, L (k.val + 1) = (⟨Rect.unit (s := ⟨2, d⟩) (off k) size (inb k), w k⟩ : View.Piece Val (⟨2, d⟩ : Shape) e) :: L k.val)
    (hoff : ∀ k, off k = ![W * k.val, 0]) (hW : size 0 = W) (hD : size 1 = d 1) (N : (⟨2, d⟩ : Shape).Idx → Val e)
    (hw : ∀ (k : Fin n) (x : (Rect.unit (s := ⟨2, d⟩) (off k) size (inb k)).shape.Idx) (y : (⟨2, d⟩ : Shape).Idx),
      (∀ y' : (⟨2, d⟩ : Shape).Idx, W * k.val ≤ (y' (0 : Fin 2)).val → v.read Val (v.writes Val f (L k.val)) y' = v.read Val f y') →
      (y (0 : Fin 2)).val = W * k.val + (x (0 : Fin 2)).val → (y (1 : Fin 2)).val = (x (1 : Fin 2)).val → w k x = N y) :
    ∀ k, k ≤ n → ∀ y : (⟨2, d⟩ : Shape).Idx, v.read Val (v.writes Val f (L k)) y = if (y (0 : Fin 2)).val < W * k then N y else v.read Val f y := by
  intro k
  induction k with
  | zero => intro _ y; rw [h0]; simp [View.writes_nil]
  | succ k ih =>
    intro hk y
    have ih' := ih (by omega)
    have hs' := hs ⟨k, hk⟩
    simp only at hs'
    rw [hs', View.read_writes_cons_rows v f (inb ⟨k, hk⟩) (w ⟨k, hk⟩) (L k) y (hoff ⟨k, hk⟩) hW hD]
    have hm : W * (k + 1) = W * k + W := by ring
    by_cases h : W * k ≤ (y (0 : Fin 2)).val ∧ (y (0 : Fin 2)).val < W * k + W
    · rw [dif_pos h, if_pos (by omega)]
      refine hw ⟨k, hk⟩ _ y (fun y' hy' => ?_) ?_ ?_
      · rw [ih' y', if_neg (by simp only at hy'; omega)]
      · rw [Rect.unitLocal_val]; show _ = W * k + ((y (0 : Fin 2)).val - W * k); omega
      · rw [Rect.unitLocal_val]; exact (Nat.sub_zero _).symm
    · rw [dif_neg h, ih' y]
      by_cases h2 : (y (0 : Fin 2)).val < W * k
      · rw [if_pos h2, if_pos (by omega)]
      · rw [if_neg h2, if_neg (by omega)]

end

/-- Where one trip reads or writes. -/
theorem off13_eq (k : Fin k0_t4_loop.trips) : k0_off13 k = ![64 * k.val, 0] := by
  have h : k.val < 256 := k.isLt
  have hi : (Scf.iv 0#32 1#32 k.val).toNat = k.val := Idealize.ShloMosaic.WordArith.toNat_iv_zero_one _ (by omega)
  funext a
  fin_cases a
  · show (Scf.iv 0#32 1#32 k.val * 64#32).toNat = 64 * k.val
    rw [BitVec.toNat_mul, hi]; show k.val * 64 % 4294967296 = _; omega
  · rfl

/-- Where one trip reads or writes. -/
theorem off14_eq (k : Fin k0_t4_loop.trips) : k0_off14 k = ![64 * k.val, 0] := off13_eq k
/-- Where one trip reads or writes. -/
theorem off15_eq (k : Fin k0_t4_loop.trips) : k0_off15 k = ![64 * k.val, 128] := by
  have h := off13_eq k
  funext a
  fin_cases a
  · exact congrFun h 0
  · rfl
/-- Where one trip reads or writes. -/
theorem off10_eq (k : Fin k0_t3_loop.trips) : k0_off10 k = ![64 * k.val, 0] := off13_eq k
/-- Where one trip reads or writes. -/
theorem off11_eq (k : Fin k0_t3_loop.trips) : k0_off11 k = ![64 * k.val, 0] := off13_eq k
/-- Where one trip reads or writes. -/
theorem off12_eq (k : Fin k0_t3_loop.trips) : k0_off12 k = ![64 * k.val, 128] := off15_eq k
/-- Where one trip reads or writes. -/
theorem off16_eq (k : Fin k0_t5_loop.trips) : k0_off16 k = ![64 * k.val, 0] := off13_eq k
/-- Where one trip reads or writes. -/
theorem off6_eq (k : Fin k0_t1_loop.trips) : k0_off6 k = ![0, 128 * k.val] := by
  have h : k.val < 128 := k.isLt
  have hi : (Scf.iv 0#32 1#32 k.val).toNat = k.val := Idealize.ShloMosaic.WordArith.toNat_iv_zero_one _ (by omega)
  funext a
  fin_cases a
  · rfl
  · show (Scf.iv 0#32 1#32 k.val * 128#32).toNat = 128 * k.val
    rw [BitVec.toNat_mul, hi]; show k.val * 128 % 4294967296 = _; omega
/-- Where one trip reads or writes. -/
theorem off7_eq (k : Fin k0_t1_loop.trips) : k0_off7 k = ![128 * k.val, 0] := by
  have h := off6_eq k
  funext a
  fin_cases a
  · exact congrFun h 1
  · rfl
/-- Where one trip reads or writes. -/
theorem off5_eq (k : Fin k0_t1_loop.trips) (z : ℕ) (hz : z ≤ 64) : k0_off5 k (BitVec.ofNat 32 z) = ![128 * k.val + z, 0] := by
  have h : k.val < 128 := k.isLt
  have hi : (Scf.iv 0#32 1#32 k.val).toNat = k.val := Idealize.ShloMosaic.WordArith.toNat_iv_zero_one _ (by omega)
  funext a
  fin_cases a
  · show (Scf.iv 0#32 1#32 k.val * 128#32 + BitVec.ofNat 32 z).toNat = 128 * k.val + z
    rw [BitVec.toNat_add, BitVec.toNat_mul, hi, BitVec.toNat_ofNat]
    show (k.val * 128 % 4294967296 + z % 4294967296) % 4294967296 = _; omega
  · rfl

end Cert.ConvIdeal.Value

end
-- ==== Proof.Value.Sig.lean ====
/- The scale rows a body run stores and reads back: for each of the four tap distances, every lane's own scale. -/
module

public import proofs.«01_k».proof.Proof.Value.Rows

@[expose] public section

set_option maxRecDepth 16384

noncomputable section

namespace Cert.ConvIdeal.Value

open Idealize.ShloMosaic Idealize.ShloMosaic.TcCoe Idealize.SL.Sem
open Cert.ConvIdeal Cert.ConvIdeal.Gen Cert.ConvIdeal.Body

/-- The first token of the sequence token `t` lies in, from the sequences' limits. -/
def startw (cu : ℕ → BitVec 32) (t : BitVec 32) : BitVec 32 :=
  Scalar.select (IntOp.cmpi .sge t (cu 8)) (cu 8) (Scalar.select (IntOp.cmpi .sge t (cu 7)) (cu 7) (Scalar.select (IntOp.cmpi .sge t (cu 6)) (cu 6)
    (Scalar.select (IntOp.cmpi .sge t (cu 5)) (cu 5) (Scalar.select (IntOp.cmpi .sge t (cu 4)) (cu 4) (Scalar.select (IntOp.cmpi .sge t (cu 3)) (cu 3)
      (Scalar.select (IntOp.cmpi .sge t (cu 2)) (cu 2) (Scalar.select (IntOp.cmpi .sge t (cu 1)) (cu 1) 0#32)))))))

/-- Token `t`'s place in its sequence. -/
def posw (cu : ℕ → BitVec 32) (t : BitVec 32) : BitVec 32 := IntOp.subi t (startw cu t)

/-- The place of every lane of the first half of block `a`. -/
def posA (v0 : IVec S1x128 32) (a : BitVec 32) (cu : ℕ → BitVec 32) : IVec S1x128 32 :=
  k0_pay45 (F := Ideal) (k0_pay42 a v0) (k0_pay43 (F := Ideal) a v0 (cu 1) (cu 1) (cu 2) (cu 2) (cu 3) (cu 3) (cu 4) (cu 4) (cu 5) (cu 5)) (k0_pay44 (F := Ideal) a v0 (cu 6)) (cu 6) (cu 7) (cu 7) (cu 8) (cu 8)

/-- The place of every lane of the second half of block `a`. -/
def posB (v0 : IVec S1x128 32) (a : BitVec 32) (cu : ℕ → BitVec 32) : IVec S1x128 32 :=
  k0_pay55 (F := Ideal) (k0_pay52 v0 (Scalar.muli a 256#32)) (k0_pay53 (F := Ideal) v0 (Scalar.muli a 256#32) (cu 1) (cu 1) (cu 2) (cu 2)) (k0_pay54 (F := Ideal) v0 (Scalar.muli a 256#32) (cu 3)) (cu 3) (cu 4) (cu 4) (cu 5) (cu 5) (cu 6) (cu 6) (cu 7) (cu 7) (cu 8) (cu 8)

/-- The place in its sequence of a token of the first half of a block. -/
theorem posA_at (v0 : IVec S1x128 32) (a : BitVec 32) (cu : ℕ → BitVec 32) (l : Fin 128) :
    posA v0 a cu (ix2 0 l) = posw cu (IntOp.addi (Scalar.addi (Scalar.muli a 256#32) 0#32) (v0 (ix2 0 l))) := by
  unfold posA posw startw
  pointwise [k0_pay45, k0_pay42, k0_pay43, k0_pay44]

/-- The place in its sequence of a token of the second half of a block. -/
theorem posB_at (v0 : IVec S1x128 32) (a : BitVec 32) (cu : ℕ → BitVec 32) (l : Fin 128) :
    posB v0 a cu (ix2 0 l) = posw cu (IntOp.addi (Scalar.addi (Scalar.muli a 256#32) 128#32) (v0 (ix2 0 l))) := by
  unfold posB posw startw
  pointwise [k0_pay55, k0_pay52, k0_pay53, k0_pay54]

/-- The scale `k` lanes before lane `l` of a half, the lanes before its first in `p`, where the lane's place admits it. -/
def rowv (k : ℕ) (pos : BitVec 32) (p s : FVec Ideal S1x128 .f32) (l : Fin 128) : EReal :=
  Scalar.select (IntOp.cmpi .sge pos (BitVec.ofNat 32 k)) (if k ≤ l.val then s (ix2 0 ⟨l.val - k, by omega⟩) else p (ix2 0 ⟨(128 + l.val - k) % 128, Nat.mod_lt _ (by decide)⟩)) 0

/-- A row of token scales rolled by `k` and masked where the tap leaves the sequence. -/
theorem rowv_read (k : ℕ) (hk : k = 1 ∨ k = 2 ∨ k = 3) (v0 : IVec S1x128 32) (h0 : ∀ l : Fin 128, v0 (ix2 0 l) = BitVec.ofNat 32 l.val)
    (thr kw : BitVec 32) (ht : thr = BitVec.ofNat 32 (128 - k)) (hw : kw = BitVec.ofNat 32 k) (pos : BitVec 32) (p s : FVec Ideal S1x128 .f32) (l : Fin 128) (z : EReal) (hz : z = 0) :
    Scalar.select (IntOp.cmpi .sge pos kw) (Scalar.select (IntOp.cmpi .sge (v0 (ix2 0 ⟨(l.val + 128 - k) % 128, Nat.mod_lt _ (by decide)⟩)) thr)
      (p (ix2 0 ⟨(l.val + 128 - k) % 128, Nat.mod_lt _ (by decide)⟩)) (s (ix2 0 ⟨(l.val + 128 - k) % 128, Nat.mod_lt _ (by decide)⟩))) z = rowv k pos p s l := by
  subst ht hw hz
  unfold rowv
  rw [h0, sge_small _ _ (by omega) (by omega), select_ofBool]
  by_cases hk1 : k ≤ l.val
  · rw [if_pos hk1, if_neg (by simp only; omega)]
    congr 4; omega
  · rw [if_neg hk1, if_pos (by simp only; omega)]
    congr 4; omega

/-- The constant is zero. -/
theorem zero_bits : (Ideal.ofBits FTy.f32 0x00000000#32 : EReal) = 0 := Ideal.ofBits_zero_f32

section

variable (v0 : IVec S1x128 32) (h0 : ∀ l : Fin 128, v0 (ix2 0 l) = BitVec.ofNat 32 l.val) (p s : FVec Ideal S1x128 .f32) (a : Fin 16) (l : Fin 128)

include h0

/-- The first half, rolled by one. -/
theorem pay47_at (x y : IVec S1x128 32) (z : IVec S1x128 1) (b0 b1 b2 b3 b4 : BitVec 32) :
    k0_pay47 (F := Ideal) v0 p s x y z b0 b1 b2 b3 b4 (ix2 a l) = rowv 1 (k0_pay45 (F := Ideal) x y z b0 b1 b2 b3 b4 (ix2 0 l)) p s l := by
  rw [← rowv_read 1 (by omega) v0 h0 127#32 1#32 rfl rfl _ p s l _ zero_bits]
  pointwise [k0_pay47]

/-- The first half, rolled by two. -/
theorem pay50_at (x y : IVec S1x128 32) (z : IVec S1x128 1) (b0 b1 b2 b3 b4 : BitVec 32) :
    k0_pay50 (F := Ideal) (k0_pay48 v0 p s) (k0_pay49 (F := Ideal) x y z b0 b1 b2 b3 b4) (ix2 a l) = rowv 2 (k0_pay45 (F := Ideal) x y z b0 b1 b2 b3 b4 (ix2 0 l)) p s l := by
  rw [← rowv_read 2 (by omega) v0 h0 126#32 2#32 rfl rfl _ p s l _ zero_bits]
  pointwise [k0_pay50, k0_pay48, k0_pay49]

/-- The first half, rolled by three. -/
theorem pay51_at (x : IVec S1x128 32) :
    k0_pay51 (F := Ideal) v0 p s x (ix2 a l) = rowv 3 (x (ix2 0 l)) p s l := by
  rw [← rowv_read 3 (by omega) v0 h0 125#32 3#32 rfl rfl _ p s l _ zero_bits]
  pointwise [k0_pay51]

/-- The second half, rolled by one. -/
theorem pay58_at (x : IVec S1x128 32) :
    k0_pay58 (F := Ideal) x (k0_pay57 v0 p s) 1#32 (ix2 a l) = rowv 1 (x (ix2 0 l)) p s l := by
  rw [← rowv_read 1 (by omega) v0 h0 127#32 1#32 rfl rfl _ p s l _ zero_bits]
  pointwise [k0_pay58, k0_pay57]

/-- The second half, rolled by two. -/
theorem pay59_at (x : IVec S1x128 32) :
    k0_pay59 (F := Ideal) v0 p s x (ix2 a l) = rowv 2 (x (ix2 0 l)) p s l := by
  rw [← rowv_read 2 (by omega) v0 h0 126#32 2#32 rfl rfl _ p s l _ zero_bits]
  pointwise [k0_pay59]

/-- The second half, rolled by three. -/
theorem pay60_at (x : IVec S1x128 32) :
    k0_pay60 (F := Ideal) v0 p s x (ix2 a l) = rowv 3 (x (ix2 0 l)) p s l := by
  rw [← rowv_read 3 (by omega) v0 h0 125#32 3#32 rfl rfl _ p s l _ zero_bits]
  pointwise [k0_pay60]

omit h0

/-- The scales of the first half, not rolled. -/
theorem pay46_at : k0_pay46 (F := Ideal) s (ix2 a l) = s (ix2 0 l) := by pointwise [k0_pay46]
/-- The scales of the second half, not rolled. -/
theorem pay56_at : k0_pay56 (F := Ideal) s (ix2 a l) = s (ix2 0 l) := by pointwise [k0_pay56]

end

/-- The two halves of a block's scales. -/
theorem pay40_at (v : FVec Ideal S1x256 .f32) (l : Fin 128) : k0_pay40 (F := Ideal) v (ix2 0 l) = v (ix2 0 ⟨l.val, by omega⟩) := by
  pointwise [k0_pay40]
/-- The second half of a row of scales. -/
theorem pay41_at (v : FVec Ideal S1x256 .f32) (l : Fin 128) : k0_pay41 (F := Ideal) v (ix2 0 l) = v (ix2 0 ⟨128 + l.val, by omega⟩) := by
  pointwise [k0_pay41]

section

variable {κ : Kind} {sp : Space} (v : View sig κ sp S64x256 .bf16) (f : v.ty.Contents (Elt Ideal)) (o0 o1 : ℕ) (inb : ∀ a, (![o0, o1] : Fin 2 → ℕ) a + S16x128.size a ≤ S64x256.size a)
  (w : S16x128.Idx → EReal) (L : List (View.Piece (Elt Ideal) S64x256 .bf16)) (y : S64x256.Idx)

/-- A read inside the newest written cell gives what was written there. -/
theorem cell_mem (a : Fin 16) (l : Fin 128) (h0 : (y 0).val = o0 + a.val) (h1 : (y 1).val = o1 + l.val) :
    v.read (Elt Ideal) (v.writes (Elt Ideal) f (⟨Rect.unit ![o0, o1] S16x128.size inb, w⟩ :: L)) y = w (ix2 a l) :=
  View.read_writes_cons_unit_of_mem v f inb w L y (ix2 a l) rfl (Fin.forall_fin_two.mpr ⟨h0, h1⟩)

/-- A read outside the newest written cell gives what was there before. -/
theorem cell_not (h : (y 0).val < o0 ∨ o0 + 16 ≤ (y 0).val ∨ (y 1).val < o1 ∨ o1 + 128 ≤ (y 1).val) :
    v.read (Elt Ideal) (v.writes (Elt Ideal) f (⟨Rect.unit ![o0, o1] S16x128.size inb, w⟩ :: L)) y = v.read (Elt Ideal) (v.writes (Elt Ideal) f L) y := by
  rcases h with h | h | h | h
  · exact View.read_writes_cons_unit_of_not_mem v f inb w L y rfl 0 (Or.inl h)
  · exact View.read_writes_cons_unit_of_not_mem v f inb w L y rfl 0 (Or.inr h)
  · exact View.read_writes_cons_unit_of_not_mem v f inb w L y rfl 1 (Or.inl h)
  · exact View.read_writes_cons_unit_of_not_mem v f inb w L y rfl 1 (Or.inr h)

end

/-- What eight stores, one to each half of each group of sixteen rows, leave. -/
theorem grid_read {κ : Kind} {sp : Space} (v : View sig κ sp S64x256 .bf16) (f : v.ty.Contents (Elt Ideal)) (w00 w10 w20 w30 w01 w11 w21 w31 : S16x128.Idx → EReal)
    (i00 : ∀ a, (![0, 0] : Fin 2 → ℕ) a + S16x128.size a ≤ S64x256.size a) (i10 : ∀ a, (![16, 0] : Fin 2 → ℕ) a + S16x128.size a ≤ S64x256.size a)
    (i20 : ∀ a, (![32, 0] : Fin 2 → ℕ) a + S16x128.size a ≤ S64x256.size a) (i30 : ∀ a, (![48, 0] : Fin 2 → ℕ) a + S16x128.size a ≤ S64x256.size a)
    (i01 : ∀ a, (![0, 128] : Fin 2 → ℕ) a + S16x128.size a ≤ S64x256.size a) (i11 : ∀ a, (![16, 128] : Fin 2 → ℕ) a + S16x128.size a ≤ S64x256.size a)
    (i21 : ∀ a, (![32, 128] : Fin 2 → ℕ) a + S16x128.size a ≤ S64x256.size a) (i31 : ∀ a, (![48, 128] : Fin 2 → ℕ) a + S16x128.size a ≤ S64x256.size a)
    (k : Fin 4) (h : Fin 2) (a : Fin 16) (l : Fin 128) (y : S64x256.Idx) (hy0 : (y 0).val = 16 * k.val + a.val) (hy1 : (y 1).val = 128 * h.val + l.val) :
    v.read (Elt Ideal) (v.writes (Elt Ideal) f [⟨Rect.unit ![48, 128] S16x128.size i31, w31⟩, ⟨Rect.unit ![32, 128] S16x128.size i21, w21⟩, ⟨Rect.unit ![16, 128] S16x128.size i11, w11⟩, ⟨Rect.unit ![0, 128] S16x128.size i01, w01⟩,
      ⟨Rect.unit ![48, 0] S16x128.size i30, w30⟩, ⟨Rect.unit ![32, 0] S16x128.size i20, w20⟩, ⟨Rect.unit ![16, 0] S16x128.size i10, w10⟩, ⟨Rect.unit ![0, 0] S16x128.size i00, w00⟩]) y
      = (![![w00, w01], ![w10, w11], ![w20, w21], ![w30, w31]] : Fin 4 → Fin 2 → S16x128.Idx → EReal) k h (ix2 a l) := by
  have e0 : (y 0).val < 64 := (y 0).isLt
  fin_cases k <;> fin_cases h
  all_goals
    simp only [Fin.zero_eta, Fin.mk_one, Fin.reduceFinMk, Fin.isValue, Fin.val_zero, Fin.val_one, Fin.val_two, Nat.mul_zero, Nat.zero_add] at hy0 hy1
  all_goals
    repeat (first
      | exact cell_mem v f _ _ _ _ _ y a l (by omega) (by omega)
      | refine (cell_not v f _ _ _ _ _ y (by omega)).trans ?_)

/-- The stores of one body run's scale rows, newest first. -/
def sigL (v0 : IVec S1x128 32) (a : BitVec 32) (cu : ℕ → BitVec 32) (p s t : FVec Ideal S1x128 .f32) : List (View.Piece (Elt Ideal) S64x256 .bf16) :=
  [⟨Rect.unit ![48, 128] S16x128.size (by decide), k0_pay60 (F := Ideal) v0 s t (posB v0 a cu)⟩, ⟨Rect.unit ![32, 128] S16x128.size (by decide), k0_pay59 (F := Ideal) v0 s t (posB v0 a cu)⟩,
    ⟨Rect.unit ![16, 128] S16x128.size (by decide), k0_pay58 (F := Ideal) (posB v0 a cu) (k0_pay57 (F := Ideal) v0 s t) 1#32⟩, ⟨Rect.unit ![0, 128] S16x128.size (by decide), k0_pay56 (F := Ideal) t⟩,
    ⟨Rect.unit ![48, 0] S16x128.size (by decide), k0_pay51 (F := Ideal) v0 p s (posA v0 a cu)⟩,
    ⟨Rect.unit ![32, 0] S16x128.size (by decide), k0_pay50 (F := Ideal) (k0_pay48 (F := Ideal) v0 p s) (k0_pay49 (F := Ideal) (k0_pay42 a v0) (k0_pay43 (F := Ideal) a v0 (cu 1) (cu 1) (cu 2) (cu 2) (cu 3) (cu 3) (cu 4) (cu 4) (cu 5) (cu 5)) (k0_pay44 (F := Ideal) a v0 (cu 6)) (cu 6) (cu 7) (cu 7) (cu 8) (cu 8))⟩,
    ⟨Rect.unit ![16, 0] S16x128.size (by decide), k0_pay47 (F := Ideal) v0 p s (k0_pay42 a v0) (k0_pay43 (F := Ideal) a v0 (cu 1) (cu 1) (cu 2) (cu 2) (cu 3) (cu 3) (cu 4) (cu 4) (cu 5) (cu 5)) (k0_pay44 (F := Ideal) a v0 (cu 6)) (cu 6) (cu 7) (cu 7) (cu 8) (cu 8)⟩,
    ⟨Rect.unit ![0, 0] S16x128.size (by decide), k0_pay46 (F := Ideal) s⟩]

/-- The scale `k` tokens before lane `l` of block `n`, where the lane's place in its sequence admits it. -/
def sigv (cu : ℕ → BitVec 32) (n : ℕ) (P : Fin 128 → EReal) (C : Fin 256 → EReal) (k : ℕ) (l : Fin 256) : EReal :=
  Scalar.select (IntOp.cmpi .sge (posw cu (BitVec.ofNat 32 (256 * n + l.val))) (BitVec.ofNat 32 k))
    (if k ≤ l.val then C ⟨l.val - k, by omega⟩ else P ⟨(128 + l.val - k) % 128, Nat.mod_lt _ (by decide)⟩) 0

/-- The buffer of masked scales after its eight stores. -/
theorem sigL_read (arg13 : Memref sig .tc .vmem S64x256 .bf16) (v0 : IVec S1x128 32) (h0 : ∀ l : Fin 128, v0 (ix2 0 l) = BitVec.ofNat 32 l.val) (n : ℕ) (cu : ℕ → BitVec 32)
    (p : FVec Ideal S1x128 .f32) (v : FVec Ideal S1x256 .f32) (P : Fin 128 → EReal) (C : Fin 256 → EReal) (hP : ∀ l, p (ix2 0 l) = P l) (hC : ∀ l, v (ix2 0 l) = C l) (k : Fin 4) (o : ℕ) (ho : o = 16 * k.val)
    (inb : ∀ a, (![o, 0] : Fin 2 → ℕ) a + S16x256.size a ≤ S64x256.size a) (a : Fin 16) (l : Fin 256) :
    arg13.view.readCov (sigL v0 (BitVec.ofNat 32 n) cu p (k0_pay40 (F := Ideal) v) (k0_pay41 (F := Ideal) v)) (Rect.unit (s := S64x256) ![o, 0] S16x256.size inb).toLoadRect (ix2 a l)
      = if k.val = 0 then C l else sigv cu n P C k.val l := by
  subst ho
  have hA : ∀ l : Fin 128, IntOp.addi (Scalar.addi (Scalar.muli (BitVec.ofNat 32 n) 256#32) 0#32) (v0 (ix2 0 l)) = BitVec.ofNat 32 (256 * n + l.val) := fun l => by
    rw [h0]; show BitVec.ofNat 32 n * 256#32 + 0#32 + BitVec.ofNat 32 l.val = _
    apply BitVec.eq_of_toNat_eq; simp; omega
  have hB : ∀ l : Fin 128, IntOp.addi (Scalar.addi (Scalar.muli (BitVec.ofNat 32 n) 256#32) 128#32) (v0 (ix2 0 l)) = BitVec.ofNat 32 (256 * n + (128 + l.val)) := fun l => by
    rw [h0]; show BitVec.ofNat 32 n * 256#32 + 128#32 + BitVec.ofNat 32 l.val = _
    apply BitVec.eq_of_toNat_eq; simp; omega
  by_cases hl : l.val < 128
  · refine (grid_read arg13.view arg13.view.junk _ _ _ _ _ _ _ _ (by decide) (by decide) (by decide) (by decide) (by decide) (by decide) (by decide) (by decide) k 0 a ⟨l.val, hl⟩ _ (by show 16 * k.val + 1 * a.val = _; omega) (by show 0 + 1 * l.val = _; simp)).trans ?_
    have hr : ∀ k : ℕ, rowv k (posA v0 (BitVec.ofNat 32 n) cu (ix2 0 ⟨l.val, hl⟩)) p (k0_pay40 (F := Ideal) v) ⟨l.val, hl⟩ = sigv cu n P C k l := fun k => by
      unfold rowv sigv
      rw [posA_at, hA]
      congr 1
      by_cases hk : k ≤ l.val
      · rw [if_pos hk, if_pos hk, pay40_at, hC]
      · rw [if_neg hk, if_neg hk, hP]
    fin_cases k
    · exact (pay46_at ..).trans ((pay40_at ..).trans (hC _))
    · exact (pay47_at v0 h0 ..).trans (hr 1)
    · exact (pay50_at v0 h0 ..).trans (hr 2)
    · exact (pay51_at v0 h0 ..).trans (hr 3)
  · have e : l = ⟨128 + (l.val - 128), by omega⟩ := Fin.ext (by simp only; omega)
    refine (grid_read arg13.view arg13.view.junk _ _ _ _ _ _ _ _ (by decide) (by decide) (by decide) (by decide) (by decide) (by decide) (by decide) (by decide) k 1 a ⟨l.val - 128, by omega⟩ _ (by show 16 * k.val + 1 * a.val = _; omega) (by show 0 + 1 * l.val = 128 * 1 + (l.val - 128); omega)).trans ?_
    have hr : ∀ k : ℕ, k ≤ 3 → rowv k (posB v0 (BitVec.ofNat 32 n) cu (ix2 0 ⟨l.val - 128, by omega⟩)) (k0_pay40 (F := Ideal) v) (k0_pay41 (F := Ideal) v) ⟨l.val - 128, by omega⟩ = sigv cu n P C k l := fun k h3 => by
      unfold rowv sigv
      rw [posB_at, hB]
      have e2 : BitVec.ofNat 32 (256 * n + (128 + (l.val - 128))) = BitVec.ofNat 32 (256 * n + l.val) := by rw [show 128 + (l.val - 128) = l.val by omega]
      refine congrArg₂ (fun x y => Scalar.select (IntOp.cmpi .sge (posw cu x) (BitVec.ofNat 32 k)) y 0) e2 ?_
      rw [if_pos (show k ≤ l.val by omega)]
      by_cases hk : k ≤ l.val - 128
      · rw [if_pos hk, pay41_at, hC]
        exact congrArg C (Fin.ext (by simp only; omega))
      · rw [if_neg hk, pay40_at, hC]
        exact congrArg C (Fin.ext (by simp only; omega))
    fin_cases k
    · exact (pay56_at ..).trans ((pay41_at ..).trans ((hC _).trans (congrArg C e.symm)))
    · exact (pay58_at v0 h0 ..).trans (hr 1 (by omega))
    · exact (pay59_at v0 h0 ..).trans (hr 2 (by omega))
    · exact (pay60_at v0 h0 ..).trans (hr 3 (by omega))

end Cert.ConvIdeal.Value

end
-- ==== Proof.Value.Chunk.lean ====
/- The two forms of one chunk of 64 channels, convolved and activated, are the same function of what the chunk reads. -/
module

public import proofs.«01_k».proof.Proof.Value.Taps

@[expose] public section

set_option maxRecDepth 16384

noncomputable section

namespace Cert.ConvIdeal.Value

open Idealize.ShloMosaic Idealize.ShloMosaic.TcCoe Idealize.SL.Sem
open Cert.ConvIdeal Cert.ConvIdeal.Gen Cert.ConvIdeal.Body

set_option maxHeartbeats 1000000 in
/-- What one chunk of the middle points produces: half the convolution plus half the bias. -/
theorem k0_pay91_at (v0 : IVec S1x128 32) (h0 : ∀ l : Fin 128, v0 (ix2 0 l) = BitVec.ofNat 32 l.val) (s0 s1 s2 s3 : FVec Ideal S64x256 .bf16)
    (x : FVec Ideal S64x256 .fp8e4m3) (p : FVec Ideal S64x128 .fp8e4m3) (d : FVec Ideal S64x256 .bf16) (hb : FVec Ideal S64x128 .f32)
    (hd : ∀ (q : Fin 64) (j : Fin 256), j.val % 64 ≠ q.val → d (ix2 q j) = 0) (q : Fin 64) (l : Fin 256) :
    k0_pay91 v0 s0 s1 s2 (k0_pay83 x) (k0_pay84 x) (k0_pay85 x) (k0_pay86 p) (k0_pay88 v0 s3 x p) k0_pay89 d hb (ix2 q l) = silu (pre x p s0 s1 s2 s3 d hb q l) := by
  pointwise [k0_pay91, k0_pay90, k0_pay88, k0_pay86, k0_pay85, k0_pay84, k0_pay83, k0_pay89]
  refine congrArg silu ?_
  refine (congrArg (· + _) (diag_sum _ q ?_)).trans ?_
  · intro j hj
    exact (congrArg (· * _) (hd q j hj)).trans (zero_mul _)
  dsimp only
  unfold pre
  refine congrArg₂ (· + ·) (congrArg₂ (· + ·) (congrArg₂ (· + ·) (congrArg₂ (· + ·) (congrArg _ ?_) (congrArg _ ?_)) (congrArg _ ?_)) (congrArg _ ?_)) ?_
  · rw [dif_pos q.isLt]
    exact congrArg (· * _) (tap_read 3 (by decide) v0 h0 _ rfl x p q l (by omega))
  · rw [dif_neg (by omega), dif_pos (by omega)]
    simp only [Nat.add_sub_cancel_left, Fin.eta]
    exact congrArg (· * _) (tap_read 2 (by decide) v0 h0 _ rfl x p q l (by omega))
  · rw [dif_neg (by omega), dif_neg (by omega), dif_pos (by omega)]
    simp only [show 128 + q.val - 64 - 64 = q.val by omega, Fin.eta]
    exact congrArg (· * _) (tap_read 1 (by decide) v0 h0 _ rfl x p q l (by omega))
  · rw [dif_neg (by omega), dif_neg (by omega), dif_neg (by omega)]
    simp only [show 192 + q.val - 64 - 64 - 64 = q.val by omega, Fin.eta]
  · by_cases hl : l.val < 128
    · rw [dif_pos hl]; congr 3; omega
    · rw [dif_neg hl]; congr 3; omega

set_option maxHeartbeats 1000000 in
/-- What one chunk of the first point produces: half the convolution plus half the bias. -/
theorem k0_pay71_at (v0 : IVec S1x128 32) (h0 : ∀ l : Fin 128, v0 (ix2 0 l) = BitVec.ofNat 32 l.val) (s0 s1 s2 s3 : FVec Ideal S64x256 .bf16)
    (x : FVec Ideal S64x256 .fp8e4m3) (p : FVec Ideal S64x128 .fp8e4m3) (d : FVec Ideal S64x256 .bf16) (hb : FVec Ideal S64x128 .f32)
    (hd : ∀ (q : Fin 64) (j : Fin 256), j.val % 64 ≠ q.val → d (ix2 q j) = 0) (q : Fin 64) (l : Fin 256) :
    k0_pay71 v0 s0 s1 (k0_pay62 x) (k0_pay63 x) (k0_pay64 x) (k0_pay65 p) (k0_pay67 v0 s3 x p) (k0_pay68 v0 s2 x p) k0_pay69 d hb (ix2 q l) = silu (pre x p s0 s1 s2 s3 d hb q l) := by
  pointwise [k0_pay71, k0_pay70, k0_pay62, k0_pay63, k0_pay64, k0_pay65, k0_pay67, k0_pay68, k0_pay69]
  refine congrArg silu ?_
  refine (congrArg (· + _) (diag_sum _ q ?_)).trans ?_
  · intro j hj
    exact (congrArg (· * _) (hd q j hj)).trans (zero_mul _)
  dsimp only
  unfold pre
  refine congrArg₂ (· + ·) (congrArg₂ (· + ·) (congrArg₂ (· + ·) (congrArg₂ (· + ·) (congrArg _ ?_) (congrArg _ ?_)) (congrArg _ ?_)) (congrArg _ ?_)) ?_
  · rw [dif_pos q.isLt]
    exact congrArg (· * _) (tap_read 3 (by decide) v0 h0 _ rfl x p q l (by omega))
  · rw [dif_neg (by omega), dif_pos (by omega)]
    simp only [Nat.add_sub_cancel_left, Fin.eta]
    exact congrArg (· * _) (tap_read 2 (by decide) v0 h0 _ rfl x p q l (by omega))
  · rw [dif_neg (by omega), dif_neg (by omega), dif_pos (by omega)]
    simp only [show 128 + q.val - 64 - 64 = q.val by omega, Fin.eta]
    exact congrArg (· * _) (tap_read 1 (by decide) v0 h0 _ rfl x p q l (by omega))
  · rw [dif_neg (by omega), dif_neg (by omega), dif_neg (by omega)]
    simp only [show 192 + q.val - 64 - 64 - 64 = q.val by omega, Fin.eta]
  · by_cases hl : l.val < 128
    · rw [dif_pos hl]; congr 3; omega
    · rw [dif_neg hl]; congr 3; omega

end Cert.ConvIdeal.Value

end
-- ==== Proof.Value.Tile.lean ====
/- One block of tokens, convolved and activated channel by channel, and the running maximum of its magnitudes. -/
module

public import proofs.«01_k».proof.Proof.Value.Chunk
public import proofs.«01_k».proof.Proof.Value.Rows

@[expose] public section

set_option maxRecDepth 16384

noncomputable section

namespace Cert.ConvIdeal.Value

open Idealize.ShloMosaic Idealize.ShloMosaic.TcCoe Idealize.SL.Sem
open Cert.ConvIdeal Cert.ConvIdeal.Gen Cert.ConvIdeal.Body

/-- The value `k` columns before column `l` of row `q` of a block of tokens, the columns before the block's first in `P`. -/
def tapg (k : ℕ) (X : S16384x256.Idx → EReal) (P : S16384x128.Idx → EReal) (q : Fin 16384) (l : Fin 256) : EReal :=
  if h : k ≤ l.val then X (ix2 q ⟨l.val - k, by omega⟩) else P (ix2 q ⟨(128 + l.val - k) % 128, Nat.mod_lt _ (by decide)⟩)

/-- What channel `q`, column `l` of a block of tokens is convolved and activated to. -/
def conv (X : S16384x256.Idx → EReal) (P : S16384x128.Idx → EReal) (D : S16384x256.Idx → EReal) (B : S16384x128.Idx → EReal)
    (g0 g1 g2 g3 : Fin 256 → EReal) (q : Fin 16384) (l : Fin 256) : EReal :=
  silu (D (ix2 q ⟨q.val % 64, by omega⟩) * (tapg 3 X P q l * g3 l) + D (ix2 q ⟨64 + q.val % 64, by omega⟩) * (tapg 2 X P q l * g2 l)
    + D (ix2 q ⟨128 + q.val % 64, by omega⟩) * (tapg 1 X P q l * g1 l) + D (ix2 q ⟨192 + q.val % 64, by omega⟩) * (X (ix2 q l) * g0 l)
    + B (ix2 q ⟨l.val % 128, Nat.mod_lt _ (by decide)⟩))

/-- Row `q` of chunk `k`. -/
def rw64 (k : ℕ) (hk : k < 256) (q : Fin 64) : Fin 16384 := ⟨64 * k + q.val, by omega⟩

/-- Sixty-four whole rows read from a buffer. -/
abbrev rdW {W : ℕ} {κ : Kind} {sp : Space} {e : EltTy} (v : View sig κ sp (⟨2, ![16384, W]⟩ : Shape) e) (off : Fin 2 → ℕ)
    (inb : ∀ a : Fin 2, off a + (![64, W] : Fin 2 → ℕ) a ≤ (![16384, W] : Fin 2 → ℕ) a) (f : v.ty.Contents (Elt Ideal)) : (⟨2, ![64, W]⟩ : Shape).Idx → Elt Ideal e :=
  v.readAt (Elt Ideal) (Rect.unit (s := ⟨2, ![16384, W]⟩) off ![64, W] inb).toLoadRect f

/-- A read of 64 rows of a matrix, at one entry. -/
theorem rdW_at {W : ℕ} {κ : Kind} {sp : Space} {e : EltTy} (v : View sig κ sp (⟨2, ![16384, W]⟩ : Shape) e) (off : Fin 2 → ℕ)
    (inb : ∀ a : Fin 2, off a + (![64, W] : Fin 2 → ℕ) a ≤ (![16384, W] : Fin 2 → ℕ) a) (f : v.ty.Contents (Elt Ideal)) {k : Fin 256} (h : off = ![64 * k.val, 0])
    (q : Fin 64) (l : Fin W) : rdW v off inb f (ix2 q l) = v.read (Elt Ideal) f (ix2 (rw64 k.val k.isLt q) l) :=
  readAt_rows v f inb (64 * k.val) 0 h (ix2 q l) (ix2 (rw64 k.val k.isLt q) l) rfl (Nat.zero_add _).symm

/-- One chunk before its activation, by the whole tile. -/
theorem silu_pre (X : S16384x256.Idx → EReal) (P : S16384x128.Idx → EReal) (D : S16384x256.Idx → EReal) (B : S16384x128.Idx → EReal)
    (g0 g1 g2 g3 : Fin 256 → EReal) (k : ℕ) (hk : k < 256) (x : FVec Ideal S64x256 .fp8e4m3) (p : FVec Ideal S64x128 .fp8e4m3)
    (s0 s1 s2 s3 : FVec Ideal S64x256 .bf16) (d : FVec Ideal S64x256 .bf16) (hb : FVec Ideal S64x128 .f32)
    (hx : ∀ q l, x (ix2 q l) = X (ix2 (rw64 k hk q) l)) (hp : ∀ q l, p (ix2 q l) = P (ix2 (rw64 k hk q) l))
    (hd : ∀ q l, d (ix2 q l) = D (ix2 (rw64 k hk q) l)) (hB : ∀ q l, hb (ix2 q l) = B (ix2 (rw64 k hk q) l))
    (h0 : ∀ q l, s0 (ix2 q l) = g0 l) (h1 : ∀ q l, s1 (ix2 q l) = g1 l) (h2 : ∀ q l, s2 (ix2 q l) = g2 l) (h3 : ∀ q l, s3 (ix2 q l) = g3 l)
    (q : Fin 64) (l : Fin 256) : silu (pre x p s0 s1 s2 s3 d hb q l) = conv X P D B g0 g1 g2 g3 (rw64 k hk q) l := by
  have hm : (rw64 k hk q).val % 64 = q.val := by show (64 * k + q.val) % 64 = _; omega
  have ht : ∀ n, tap n x p q l = tapg n X P (rw64 k hk q) l := fun n => by
    unfold tap tapg; split
    · exact hx _ _
    · exact hp _ _
  unfold pre conv
  simp only [ht, hx, hd, hB, h0, h1, h2, h3, hm]

/-- A magnitude. -/
def eabs (x : EReal) : EReal := max x (-x)

/-- One trip's running maximum bounds what the trip before it bounded and the trip's own entries. -/
theorem acc_le {a0 b : EReal} {f : Fin 64 → EReal} (g : Fin 8) :
    max (max (max (max (max (max (max (max a0 (f ⟨g.val, by omega⟩)) (f ⟨8 + g.val, by omega⟩)) (f ⟨16 + g.val, by omega⟩)) (f ⟨24 + g.val, by omega⟩))
      (f ⟨32 + g.val, by omega⟩)) (f ⟨40 + g.val, by omega⟩)) (f ⟨48 + g.val, by omega⟩)) (f ⟨56 + g.val, by omega⟩) ≤ b
      ↔ a0 ≤ b ∧ ∀ q : Fin 64, q.val % 8 = g.val → f q ≤ b := by
  simp only [max_le_iff]
  constructor
  · rintro ⟨⟨⟨⟨⟨⟨⟨⟨h, h0⟩, h1⟩, h2⟩, h3⟩, h4⟩, h5⟩, h6⟩, h7⟩
    refine ⟨h, fun q hq => ?_⟩
    have : q.val = g.val ∨ q.val = 8 + g.val ∨ q.val = 16 + g.val ∨ q.val = 24 + g.val ∨ q.val = 32 + g.val ∨ q.val = 40 + g.val ∨ q.val = 48 + g.val ∨ q.val = 56 + g.val := by omega
    rcases this with e | e | e | e | e | e | e | e
    · exact (congrArg (f · ≤ b) (Fin.ext e)).mpr h0
    · exact (congrArg (f · ≤ b) (Fin.ext e)).mpr h1
    · exact (congrArg (f · ≤ b) (Fin.ext e)).mpr h2
    · exact (congrArg (f · ≤ b) (Fin.ext e)).mpr h3
    · exact (congrArg (f · ≤ b) (Fin.ext e)).mpr h4
    · exact (congrArg (f · ≤ b) (Fin.ext e)).mpr h5
    · exact (congrArg (f · ≤ b) (Fin.ext e)).mpr h6
    · exact (congrArg (f · ≤ b) (Fin.ext e)).mpr h7
  · rintro ⟨h, hf⟩
    refine ⟨⟨⟨⟨⟨⟨⟨⟨h, hf _ ?_⟩, hf _ ?_⟩, hf _ ?_⟩, hf _ ?_⟩, hf _ ?_⟩, hf _ ?_⟩, hf _ ?_⟩, hf _ ?_⟩ <;> simp only <;> omega

/-- The activations of one chunk of a middle point. -/
theorem k0_pay99_at (v0 : IVec S1x128 32) (h0 : ∀ l : Fin 128, v0 (ix2 0 l) = BitVec.ofNat 32 l.val) (s0 s1 s2 s3 : FVec Ideal S64x256 .bf16)
    (x : FVec Ideal S64x256 .fp8e4m3) (p : FVec Ideal S64x128 .fp8e4m3) (d : FVec Ideal S64x256 .bf16) (hb : FVec Ideal S64x128 .f32)
    (hd : ∀ (q : Fin 64) (j : Fin 256), j.val % 64 ≠ q.val → d (ix2 q j) = 0) (acc : FVec Ideal S8x256 .f32) (g : Fin 8) (l : Fin 256) (b : EReal) :
    k0_pay99 (k0_pay90 v0 s0 s1 s2 (k0_pay83 x) (k0_pay84 x) (k0_pay85 x) (k0_pay86 p) (k0_pay88 v0 s3 x p) k0_pay89 d hb)
      (k0_pay92 v0 s0 s1 s2 acc (k0_pay83 x) (k0_pay84 x) (k0_pay85 x) (k0_pay86 p) (k0_pay88 v0 s3 x p) k0_pay89 d hb)
      (k0_pay93 v0 s0 s1 s2 (k0_pay83 x) (k0_pay84 x) (k0_pay85 x) (k0_pay86 p) (k0_pay88 v0 s3 x p) k0_pay89 d hb) (ix2 g l) ≤ b
      ↔ acc (ix2 g l) ≤ b ∧ ∀ q : Fin 64, q.val % 8 = g.val → eabs (silu (pre x p s0 s1 s2 s3 d hb q l)) ≤ b := by
  have e : ∀ q, k0_pay90 v0 s0 s1 s2 (k0_pay83 x) (k0_pay84 x) (k0_pay85 x) (k0_pay86 p) (k0_pay88 v0 s3 x p) k0_pay89 d hb (ix2 q l) = silu (pre x p s0 s1 s2 s3 d hb q l) := fun q => by
    rw [← k0_pay91_at v0 h0 s0 s1 s2 s3 x p d hb hd q l]
    generalize hS : k0_pay90 v0 s0 s1 s2 (k0_pay83 x) (k0_pay84 x) (k0_pay85 x) (k0_pay86 p) (k0_pay88 v0 s3 x p) k0_pay89 d hb = S
    unfold k0_pay91
    rw [hS]
    pointwise []
  unfold k0_pay92 k0_pay93
  generalize k0_pay90 v0 s0 s1 s2 (k0_pay83 x) (k0_pay84 x) (k0_pay85 x) (k0_pay86 p) (k0_pay88 v0 s3 x p) k0_pay89 d hb = S at e ⊢
  pointwise [k0_pay99]
  simp only [e]
  exact acc_le (f := fun q => eabs (silu (pre x p s0 s1 s2 s3 d hb q l))) g

/-- The activations of one chunk of the first point. -/
theorem k0_pay72_at (v0 : IVec S1x128 32) (h0 : ∀ l : Fin 128, v0 (ix2 0 l) = BitVec.ofNat 32 l.val) (s0 s1 s2 s3 : FVec Ideal S64x256 .bf16)
    (x : FVec Ideal S64x256 .fp8e4m3) (p : FVec Ideal S64x128 .fp8e4m3) (d : FVec Ideal S64x256 .bf16) (hb : FVec Ideal S64x128 .f32)
    (hd : ∀ (q : Fin 64) (j : Fin 256), j.val % 64 ≠ q.val → d (ix2 q j) = 0) (acc : FVec Ideal S8x256 .f32) (g : Fin 8) (l : Fin 256) (b : EReal) :
    k0_pay72 v0 s0 s1 acc (k0_pay62 x) (k0_pay63 x) (k0_pay64 x) (k0_pay65 p) (k0_pay67 v0 s3 x p) (k0_pay68 v0 s2 x p) k0_pay69 d hb (ix2 g l) ≤ b
      ↔ acc (ix2 g l) ≤ b ∧ ∀ q : Fin 64, q.val % 8 = g.val → eabs (silu (pre x p s0 s1 s2 s3 d hb q l)) ≤ b := by
  have e : ∀ q, k0_pay70 v0 s0 s1 (k0_pay62 x) (k0_pay63 x) (k0_pay64 x) (k0_pay65 p) (k0_pay67 v0 s3 x p) (k0_pay68 v0 s2 x p) k0_pay69 d hb (ix2 q l) = silu (pre x p s0 s1 s2 s3 d hb q l) := fun q => by
    rw [← k0_pay71_at v0 h0 s0 s1 s2 s3 x p d hb hd q l]
    generalize hS : k0_pay70 v0 s0 s1 (k0_pay62 x) (k0_pay63 x) (k0_pay64 x) (k0_pay65 p) (k0_pay67 v0 s3 x p) (k0_pay68 v0 s2 x p) k0_pay69 d hb = S
    unfold k0_pay71
    rw [hS]
    pointwise []
  unfold k0_pay72
  generalize k0_pay70 v0 s0 s1 (k0_pay62 x) (k0_pay63 x) (k0_pay64 x) (k0_pay65 p) (k0_pay67 v0 s3 x p) (k0_pay68 v0 s2 x p) k0_pay69 d hb = S at e ⊢
  pointwise []
  simp only [e]
  exact acc_le (f := fun q => eabs (silu (pre x p s0 s1 s2 s3 d hb q l))) g

/-- A running maximum built chunk by chunk bounds what its start and every row so far do. -/
theorem acc_rows (N : Fin 16384 → EReal) (a0 : EReal) (g : Fin 8) (A : ℕ → EReal) (hA0 : A 0 = a0)
    (hA : ∀ (k : ℕ) (hk : k < 256) (b : EReal), A (k + 1) ≤ b ↔ A k ≤ b ∧ ∀ q : Fin 64, q.val % 8 = g.val → eabs (N (rw64 k hk q)) ≤ b) :
    ∀ k, k ≤ 256 → ∀ b, A k ≤ b ↔ a0 ≤ b ∧ ∀ q : Fin 16384, q.val < 64 * k → q.val % 8 = g.val → eabs (N q) ≤ b := by
  intro k
  induction k with
  | zero => intro _ b; rw [hA0]; exact ⟨fun h => ⟨h, fun q hq => absurd hq (by omega)⟩, fun h => h.1⟩
  | succ k ih =>
    intro hk b
    rw [hA k (by omega) b, ih (by omega) b]
    constructor
    · rintro ⟨⟨h, h1⟩, h2⟩
      refine ⟨h, fun q hq hg => ?_⟩
      by_cases hlt : q.val < 64 * k
      · exact h1 q hlt hg
      · have := h2 ⟨q.val - 64 * k, by omega⟩ (by simp only; omega)
        rwa [show rw64 k (by omega) ⟨q.val - 64 * k, by omega⟩ = q from Fin.ext (by show 64 * k + (q.val - 64 * k) = _; omega)] at this
    · rintro ⟨h, h1⟩
      exact ⟨⟨h, fun q hq hg => h1 q (by omega) hg⟩, fun q hg => h1 _ (by show 64 * k + q.val < _; omega) (by show (64 * k + q.val) % 8 = _; omega)⟩

end Cert.ConvIdeal.Value

end
-- ==== Proof.Value.Field.lean ====
/- The exponent field of the scale: the greatest field whose power of two does not exceed the magnitude. -/
module

public import proofs.«01_k».proof.Proof.Value.Tile

@[expose] public section

set_option maxRecDepth 16384

noncomputable section

namespace Cert.ConvIdeal.Value

open Idealize.ShloMosaic Idealize.ShloMosaic.TcCoe Idealize.SL.Sem
open Cert.ConvIdeal Cert.ConvIdeal.Gen Cert.ConvIdeal.Body

/-- The value of the word with this exponent field and no mantissa. -/
def fldw (n : BitVec 32) : EReal := Ideal.ofBits .f32 (IntOp.shli .vector n 23#32)

/-- Sign, exponent field and mantissa of a shifted field word. -/
theorem fld_bits : ∀ n : Fin 256, (IntOp.shli .vector (BitVec.ofNat 32 n.val) 23#32).extractLsb' 31 1 = 0#1
    ∧ ((IntOp.shli .vector (BitVec.ofNat 32 n.val) 23#32).extractLsb' 23 8).toNat = n.val
    ∧ ((IntOp.shli .vector (BitVec.ofNat 32 n.val) 23#32).extractLsb' 0 23).toNat = 0 := by decide +kernel

/-- The value that a field stands for. -/
theorem fld_eq (n : ℕ) (h : n < 256) : fldw (BitVec.ofNat 32 n) = if n = 255 then ⊤ else if n = 0 then 0 else (((8388608 : ℝ) * (2 : ℝ) ^ ((n : ℤ) - 127 - 23) : ℝ) : EReal) := by
  obtain ⟨h1, h2, h3⟩ := fld_bits ⟨n, h⟩
  simp only at h1 h2 h3
  unfold fldw Ideal.ofBits Ideal.ieee
  simp only [h1, h2, h3]
  norm_num

/-- A greater field stands for a value at least as great. -/
theorem fld_mono {n m : ℕ} (hnm : n ≤ m) (hm : m < 256) : fldw (BitVec.ofNat 32 n) ≤ fldw (BitVec.ofNat 32 m) := by
  rw [fld_eq n (by omega), fld_eq m hm]
  by_cases h1 : m = 255
  · rw [if_pos h1]; exact le_top
  · rw [if_neg h1, if_neg (show n ≠ 255 by omega)]
    by_cases h2 : n = 0
    · rw [if_pos h2]
      by_cases h3 : m = 0
      · rw [if_pos h3]
      · rw [if_neg h3]; exact_mod_cast (by positivity)
    · rw [if_neg h2, if_neg (show m ≠ 0 by omega)]
      have : (2 : ℝ) ^ ((n : ℤ) - 127 - 23) ≤ (2 : ℝ) ^ ((m : ℤ) - 127 - 23) := zpow_le_zpow_right₀ (by norm_num) (by omega)
      exact EReal.coe_le_coe_iff.mpr (mul_le_mul_of_nonneg_left this (by norm_num))

/-- One step of the search: the field with this bit, unless its power of two is above `u`. -/
def bstep (u : EReal) (m c : ℕ) : ℕ := if u < fldw (BitVec.ofNat 32 (c + m)) then c else c + m

/-- The field the search ends with. -/
def bfield (u : EReal) : ℕ := bstep u 1 (bstep u 2 (bstep u 4 (bstep u 8 (bstep u 16 (bstep u 32 (bstep u 64 (bstep u 128 0)))))))

/-- One step of the search keeps the bracket around the field sought. -/
theorem bstep_inv {u : EReal} {c m : ℕ} (h0 : c = 0 ∨ fldw (BitVec.ofNat 32 c) ≤ u) (h1 : 256 ≤ c + 2 * m ∨ u < fldw (BitVec.ofNat 32 (c + 2 * m))) (h2 : c + 2 * m ≤ 256) :
    (bstep u m c = 0 ∨ fldw (BitVec.ofNat 32 (bstep u m c)) ≤ u) ∧ (256 ≤ bstep u m c + m ∨ u < fldw (BitVec.ofNat 32 (bstep u m c + m))) ∧ bstep u m c + m ≤ 256 := by
  unfold bstep
  by_cases h : u < fldw (BitVec.ofNat 32 (c + m))
  · rw [if_pos h]; exact ⟨h0, .inr h, by omega⟩
  · rw [if_neg h]
    refine ⟨.inr (not_lt.mp h), ?_, by omega⟩
    rw [show c + m + m = c + 2 * m by omega]; exact h1

/-- The search ends on the greatest field whose value is at most `u`, or on zero. -/
theorem bfield_spec (u : EReal) : (bfield u = 0 ∨ fldw (BitVec.ofNat 32 (bfield u)) ≤ u) ∧ (256 ≤ bfield u + 1 ∨ u < fldw (BitVec.ofNat 32 (bfield u + 1))) ∧ bfield u + 1 ≤ 256 := by
  obtain ⟨a1, b1, c1⟩ := bstep_inv (u := u) (c := 0) (m := 128) (.inl rfl) (.inl (by omega)) (by omega)
  obtain ⟨a2, b2, c2⟩ := bstep_inv (m := 64) a1 b1 c1
  obtain ⟨a3, b3, c3⟩ := bstep_inv (m := 32) a2 b2 c2
  obtain ⟨a4, b4, c4⟩ := bstep_inv (m := 16) a3 b3 c3
  obtain ⟨a5, b5, c5⟩ := bstep_inv (m := 8) a4 b4 c4
  obtain ⟨a6, b6, c6⟩ := bstep_inv (m := 4) a5 b5 c5
  obtain ⟨a7, b7, c7⟩ := bstep_inv (m := 2) a6 b6 c6
  exact bstep_inv (m := 1) a7 b7 c7

/-- The search finds the greatest field whose power of two is at most `u`. -/
theorem le_bfield (u : EReal) (f : ℕ) (hf : f < 256) (h : fldw (BitVec.ofNat 32 f) ≤ u) : f ≤ bfield u := by
  obtain ⟨_, h1, h2⟩ := bfield_spec u
  by_contra hc
  rcases h1 with h1 | h1
  · omega
  · exact absurd (lt_of_lt_of_le h1 ((fld_mono (by omega) hf).trans h)) (lt_irrefl _)

/-- The field found is one of the 256. -/
theorem bfield_lt (u : EReal) : bfield u < 256 := by have := (bfield_spec u).2.2; omega

/-- The exponent of a field. -/
def eOf (r : BitVec 32) : BitVec 32 := Scalar.select (IntOp.cmpi .eq r 0#32) 0#32 (IntOp.subi r 126#32)
/-- The scale, and its inverse, of a magnitude. -/
def ysOf (a : EReal) : EReal := fldw (IntOp.addi (eOf (BitVec.ofNat 32 (bfield (a * Ideal.ofBits .f32 0x3B124925#32)))) 127#32)
/-- The factor by which a token of greatest magnitude `a` is multiplied before it is clipped. -/
def invOf (a : EReal) : EReal := fldw (IntOp.subi 127#32 (eOf (BitVec.ofNat 32 (bfield (a * Ideal.ofBits .f32 0x3B124925#32)))))

/-- The search's step on words. -/
def wstep (u : EReal) (m c : BitVec 32) : BitVec 32 :=
  Scalar.select (FloatOps.cmpf (F := Ideal) (φ := .f32) .olt u (fldw (IntOp.addi c m))) c (IntOp.addi c m)

/-- The step on words is the step on numbers. -/
theorem wstep_eq (u : EReal) (m c : ℕ) : wstep u (BitVec.ofNat 32 m) (BitVec.ofNat 32 c) = BitVec.ofNat 32 (bstep u m c) := by
  have h : IntOp.addi (BitVec.ofNat 32 c) (BitVec.ofNat 32 m) = BitVec.ofNat 32 (c + m) := (BitVec.ofNat_add c m).symm
  unfold wstep bstep
  rw [h]
  show Scalar.select (BitVec.ofBool (decide (u < fldw (BitVec.ofNat 32 (c + m))))) _ _ = _
  rw [select_ofBool]
  split <;> rfl

/-- The search's step on every lane. -/
def vstep (u : FVec Ideal S1x256 .f32) (m : BitVec 32) (b : IVec S1x256 32) : IVec S1x256 32 :=
  select (cmpf .olt u (bitcastToFloat .f32 (shli (addi b (broadcast S1x256 m)) (broadcast S1x256 23#32)))) b (addi b (broadcast S1x256 m))

/-- The step on a row, at one entry. -/
theorem vstep_at (u : FVec Ideal S1x256 .f32) (m : BitVec 32) (b : IVec S1x256 32) (j : S1x256.Idx) : vstep u m b j = wstep (u j) m (b j) := rfl

/-- The first three steps of the search, at one token. -/
theorem k0_pay79_at (v : FVec Ideal S8x256 .f32) (l : Fin 256) :
    k0_pay79 (F := Ideal) v (ix2 0 l) = wstep (k0_pay78 v (ix2 0 l)) 32#32 (wstep (k0_pay78 v (ix2 0 l)) 64#32 (wstep (k0_pay78 v (ix2 0 l)) 128#32 0#32)) := by
  have e : k0_pay79 (F := Ideal) v = vstep (k0_pay78 v) 32#32 (vstep (k0_pay78 v) 64#32 (vstep (k0_pay78 v) 128#32 (broadcast S1x256 0#32))) := by
    unfold k0_pay79 vstep; rfl
  rw [e, vstep_at, vstep_at, vstep_at]; rfl

/-- The exponent on every lane. -/
def vexp (b : IVec S1x256 32) : IVec S1x256 32 :=
  select (cmpi .eq b (broadcast S1x256 0#32)) (broadcast S1x256 0#32) (subi b (broadcast S1x256 126#32))

/-- The exponent of a row of fields, at one entry. -/
theorem vexp_at (b : IVec S1x256 32) (j : S1x256.Idx) : vexp b j = eOf (b j) := rfl

/-- The last five steps of the search and the exponent, at one token. -/
theorem k0_pay80_at (u : FVec Ideal S1x256 .f32) (b : IVec S1x256 32) (l : Fin 256) :
    k0_pay80 (F := Ideal) u b 16#32 (ix2 0 l) = eOf (wstep (u (ix2 0 l)) 1#32 (wstep (u (ix2 0 l)) 2#32 (wstep (u (ix2 0 l)) 4#32 (wstep (u (ix2 0 l)) 8#32 (wstep (u (ix2 0 l)) 16#32 (b (ix2 0 l))))))) := by
  have e : k0_pay80 (F := Ideal) u b 16#32 = vexp (vstep u 1#32 (vstep u 2#32 (vstep u 4#32 (vstep u 8#32 (vstep u 16#32 b))))) := by
    unfold k0_pay80 vstep vexp; rfl
  rw [e, vexp_at, vstep_at, vstep_at, vstep_at, vstep_at, vstep_at]

/-- The middle points' search is the first point's. -/
theorem k0_pay104_eq (v : FVec Ideal S8x256 .f32) :
    k0_pay104 (F := Ideal) (k0_pay100 v) (k0_pay101 v) (k0_pay102 v) (k0_pay103 v) = k0_pay80 (F := Ideal) (k0_pay78 v) (k0_pay79 v) 16#32 := by
  unfold k0_pay104 k0_pay80 k0_pay79 k0_pay103 k0_pay102 k0_pay101 k0_pay100 k0_pay78; rfl

/-- The scaled greatest magnitude of a token. -/
theorem k0_pay78_at (v : FVec Ideal S8x256 .f32) (l : Fin 256) (M : EReal) (h : ∀ b : EReal, (∀ g, v (ix2 g l) ≤ b) ↔ M ≤ b) :
    k0_pay78 (F := Ideal) v (ix2 0 l) = M * Ideal.ofBits .f32 0x3B124925#32 := by
  have e : k0_pay78 (F := Ideal) v (ix2 0 l) = Finset.fold max (Ideal.ofBits .f32 0xFF800000#32) (fun x => v (ix2 x l)) Finset.univ * Ideal.ofBits .f32 0x3B124925#32 := by
    pointwise [k0_pay78]
  rw [e]
  congr 1
  refine eq_of_forall_ge_iff fun b => ?_
  rw [Finset.fold_max_le, ← h b]
  have hb : Ideal.ofBits .f32 0xFF800000#32 = (⊥ : EReal) := by simp [Ideal.ofBits, Ideal.ieee]
  rw [hb]
  simp

/-- The exponent from the running maxima of the eight row groups. -/
theorem e_at (v : FVec Ideal S8x256 .f32) (l : Fin 256) (M : EReal) (h : ∀ b : EReal, (∀ g, v (ix2 g l) ≤ b) ↔ M ≤ b) :
    k0_pay80 (F := Ideal) (k0_pay78 v) (k0_pay79 v) 16#32 (ix2 0 l) = eOf (BitVec.ofNat 32 (bfield (M * Ideal.ofBits .f32 0x3B124925#32))) := by
  rw [k0_pay80_at, k0_pay79_at, k0_pay78_at v l M h]
  exact congrArg eOf (by unfold bfield; simp only [← wstep_eq])

/-- The stored inverse scale, at the first point. -/
theorem k0_pay2_at (v : IVec S1x256 32) (g : Fin 8) (l : Fin 256) : k0_pay2 (F := Ideal) v (ix2 g l) = fldw (IntOp.subi 127#32 (v (ix2 0 l))) := by
  unfold fldw
  pointwise [k0_pay2]

/-- The stored scale, from its field. -/
theorem k0_pay3_at (v : IVec S1x256 32) (l : Fin 256) : k0_pay3 (F := Ideal) v 23#32 (ix2 0 l) = fldw (v (ix2 0 l)) := by
  unfold fldw
  pointwise [k0_pay3]

/-- The stored scale, from its exponent. -/
theorem k0_pay81_at (u : FVec Ideal S1x256 .f32) (b : IVec S1x256 32) (l : Fin 256) : k0_pay81 (F := Ideal) u b 16#32 (ix2 0 l) = fldw (IntOp.addi (k0_pay80 (F := Ideal) u b 16#32 (ix2 0 l)) 127#32) := by
  unfold fldw
  pointwise [k0_pay81]

/-- The scale's field, from its exponent. -/
theorem k0_pay105_at (u : FVec Ideal S1x256 .f32) (a b : IVec S1x256 32) (p : FVec Ideal S1x256 .f32) (l : Fin 256) :
    k0_pay105 (F := Ideal) u a b p (ix2 0 l) = IntOp.addi (k0_pay104 (F := Ideal) u a b p (ix2 0 l)) 127#32 := by
  pointwise [k0_pay105]

/-- The stored inverse scale, at the middle points. -/
theorem k0_pay4_at (v : IVec S1x256 32) (g : Fin 8) (l : Fin 256) : k0_pay4 (F := Ideal) v (ix2 g l) = fldw (IntOp.subi 127#32 (v (ix2 0 l))) := by
  unfold fldw
  pointwise [k0_pay4]

end Cert.ConvIdeal.Value

end
-- ==== Proof.Value.T4.lean ====
/- The loop that convolves a block of tokens while it quantises the block before. -/
module

public import proofs.«01_k».proof.Proof.Value.Tile

@[expose] public section

set_option maxRecDepth 16384

noncomputable section

namespace Cert.ConvIdeal.Value

open Idealize.ShloMosaic Idealize.ShloMosaic.TcCoe Idealize.SL.Sem
open Cert.ConvIdeal Cert.ConvIdeal.Gen Cert.ConvIdeal.Body

/-- The last columns of the codes, kept as they are. -/
theorem k0_pay87_at (v : FVec Ideal S64x128 .fp8e4m3) (a : Fin 64) (b : Fin 128) : k0_pay87 (F := Ideal) v (ix2 a b) = v (ix2 a b) := by
  pointwise [k0_pay87]

/-- A value confined to the codes' range. -/
def clip (x : EReal) : EReal := min (Ideal.ofBits .f32 0x43E00000#32) (max (Ideal.ofBits .f32 0xC3E00000#32) x)

/-- A code is the activation times the inverse scale, clipped. -/
theorem k0_pay82_at (v : FVec Ideal S1x256 .f32) (w : FVec Ideal S64x256 .f32) (a : Fin 64) (b : Fin 256) :
    k0_pay82 (F := Ideal) v w (ix2 a b) = clip (w (ix2 a b) * v (ix2 0 b)) := by
  pointwise [k0_pay82, clip]

/-- Sixteen rows of scales repeated to sixty-four. -/
theorem k0_pay94_at (v : FVec Ideal S16x256 .bf16) (a : Fin 64) (b : Fin 256) : k0_pay94 (F := Ideal) v (ix2 a b) = v (ix2 ⟨a.val % 16, by omega⟩ b) := by
  pointwise [k0_pay94]
  split_ifs <;> exact congrArg (fun z => v (ix2 z b)) (Fin.ext (by simp only; omega))

/-- Sixteen rows of scales repeated to sixty-four. -/
theorem k0_pay95_at (v : FVec Ideal S16x256 .bf16) (a : Fin 64) (b : Fin 256) : k0_pay95 (F := Ideal) v (ix2 a b) = v (ix2 ⟨a.val % 16, by omega⟩ b) := by
  pointwise [k0_pay95]
  split_ifs <;> exact congrArg (fun z => v (ix2 z b)) (Fin.ext (by simp only; omega))

/-- Sixteen rows of scales repeated to sixty-four. -/
theorem k0_pay96_at (v : FVec Ideal S16x256 .bf16) (a : Fin 64) (b : Fin 256) : k0_pay96 (F := Ideal) v (ix2 a b) = v (ix2 ⟨a.val % 16, by omega⟩ b) := by
  pointwise [k0_pay96]
  split_ifs <;> exact congrArg (fun z => v (ix2 z b)) (Fin.ext (by simp only; omega))

/-- Sixteen rows of scales repeated to sixty-four. -/
theorem k0_pay97_at (v : FVec Ideal S16x256 .bf16) (a : Fin 64) (b : Fin 256) : k0_pay97 (F := Ideal) v (ix2 a b) = v (ix2 ⟨a.val % 16, by omega⟩ b) := by
  pointwise [k0_pay97]
  split_ifs <;> exact congrArg (fun z => v (ix2 z b)) (Fin.ext (by simp only; omega))

section

variable (c : Dev nD) (i : grid0.Coords) (arg2 : Memref sig .tc .vmem S16384x256 .fp8e4m3) (harg2 : arg2.IsWhole) (arg3 : Memref sig .tc .vmem S1x256 .f32) (harg3 : arg3.IsWhole) (arg4 : Memref sig .tc .vmem S4x16384 .bf16) (harg4 : arg4.IsWhole) (arg5 : Memref sig .tc .vmem S1x16384 .bf16) (harg5 : arg5.IsWhole) (arg6 : Memref sig .tc .vmem S16384x256 .fp8e4m3) (harg6 : arg6.IsWhole) (arg7 : Memref sig .tc .vmem S1x256 .f32) (harg7 : arg7.IsWhole) (arg8 : Memref sig .tc .vmem S64x16384 .bf16) (harg8 : arg8.IsWhole) (arg9 : Memref sig .tc .vmem S16384x256 .f32) (harg9 : arg9.IsWhole) (arg10 : Memref sig .tc .vmem S16384x256 .bf16) (harg10 : arg10.IsWhole) (arg11 : Memref sig .tc .vmem S16384x128 .f32) (harg11 : arg11.IsWhole) (arg12 : Memref sig .tc .vmem S16384x128 .fp8e4m3) (harg12 : arg12.IsWhole) (arg13 : Memref sig .tc .vmem S64x256 .bf16) (harg13 : arg13.IsWhole) (arg14 : Memref sig .tc .vmem S8x256 .f32) (harg14 : arg14.IsWhole) (arg15 : Memref sig .tc .vmem S8x128 .f32) (harg15 : arg15.IsWhole)
  (v0 : IVec S1x128 32) (hv0 : ∀ l : Fin 128, v0 (ix2 0 l) = BitVec.ofNat 32 l.val) (h5 : k0_cond5 i = 1#1)
  (v18 v20 v22 v24 : FVec Ideal S16x256 .bf16) (v26 : FVec Ideal S1x256 .f32)
  (X2 : BufTy.Contents (Elt Ideal) arg2.view.ty) (X10 : BufTy.Contents (Elt Ideal) arg10.view.ty) (X11 : BufTy.Contents (Elt Ideal) arg11.view.ty)
  (G6 : BufTy.Contents (Elt Ideal) arg6.view.ty) (G9 : BufTy.Contents (Elt Ideal) arg9.view.ty) (G12 : BufTy.Contents (Elt Ideal) arg12.view.ty)
  (init : FVec Ideal S8x256 .f32)
  (g0 g1 g2 g3 : Fin 256 → EReal) (hg0 : ∀ a l, v18 (ix2 a l) = g0 l) (hg1 : ∀ a l, v20 (ix2 a l) = g1 l) (hg2 : ∀ a l, v22 (ix2 a l) = g2 l) (hg3 : ∀ a l, v24 (ix2 a l) = g3 l)
  (X : S16384x256.Idx → EReal) (P : S16384x128.Idx → EReal) (D : S16384x256.Idx → EReal) (B : S16384x128.Idx → EReal)
  (hX : arg2.view.read (Elt Ideal) X2 = X) (hP : arg12.view.read (Elt Ideal) G12 = P) (hD : arg10.view.read (Elt Ideal) X10 = D) (hB : arg11.view.read (Elt Ideal) X11 = B)
  (hdiag : ∀ (q : Fin 16384) (j : Fin 256), j.val % 64 ≠ q.val % 64 → D (ix2 q j) = 0)

include hX in
/-- The previous columns after `k` trips. -/
theorem t4_prev (k : ℕ) (hk : k ≤ 256) (q : Fin 16384) (l : Fin 128) :
    arg12.view.read (Elt Ideal) (arg12.view.writes (Elt Ideal) G12 (st_k0_t4 (F := Ideal) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 v0 h5 v18 v20 v22 v24 v26 X2 X10 X11 G6 G9 G12 init k).2.2.2) (ix2 q l)
      = if q.val < 64 * k then X (ix2 q ⟨128 + l.val, by omega⟩) else arg12.view.read (Elt Ideal) G12 (ix2 q l) := by
  refine rows_written (n := k0_t4_loop.trips) (W := 64) arg12.view G12 (off := k0_off14) (size := ![64, 128]) (fun k => k0_off14_inb i k h5)
    (fun k => k0_pay87 (arg2.view.readAt (Elt Ideal) (Rect.unit (k0_off15 k) ![64, 128] (k0_off15_inb i k h5)).toLoadRect X2))
    (fun k => (st_k0_t4 (F := Ideal) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 v0 h5 v18 v20 v22 v24 v26 X2 X10 X11 G6 G9 G12 init k).2.2.2) rfl (fun k => ?_) off14_eq rfl rfl (fun y => X (ix2 (y 0) ⟨128 + (y 1).val, by have := (y 1).isLt; simp at this; omega⟩)) (fun k x y _ h0 h1 => ?_) k hk (ix2 q l)
  · simp only [st_k0_t4_succ]
    unfold trip_k0_t4
    rfl
  · subst hX
    obtain ⟨a, b, rfl⟩ : ∃ (a : Fin 64) (b : Fin 128), x = ix2 a b := ⟨x 0, x 1, eq_ix2 x⟩
    refine (k0_pay87_at _ a b).trans ?_
    exact readAt_rows _ _ _ (64 * k.val) 128 (off15_eq k) _ _ h0 (congrArg (128 + ·) h1)

include hX hP hD hB hg0 hg1 hg2 hg3 in
/-- The chunk a trip convolves, from what the trip reads. -/
theorem t4_chunk (k : Fin k0_t4_loop.trips) (q : Fin 64) (l : Fin 256) :
    silu (pre (rdW arg2.view (k0_off13 k) (k0_off13_inb i k h5) X2) (rdW arg12.view (k0_off14 k) (k0_off14_inb i k h5) (arg12.view.writes (Elt Ideal) G12 (st_k0_t4 (F := Ideal) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 v0 h5 v18 v20 v22 v24 v26 X2 X10 X11 G6 G9 G12 init k.val).2.2.2)) (k0_pay94 v18) (k0_pay95 v20) (k0_pay96 v22) (k0_pay97 v24) (rdW arg10.view (k0_off13 k) (k0_off13_inb i k h5) X10) (rdW arg11.view (k0_off14 k) (k0_off14_inb i k h5) X11) q l) = conv X P D B g0 g1 g2 g3 (rw64 k.val k.isLt q) l := by
  subst hX hP hD hB
  refine silu_pre _ _ _ _ g0 g1 g2 g3 k.val k.isLt _ _ _ _ _ _ _ _ (fun q l => ?_) (fun q l => ?_) (fun q l => ?_) (fun q l => ?_) (fun q l => ?_) (fun q l => ?_) (fun q l => ?_) (fun q l => ?_) q l
  · exact rdW_at _ _ _ _ (off13_eq k) q l
  · refine (rdW_at _ _ _ _ (off14_eq k) q l).trans ?_
    refine (t4_prev (X := arg2.view.read (Elt Ideal) X2) (hX := rfl) (hk := Nat.le_of_lt k.isLt) ..).trans (if_neg ?_)
    show ¬ 64 * k.val + q.val < _; omega
  · exact rdW_at _ _ _ _ (off13_eq k) q l
  · exact rdW_at _ _ _ _ (off14_eq k) q l
  · exact (k0_pay94_at v18 q l).trans (hg0 _ l)
  · exact (k0_pay95_at v20 q l).trans (hg1 _ l)
  · exact (k0_pay96_at v22 q l).trans (hg2 _ l)
  · exact (k0_pay97_at v24 q l).trans (hg3 _ l)

include hD hdiag in
/-- The rows read of the tap matrix are zero off their diagonals. -/
theorem t4_diag (k : Fin k0_t4_loop.trips) (q : Fin 64) (j : Fin 256) (hj : j.val % 64 ≠ q.val) : (rdW arg10.view (k0_off13 k) (k0_off13_inb i k h5) X10) (ix2 q j) = (0 : EReal) := by
  subst hD
  refine (rdW_at _ _ _ _ (off13_eq k) q j).trans (hdiag _ _ ?_)
  show _ ≠ (64 * k.val + q.val) % 64
  omega

include hv0 hX hP hD hB hdiag hg0 hg1 hg2 hg3 in
/-- The activations stored after `k` trips. -/
theorem t4_rows (k : ℕ) (hk : k ≤ 256) (q : Fin 16384) (l : Fin 256) :
    arg9.view.read (Elt Ideal) (arg9.view.writes (Elt Ideal) G9 (st_k0_t4 (F := Ideal) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 v0 h5 v18 v20 v22 v24 v26 X2 X10 X11 G6 G9 G12 init k).2.2.1) (ix2 q l)
      = if q.val < 64 * k then conv X P D B g0 g1 g2 g3 q l else arg9.view.read (Elt Ideal) G9 (ix2 q l) := by
  refine rows_written (n := k0_t4_loop.trips) (W := 64) arg9.view G9 (off := k0_off13) (size := ![64, 256]) (fun k => k0_off13_inb i k h5)
    (fun k => k0_pay91 v0 (k0_pay94 v18) (k0_pay95 v20) (k0_pay96 v22) (k0_pay83 (rdW arg2.view (k0_off13 k) (k0_off13_inb i k h5) X2)) (k0_pay84 (rdW arg2.view (k0_off13 k) (k0_off13_inb i k h5) X2)) (k0_pay85 (rdW arg2.view (k0_off13 k) (k0_off13_inb i k h5) X2)) (k0_pay86 (rdW arg12.view (k0_off14 k) (k0_off14_inb i k h5) (arg12.view.writes (Elt Ideal) G12 (st_k0_t4 (F := Ideal) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 v0 h5 v18 v20 v22 v24 v26 X2 X10 X11 G6 G9 G12 init k.val).2.2.2))) (k0_pay88 v0 (k0_pay97 v24) (rdW arg2.view (k0_off13 k) (k0_off13_inb i k h5) X2) (rdW arg12.view (k0_off14 k) (k0_off14_inb i k h5) (arg12.view.writes (Elt Ideal) G12 (st_k0_t4 (F := Ideal) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 v0 h5 v18 v20 v22 v24 v26 X2 X10 X11 G6 G9 G12 init k.val).2.2.2))) k0_pay89 (rdW arg10.view (k0_off13 k) (k0_off13_inb i k h5) X10) (rdW arg11.view (k0_off14 k) (k0_off14_inb i k h5) X11))
    (fun k => (st_k0_t4 (F := Ideal) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 v0 h5 v18 v20 v22 v24 v26 X2 X10 X11 G6 G9 G12 init k).2.2.1) rfl (fun k => ?_) off13_eq rfl rfl (fun y => conv X P D B g0 g1 g2 g3 (y 0) (y 1)) (fun k x y _ h0 h1 => ?_) k hk (ix2 q l)
  · simp only [st_k0_t4_succ]
    unfold trip_k0_t4 trip_k0_t4.sl.r trip_k0_t4.sl.r_1 trip_k0_t4.sl.r_2 trip_k0_t4.sl.r_3 trip_k0_t4.sl.r_4
    rfl
  · obtain ⟨a, b, rfl⟩ : ∃ (a : Fin 64) (b : Fin 256), x = ix2 a b := ⟨x 0, x 1, eq_ix2 x⟩
    refine (k0_pay91_at v0 hv0 _ _ _ _ _ _ _ _ (fun q j hj => t4_diag (i := i) (arg10 := arg10) (X10 := X10) (h5 := h5) (hD := hD) (hdiag := hdiag) (k := k) (q := q) (j := j) (hj := hj)) a b).trans ?_
    refine (t4_chunk (hX := hX) (hP := hP) (hD := hD) (hB := hB) (hg0 := hg0) (hg1 := hg1) (hg2 := hg2) (hg3 := hg3) ..).trans ?_
    exact congrArg₂ (conv X P D B g0 g1 g2 g3) (Fin.ext h0.symm) (Fin.ext h1.symm)

include hv0 hX hP hD hB hdiag hg0 hg1 hg2 hg3 in
/-- The codes stored after `k` trips. -/
theorem t4_codes (k : ℕ) (hk : k ≤ 256) (q : Fin 16384) (l : Fin 256) :
    arg6.view.read (Elt Ideal) (arg6.view.writes (Elt Ideal) G6 (st_k0_t4 (F := Ideal) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 v0 h5 v18 v20 v22 v24 v26 X2 X10 X11 G6 G9 G12 init k).2.1) (ix2 q l)
      = if q.val < 64 * k then clip (arg9.view.read (Elt Ideal) G9 (ix2 q l) * v26 (ix2 0 l)) else arg6.view.read (Elt Ideal) G6 (ix2 q l) := by
  refine rows_written (n := k0_t4_loop.trips) (W := 64) arg6.view G6 (off := k0_off13) (size := ![64, 256]) (fun k => k0_off13_inb i k h5)
    (fun k => k0_pay82 v26 (rdW arg9.view (k0_off13 k) (k0_off13_inb i k h5) (arg9.view.writes (Elt Ideal) G9 (st_k0_t4 (F := Ideal) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 v0 h5 v18 v20 v22 v24 v26 X2 X10 X11 G6 G9 G12 init k.val).2.2.1)))
    (fun k => (st_k0_t4 (F := Ideal) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 v0 h5 v18 v20 v22 v24 v26 X2 X10 X11 G6 G9 G12 init k).2.1) rfl (fun k => ?_) off13_eq rfl rfl (fun y => clip (arg9.view.read (Elt Ideal) G9 y * v26 (ix2 0 (y 1)))) (fun k x y _ h0 h1 => ?_) k hk (ix2 q l)
  · simp only [st_k0_t4_succ]
    unfold trip_k0_t4
    rfl
  · obtain ⟨a, b, rfl⟩ : ∃ (a : Fin 64) (b : Fin 256), x = ix2 a b := ⟨x 0, x 1, eq_ix2 x⟩
    refine (k0_pay82_at v26 _ a b).trans ?_
    obtain ⟨c0, d0, rfl⟩ : ∃ (a : Fin 16384) (b : Fin 256), y = ix2 a b := ⟨y 0, y 1, eq_ix2 y⟩
    have hb : b = d0 := Fin.ext h1.symm
    have ha : rw64 k.val k.isLt a = c0 := Fin.ext h0.symm
    subst hb ha
    refine congrArg clip (congrArg (· * v26 (ix2 0 b)) ((rdW_at _ _ _ _ (off13_eq k) a b).trans ?_))
    refine (t4_rows (hv0 := hv0) (hdiag := hdiag) (hX := hX) (hP := hP) (hD := hD) (hB := hB) (hg0 := hg0) (hg1 := hg1) (hg2 := hg2) (hg3 := hg3) (hk := Nat.le_of_lt k.isLt) ..).trans (if_neg ?_)
    show ¬ 64 * k.val + a.val < _; omega

include hv0 hX hP hD hB hdiag hg0 hg1 hg2 hg3 in
/-- One trip of the running maximum, by its bounds. -/
theorem t4_step (k : Fin k0_t4_loop.trips) (g : Fin 8) (l : Fin 256) (b : EReal) :
    (st_k0_t4 (F := Ideal) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 v0 h5 v18 v20 v22 v24 v26 X2 X10 X11 G6 G9 G12 init (k.val + 1)).1 (ix2 g l) ≤ b ↔ (st_k0_t4 (F := Ideal) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 v0 h5 v18 v20 v22 v24 v26 X2 X10 X11 G6 G9 G12 init k.val).1 (ix2 g l) ≤ b ∧ ∀ q : Fin 64, q.val % 8 = g.val → eabs (conv X P D B g0 g1 g2 g3 (rw64 k.val k.isLt q) l) ≤ b := by
  have e1 : (st_k0_t4 (F := Ideal) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 v0 h5 v18 v20 v22 v24 v26 X2 X10 X11 G6 G9 G12 init (k.val + 1)).1 = k0_pay99 (k0_pay90 v0 (k0_pay94 v18) (k0_pay95 v20) (k0_pay96 v22) (k0_pay83 (rdW arg2.view (k0_off13 k) (k0_off13_inb i k h5) X2)) (k0_pay84 (rdW arg2.view (k0_off13 k) (k0_off13_inb i k h5) X2)) (k0_pay85 (rdW arg2.view (k0_off13 k) (k0_off13_inb i k h5) X2)) (k0_pay86 (rdW arg12.view (k0_off14 k) (k0_off14_inb i k h5) (arg12.view.writes (Elt Ideal) G12 (st_k0_t4 (F := Ideal) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 v0 h5 v18 v20 v22 v24 v26 X2 X10 X11 G6 G9 G12 init k.val).2.2.2))) (k0_pay88 v0 (k0_pay97 v24) (rdW arg2.view (k0_off13 k) (k0_off13_inb i k h5) X2) (rdW arg12.view (k0_off14 k) (k0_off14_inb i k h5) (arg12.view.writes (Elt Ideal) G12 (st_k0_t4 (F := Ideal) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 v0 h5 v18 v20 v22 v24 v26 X2 X10 X11 G6 G9 G12 init k.val).2.2.2))) k0_pay89 (rdW arg10.view (k0_off13 k) (k0_off13_inb i k h5) X10) (rdW arg11.view (k0_off14 k) (k0_off14_inb i k h5) X11)) (k0_pay92 v0 (k0_pay94 v18) (k0_pay95 v20) (k0_pay96 v22) (st_k0_t4 (F := Ideal) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 v0 h5 v18 v20 v22 v24 v26 X2 X10 X11 G6 G9 G12 init k.val).1 (k0_pay83 (rdW arg2.view (k0_off13 k) (k0_off13_inb i k h5) X2)) (k0_pay84 (rdW arg2.view (k0_off13 k) (k0_off13_inb i k h5) X2)) (k0_pay85 (rdW arg2.view (k0_off13 k) (k0_off13_inb i k h5) X2)) (k0_pay86 (rdW arg12.view (k0_off14 k) (k0_off14_inb i k h5) (arg12.view.writes (Elt Ideal) G12 (st_k0_t4 (F := Ideal) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 v0 h5 v18 v20 v22 v24 v26 X2 X10 X11 G6 G9 G12 init k.val).2.2.2))) (k0_pay88 v0 (k0_pay97 v24) (rdW arg2.view (k0_off13 k) (k0_off13_inb i k h5) X2) (rdW arg12.view (k0_off14 k) (k0_off14_inb i k h5) (arg12.view.writes (Elt Ideal) G12 (st_k0_t4 (F := Ideal) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 v0 h5 v18 v20 v22 v24 v26 X2 X10 X11 G6 G9 G12 init k.val).2.2.2))) k0_pay89 (rdW arg10.view (k0_off13 k) (k0_off13_inb i k h5) X10) (rdW arg11.view (k0_off14 k) (k0_off14_inb i k h5) X11)) (k0_pay93 v0 (k0_pay94 v18) (k0_pay95 v20) (k0_pay96 v22) (k0_pay83 (rdW arg2.view (k0_off13 k) (k0_off13_inb i k h5) X2)) (k0_pay84 (rdW arg2.view (k0_off13 k) (k0_off13_inb i k h5) X2)) (k0_pay85 (rdW arg2.view (k0_off13 k) (k0_off13_inb i k h5) X2)) (k0_pay86 (rdW arg12.view (k0_off14 k) (k0_off14_inb i k h5) (arg12.view.writes (Elt Ideal) G12 (st_k0_t4 (F := Ideal) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 v0 h5 v18 v20 v22 v24 v26 X2 X10 X11 G6 G9 G12 init k.val).2.2.2))) (k0_pay88 v0 (k0_pay97 v24) (rdW arg2.view (k0_off13 k) (k0_off13_inb i k h5) X2) (rdW arg12.view (k0_off14 k) (k0_off14_inb i k h5) (arg12.view.writes (Elt Ideal) G12 (st_k0_t4 (F := Ideal) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 v0 h5 v18 v20 v22 v24 v26 X2 X10 X11 G6 G9 G12 init k.val).2.2.2))) k0_pay89 (rdW arg10.view (k0_off13 k) (k0_off13_inb i k h5) X10) (rdW arg11.view (k0_off14 k) (k0_off14_inb i k h5) X11)) := by
    simp only [st_k0_t4_succ]
    unfold tripR_k0_t4 trip_k0_t4 trip_k0_t4.sl.r_5 trip_k0_t4.sl.r_6 trip_k0_t4.sl.r_7 trip_k0_t4.sl.r trip_k0_t4.sl.r_1 trip_k0_t4.sl.r_2 trip_k0_t4.sl.r_3 trip_k0_t4.sl.r_4
    rfl
  rw [e1]
  refine (k0_pay99_at v0 hv0 _ _ _ _ _ _ _ _ (fun q j hj => t4_diag (i := i) (arg10 := arg10) (X10 := X10) (h5 := h5) (hD := hD) (hdiag := hdiag) (k := k) (q := q) (j := j) (hj := hj)) _ _ _ _).trans ?_
  exact and_congr Iff.rfl (forall_congr' fun q => forall_congr' fun _ => Iff.of_eq (congrArg (fun z => eabs z ≤ b) (t4_chunk (hX := hX) (hP := hP) (hD := hD) (hB := hB) (hg0 := hg0) (hg1 := hg1) (hg2 := hg2) (hg3 := hg3) ..)))

include hv0 hX hP hD hB hdiag hg0 hg1 hg2 hg3 in
/-- The running maximum after `k` trips, by its bounds. -/
theorem t4_max (k : ℕ) (hk : k ≤ 256) (g : Fin 8) (l : Fin 256) (b : EReal) :
    (st_k0_t4 (F := Ideal) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 v0 h5 v18 v20 v22 v24 v26 X2 X10 X11 G6 G9 G12 init k).1 (ix2 g l) ≤ b ↔ init (ix2 g l) ≤ b ∧ ∀ q : Fin 16384, q.val < 64 * k → q.val % 8 = g.val → eabs (conv X P D B g0 g1 g2 g3 q l) ≤ b := by
  refine acc_rows (fun q => conv X P D B g0 g1 g2 g3 q l) _ g (fun k => (st_k0_t4 (F := Ideal) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 v0 h5 v18 v20 v22 v24 v26 X2 X10 X11 G6 G9 G12 init k).1 (ix2 g l)) rfl (fun k hk b => ?_) k hk b
  exact t4_step (hv0 := hv0) (hdiag := hdiag) (hX := hX) (hP := hP) (hD := hD) (hB := hB) (hg0 := hg0) (hg1 := hg1) (hg2 := hg2) (hg3 := hg3) (k := ⟨k, hk⟩) (g := g) ..

end

end Cert.ConvIdeal.Value

end
-- ==== Proof.Value.StepB.lean ====
/- What the body leaves at a point past the first and before the last, entry by entry. -/
module

public import proofs.«01_k».proof.Proof.Value.Sig
public import proofs.«01_k».proof.Proof.Value.Field
public import proofs.«01_k».proof.Proof.Value.T4
public import proofs.«01_k».proof.Proof.Body.ConvIdeal.Steps

@[expose] public section

set_option maxRecDepth 16384

noncomputable section

namespace Cert.ConvIdeal.Value

open Idealize.ShloMosaic Idealize.ShloMosaic.TcCoe Idealize.SL.Sem
open Cert.ConvIdeal Cert.ConvIdeal.Gen Cert.ConvIdeal.Body

/-- Entry `b` of the sequences' limits. -/
def cuw (c : Dev nD) (xt0 : TbBuf0 (F := Ideal) c tbM0_0) (b : ℕ) : BitVec 32 :=
  tbM0_0.view.readAt (Elt Ideal) (Rect.unit (s := S10) ![b % 10] S1.size (fun a => by have := Nat.mod_lt b (show 0 < 10 by decide); fin_cases a; show b % 10 + 1 ≤ 10; omega)).toLoadRect xt0 (Shape.Idx.first (show 0 < S1.numel by decide))

/-- The lanes' numbers. -/
def lanes : IVec S1x128 32 := iota .tc S1x128 32 [1] iota_S1x128_d1_w32

/-- The lane numbers. -/
theorem lanes_at (l : Fin 128) : lanes (ix2 0 l) = BitVec.ofNat 32 l.val := by
  unfold lanes
  pointwise

/-- A buffer's whole contents read as a vector. -/
theorem readAt_zero {W H w h : ℕ} {κ : Kind} {sp : Space} {e : EltTy} (M : Memref sig κ sp (⟨2, ![H, W]⟩ : Shape) e) (hM : M.IsWhole) (x : (⟨2, ![H, W]⟩ : Shape).Idx → Elt Ideal e)
    (inb : ∀ a : Fin 2, (![0, 0] : Fin 2 → ℕ) a + (![h, w] : Fin 2 → ℕ) a ≤ (![H, W] : Fin 2 → ℕ) a) (a : Fin h) (b : Fin w) (a' : Fin H) (b' : Fin W) (ha : a'.val = a.val) (hb : b'.val = b.val) :
    M.view.readAt (Elt Ideal) (Rect.unit (s := ⟨2, ![H, W]⟩) ![0, 0] ![h, w] inb).toLoadRect (hM.unread x) (ix2 a b) = x (ix2 a' b') := by
  refine (readAt_rows (Val := Elt Ideal) M.view _ inb 0 0 rfl _ (ix2 a' b') (by show a'.val = 0 + a.val; omega) (by show b'.val = 0 + b.val; omega)).trans ?_
  rw [hM.read_unread]

/-- The running maximum begins at zero. -/
theorem pay98_at (g : Fin 8) (l : Fin 256) : k0_pay98 (F := Ideal) (ix2 g l) = 0 := by
  refine Eq.trans ?_ zero_bits
  pointwise [k0_pay98]
/-- The previous scales, kept as they are. -/
theorem pay61_at (v : FVec Ideal S1x128 .f32) (l : Fin 128) : k0_pay61 (F := Ideal) v (ix2 0 l) = v (ix2 0 l) := by
  pointwise [k0_pay61]
/-- A magnitude is not negative. -/
theorem eabs_nonneg (x : EReal) : 0 ≤ eabs x := by
  unfold eabs
  rcases le_total 0 x with h | h
  · exact h.trans (le_max_left _ _)
  · exact (EReal.neg_nonneg.mpr h).trans (le_max_right _ _)

section

variable (c : Dev nD) (i : grid0.Coords) (arg2 : Memref sig .tc .vmem S16384x256 .fp8e4m3) (harg2 : arg2.IsWhole) (arg3 : Memref sig .tc .vmem S1x256 .f32) (harg3 : arg3.IsWhole) (arg4 : Memref sig .tc .vmem S4x16384 .bf16) (harg4 : arg4.IsWhole) (arg5 : Memref sig .tc .vmem S1x16384 .bf16) (harg5 : arg5.IsWhole) (arg6 : Memref sig .tc .vmem S16384x256 .fp8e4m3) (harg6 : arg6.IsWhole) (arg7 : Memref sig .tc .vmem S1x256 .f32) (harg7 : arg7.IsWhole) (arg8 : Memref sig .tc .vmem S64x16384 .bf16) (harg8 : arg8.IsWhole) (arg9 : Memref sig .tc .vmem S16384x256 .f32) (harg9 : arg9.IsWhole) (arg10 : Memref sig .tc .vmem S16384x256 .bf16) (harg10 : arg10.IsWhole) (arg11 : Memref sig .tc .vmem S16384x128 .f32) (harg11 : arg11.IsWhole) (arg12 : Memref sig .tc .vmem S16384x128 .fp8e4m3) (harg12 : arg12.IsWhole) (arg13 : Memref sig .tc .vmem S64x256 .bf16) (harg13 : arg13.IsWhole) (arg14 : Memref sig .tc .vmem S8x256 .f32) (harg14 : arg14.IsWhole) (arg15 : Memref sig .tc .vmem S8x128 .f32) (harg15 : arg15.IsWhole)
  (xt0 : TbBuf0 (F := Ideal) c tbM0_0)
  (x0 : Vec Ideal S16384x256 .fp8e4m3) (x1 : Vec Ideal S1x256 .f32) (x2 : Vec Ideal S4x16384 .bf16) (x3 : Vec Ideal S1x16384 .bf16) (o : Outs Ideal) (s : Scr Ideal)

/-- The scales the previous block ended with. -/
def pvB : FVec Ideal S1x128 .f32 := arg15.view.readAt (Elt Ideal) (Rect.unit (s := S8x128) ![0, 0] S1x128.size (by decide)).toLoadRect (harg15.unread s.s6)
/-- The block's scales. -/
def cvB : FVec Ideal S1x256 .f32 := arg3.view.readAt (Elt Ideal) (Rect.unit (s := S1x256) ![0, 0] S1x256.size (by decide)).toLoadRect (harg3.unread x1)
/-- The inverse scales of the block before. -/
def ivB : FVec Ideal S1x256 .f32 := arg14.view.readAt (Elt Ideal) (Rect.unit (s := S8x256) ![0, 0] S1x256.size (by decide)).toLoadRect (harg14.unread s.s5)
/-- The scale rows. -/
def sgB (k : ℕ) (hk : ∀ a, (![k, 0] : Fin 2 → ℕ) a + S16x256.size a ≤ S64x256.size a) : FVec Ideal S16x256 .bf16 :=
  arg13.view.readCov (sigL lanes (BitVec.ofNat 32 (i 0).val) (cuw c xt0) (pvB arg15 harg15 s) (k0_pay40 (F := Ideal) (cvB arg3 harg3 x1)) (k0_pay41 (F := Ideal) (cvB arg3 harg3 x1))) (Rect.unit (s := S64x256) ![k, 0] S16x256.size hk).toLoadRect
/-- What the loop ends with. -/
def stB (h5 : k0_cond5 i = 1#1) :=
  st_k0_t4 (F := Ideal) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 lanes h5 (sgB c i arg3 harg3 arg13 arg15 harg15 xt0 x1 s 0 (by decide)) (sgB c i arg3 harg3 arg13 arg15 harg15 xt0 x1 s 16 (by decide)) (sgB c i arg3 harg3 arg13 arg15 harg15 xt0 x1 s 32 (by decide)) (sgB c i arg3 harg3 arg13 arg15 harg15 xt0 x1 s 48 (by decide)) (ivB arg14 harg14 s)
    (harg2.unread x0) (harg10.unread s.s1) (harg11.unread s.s2) (harg6.unread o.o4) (harg9.unread s.s0) (harg12.unread s.s3) (k0_pay98 (F := Ideal)) 256

/-- What a point past the first and before the last leaves, by what its loop ends with. -/
def BStep (h5 : k0_cond5 i = 1#1) (o' : Outs Ideal) (s' : Scr Ideal) : Prop :=
  o'.o4 = arg6.view.read (Elt Ideal) (arg6.view.writes (Elt Ideal) (harg6.unread o.o4) (stB c i arg2 harg2 arg3 harg3 arg4 harg4 arg5 harg5 arg6 harg6 arg7 harg7 arg8 harg8 arg9 harg9 arg10 harg10 arg11 harg11 arg12 harg12 arg13 harg13 arg14 harg14 arg15 harg15 xt0 x0 x1 o s h5).2.1)
  ∧ o'.o5 = arg7.view.read (Elt Ideal) (arg7.view.writes (Elt Ideal) (harg7.unread o.o5) [⟨Rect.unit (s := S1x256) ![0, 0] S1x256.size (by decide), k0_pay3 (F := Ideal) (k0_pay105 (F := Ideal) (k0_pay100 (stB c i arg2 harg2 arg3 harg3 arg4 harg4 arg5 harg5 arg6 harg6 arg7 harg7 arg8 harg8 arg9 harg9 arg10 harg10 arg11 harg11 arg12 harg12 arg13 harg13 arg14 harg14 arg15 harg15 xt0 x0 x1 o s h5).1) (k0_pay101 (stB c i arg2 harg2 arg3 harg3 arg4 harg4 arg5 harg5 arg6 harg6 arg7 harg7 arg8 harg8 arg9 harg9 arg10 harg10 arg11 harg11 arg12 harg12 arg13 harg13 arg14 harg14 arg15 harg15 xt0 x0 x1 o s h5).1) (k0_pay102 (stB c i arg2 harg2 arg3 harg3 arg4 harg4 arg5 harg5 arg6 harg6 arg7 harg7 arg8 harg8 arg9 harg9 arg10 harg10 arg11 harg11 arg12 harg12 arg13 harg13 arg14 harg14 arg15 harg15 xt0 x0 x1 o s h5).1) (k0_pay103 (stB c i arg2 harg2 arg3 harg3 arg4 harg4 arg5 harg5 arg6 harg6 arg7 harg7 arg8 harg8 arg9 harg9 arg10 harg10 arg11 harg11 arg12 harg12 arg13 harg13 arg14 harg14 arg15 harg15 xt0 x0 x1 o s h5).1)) 23#32⟩])
  ∧ s'.s0 = arg9.view.read (Elt Ideal) (arg9.view.writes (Elt Ideal) (harg9.unread s.s0) (stB c i arg2 harg2 arg3 harg3 arg4 harg4 arg5 harg5 arg6 harg6 arg7 harg7 arg8 harg8 arg9 harg9 arg10 harg10 arg11 harg11 arg12 harg12 arg13 harg13 arg14 harg14 arg15 harg15 xt0 x0 x1 o s h5).2.2.1)
  ∧ s'.s1 = s.s1 ∧ s'.s2 = s.s2
  ∧ s'.s3 = arg12.view.read (Elt Ideal) (arg12.view.writes (Elt Ideal) (harg12.unread s.s3) (stB c i arg2 harg2 arg3 harg3 arg4 harg4 arg5 harg5 arg6 harg6 arg7 harg7 arg8 harg8 arg9 harg9 arg10 harg10 arg11 harg11 arg12 harg12 arg13 harg13 arg14 harg14 arg15 harg15 xt0 x0 x1 o s h5).2.2.2)
  ∧ s'.s5 = arg14.view.read (Elt Ideal) (arg14.view.writes (Elt Ideal) (harg14.unread s.s5) [⟨Rect.unit (s := S8x256) ![0, 0] S8x256.size (by decide), k0_pay4 (F := Ideal) (k0_pay104 (F := Ideal) (k0_pay100 (stB c i arg2 harg2 arg3 harg3 arg4 harg4 arg5 harg5 arg6 harg6 arg7 harg7 arg8 harg8 arg9 harg9 arg10 harg10 arg11 harg11 arg12 harg12 arg13 harg13 arg14 harg14 arg15 harg15 xt0 x0 x1 o s h5).1) (k0_pay101 (stB c i arg2 harg2 arg3 harg3 arg4 harg4 arg5 harg5 arg6 harg6 arg7 harg7 arg8 harg8 arg9 harg9 arg10 harg10 arg11 harg11 arg12 harg12 arg13 harg13 arg14 harg14 arg15 harg15 xt0 x0 x1 o s h5).1) (k0_pay102 (stB c i arg2 harg2 arg3 harg3 arg4 harg4 arg5 harg5 arg6 harg6 arg7 harg7 arg8 harg8 arg9 harg9 arg10 harg10 arg11 harg11 arg12 harg12 arg13 harg13 arg14 harg14 arg15 harg15 xt0 x0 x1 o s h5).1) (k0_pay103 (stB c i arg2 harg2 arg3 harg3 arg4 harg4 arg5 harg5 arg6 harg6 arg7 harg7 arg8 harg8 arg9 harg9 arg10 harg10 arg11 harg11 arg12 harg12 arg13 harg13 arg14 harg14 arg15 harg15 xt0 x0 x1 o s h5).1))⟩])
  ∧ s'.s6 = arg15.view.read (Elt Ideal) (arg15.view.writes (Elt Ideal) (harg15.unread s.s6) [⟨Rect.unit (s := S8x128) ![0, 0] S1x128.size (by decide), k0_pay61 (F := Ideal) (k0_pay41 (F := Ideal) (cvB arg3 harg3 x1))⟩])

/-- A middle point without edges makes the step of a middle point. -/
theorem BStep.ofB0 (hc0 : ¬cond0_0 i) (hc1 : cond0_1 i) (hc2 : ¬cond0_2 i) (hc3 : cond0_3 i) (hc4 : ¬cond0_4 i) (ht : ¬Touched i xt0) (o' : Outs Ideal) (s' : Scr Ideal)
    (h : StepB0 (F := Ideal) c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o s o' s') : BStep c i arg2 harg2 arg3 harg3 arg4 harg4 arg5 harg5 arg6 harg6 arg7 harg7 arg8 harg8 arg9 harg9 arg10 harg10 arg11 harg11 arg12 harg12 arg13 harg13 arg14 harg14 arg15 harg15 xt0 x0 x1 o s hc3 o' s' :=
  ⟨h.1, h.2.1, h.2.2.2.1, h.2.2.2.2.1, h.2.2.2.2.2.1, h.2.2.2.2.2.2.1, h.2.2.2.2.2.2.2.1, h.2.2.2.2.2.2.2.2⟩

/-- A middle point with edges makes the step of a middle point. -/
theorem BStep.ofB1 (hc0 : ¬cond0_0 i) (hc1 : cond0_1 i) (hc2 : ¬cond0_2 i) (hc3 : cond0_3 i) (hc4 : ¬cond0_4 i) (ht : Touched i xt0) (o' : Outs Ideal) (s' : Scr Ideal)
    (h : StepB1 (F := Ideal) c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o s o' s') : BStep c i arg2 harg2 arg3 harg3 arg4 harg4 arg5 harg5 arg6 harg6 arg7 harg7 arg8 harg8 arg9 harg9 arg10 harg10 arg11 harg11 arg12 harg12 arg13 harg13 arg14 harg14 arg15 harg15 xt0 x0 x1 o s hc3 o' s' :=
  ⟨h.1, h.2.1, h.2.2.2.1, h.2.2.2.2.1, h.2.2.2.2.2.1, h.2.2.2.2.2.2.1, h.2.2.2.2.2.2.2.1, h.2.2.2.2.2.2.2.2⟩

/-- The inverse scales that a middle point reads. -/
theorem ivB_at (l : Fin 256) : ivB arg14 harg14 s (ix2 0 l) = s.s5 (ix2 0 l) := readAt_zero arg14 harg14 s.s5 _ 0 l 0 l rfl rfl
/-- The previous scales that a middle point reads. -/
theorem pvB_at (l : Fin 128) : pvB arg15 harg15 s (ix2 0 l) = s.s6 (ix2 0 l) := readAt_zero arg15 harg15 s.s6 _ 0 l 0 l rfl rfl
/-- The token scales that a middle point reads. -/
theorem cvB_at (l : Fin 256) : cvB arg3 harg3 x1 (ix2 0 l) = x1 (ix2 0 l) := readAt_zero arg3 harg3 x1 _ 0 l 0 l rfl rfl

/-- The activations of block `n`, by the block's own codes and scales and the last columns of the block before. -/
def act (cu : ℕ → BitVec 32) (n : ℕ) (x : S16384x256.Idx → EReal) (sc : S1x256.Idx → EReal) (w : S16384x256.Idx → EReal) (b : S16384x128.Idx → EReal) (px : S16384x128.Idx → EReal) (ps : Fin 128 → EReal)
    (q : Fin 16384) (l : Fin 256) : EReal :=
  conv x px w b (fun l => sc (ix2 0 l)) (sigv cu n ps (fun l => sc (ix2 0 l)) 1) (sigv cu n ps (fun l => sc (ix2 0 l)) 2) (sigv cu n ps (fun l => sc (ix2 0 l)) 3) q l

/-- The masked scales that a middle point reads back. -/
theorem sgB_at (k : Fin 4) (z : ℕ) (hz : z = 16 * k.val) (hk : ∀ a, (![z, 0] : Fin 2 → ℕ) a + S16x256.size a ≤ S64x256.size a) (a : Fin 16) (l : Fin 256) :
    sgB c i arg3 harg3 arg13 arg15 harg15 xt0 x1 s z hk (ix2 a l) = if k.val = 0 then x1 (ix2 0 l) else sigv (cuw c xt0) (i 0).val (fun l => s.s6 (ix2 0 l)) (fun l => x1 (ix2 0 l)) k.val l :=
  sigL_read arg13 lanes lanes_at (i 0).val (cuw c xt0) _ _ (fun l => s.s6 (ix2 0 l)) (fun l => x1 (ix2 0 l)) (pvB_at arg15 harg15 s) (cvB_at arg3 harg3 x1) k z hz hk a l

/-- Bounds of the eight running maxima are bounds of every channel's magnitude. -/
theorem top_of_rows (T : FVec Ideal S8x256 .f32) (init : FVec Ideal S8x256 .f32) (f : Fin 16384 → EReal) (l : Fin 256) (hi : ∀ g, init (ix2 g l) = 0)
    (h : ∀ (g : Fin 8) (b : EReal), T (ix2 g l) ≤ b ↔ init (ix2 g l) ≤ b ∧ ∀ q : Fin 16384, q.val < 64 * 256 → q.val % 8 = g.val → eabs (f q) ≤ b) (b : EReal) :
    (∀ g, T (ix2 g l) ≤ b) ↔ (⨆ q, eabs (f q)) ≤ b := by
  constructor
  · intro hg
    refine iSup_le fun q => ?_
    exact ((h ⟨q.val % 8, Nat.mod_lt _ (by decide)⟩ b).mp (hg _)).2 q (by have := q.isLt; omega) rfl
  · intro hb g
    refine (h g b).mpr ⟨?_, fun q _ _ => (le_iSup (fun q => eabs (f q)) q).trans hb⟩
    rw [hi]
    refine le_trans ?_ ((le_iSup (fun q => eabs (f q)) 0).trans hb)
    exact eabs_nonneg _

/-- What a middle point leaves in the outputs and the scratch buffers. -/
theorem BStep.val (h5 : k0_cond5 i = 1#1) (o' : Outs Ideal) (s' : Scr Ideal) (h : BStep c i arg2 harg2 arg3 harg3 arg4 harg4 arg5 harg5 arg6 harg6 arg7 harg7 arg8 harg8 arg9 harg9 arg10 harg10 arg11 harg11 arg12 harg12 arg13 harg13 arg14 harg14 arg15 harg15 xt0 x0 x1 o s h5 o' s')
    (hdiag : ∀ (q : Fin 16384) (j : Fin 256), j.val % 64 ≠ q.val % 64 → s.s1 (ix2 q j) = 0) :
    (∀ q l, o'.o4 (ix2 q l) = clip (s.s0 (ix2 q l) * s.s5 (ix2 0 l)))
    ∧ (∀ l, o'.o5 (ix2 0 l) = ysOf (⨆ q, eabs (act (cuw c xt0) (i 0).val x0 x1 s.s1 s.s2 s.s3 (fun l => s.s6 (ix2 0 l)) q l)))
    ∧ (∀ q l, s'.s0 (ix2 q l) = act (cuw c xt0) (i 0).val x0 x1 s.s1 s.s2 s.s3 (fun l => s.s6 (ix2 0 l)) q l)
    ∧ s'.s1 = s.s1 ∧ s'.s2 = s.s2
    ∧ (∀ q (l : Fin 128), s'.s3 (ix2 q l) = x0 (ix2 q ⟨128 + l.val, by omega⟩))
    ∧ (∀ l, s'.s5 (ix2 0 l) = invOf (⨆ q, eabs (act (cuw c xt0) (i 0).val x0 x1 s.s1 s.s2 s.s3 (fun l => s.s6 (ix2 0 l)) q l)))
    ∧ (∀ l : Fin 128, s'.s6 (ix2 0 l) = x1 (ix2 0 ⟨128 + l.val, by omega⟩)) := by
  have h0 : ∀ a l, sgB c i arg3 harg3 arg13 arg15 harg15 xt0 x1 s 0 (by decide) (ix2 a l) = x1 (ix2 0 l) := fun a l => sgB_at c i arg3 harg3 arg13 arg15 harg15 xt0 x1 s 0 0 rfl _ a l
  have h1 := sgB_at c i arg3 harg3 arg13 arg15 harg15 xt0 x1 s 1 16 rfl (by decide)
  have h2 := sgB_at c i arg3 harg3 arg13 arg15 harg15 xt0 x1 s 2 32 rfl (by decide)
  have h3 := sgB_at c i arg3 harg3 arg13 arg15 harg15 xt0 x1 s 3 48 rfl (by decide)
  have hm : ∀ l b, (∀ g, (stB c i arg2 harg2 arg3 harg3 arg4 harg4 arg5 harg5 arg6 harg6 arg7 harg7 arg8 harg8 arg9 harg9 arg10 harg10 arg11 harg11 arg12 harg12 arg13 harg13 arg14 harg14 arg15 harg15 xt0 x0 x1 o s h5).1 (ix2 g l) ≤ b) ↔ (⨆ q, eabs (act (cuw c xt0) (i 0).val x0 x1 s.s1 s.s2 s.s3 (fun l => s.s6 (ix2 0 l)) q l)) ≤ b := fun l b =>
    top_of_rows _ (k0_pay98 (F := Ideal)) (fun q => act (cuw c xt0) (i 0).val x0 x1 s.s1 s.s2 s.s3 (fun l => s.s6 (ix2 0 l)) q l) l (fun g => pay98_at g l) (fun g b =>
      t4_max (hv0 := lanes_at) (hdiag := hdiag) (hX := harg2.read_unread x0) (hP := harg12.read_unread s.s3) (hD := harg10.read_unread s.s1) (hB := harg11.read_unread s.s2) (hg0 := h0) (hg1 := h1) (hg2 := h2) (hg3 := h3) (k := 256) (hk := le_refl _) (g := g) (l := l) (b := b) ..) b
  obtain ⟨e4, e5, e0, e1, e2, e3, e5', e6⟩ := h
  have lt : ∀ q : Fin 16384, q.val < 64 * 256 := fun q => q.isLt
  refine ⟨fun q l => ?_, fun l => ?_, fun q l => ?_, e1, e2, fun q l => ?_, fun l => ?_, fun l => ?_⟩
  · rw [e4]
    refine (t4_codes (hv0 := lanes_at) (hdiag := hdiag) (hX := harg2.read_unread x0) (hP := harg12.read_unread s.s3) (hD := harg10.read_unread s.s1) (hB := harg11.read_unread s.s2) (hg0 := h0) (hg1 := h1) (hg2 := h2) (hg3 := h3) (k := 256) (hk := le_refl _) (q := q) (l := l) ..).trans ?_
    rw [if_pos (lt q), harg9.read_unread, ivB_at]
  · rw [e5]
    refine (View.read_writes_cons_unit_of_mem arg7.view _ _ _ _ (ix2 0 l) (ix2 0 l) rfl (Fin.forall_fin_two.mpr ⟨rfl, (Nat.zero_add _).symm⟩)).trans ?_
    rw [k0_pay3_at, k0_pay105_at, k0_pay104_eq, e_at _ l _ (hm l)]; rfl
  · rw [e0]
    refine (t4_rows (hv0 := lanes_at) (hdiag := hdiag) (hX := harg2.read_unread x0) (hP := harg12.read_unread s.s3) (hD := harg10.read_unread s.s1) (hB := harg11.read_unread s.s2) (hg0 := h0) (hg1 := h1) (hg2 := h2) (hg3 := h3) (k := 256) (hk := le_refl _) (q := q) (l := l) ..).trans ?_
    rw [if_pos (lt q)]; rfl
  · rw [e3]
    refine (t4_prev (hX := harg2.read_unread x0) (k := 256) (hk := le_refl _) (q := q) (l := l) ..).trans ?_
    rw [if_pos (lt q)]
  · rw [e5']
    refine (View.read_writes_cons_unit_of_mem arg14.view _ _ _ _ (ix2 0 l) (ix2 0 l) rfl (Fin.forall_fin_two.mpr ⟨rfl, (Nat.zero_add _).symm⟩)).trans ?_
    rw [k0_pay4_at, k0_pay104_eq, e_at _ l _ (hm l)]; rfl
  · rw [e6]
    refine (View.read_writes_cons_unit_of_mem arg15.view _ _ _ _ (ix2 0 l) (ix2 0 l) rfl (Fin.forall_fin_two.mpr ⟨rfl, (Nat.zero_add _).symm⟩)).trans ?_
    rw [pay61_at, pay41_at, cvB_at]

end

end Cert.ConvIdeal.Value

end
-- ==== Proof.Value.T3.lean ====
/- The loop that convolves a block of tokens when there is no block before to quantise. -/
module

public import proofs.«01_k».proof.Proof.Value.Tile

@[expose] public section

set_option maxRecDepth 16384

noncomputable section

namespace Cert.ConvIdeal.Value

open Idealize.ShloMosaic Idealize.ShloMosaic.TcCoe Idealize.SL.Sem
open Cert.ConvIdeal Cert.ConvIdeal.Gen Cert.ConvIdeal.Body

/-- The last columns of the codes, kept as they are. -/
theorem k0_pay66_at (v : FVec Ideal S64x128 .fp8e4m3) (a : Fin 64) (b : Fin 128) : k0_pay66 (F := Ideal) v (ix2 a b) = v (ix2 a b) := by
  pointwise [k0_pay66]

/-- Sixteen rows of scales repeated to sixty-four. -/
theorem k0_pay73_at (v : FVec Ideal S16x256 .bf16) (a : Fin 64) (b : Fin 256) : k0_pay73 (F := Ideal) v (ix2 a b) = v (ix2 ⟨a.val % 16, by omega⟩ b) := by
  pointwise [k0_pay73]
  split_ifs <;> exact congrArg (fun z => v (ix2 z b)) (Fin.ext (by simp only; omega))

/-- Sixteen rows of scales repeated to sixty-four. -/
theorem k0_pay74_at (v : FVec Ideal S16x256 .bf16) (a : Fin 64) (b : Fin 256) : k0_pay74 (F := Ideal) v (ix2 a b) = v (ix2 ⟨a.val % 16, by omega⟩ b) := by
  pointwise [k0_pay74]
  split_ifs <;> exact congrArg (fun z => v (ix2 z b)) (Fin.ext (by simp only; omega))

/-- Sixteen rows of scales repeated to sixty-four. -/
theorem k0_pay75_at (v : FVec Ideal S16x256 .bf16) (a : Fin 64) (b : Fin 256) : k0_pay75 (F := Ideal) v (ix2 a b) = v (ix2 ⟨a.val % 16, by omega⟩ b) := by
  pointwise [k0_pay75]
  split_ifs <;> exact congrArg (fun z => v (ix2 z b)) (Fin.ext (by simp only; omega))

/-- Sixteen rows of scales repeated to sixty-four. -/
theorem k0_pay76_at (v : FVec Ideal S16x256 .bf16) (a : Fin 64) (b : Fin 256) : k0_pay76 (F := Ideal) v (ix2 a b) = v (ix2 ⟨a.val % 16, by omega⟩ b) := by
  pointwise [k0_pay76]
  split_ifs <;> exact congrArg (fun z => v (ix2 z b)) (Fin.ext (by simp only; omega))

section

variable (c : Dev nD) (i : grid0.Coords) (arg2 : Memref sig .tc .vmem S16384x256 .fp8e4m3) (harg2 : arg2.IsWhole) (arg3 : Memref sig .tc .vmem S1x256 .f32) (harg3 : arg3.IsWhole) (arg4 : Memref sig .tc .vmem S4x16384 .bf16) (harg4 : arg4.IsWhole) (arg5 : Memref sig .tc .vmem S1x16384 .bf16) (harg5 : arg5.IsWhole) (arg6 : Memref sig .tc .vmem S16384x256 .fp8e4m3) (harg6 : arg6.IsWhole) (arg7 : Memref sig .tc .vmem S1x256 .f32) (harg7 : arg7.IsWhole) (arg8 : Memref sig .tc .vmem S64x16384 .bf16) (harg8 : arg8.IsWhole) (arg9 : Memref sig .tc .vmem S16384x256 .f32) (harg9 : arg9.IsWhole) (arg10 : Memref sig .tc .vmem S16384x256 .bf16) (harg10 : arg10.IsWhole) (arg11 : Memref sig .tc .vmem S16384x128 .f32) (harg11 : arg11.IsWhole) (arg12 : Memref sig .tc .vmem S16384x128 .fp8e4m3) (harg12 : arg12.IsWhole) (arg13 : Memref sig .tc .vmem S64x256 .bf16) (harg13 : arg13.IsWhole) (arg14 : Memref sig .tc .vmem S8x256 .f32) (harg14 : arg14.IsWhole) (arg15 : Memref sig .tc .vmem S8x128 .f32) (harg15 : arg15.IsWhole)
  (v0 : IVec S1x128 32) (hv0 : ∀ l : Fin 128, v0 (ix2 0 l) = BitVec.ofNat 32 l.val) (h4 : k0_cond4 i = 1#1)
  (v18 v20 v22 v24 : FVec Ideal S16x256 .bf16)
  (X2 : BufTy.Contents (Elt Ideal) arg2.view.ty) (X10 : BufTy.Contents (Elt Ideal) arg10.view.ty) (X11 : BufTy.Contents (Elt Ideal) arg11.view.ty)
  (G9 : BufTy.Contents (Elt Ideal) arg9.view.ty) (G12 : BufTy.Contents (Elt Ideal) arg12.view.ty)
  (init : FVec Ideal S8x256 .f32)
  (g0 g1 g2 g3 : Fin 256 → EReal) (hg0 : ∀ a l, v18 (ix2 a l) = g0 l) (hg1 : ∀ a l, v20 (ix2 a l) = g1 l) (hg2 : ∀ a l, v22 (ix2 a l) = g2 l) (hg3 : ∀ a l, v24 (ix2 a l) = g3 l)
  (X : S16384x256.Idx → EReal) (P : S16384x128.Idx → EReal) (D : S16384x256.Idx → EReal) (B : S16384x128.Idx → EReal)
  (hX : arg2.view.read (Elt Ideal) X2 = X) (hP : arg12.view.read (Elt Ideal) G12 = P) (hD : arg10.view.read (Elt Ideal) X10 = D) (hB : arg11.view.read (Elt Ideal) X11 = B)
  (hdiag : ∀ (q : Fin 16384) (j : Fin 256), j.val % 64 ≠ q.val % 64 → D (ix2 q j) = 0)

include hX in
/-- The previous columns after `k` trips. -/
theorem t3_prev (k : ℕ) (hk : k ≤ 256) (q : Fin 16384) (l : Fin 128) :
    arg12.view.read (Elt Ideal) (arg12.view.writes (Elt Ideal) G12 (st_k0_t3 (F := Ideal) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 v0 h4 v18 v20 v22 v24 X2 X10 X11 G9 G12 init k).2.2) (ix2 q l)
      = if q.val < 64 * k then X (ix2 q ⟨128 + l.val, by omega⟩) else arg12.view.read (Elt Ideal) G12 (ix2 q l) := by
  refine rows_written (n := k0_t3_loop.trips) (W := 64) arg12.view G12 (off := k0_off11) (size := ![64, 128]) (fun k => k0_off11_inb i k h4)
    (fun k => k0_pay66 (arg2.view.readAt (Elt Ideal) (Rect.unit (k0_off12 k) ![64, 128] (k0_off12_inb i k h4)).toLoadRect X2))
    (fun k => (st_k0_t3 (F := Ideal) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 v0 h4 v18 v20 v22 v24 X2 X10 X11 G9 G12 init k).2.2) rfl (fun k => ?_) off11_eq rfl rfl (fun y => X (ix2 (y 0) ⟨128 + (y 1).val, by have := (y 1).isLt; simp at this; omega⟩)) (fun k x y _ h0 h1 => ?_) k hk (ix2 q l)
  · simp only [st_k0_t3_succ]
    unfold trip_k0_t3
    rfl
  · subst hX
    obtain ⟨a, b, rfl⟩ : ∃ (a : Fin 64) (b : Fin 128), x = ix2 a b := ⟨x 0, x 1, eq_ix2 x⟩
    refine (k0_pay66_at _ a b).trans ?_
    exact readAt_rows _ _ _ (64 * k.val) 128 (off12_eq k) _ _ h0 (congrArg (128 + ·) h1)

include hX hP hD hB hg0 hg1 hg2 hg3 in
/-- The chunk a trip convolves, from what the trip reads. -/
theorem t3_chunk (k : Fin k0_t3_loop.trips) (q : Fin 64) (l : Fin 256) :
    silu (pre (rdW arg2.view (k0_off10 k) (k0_off10_inb i k h4) X2) (rdW arg12.view (k0_off11 k) (k0_off11_inb i k h4) (arg12.view.writes (Elt Ideal) G12 (st_k0_t3 (F := Ideal) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 v0 h4 v18 v20 v22 v24 X2 X10 X11 G9 G12 init k.val).2.2)) (k0_pay73 v18) (k0_pay74 v20) (k0_pay75 v22) (k0_pay76 v24) (rdW arg10.view (k0_off10 k) (k0_off10_inb i k h4) X10) (rdW arg11.view (k0_off11 k) (k0_off11_inb i k h4) X11) q l) = conv X P D B g0 g1 g2 g3 (rw64 k.val k.isLt q) l := by
  subst hX hP hD hB
  refine silu_pre _ _ _ _ g0 g1 g2 g3 k.val k.isLt _ _ _ _ _ _ _ _ (fun q l => ?_) (fun q l => ?_) (fun q l => ?_) (fun q l => ?_) (fun q l => ?_) (fun q l => ?_) (fun q l => ?_) (fun q l => ?_) q l
  · exact rdW_at _ _ _ _ (off10_eq k) q l
  · refine (rdW_at _ _ _ _ (off11_eq k) q l).trans ?_
    refine (t3_prev (X := arg2.view.read (Elt Ideal) X2) (hX := rfl) (hk := Nat.le_of_lt k.isLt) ..).trans (if_neg ?_)
    show ¬ 64 * k.val + q.val < _; omega
  · exact rdW_at _ _ _ _ (off10_eq k) q l
  · exact rdW_at _ _ _ _ (off11_eq k) q l
  · exact (k0_pay73_at v18 q l).trans (hg0 _ l)
  · exact (k0_pay74_at v20 q l).trans (hg1 _ l)
  · exact (k0_pay75_at v22 q l).trans (hg2 _ l)
  · exact (k0_pay76_at v24 q l).trans (hg3 _ l)

include hD hdiag in
/-- The rows read of the tap matrix are zero off their diagonals. -/
theorem t3_diag (k : Fin k0_t3_loop.trips) (q : Fin 64) (j : Fin 256) (hj : j.val % 64 ≠ q.val) : (rdW arg10.view (k0_off10 k) (k0_off10_inb i k h4) X10) (ix2 q j) = (0 : EReal) := by
  subst hD
  refine (rdW_at _ _ _ _ (off10_eq k) q j).trans (hdiag _ _ ?_)
  show _ ≠ (64 * k.val + q.val) % 64
  omega

include hv0 hX hP hD hB hdiag hg0 hg1 hg2 hg3 in
/-- The activations stored after `k` trips. -/
theorem t3_rows (k : ℕ) (hk : k ≤ 256) (q : Fin 16384) (l : Fin 256) :
    arg9.view.read (Elt Ideal) (arg9.view.writes (Elt Ideal) G9 (st_k0_t3 (F := Ideal) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 v0 h4 v18 v20 v22 v24 X2 X10 X11 G9 G12 init k).2.1) (ix2 q l)
      = if q.val < 64 * k then conv X P D B g0 g1 g2 g3 q l else arg9.view.read (Elt Ideal) G9 (ix2 q l) := by
  refine rows_written (n := k0_t3_loop.trips) (W := 64) arg9.view G9 (off := k0_off10) (size := ![64, 256]) (fun k => k0_off10_inb i k h4)
    (fun k => k0_pay71 v0 (k0_pay73 v18) (k0_pay74 v20) (k0_pay62 (rdW arg2.view (k0_off10 k) (k0_off10_inb i k h4) X2)) (k0_pay63 (rdW arg2.view (k0_off10 k) (k0_off10_inb i k h4) X2)) (k0_pay64 (rdW arg2.view (k0_off10 k) (k0_off10_inb i k h4) X2)) (k0_pay65 (rdW arg12.view (k0_off11 k) (k0_off11_inb i k h4) (arg12.view.writes (Elt Ideal) G12 (st_k0_t3 (F := Ideal) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 v0 h4 v18 v20 v22 v24 X2 X10 X11 G9 G12 init k.val).2.2))) (k0_pay67 v0 (k0_pay76 v24) (rdW arg2.view (k0_off10 k) (k0_off10_inb i k h4) X2) (rdW arg12.view (k0_off11 k) (k0_off11_inb i k h4) (arg12.view.writes (Elt Ideal) G12 (st_k0_t3 (F := Ideal) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 v0 h4 v18 v20 v22 v24 X2 X10 X11 G9 G12 init k.val).2.2))) (k0_pay68 v0 (k0_pay75 v22) (rdW arg2.view (k0_off10 k) (k0_off10_inb i k h4) X2) (rdW arg12.view (k0_off11 k) (k0_off11_inb i k h4) (arg12.view.writes (Elt Ideal) G12 (st_k0_t3 (F := Ideal) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 v0 h4 v18 v20 v22 v24 X2 X10 X11 G9 G12 init k.val).2.2))) k0_pay69 (rdW arg10.view (k0_off10 k) (k0_off10_inb i k h4) X10) (rdW arg11.view (k0_off11 k) (k0_off11_inb i k h4) X11))
    (fun k => (st_k0_t3 (F := Ideal) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 v0 h4 v18 v20 v22 v24 X2 X10 X11 G9 G12 init k).2.1) rfl (fun k => ?_) off10_eq rfl rfl (fun y => conv X P D B g0 g1 g2 g3 (y 0) (y 1)) (fun k x y _ h0 h1 => ?_) k hk (ix2 q l)
  · simp only [st_k0_t3_succ]
    unfold trip_k0_t3 trip_k0_t3.sl.r trip_k0_t3.sl.r_1 trip_k0_t3.sl.r_2 trip_k0_t3.sl.r_3 trip_k0_t3.sl.r_4 trip_k0_t3.sl.r_5
    rfl
  · obtain ⟨a, b, rfl⟩ : ∃ (a : Fin 64) (b : Fin 256), x = ix2 a b := ⟨x 0, x 1, eq_ix2 x⟩
    refine (k0_pay71_at v0 hv0 _ _ _ _ _ _ _ _ (fun q j hj => t3_diag (i := i) (arg10 := arg10) (X10 := X10) (h4 := h4) (hD := hD) (hdiag := hdiag) (k := k) (q := q) (j := j) (hj := hj)) a b).trans ?_
    refine (t3_chunk (hX := hX) (hP := hP) (hD := hD) (hB := hB) (hg0 := hg0) (hg1 := hg1) (hg2 := hg2) (hg3 := hg3) ..).trans ?_
    exact congrArg₂ (conv X P D B g0 g1 g2 g3) (Fin.ext h0.symm) (Fin.ext h1.symm)

include hv0 hX hP hD hB hdiag hg0 hg1 hg2 hg3 in
/-- One trip of the running maximum, by its bounds. -/
theorem t3_step (k : Fin k0_t3_loop.trips) (g : Fin 8) (l : Fin 256) (b : EReal) :
    (st_k0_t3 (F := Ideal) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 v0 h4 v18 v20 v22 v24 X2 X10 X11 G9 G12 init (k.val + 1)).1 (ix2 g l) ≤ b ↔ (st_k0_t3 (F := Ideal) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 v0 h4 v18 v20 v22 v24 X2 X10 X11 G9 G12 init k.val).1 (ix2 g l) ≤ b ∧ ∀ q : Fin 64, q.val % 8 = g.val → eabs (conv X P D B g0 g1 g2 g3 (rw64 k.val k.isLt q) l) ≤ b := by
  have e1 : (st_k0_t3 (F := Ideal) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 v0 h4 v18 v20 v22 v24 X2 X10 X11 G9 G12 init (k.val + 1)).1 = k0_pay72 v0 (k0_pay73 v18) (k0_pay74 v20) (st_k0_t3 (F := Ideal) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 v0 h4 v18 v20 v22 v24 X2 X10 X11 G9 G12 init k.val).1 (k0_pay62 (rdW arg2.view (k0_off10 k) (k0_off10_inb i k h4) X2)) (k0_pay63 (rdW arg2.view (k0_off10 k) (k0_off10_inb i k h4) X2)) (k0_pay64 (rdW arg2.view (k0_off10 k) (k0_off10_inb i k h4) X2)) (k0_pay65 (rdW arg12.view (k0_off11 k) (k0_off11_inb i k h4) (arg12.view.writes (Elt Ideal) G12 (st_k0_t3 (F := Ideal) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 v0 h4 v18 v20 v22 v24 X2 X10 X11 G9 G12 init k.val).2.2))) (k0_pay67 v0 (k0_pay76 v24) (rdW arg2.view (k0_off10 k) (k0_off10_inb i k h4) X2) (rdW arg12.view (k0_off11 k) (k0_off11_inb i k h4) (arg12.view.writes (Elt Ideal) G12 (st_k0_t3 (F := Ideal) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 v0 h4 v18 v20 v22 v24 X2 X10 X11 G9 G12 init k.val).2.2))) (k0_pay68 v0 (k0_pay75 v22) (rdW arg2.view (k0_off10 k) (k0_off10_inb i k h4) X2) (rdW arg12.view (k0_off11 k) (k0_off11_inb i k h4) (arg12.view.writes (Elt Ideal) G12 (st_k0_t3 (F := Ideal) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 v0 h4 v18 v20 v22 v24 X2 X10 X11 G9 G12 init k.val).2.2))) k0_pay69 (rdW arg10.view (k0_off10 k) (k0_off10_inb i k h4) X10) (rdW arg11.view (k0_off11 k) (k0_off11_inb i k h4) X11) := by
    simp only [st_k0_t3_succ]
    unfold tripR_k0_t3 trip_k0_t3 trip_k0_t3.sl.r trip_k0_t3.sl.r_1 trip_k0_t3.sl.r_2 trip_k0_t3.sl.r_3 trip_k0_t3.sl.r_4 trip_k0_t3.sl.r_5
    rfl
  rw [e1]
  refine (k0_pay72_at v0 hv0 _ _ _ _ _ _ _ _ (fun q j hj => t3_diag (i := i) (arg10 := arg10) (X10 := X10) (h4 := h4) (hD := hD) (hdiag := hdiag) (k := k) (q := q) (j := j) (hj := hj)) _ _ _ _).trans ?_
  exact and_congr Iff.rfl (forall_congr' fun q => forall_congr' fun _ => Iff.of_eq (congrArg (fun z => eabs z ≤ b) (t3_chunk (hX := hX) (hP := hP) (hD := hD) (hB := hB) (hg0 := hg0) (hg1 := hg1) (hg2 := hg2) (hg3 := hg3) ..)))

include hv0 hX hP hD hB hdiag hg0 hg1 hg2 hg3 in
/-- The running maximum after `k` trips, by its bounds. -/
theorem t3_max (k : ℕ) (hk : k ≤ 256) (g : Fin 8) (l : Fin 256) (b : EReal) :
    (st_k0_t3 (F := Ideal) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 v0 h4 v18 v20 v22 v24 X2 X10 X11 G9 G12 init k).1 (ix2 g l) ≤ b ↔ init (ix2 g l) ≤ b ∧ ∀ q : Fin 16384, q.val < 64 * k → q.val % 8 = g.val → eabs (conv X P D B g0 g1 g2 g3 q l) ≤ b := by
  refine acc_rows (fun q => conv X P D B g0 g1 g2 g3 q l) _ g (fun k => (st_k0_t3 (F := Ideal) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 v0 h4 v18 v20 v22 v24 X2 X10 X11 G9 G12 init k).1 (ix2 g l)) rfl (fun k hk b => ?_) k hk b
  exact t3_step (hv0 := hv0) (hdiag := hdiag) (hX := hX) (hP := hP) (hD := hD) (hB := hB) (hg0 := hg0) (hg1 := hg1) (hg2 := hg2) (hg3 := hg3) (k := ⟨k, hk⟩) (g := g) ..

end

end Cert.ConvIdeal.Value

end
-- ==== Proof.Value.T1.lean ====
/- The loop that lays out the weights and the bias. -/
module

public import proofs.«01_k».proof.Proof.Value.Tile

@[expose] public section

set_option maxRecDepth 16384

noncomputable section

namespace Cert.ConvIdeal.Value

open Idealize.ShloMosaic Idealize.ShloMosaic.TcCoe Idealize.SL.Sem
open Cert.ConvIdeal Cert.ConvIdeal.Gen Cert.ConvIdeal.Body

/-- Equality of small words is equality of their numbers. -/
theorem eq_small (a b : ℕ) (ha : a < 2 ^ 32) (hb : b < 2 ^ 32) : IntOp.cmpi .eq (BitVec.ofNat 32 a) (BitVec.ofNat 32 b) = BitVec.ofBool (decide (a = b)) := by
  unfold IntOp.cmpi
  congr 1
  have h : BitVec.ofNat 32 a = BitVec.ofNat 32 b ↔ a = b := by
    rw [← BitVec.toNat_inj, BitVec.toNat_ofNat, BitVec.toNat_ofNat, Nat.mod_eq_of_lt (by omega), Nat.mod_eq_of_lt (by omega)]
  by_cases e : a = b
  · subst e; simp
  · have : BitVec.ofNat 32 a ≠ BitVec.ofNat 32 b := fun x => e (h.mp x)
    simp [e, this]

/-- The remainder by 64, as the kernel computes it. -/
theorem rem64 : ∀ j : Fin 256, (Scalar.select
          (IntOp.andi
            (IntOp.xori
              (IntOp.cmpi CmpIPredicate.slt
                (IntOp.remsi ArithUnit.vector (BitVec.ofNat 32 j.val)
                  (Scalar.select (Scalar.cmpi CmpIPredicate.eq 64#32 0#32) 1#32 64#32))
                0#32)
              (Scalar.cmpi CmpIPredicate.slt (Scalar.select (Scalar.cmpi CmpIPredicate.eq 64#32 0#32) 1#32 64#32) 0#32))
            (IntOp.cmpi CmpIPredicate.ne
              (IntOp.remsi ArithUnit.vector (BitVec.ofNat 32 j.val)
                (Scalar.select (Scalar.cmpi CmpIPredicate.eq 64#32 0#32) 1#32 64#32))
              0#32))
          (IntOp.addi
            (IntOp.remsi ArithUnit.vector (BitVec.ofNat 32 j.val)
              (Scalar.select (Scalar.cmpi CmpIPredicate.eq 64#32 0#32) 1#32 64#32))
            (Scalar.select (Scalar.cmpi CmpIPredicate.eq 64#32 0#32) 1#32 64#32))
          (IntOp.remsi ArithUnit.vector (BitVec.ofNat 32 j.val)
            (Scalar.select (Scalar.cmpi CmpIPredicate.eq 64#32 0#32) 1#32 64#32))) = BitVec.ofNat 32 (j.val % 64) := by decide +kernel

/-- Whether a lane is in the low half. -/
theorem low64 : ∀ j : Fin 128, IntOp.cmpi CmpIPredicate.slt (BitVec.ofNat 32 j.val) 64#32 = BitVec.ofBool (decide (j.val < 64)) := by decide +kernel

/-- The row of weights of column group `j / 64`. -/
def grp {α : Type} (w0 w1 w2 w3 : α) (j : ℕ) : α := if j < 64 then w0 else if j < 128 then w1 else if j < 192 then w2 else w3

/-- Sixty-four rows of the tap matrix, the low half of a group. -/
theorem k0_pay12_at (w0 w1 w2 w3 : FVec Ideal S1x128 .bf16) (a : Fin 64) (j : Fin 256) :
    k0_pay12 (F := Ideal) k0_pay13 k0_pay14 w0 w1 w2 w3 (ix2 a j)
      = (if j.val % 64 = a.val then grp w0 w1 w2 w3 j.val (ix2 0 ⟨a.val, by omega⟩) * Ideal.ofBits .f32 0x3F000000#32 else 0 : EReal) := by
  pointwise [k0_pay12, k0_pay13, k0_pay14, k0_pay6, k0_pay7, k0_pay8, k0_pay9]
  refine (congrArg (fun z => Scalar.select z _ _) (congrArg (fun z => IntOp.cmpi .eq z _) (rem64 j))).trans ?_
  refine (congrArg (fun z => Scalar.select z _ _) (eq_small _ _ (by omega) (by omega))).trans ?_
  refine (select_ofBool ..).trans ?_
  refine if_ctx_congr Iff.rfl (fun h => ?_) (fun _ => rfl)
  by_cases h1 : j.val < 128
  · refine (dif_pos h1).trans ((congrArg (fun z => Scalar.select z _ _) (low64 ⟨j.val, h1⟩)).trans ((select_ofBool ..).trans ?_))
    by_cases h2 : j.val < 64
    · refine (if_pos h2).trans ?_
      rw [show grp w0 w1 w2 w3 j.val = w0 by unfold grp; rw [if_pos h2]]
      exact congrArg (fun z => w0 (ix2 0 z) * _) (Fin.ext (by show _ = a.val; simp only; omega))
    · refine (if_neg h2).trans ?_
      rw [show grp w0 w1 w2 w3 j.val = w1 by unfold grp; rw [if_neg h2, if_pos h1]]
      exact congrArg (fun z => w1 (ix2 0 z) * _) (Fin.ext (by show _ = a.val; simp only; omega))
  · refine (dif_neg h1).trans ((congrArg (fun z => Scalar.select z _ _) (low64 ⟨j.val - 128, by omega⟩)).trans ((select_ofBool ..).trans ?_))
    by_cases h2 : j.val < 192
    · refine (if_pos (by show j.val - 128 < 64; omega)).trans ?_
      rw [show grp w0 w1 w2 w3 j.val = w2 by unfold grp; rw [if_neg (by omega), if_neg h1, if_pos h2]]
      exact congrArg (fun z => w2 (ix2 0 z) * _) (Fin.ext (by show _ = a.val; simp only; omega))
    · refine (if_neg (by show ¬ j.val - 128 < 64; omega)).trans ?_
      rw [show grp w0 w1 w2 w3 j.val = w3 by unfold grp; rw [if_neg (by omega), if_neg h1, if_neg h2]]
      exact congrArg (fun z => w3 (ix2 0 z) * _) (Fin.ext (by show _ = a.val; simp only; omega))

/-- Sixty-four rows of the tap matrix, the high half of a group. -/
theorem k0_pay16_at (w0 w1 w2 w3 : FVec Ideal S1x128 .bf16) (a : Fin 64) (j : Fin 256) :
    k0_pay16 (F := Ideal) (k0_pay7 w1) (k0_pay9 w3) (k0_pay10 w0) (k0_pay11 w2) (ix2 a j)
      = (if j.val % 64 = a.val then grp w0 w1 w2 w3 j.val (ix2 0 ⟨64 + a.val, by omega⟩) * Ideal.ofBits .f32 0x3F000000#32 else 0 : EReal) := by
  pointwise [k0_pay16, k0_pay13, k0_pay14, k0_pay6, k0_pay7, k0_pay8, k0_pay9, k0_pay10, k0_pay11]
  refine (congrArg (fun z => Scalar.select z _ _) (congrArg (fun z => IntOp.cmpi .eq z _) (rem64 j))).trans ?_
  refine (congrArg (fun z => Scalar.select z _ _) (eq_small _ _ (by omega) (by omega))).trans ?_
  refine (select_ofBool ..).trans ?_
  refine if_ctx_congr Iff.rfl (fun h => ?_) (fun _ => rfl)
  by_cases h1 : j.val < 128
  · refine (dif_pos h1).trans ((congrArg (fun z => Scalar.select z _ _) (low64 ⟨j.val, h1⟩)).trans ((select_ofBool ..).trans ?_))
    by_cases h2 : j.val < 64
    · refine (if_pos h2).trans ?_
      rw [show grp w0 w1 w2 w3 j.val = w0 by unfold grp; rw [if_pos h2]]
      exact congrArg (fun z => w0 (ix2 0 z) * _) (Fin.ext (by show _ = 64 + a.val; simp only; omega))
    · refine (if_neg h2).trans ?_
      rw [show grp w0 w1 w2 w3 j.val = w1 by unfold grp; rw [if_neg h2, if_pos h1]]
      exact congrArg (fun z => w1 (ix2 0 z) * _) (Fin.ext (by show _ = 64 + a.val; simp only; omega))
  · refine (dif_neg h1).trans ((congrArg (fun z => Scalar.select z _ _) (low64 ⟨j.val - 128, by omega⟩)).trans ((select_ofBool ..).trans ?_))
    by_cases h2 : j.val < 192
    · refine (if_pos (by show j.val - 128 < 64; omega)).trans ?_
      rw [show grp w0 w1 w2 w3 j.val = w2 by unfold grp; rw [if_neg (by omega), if_neg h1, if_pos h2]]
      exact congrArg (fun z => w2 (ix2 0 z) * _) (Fin.ext (by show _ = 64 + a.val; simp only; omega))
    · refine (if_neg (by show ¬ j.val - 128 < 64; omega)).trans ?_
      rw [show grp w0 w1 w2 w3 j.val = w3 by unfold grp; rw [if_neg (by omega), if_neg h1, if_neg h2]]
      exact congrArg (fun z => w3 (ix2 0 z) * _) (Fin.ext (by show _ = 64 + a.val; simp only; omega))

/-- The product of a diagonal matrix of biases with ones has half the bias in every column. -/
theorem k0_pay17_at (b : FVec Ideal S1x128 .bf16) (a j : Fin 128) :
    k0_pay17 (F := Ideal) b (ix2 a j) = b (ix2 0 a) * Ideal.ofBits .f32 0x3F000000#32 := by
  pointwise [k0_pay17]
  rw [Finset.sum_eq_single a]
  · rw [eq_small _ _ (by omega) (by omega), decide_eq_true rfl]
    have : FloatOps.sitofp (F := Ideal) .f32 (BitVec.setWidth 32 (BitVec.ofBool true)) = (1 : EReal) := by
      have h : (BitVec.setWidth 32 (BitVec.ofBool true)).toInt = 1 := by decide
      show (((BitVec.setWidth 32 (BitVec.ofBool true)).toInt : ℝ) : EReal) = 1
      rw [h]; norm_num
    rw [this, one_mul]
  · intro x _ hx
    rw [eq_small _ _ (by omega) (by omega), decide_eq_false (fun e => hx (Fin.ext e.symm))]
    have : FloatOps.sitofp (F := Ideal) .f32 (BitVec.setWidth 32 (BitVec.ofBool false)) = (0 : EReal) := by
      have h : (BitVec.setWidth 32 (BitVec.ofBool false)).toInt = 0 := by decide
      show (((BitVec.setWidth 32 (BitVec.ofBool false)).toInt : ℝ) : EReal) = 0
      rw [h]; norm_num
    rw [this, zero_mul]
  · intro h; exact absurd (Finset.mem_univ a) h

section

variable {sig : RefSig} {κ : Kind} {sp : Space} {e : EltTy} {Val : EltTy → Type}

/-- As `rows_written`, two blocks of `W` rows a trip. -/
theorem rows_written2 {d : Fin 2 → ℕ} {n W : ℕ} (v : View sig κ sp (⟨2, d⟩ : Shape) e) (f : v.ty.Contents Val)
    {off0 off1 : Fin n → Fin 2 → ℕ} {size : Fin 2 → ℕ} (inb0 : ∀ (k : Fin n) (a : Fin 2), off0 k a + size a ≤ d a) (inb1 : ∀ (k : Fin n) (a : Fin 2), off1 k a + size a ≤ d a)
    (w0 : ∀ k : Fin n, (Rect.unit (s := ⟨2, d⟩) (off0 k) size (inb0 k)).shape.Idx → Val e)
    (w1 : ∀ k : Fin n, (Rect.unit (s := ⟨2, d⟩) (off1 k) size (inb1 k)).shape.Idx → Val e)
    (L : ℕ → List (View.Piece Val (⟨2, d⟩ : Shape) e)) (h0 : L 0 = [])
    (hs : ∀ k : Fin n, L (k.val + 1) = (⟨Rect.unit (s := ⟨2, d⟩) (off1 k) size (inb1 k), w1 k⟩ : View.Piece Val (⟨2, d⟩ : Shape) e)
      :: (⟨Rect.unit (s := ⟨2, d⟩) (off0 k) size (inb0 k), w0 k⟩ : View.Piece Val (⟨2, d⟩ : Shape) e) :: L k.val)
    (hoff0 : ∀ k, off0 k = ![2 * W * k.val, 0]) (hoff1 : ∀ k, off1 k = ![2 * W * k.val + W, 0]) (hW : size 0 = W) (hD : size 1 = d 1) (N : (⟨2, d⟩ : Shape).Idx → Val e)
    (hw0 : ∀ (k : Fin n) (x : (Rect.unit (s := ⟨2, d⟩) (off0 k) size (inb0 k)).shape.Idx) (y : (⟨2, d⟩ : Shape).Idx),
      (y (0 : Fin 2)).val = 2 * W * k.val + (x (0 : Fin 2)).val → (y (1 : Fin 2)).val = (x (1 : Fin 2)).val → w0 k x = N y)
    (hw1 : ∀ (k : Fin n) (x : (Rect.unit (s := ⟨2, d⟩) (off1 k) size (inb1 k)).shape.Idx) (y : (⟨2, d⟩ : Shape).Idx),
      (y (0 : Fin 2)).val = 2 * W * k.val + W + (x (0 : Fin 2)).val → (y (1 : Fin 2)).val = (x (1 : Fin 2)).val → w1 k x = N y) :
    ∀ k, k ≤ n → ∀ y : (⟨2, d⟩ : Shape).Idx, v.read Val (v.writes Val f (L k)) y = if (y (0 : Fin 2)).val < 2 * W * k then N y else v.read Val f y := by
  intro k
  induction k with
  | zero => intro _ y; rw [h0]; simp [View.writes_nil]
  | succ k ih =>
    intro hk y
    have ih' := ih (by omega)
    have hs' := hs ⟨k, hk⟩
    simp only at hs'
    have hm : 2 * W * (k + 1) = 2 * W * k + 2 * W := by ring
    rw [hs', View.read_writes_cons_rows v f (inb1 ⟨k, hk⟩) (w1 ⟨k, hk⟩) _ y (hoff1 ⟨k, hk⟩) hW hD]
    by_cases h : 2 * W * k + W ≤ (y (0 : Fin 2)).val ∧ (y (0 : Fin 2)).val < 2 * W * k + W + W
    · rw [dif_pos h, if_pos (by omega)]
      refine hw1 ⟨k, hk⟩ _ y ?_ ?_
      · rw [Rect.unitLocal_val]; show _ = 2 * W * k + W + ((y (0 : Fin 2)).val - (2 * W * k + W)); omega
      · rw [Rect.unitLocal_val]; exact (Nat.sub_zero _).symm
    · rw [dif_neg h, View.read_writes_cons_rows v f (inb0 ⟨k, hk⟩) (w0 ⟨k, hk⟩) (L k) y (hoff0 ⟨k, hk⟩) hW hD]
      by_cases h' : 2 * W * k ≤ (y (0 : Fin 2)).val ∧ (y (0 : Fin 2)).val < 2 * W * k + W
      · rw [dif_pos h', if_pos (by omega)]
        refine hw0 ⟨k, hk⟩ _ y ?_ ?_
        · rw [Rect.unitLocal_val]; show _ = 2 * W * k + ((y (0 : Fin 2)).val - 2 * W * k); omega
        · rw [Rect.unitLocal_val]; exact (Nat.sub_zero _).symm
      · rw [dif_neg h', ih' y]
        by_cases h2 : (y (0 : Fin 2)).val < 2 * W * k
        · rw [if_pos h2, if_pos (by omega)]
        · rw [if_neg h2, if_neg (by omega)]

end

/-- Where one trip reads a row of the weights. -/
theorem off1_eq (k : Fin k0_t1_loop.trips) : k0_off1 k = ![0, 128 * k.val] := off6_eq k
/-- Where one trip reads a row of the weights. -/
theorem off2_eq (k : Fin k0_t1_loop.trips) : k0_off2 k = ![1, 128 * k.val] := by
  have h := off6_eq k
  funext a; fin_cases a
  · rfl
  · exact congrFun h 1
/-- Where one trip reads a row of the weights. -/
theorem off3_eq (k : Fin k0_t1_loop.trips) : k0_off3 k = ![2, 128 * k.val] := by
  have h := off6_eq k
  funext a; fin_cases a
  · rfl
  · exact congrFun h 1
/-- Where one trip reads a row of the weights. -/
theorem off4_eq (k : Fin k0_t1_loop.trips) : k0_off4 k = ![3, 128 * k.val] := by
  have h := off6_eq k
  funext a; fin_cases a
  · rfl
  · exact congrFun h 1

/-- The weights laid out for the taps: half of weight `j / 64` of the row's channel in the columns of the row's own index. -/
def dmat (W : S4x16384.Idx → EReal) (q : Fin 16384) (j : Fin 256) : EReal :=
  if j.val % 64 = q.val % 64 then W (ix2 ⟨j.val / 64, by omega⟩ q) * Ideal.ofBits .f32 0x3F000000#32 else 0

section

variable (c : Dev nD) (i : grid0.Coords)  (arg2 : Memref sig .tc .vmem S16384x256 .fp8e4m3) (harg2 : arg2.IsWhole) (arg3 : Memref sig .tc .vmem S1x256 .f32) (harg3 : arg3.IsWhole) (arg4 : Memref sig .tc .vmem S4x16384 .bf16) (harg4 : arg4.IsWhole) (arg5 : Memref sig .tc .vmem S1x16384 .bf16) (harg5 : arg5.IsWhole) (arg6 : Memref sig .tc .vmem S16384x256 .fp8e4m3) (harg6 : arg6.IsWhole) (arg7 : Memref sig .tc .vmem S1x256 .f32) (harg7 : arg7.IsWhole) (arg8 : Memref sig .tc .vmem S64x16384 .bf16) (harg8 : arg8.IsWhole) (arg9 : Memref sig .tc .vmem S16384x256 .f32) (harg9 : arg9.IsWhole) (arg10 : Memref sig .tc .vmem S16384x256 .bf16) (harg10 : arg10.IsWhole) (arg11 : Memref sig .tc .vmem S16384x128 .f32) (harg11 : arg11.IsWhole) (arg12 : Memref sig .tc .vmem S16384x128 .fp8e4m3) (harg12 : arg12.IsWhole) (arg13 : Memref sig .tc .vmem S64x256 .bf16) (harg13 : arg13.IsWhole) (arg14 : Memref sig .tc .vmem S8x256 .f32) (harg14 : arg14.IsWhole) (arg15 : Memref sig .tc .vmem S8x128 .f32) (harg15 : arg15.IsWhole) (h1 : k0_cond1 i = 1#1) (X4 : BufTy.Contents (Elt Ideal) arg4.view.ty) (X5 : BufTy.Contents (Elt Ideal) arg5.view.ty)
  (W : S4x16384.Idx → EReal) (hW : arg4.view.read (Elt Ideal) X4 = W)

include hW in
/-- The weights that one trip reads. -/
theorem t1_grp (k : Fin k0_t1_loop.trips) (a : Fin 128) (j : Fin 256) :
    grp (α := FVec Ideal S1x128 .bf16) (arg4.view.readAt (Elt Ideal) (Rect.unit (s := S4x16384) (k0_off1 k) S1x128.size (k0_off1_inb i k h1)).toLoadRect X4)
      (arg4.view.readAt (Elt Ideal) (Rect.unit (s := S4x16384) (k0_off2 k) S1x128.size (k0_off2_inb i k h1)).toLoadRect X4)
      (arg4.view.readAt (Elt Ideal) (Rect.unit (s := S4x16384) (k0_off3 k) S1x128.size (k0_off3_inb i k h1)).toLoadRect X4)
      (arg4.view.readAt (Elt Ideal) (Rect.unit (s := S4x16384) (k0_off4 k) S1x128.size (k0_off4_inb i k h1)).toLoadRect X4) j.val (ix2 0 a)
      = W (ix2 ⟨j.val / 64, by omega⟩ ⟨128 * k.val + a.val, by have : k.val < 128 := k.isLt; omega⟩) := by
  subst hW
  unfold grp
  split
  · exact (readAt_rows arg4.view X4 _ 0 (128 * k.val) (off1_eq k) (ix2 0 a) (ix2 ⟨j.val / 64, by omega⟩ _) (by show j.val / 64 = 0 + 0; omega) rfl)
  · split
    · exact (readAt_rows arg4.view X4 _ 1 (128 * k.val) (off2_eq k) (ix2 0 a) (ix2 ⟨j.val / 64, by omega⟩ _) (by show j.val / 64 = 1 + 0; omega) rfl)
    · split
      · exact (readAt_rows arg4.view X4 _ 2 (128 * k.val) (off3_eq k) (ix2 0 a) (ix2 ⟨j.val / 64, by omega⟩ _) (by show j.val / 64 = 2 + 0; omega) rfl)
      · exact (readAt_rows arg4.view X4 _ 3 (128 * k.val) (off4_eq k) (ix2 0 a) (ix2 ⟨j.val / 64, by omega⟩ _) (by show j.val / 64 = 3 + 0; omega) rfl)

include hW in
/-- The tap matrix after the loop. -/
theorem t1_weights (G10 : BufTy.Contents (Elt Ideal) arg10.view.ty) (q : Fin 16384) (j : Fin 256) :
    arg10.view.read (Elt Ideal) (arg10.view.writes (Elt Ideal) G10 (pb_k0_t1 (F := Ideal) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 h1 X4 X5 128).1) (ix2 q j) = dmat W q j := by
  refine (rows_written2 (n := k0_t1_loop.trips) (W := 64) arg10.view G10 (off0 := fun k => k0_off5 k 0#32) (off1 := fun k => k0_off5 k 64#32) (size := ![64, 256])
    (fun k => k0_off5_inb i k h1 0) (fun k => k0_off5_inb i k h1 1)
    (fun k => k0_pay15 (trip_k0_t1.sl.r_4 i arg4 h1 X4 k)) (fun k => k0_pay16 (trip_k0_t1.sl.r i arg4 h1 X4 k) (trip_k0_t1.sl.r_1 i arg4 h1 X4 k) (trip_k0_t1.sl.r_2 i arg4 h1 X4 k) (trip_k0_t1.sl.r_3 i arg4 h1 X4 k))
    (fun k => (pb_k0_t1 (F := Ideal) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 h1 X4 X5 k).1) rfl (fun k => ?_) (fun k => off5_eq k 0 (by omega)) (fun k => off5_eq k 64 (by omega)) rfl rfl (fun y => dmat W (y 0) (y 1)) (fun k x y h0 hy => ?_) (fun k x y h0 hy => ?_) 128 (le_refl 128) (ix2 q j)).trans (if_pos ?_)
  · simp only [pb_k0_t1_succ]
    unfold trip_k0_t1
    rfl
  · have hk : k.val < 128 := k.isLt
    obtain ⟨a, b, rfl⟩ : ∃ (a : Fin 64) (b : Fin 256), x = ix2 a b := ⟨x 0, x 1, eq_ix2 x⟩
    obtain ⟨c0, d0, rfl⟩ : ∃ (a : Fin 16384) (b : Fin 256), y = ix2 a b := ⟨y 0, y 1, eq_ix2 y⟩
    have hb : b = d0 := Fin.ext hy.symm
    subst hb
    have hc : (⟨128 * k.val + a.val, by omega⟩ : Fin 16384) = c0 := Fin.ext (by have : c0.val = 2 * 64 * k.val + a.val := h0; simp only; omega)
    have hm : c0.val % 64 = a.val := by have : c0.val = 2 * 64 * k.val + a.val := h0; omega
    have e : k0_pay15 (F := Ideal) (trip_k0_t1.sl.r_4 i arg4 h1 X4 k) (ix2 a b) = trip_k0_t1.sl.r_4 i arg4 h1 X4 k (ix2 a b) := by pointwise [k0_pay15]
    refine e.trans ((k0_pay12_at _ _ _ _ a b).trans ?_)
    show _ = dmat W c0 b
    unfold dmat
    rw [hm]
    refine if_congr Iff.rfl (congrArg (· * _) ((t1_grp i arg4 h1 X4 W hW k ⟨a.val, by omega⟩ b).trans ?_)) rfl
    exact congrArg (fun z => W (ix2 _ z)) hc
  · have hk : k.val < 128 := k.isLt
    obtain ⟨a, b, rfl⟩ : ∃ (a : Fin 64) (b : Fin 256), x = ix2 a b := ⟨x 0, x 1, eq_ix2 x⟩
    obtain ⟨c0, d0, rfl⟩ : ∃ (a : Fin 16384) (b : Fin 256), y = ix2 a b := ⟨y 0, y 1, eq_ix2 y⟩
    have hb : b = d0 := Fin.ext hy.symm
    subst hb
    have hc : (⟨128 * k.val + (64 + a.val), by omega⟩ : Fin 16384) = c0 := Fin.ext (by have : c0.val = 2 * 64 * k.val + 64 + a.val := h0; simp only; omega)
    have hm : c0.val % 64 = a.val := by have : c0.val = 2 * 64 * k.val + 64 + a.val := h0; omega
    refine (k0_pay16_at _ _ _ _ a b).trans ?_
    show _ = dmat W c0 b
    unfold dmat
    rw [hm]
    refine if_congr Iff.rfl (congrArg (· * _) ((t1_grp i arg4 h1 X4 W hW k ⟨64 + a.val, by omega⟩ b).trans ?_)) rfl
    exact congrArg (fun z => W (ix2 _ z)) hc
  · show q.val < 2 * 64 * 128; omega

/-- The halved biases after the loop. -/
theorem t1_bias (G11 : BufTy.Contents (Elt Ideal) arg11.view.ty) (q : Fin 16384) (j : Fin 128) :
    arg11.view.read (Elt Ideal) (arg11.view.writes (Elt Ideal) G11 (pb_k0_t1 (F := Ideal) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 h1 X4 X5 128).2) (ix2 q j)
      = (arg5.view.read (Elt Ideal) X5 (ix2 0 q) : EReal) * Ideal.ofBits .f32 0x3F000000#32 := by
  refine (rows_written (n := k0_t1_loop.trips) (W := 128) arg11.view G11 (off := k0_off7) (size := ![128, 128]) (fun k => k0_off7_inb i k h1)
    (fun k => k0_pay17 (arg5.view.readAt (Elt Ideal) (Rect.unit (s := S1x16384) (k0_off6 k) S1x128.size (k0_off6_inb i k h1)).toLoadRect X5))
    (fun k => (pb_k0_t1 (F := Ideal) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 h1 X4 X5 k).2) rfl (fun k => ?_) off7_eq rfl rfl (fun y => (arg5.view.read (Elt Ideal) X5 (ix2 0 (y 0)) : EReal) * Ideal.ofBits .f32 0x3F000000#32) (fun k x y _ h0 hy => ?_) 128 (le_refl 128) (ix2 q j)).trans (if_pos ?_)
  · simp only [pb_k0_t1_succ]
    unfold trip_k0_t1
    rfl
  · obtain ⟨a, b, rfl⟩ : ∃ (a b : Fin 128), x = ix2 a b := ⟨x 0, x 1, eq_ix2 x⟩
    refine (k0_pay17_at _ a b).trans (congrArg (· * _) ?_)
    exact readAt_rows arg5.view X5 _ 0 (128 * k.val) (off6_eq k) (ix2 0 a) (ix2 0 (y 0)) rfl h0
  · show q.val < 128 * 128; omega

end

end Cert.ConvIdeal.Value

end
-- ==== Proof.Value.StepA.lean ====
/- What the body leaves at the first point, entry by entry. -/
module

public import proofs.«01_k».proof.Proof.Value.StepB
public import proofs.«01_k».proof.Proof.Value.T3
public import proofs.«01_k».proof.Proof.Value.T1

@[expose] public section

set_option maxRecDepth 16384

noncomputable section

namespace Cert.ConvIdeal.Value

open Idealize.ShloMosaic Idealize.ShloMosaic.TcCoe Idealize.SL.Sem
open Cert.ConvIdeal Cert.ConvIdeal.Gen Cert.ConvIdeal.Body

/-- The running maximum begins at zero. -/
theorem pay77_at (g : Fin 8) (l : Fin 256) : k0_pay77 (F := Ideal) (ix2 g l) = 0 := by
  refine Eq.trans ?_ zero_bits
  pointwise [k0_pay77]
/-- The previous scales begin at zero. -/
theorem pay19_at (g : Fin 8) (l : Fin 128) : k0_pay19 (F := Ideal) (ix2 g l) = 0 := by
  refine Eq.trans ?_ zero_bits
  pointwise [k0_pay19]
/-- The previous columns begin at zero. -/
theorem pay18_at (y : S16384x128.Idx) : k0_pay18 (F := Ideal) y = 0 := by
  show Ideal.ofBits .fp8e4m3 0x00#8 = 0
  exact Ideal.ofBits_zero .fp8e4m3

/-- The tap matrix is zero off its diagonals. -/
theorem dmat_diag (W : S4x16384.Idx → EReal) (q : Fin 16384) (j : Fin 256) (h : j.val % 64 ≠ q.val % 64) : dmat W q j = 0 := if_neg h

section

variable (c : Dev nD) (i : grid0.Coords) (arg2 : Memref sig .tc .vmem S16384x256 .fp8e4m3) (harg2 : arg2.IsWhole) (arg3 : Memref sig .tc .vmem S1x256 .f32) (harg3 : arg3.IsWhole) (arg4 : Memref sig .tc .vmem S4x16384 .bf16) (harg4 : arg4.IsWhole) (arg5 : Memref sig .tc .vmem S1x16384 .bf16) (harg5 : arg5.IsWhole) (arg6 : Memref sig .tc .vmem S16384x256 .fp8e4m3) (harg6 : arg6.IsWhole) (arg7 : Memref sig .tc .vmem S1x256 .f32) (harg7 : arg7.IsWhole) (arg8 : Memref sig .tc .vmem S64x16384 .bf16) (harg8 : arg8.IsWhole) (arg9 : Memref sig .tc .vmem S16384x256 .f32) (harg9 : arg9.IsWhole) (arg10 : Memref sig .tc .vmem S16384x256 .bf16) (harg10 : arg10.IsWhole) (arg11 : Memref sig .tc .vmem S16384x128 .f32) (harg11 : arg11.IsWhole) (arg12 : Memref sig .tc .vmem S16384x128 .fp8e4m3) (harg12 : arg12.IsWhole) (arg13 : Memref sig .tc .vmem S64x256 .bf16) (harg13 : arg13.IsWhole) (arg14 : Memref sig .tc .vmem S8x256 .f32) (harg14 : arg14.IsWhole) (arg15 : Memref sig .tc .vmem S8x128 .f32) (harg15 : arg15.IsWhole)
  (xt0 : TbBuf0 (F := Ideal) c tbM0_0)
  (x0 : Vec Ideal S16384x256 .fp8e4m3) (x1 : Vec Ideal S1x256 .f32) (x2 : Vec Ideal S4x16384 .bf16) (x3 : Vec Ideal S1x16384 .bf16) (o : Outs Ideal) (s : Scr Ideal)

/-- The stores of the zeros before the first token. -/
def zcA : List (View.Piece (Elt Ideal) S16384x128 .fp8e4m3) := [⟨Rect.unit (s := S16384x128) ![0, 0] S16384x128.size (by decide), k0_pay18 (F := Ideal)⟩]
/-- The store that clears the previous scales. -/
def zsA : List (View.Piece (Elt Ideal) S8x128 .f32) := [⟨Rect.unit (s := S8x128) ![0, 0] S8x128.size (by decide), k0_pay19 (F := Ideal)⟩]
/-- The scales before the first token. -/
def pvA : FVec Ideal S1x128 .f32 := arg15.view.readCov zsA (Rect.unit (s := S8x128) ![0, 0] S1x128.size (by decide)).toLoadRect
/-- The stacked weights' and the halved biases' stores. -/
def wtA (h1 : k0_cond1 i = 1#1) := pb_k0_t1 (F := Ideal) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 h1 (harg4.unread x2) (harg5.unread x3) 128
/-- The scale rows. -/
def sgA (k : ℕ) (hk : ∀ a, (![k, 0] : Fin 2 → ℕ) a + S16x256.size a ≤ S64x256.size a) : FVec Ideal S16x256 .bf16 :=
  arg13.view.readCov (sigL lanes (BitVec.ofNat 32 (i 0).val) (cuw c xt0) (pvA arg15) (k0_pay40 (F := Ideal) (cvB arg3 harg3 x1)) (k0_pay41 (F := Ideal) (cvB arg3 harg3 x1))) (Rect.unit (s := S64x256) ![k, 0] S16x256.size hk).toLoadRect
/-- What the loop ends with. -/
def stA (h1 : k0_cond1 i = 1#1) (h4 : k0_cond4 i = 1#1) :=
  st_k0_t3 (F := Ideal) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 lanes h4 (sgA c i arg3 harg3 arg13 arg15 xt0 x1 0 (by decide)) (sgA c i arg3 harg3 arg13 arg15 xt0 x1 16 (by decide)) (sgA c i arg3 harg3 arg13 arg15 xt0 x1 32 (by decide)) (sgA c i arg3 harg3 arg13 arg15 xt0 x1 48 (by decide))
    (harg2.unread x0) (arg10.view.writes (Elt Ideal) (harg10.unread s.s1) (wtA c i arg2 harg2 arg3 harg3 arg4 harg4 arg5 harg5 arg6 harg6 arg7 harg7 arg8 harg8 arg9 harg9 arg10 harg10 arg11 harg11 arg12 harg12 arg13 harg13 arg14 harg14 arg15 harg15 x2 x3 h1).1) (arg11.view.writes (Elt Ideal) (harg11.unread s.s2) (wtA c i arg2 harg2 arg3 harg3 arg4 harg4 arg5 harg5 arg6 harg6 arg7 harg7 arg8 harg8 arg9 harg9 arg10 harg10 arg11 harg11 arg12 harg12 arg13 harg13 arg14 harg14 arg15 harg15 x2 x3 h1).2) (harg9.unread s.s0) (arg12.view.writes (Elt Ideal) arg12.view.junk zcA) (k0_pay77 (F := Ideal)) 256

/-- What the first point leaves, by what its loops end with. -/
def AStep (h1 : k0_cond1 i = 1#1) (h4 : k0_cond4 i = 1#1) (o' : Outs Ideal) (s' : Scr Ideal) : Prop :=
  o'.o5 = arg7.view.read (Elt Ideal) (arg7.view.writes (Elt Ideal) (harg7.unread o.o5) [⟨Rect.unit (s := S1x256) ![0, 0] S1x256.size (by decide), k0_pay81 (F := Ideal) (k0_pay78 (stA c i arg2 harg2 arg3 harg3 arg4 harg4 arg5 harg5 arg6 harg6 arg7 harg7 arg8 harg8 arg9 harg9 arg10 harg10 arg11 harg11 arg12 harg12 arg13 harg13 arg14 harg14 arg15 harg15 xt0 x0 x1 x2 x3 s h1 h4).1) (k0_pay79 (stA c i arg2 harg2 arg3 harg3 arg4 harg4 arg5 harg5 arg6 harg6 arg7 harg7 arg8 harg8 arg9 harg9 arg10 harg10 arg11 harg11 arg12 harg12 arg13 harg13 arg14 harg14 arg15 harg15 xt0 x0 x1 x2 x3 s h1 h4).1) 16#32⟩])
  ∧ s'.s0 = arg9.view.read (Elt Ideal) (arg9.view.writes (Elt Ideal) (harg9.unread s.s0) (stA c i arg2 harg2 arg3 harg3 arg4 harg4 arg5 harg5 arg6 harg6 arg7 harg7 arg8 harg8 arg9 harg9 arg10 harg10 arg11 harg11 arg12 harg12 arg13 harg13 arg14 harg14 arg15 harg15 xt0 x0 x1 x2 x3 s h1 h4).2.1)
  ∧ s'.s1 = arg10.view.read (Elt Ideal) (arg10.view.writes (Elt Ideal) (harg10.unread s.s1) (wtA c i arg2 harg2 arg3 harg3 arg4 harg4 arg5 harg5 arg6 harg6 arg7 harg7 arg8 harg8 arg9 harg9 arg10 harg10 arg11 harg11 arg12 harg12 arg13 harg13 arg14 harg14 arg15 harg15 x2 x3 h1).1)
  ∧ s'.s2 = arg11.view.read (Elt Ideal) (arg11.view.writes (Elt Ideal) (harg11.unread s.s2) (wtA c i arg2 harg2 arg3 harg3 arg4 harg4 arg5 harg5 arg6 harg6 arg7 harg7 arg8 harg8 arg9 harg9 arg10 harg10 arg11 harg11 arg12 harg12 arg13 harg13 arg14 harg14 arg15 harg15 x2 x3 h1).2)
  ∧ s'.s3 = arg12.view.read (Elt Ideal) (arg12.view.writes (Elt Ideal) arg12.view.junk ((stA c i arg2 harg2 arg3 harg3 arg4 harg4 arg5 harg5 arg6 harg6 arg7 harg7 arg8 harg8 arg9 harg9 arg10 harg10 arg11 harg11 arg12 harg12 arg13 harg13 arg14 harg14 arg15 harg15 xt0 x0 x1 x2 x3 s h1 h4).2.2 ++ zcA))
  ∧ s'.s5 = arg14.view.read (Elt Ideal) (arg14.view.writes (Elt Ideal) (harg14.unread s.s5) [⟨Rect.unit (s := S8x256) ![0, 0] S8x256.size (by decide), k0_pay2 (F := Ideal) (k0_pay80 (F := Ideal) (k0_pay78 (stA c i arg2 harg2 arg3 harg3 arg4 harg4 arg5 harg5 arg6 harg6 arg7 harg7 arg8 harg8 arg9 harg9 arg10 harg10 arg11 harg11 arg12 harg12 arg13 harg13 arg14 harg14 arg15 harg15 xt0 x0 x1 x2 x3 s h1 h4).1) (k0_pay79 (stA c i arg2 harg2 arg3 harg3 arg4 harg4 arg5 harg5 arg6 harg6 arg7 harg7 arg8 harg8 arg9 harg9 arg10 harg10 arg11 harg11 arg12 harg12 arg13 harg13 arg14 harg14 arg15 harg15 xt0 x0 x1 x2 x3 s h1 h4).1) 16#32)⟩])
  ∧ s'.s6 = arg15.view.read (Elt Ideal) (arg15.view.writes (Elt Ideal) arg15.view.junk (⟨Rect.unit (s := S8x128) ![0, 0] S1x128.size (by decide), k0_pay61 (F := Ideal) (k0_pay41 (F := Ideal) (cvB arg3 harg3 x1))⟩ :: zsA))

/-- The first point without edges makes the step of the first point. -/
theorem AStep.ofA0 (hc0 : cond0_0 i) (hc1 : cond0_1 i) (hc2 : cond0_2 i) (hc3 : ¬cond0_3 i) (hc4 : ¬cond0_4 i) (ht : ¬Touched i xt0) (o' : Outs Ideal) (s' : Scr Ideal)
    (h : StepA0 (F := Ideal) c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o s o' s') : AStep c i arg2 harg2 arg3 harg3 arg4 harg4 arg5 harg5 arg6 harg6 arg7 harg7 arg8 harg8 arg9 harg9 arg10 harg10 arg11 harg11 arg12 harg12 arg13 harg13 arg14 harg14 arg15 harg15 xt0 x0 x1 x2 x3 o s hc0 hc2 o' s' :=
  ⟨h.2.1, h.2.2.2.1, h.2.2.2.2.1, h.2.2.2.2.2.1, h.2.2.2.2.2.2.1, h.2.2.2.2.2.2.2.1, h.2.2.2.2.2.2.2.2⟩

/-- The first point with edges makes the step of the first point. -/
theorem AStep.ofA1 (hc0 : cond0_0 i) (hc1 : cond0_1 i) (hc2 : cond0_2 i) (hc3 : ¬cond0_3 i) (hc4 : ¬cond0_4 i) (ht : Touched i xt0) (o' : Outs Ideal) (s' : Scr Ideal)
    (h : StepA1 (F := Ideal) c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 ht x0 x1 x2 x3 o s o' s') : AStep c i arg2 harg2 arg3 harg3 arg4 harg4 arg5 harg5 arg6 harg6 arg7 harg7 arg8 harg8 arg9 harg9 arg10 harg10 arg11 harg11 arg12 harg12 arg13 harg13 arg14 harg14 arg15 harg15 xt0 x0 x1 x2 x3 o s hc0 hc2 o' s' :=
  ⟨h.2.1, h.2.2.2.1, h.2.2.2.2.1, h.2.2.2.2.2.1, h.2.2.2.2.2.2.1, h.2.2.2.2.2.2.2.1, h.2.2.2.2.2.2.2.2⟩

/-- The previous scales at the first point are zero. -/
theorem pvA_at (l : Fin 128) : pvA arg15 (ix2 0 l) = 0 := by
  refine (readAt_rows (Val := Elt Ideal) (size := S1x128.size) arg15.view (arg15.view.writes (Elt Ideal) arg15.view.junk zsA) (by decide) 0 0 rfl (ix2 0 l) (ix2 0 l) rfl (Nat.zero_add _).symm).trans ?_
  refine (View.read_writes_cons_unit_of_mem arg15.view _ _ _ _ (ix2 0 l) (ix2 0 l) rfl (Fin.forall_fin_two.mpr ⟨rfl, (Nat.zero_add _).symm⟩)).trans ?_
  exact pay19_at 0 l

/-- The previous columns at the first point are zero. -/
theorem zcA_read : arg12.view.read (Elt Ideal) (arg12.view.writes (Elt Ideal) arg12.view.junk zcA) = fun _ => (0 : EReal) := by
  funext y
  refine (View.read_writes_cons_unit_of_mem arg12.view _ _ _ _ y y rfl (Fin.forall_fin_two.mpr ⟨(Nat.zero_add _).symm, (Nat.zero_add _).symm⟩)).trans ?_
  exact pay18_at y

/-- The masked scales that the first point reads back. -/
theorem sgA_at (k : Fin 4) (z : ℕ) (hz : z = 16 * k.val) (hk : ∀ a, (![z, 0] : Fin 2 → ℕ) a + S16x256.size a ≤ S64x256.size a) (a : Fin 16) (l : Fin 256) :
    sgA c i arg3 harg3 arg13 arg15 xt0 x1 z hk (ix2 a l) = if k.val = 0 then x1 (ix2 0 l) else sigv (cuw c xt0) (i 0).val (fun _ => 0) (fun l => x1 (ix2 0 l)) k.val l :=
  sigL_read arg13 lanes lanes_at (i 0).val (cuw c xt0) _ _ (fun _ => 0) (fun l => x1 (ix2 0 l)) (pvA_at arg15) (cvB_at arg3 harg3 x1) k z hz hk a l

/-- What the first point leaves in the outputs and the scratch buffers. -/
theorem AStep.val (h1' : k0_cond1 i = 1#1) (h4 : k0_cond4 i = 1#1) (o' : Outs Ideal) (s' : Scr Ideal) (h : AStep c i arg2 harg2 arg3 harg3 arg4 harg4 arg5 harg5 arg6 harg6 arg7 harg7 arg8 harg8 arg9 harg9 arg10 harg10 arg11 harg11 arg12 harg12 arg13 harg13 arg14 harg14 arg15 harg15 xt0 x0 x1 x2 x3 o s h1' h4 o' s') :
    (∀ l, o'.o5 (ix2 0 l) = ysOf (⨆ q, eabs (act (cuw c xt0) (i 0).val x0 x1 s'.s1 s'.s2 (fun _ => 0) (fun _ => 0) q l)))
    ∧ (∀ q l, s'.s0 (ix2 q l) = act (cuw c xt0) (i 0).val x0 x1 s'.s1 s'.s2 (fun _ => 0) (fun _ => 0) q l)
    ∧ (∀ q j, s'.s1 (ix2 q j) = dmat x2 q j) ∧ (∀ q j, s'.s2 (ix2 q j) = x3 (ix2 0 q) * Ideal.ofBits .f32 0x3F000000#32)
    ∧ (∀ q (l : Fin 128), s'.s3 (ix2 q l) = x0 (ix2 q ⟨128 + l.val, by omega⟩))
    ∧ (∀ l, s'.s5 (ix2 0 l) = invOf (⨆ q, eabs (act (cuw c xt0) (i 0).val x0 x1 s'.s1 s'.s2 (fun _ => 0) (fun _ => 0) q l)))
    ∧ (∀ l : Fin 128, s'.s6 (ix2 0 l) = x1 (ix2 0 ⟨128 + l.val, by omega⟩)) := by
  obtain ⟨e5, e0, e1, e2, e3, e5', e6⟩ := h
  have hw : ∀ q j, s'.s1 (ix2 q j) = dmat x2 q j := fun q j => by
    rw [e1]
    exact t1_weights (hW := harg4.read_unread x2) ..
  have hb : ∀ q j, s'.s2 (ix2 q j) = x3 (ix2 0 q) * Ideal.ofBits .f32 0x3F000000#32 := fun q j => by
    rw [e2]
    refine (t1_bias ..).trans ?_
    rw [harg5.read_unread]
  have hdiag : ∀ (q : Fin 16384) (j : Fin 256), j.val % 64 ≠ q.val % 64 → s'.s1 (ix2 q j) = 0 := fun q j hj => (hw q j).trans (dmat_diag _ _ _ hj)
  have h0 : ∀ a l, sgA c i arg3 harg3 arg13 arg15 xt0 x1 0 (by decide) (ix2 a l) = x1 (ix2 0 l) := fun a l => sgA_at c i arg3 harg3 arg13 arg15 xt0 x1 0 0 rfl _ a l
  have h1 := sgA_at c i arg3 harg3 arg13 arg15 xt0 x1 1 16 rfl (by decide)
  have h2 := sgA_at c i arg3 harg3 arg13 arg15 xt0 x1 2 32 rfl (by decide)
  have h3 := sgA_at c i arg3 harg3 arg13 arg15 xt0 x1 3 48 rfl (by decide)
  have hm : ∀ l b, (∀ g, (stA c i arg2 harg2 arg3 harg3 arg4 harg4 arg5 harg5 arg6 harg6 arg7 harg7 arg8 harg8 arg9 harg9 arg10 harg10 arg11 harg11 arg12 harg12 arg13 harg13 arg14 harg14 arg15 harg15 xt0 x0 x1 x2 x3 s h1' h4).1 (ix2 g l) ≤ b) ↔ (⨆ q, eabs (act (cuw c xt0) (i 0).val x0 x1 s'.s1 s'.s2 (fun _ => 0) (fun _ => 0) q l)) ≤ b := fun l b =>
    top_of_rows _ (k0_pay77 (F := Ideal)) (fun q => act (cuw c xt0) (i 0).val x0 x1 s'.s1 s'.s2 (fun _ => 0) (fun _ => 0) q l) l (fun g => pay77_at g l) (fun g b =>
      t3_max (hv0 := lanes_at) (hdiag := hdiag) (hX := harg2.read_unread x0) (hP := zcA_read arg12) (hD := e1.symm) (hB := e2.symm) (hg0 := h0) (hg1 := h1) (hg2 := h2) (hg3 := h3) (k := 256) (hk := le_refl _) (g := g) (l := l) (b := b) ..) b
  have lt : ∀ q : Fin 16384, q.val < 64 * 256 := fun q => q.isLt
  refine ⟨fun l => ?_, fun q l => ?_, hw, hb, fun q l => ?_, fun l => ?_, fun l => ?_⟩
  · rw [e5]
    refine (View.read_writes_cons_unit_of_mem arg7.view _ _ _ _ (ix2 0 l) (ix2 0 l) rfl (Fin.forall_fin_two.mpr ⟨rfl, (Nat.zero_add _).symm⟩)).trans ?_
    rw [k0_pay81_at, e_at _ l _ (hm l)]; rfl
  · rw [e0]
    refine (t3_rows (hv0 := lanes_at) (hdiag := hdiag) (hX := harg2.read_unread x0) (hP := zcA_read arg12) (hD := e1.symm) (hB := e2.symm) (hg0 := h0) (hg1 := h1) (hg2 := h2) (hg3 := h3) (k := 256) (hk := le_refl _) (q := q) (l := l) ..).trans ?_
    rw [if_pos (lt q)]; rfl
  · rw [e3, View.writes_append]
    refine (t3_prev (hX := harg2.read_unread x0) (k := 256) (hk := le_refl _) (q := q) (l := l) ..).trans ?_
    rw [if_pos (lt q)]
  · rw [e5']
    refine (View.read_writes_cons_unit_of_mem arg14.view _ _ _ _ (ix2 0 l) (ix2 0 l) rfl (Fin.forall_fin_two.mpr ⟨rfl, (Nat.zero_add _).symm⟩)).trans ?_
    rw [k0_pay2_at, e_at _ l _ (hm l)]; rfl
  · rw [e6]
    refine (View.read_writes_cons_unit_of_mem arg15.view _ _ _ _ (ix2 0 l) (ix2 0 l) rfl (Fin.forall_fin_two.mpr ⟨rfl, (Nat.zero_add _).symm⟩)).trans ?_
    rw [pay61_at, pay41_at, cvB_at]

end

end Cert.ConvIdeal.Value

end
-- ==== Proof.Value.T5.lean ====
/- The loop that quantises the last block. -/
module

public import proofs.«01_k».proof.Proof.Value.T4

@[expose] public section

set_option maxRecDepth 16384

noncomputable section

namespace Cert.ConvIdeal.Value

open Idealize.ShloMosaic Idealize.ShloMosaic.TcCoe Idealize.SL.Sem
open Cert.ConvIdeal Cert.ConvIdeal.Gen Cert.ConvIdeal.Body

/-- A code is the activation times the inverse scale, clipped. -/
theorem k0_pay5_at (v : FVec Ideal S1x256 .f32) (w : FVec Ideal S64x256 .f32) (a : Fin 64) (b : Fin 256) :
    k0_pay5 (F := Ideal) v w (ix2 a b) = clip (w (ix2 a b) * v (ix2 0 b)) := by
  unfold clip
  pointwise [k0_pay5]

variable (c : Dev nD) (i : grid0.Coords)  (arg2 : Memref sig .tc .vmem S16384x256 .fp8e4m3) (harg2 : arg2.IsWhole) (arg3 : Memref sig .tc .vmem S1x256 .f32) (harg3 : arg3.IsWhole) (arg4 : Memref sig .tc .vmem S4x16384 .bf16) (harg4 : arg4.IsWhole) (arg5 : Memref sig .tc .vmem S1x16384 .bf16) (harg5 : arg5.IsWhole) (arg6 : Memref sig .tc .vmem S16384x256 .fp8e4m3) (harg6 : arg6.IsWhole) (arg7 : Memref sig .tc .vmem S1x256 .f32) (harg7 : arg7.IsWhole) (arg8 : Memref sig .tc .vmem S64x16384 .bf16) (harg8 : arg8.IsWhole) (arg9 : Memref sig .tc .vmem S16384x256 .f32) (harg9 : arg9.IsWhole) (arg10 : Memref sig .tc .vmem S16384x256 .bf16) (harg10 : arg10.IsWhole) (arg11 : Memref sig .tc .vmem S16384x128 .f32) (harg11 : arg11.IsWhole) (arg12 : Memref sig .tc .vmem S16384x128 .fp8e4m3) (harg12 : arg12.IsWhole) (arg13 : Memref sig .tc .vmem S64x256 .bf16) (harg13 : arg13.IsWhole) (arg14 : Memref sig .tc .vmem S8x256 .f32) (harg14 : arg14.IsWhole) (arg15 : Memref sig .tc .vmem S8x128 .f32) (harg15 : arg15.IsWhole) (h6 : k0_cond6 i = 1#1) (v18 : FVec Ideal S1x256 .f32) (X9 : BufTy.Contents (Elt Ideal) arg9.view.ty)
  (G6 : BufTy.Contents (Elt Ideal) arg6.view.ty)

/-- The codes after the loop of the last point. -/
theorem t5_codes (q : Fin 16384) (l : Fin 256) :
    arg6.view.read (Elt Ideal) (arg6.view.writes (Elt Ideal) G6 (pb_k0_t5 (F := Ideal) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 h6 v18 X9 256)) (ix2 q l) = clip (arg9.view.read (Elt Ideal) X9 (ix2 q l) * v18 (ix2 0 l)) := by
  refine (rows_written (n := k0_t5_loop.trips) (W := 64) arg6.view G6 (off := k0_off16) (size := ![64, 256]) (fun k => k0_off16_inb i k h6)
    (fun k => k0_pay5 v18 (rdW arg9.view (k0_off16 k) (k0_off16_inb i k h6) X9))
    (fun k => pb_k0_t5 (F := Ideal) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 h6 v18 X9 k) rfl (fun k => ?_) off16_eq rfl rfl (fun y => clip (arg9.view.read (Elt Ideal) X9 y * v18 (ix2 0 (y 1)))) (fun k x y _ h0 h1 => ?_) 256 (le_refl 256) (ix2 q l)).trans (if_pos ?_)
  · simp only [pb_k0_t5_succ]
    unfold tripL_k0_t5 trip_k0_t5
    rfl
  · obtain ⟨a, b, rfl⟩ : ∃ (a : Fin 64) (b : Fin 256), x = ix2 a b := ⟨x 0, x 1, eq_ix2 x⟩
    refine (k0_pay5_at v18 _ a b).trans ?_
    obtain ⟨c0, d0, rfl⟩ : ∃ (a : Fin 16384) (b : Fin 256), y = ix2 a b := ⟨y 0, y 1, eq_ix2 y⟩
    have hb : b = d0 := Fin.ext h1.symm
    have ha : rw64 k.val k.isLt a = c0 := Fin.ext h0.symm
    subst hb ha
    exact congrArg clip (congrArg (· * v18 (ix2 0 b)) (rdW_at _ _ _ _ (off16_eq k) a b))
  · show q.val < 64 * 256; omega

end Cert.ConvIdeal.Value

end
-- ==== Proof.Value.StepC.lean ====
/- What the body leaves at the last point, entry by entry. -/
module

public import proofs.«01_k».proof.Proof.Value.StepA
public import proofs.«01_k».proof.Proof.Value.T5

@[expose] public section

set_option maxRecDepth 16384

noncomputable section

namespace Cert.ConvIdeal.Value

open Idealize.ShloMosaic Idealize.ShloMosaic.TcCoe Idealize.SL.Sem
open Cert.ConvIdeal Cert.ConvIdeal.Gen Cert.ConvIdeal.Body

section

variable (c : Dev nD) (i : grid0.Coords) (arg2 : Memref sig .tc .vmem S16384x256 .fp8e4m3) (harg2 : arg2.IsWhole) (arg3 : Memref sig .tc .vmem S1x256 .f32) (harg3 : arg3.IsWhole) (arg4 : Memref sig .tc .vmem S4x16384 .bf16) (harg4 : arg4.IsWhole) (arg5 : Memref sig .tc .vmem S1x16384 .bf16) (harg5 : arg5.IsWhole) (arg6 : Memref sig .tc .vmem S16384x256 .fp8e4m3) (harg6 : arg6.IsWhole) (arg7 : Memref sig .tc .vmem S1x256 .f32) (harg7 : arg7.IsWhole) (arg8 : Memref sig .tc .vmem S64x16384 .bf16) (harg8 : arg8.IsWhole) (arg9 : Memref sig .tc .vmem S16384x256 .f32) (harg9 : arg9.IsWhole) (arg10 : Memref sig .tc .vmem S16384x256 .bf16) (harg10 : arg10.IsWhole) (arg11 : Memref sig .tc .vmem S16384x128 .f32) (harg11 : arg11.IsWhole) (arg12 : Memref sig .tc .vmem S16384x128 .fp8e4m3) (harg12 : arg12.IsWhole) (arg13 : Memref sig .tc .vmem S64x256 .bf16) (harg13 : arg13.IsWhole) (arg14 : Memref sig .tc .vmem S8x256 .f32) (harg14 : arg14.IsWhole) (arg15 : Memref sig .tc .vmem S8x128 .f32) (harg15 : arg15.IsWhole)
  (xt0 : TbBuf0 (F := Ideal) c tbM0_0)
  (x0 : Vec Ideal S16384x256 .fp8e4m3) (x1 : Vec Ideal S1x256 .f32) (x2 : Vec Ideal S4x16384 .bf16) (x3 : Vec Ideal S1x16384 .bf16) (o : Outs Ideal) (s : Scr Ideal)

/-- The codes that the last point leaves. -/
theorem StepC.val (hc0 : ¬cond0_0 i) (hc1 : ¬cond0_1 i) (hc2 : ¬cond0_2 i) (hc3 : ¬cond0_3 i) (hc4 : cond0_4 i) (o' : Outs Ideal) (s' : Scr Ideal)
    (h : StepC (F := Ideal) c i arg2 harg2 arg3 harg3 arg4 harg4 arg5 harg5 arg6 harg6 arg7 harg7 arg8 harg8 arg9 harg9 arg10 harg10 arg11 harg11 arg12 harg12 arg13 harg13 arg14 harg14 arg15 harg15 xt0 hc0 hc1 hc2 hc3 hc4 x0 x1 x2 x3 o s o' s') :
    (∀ q l, o'.o4 (ix2 q l) = clip (s.s0 (ix2 q l) * s.s5 (ix2 0 l))) ∧ o'.o5 = o.o5 := by
  obtain ⟨e4, e5, -⟩ := h
  refine ⟨fun q l => ?_, e5⟩
  rw [e4]
  refine (t5_codes (i := i) (h6 := hc4) (v18 := ivB arg14 harg14 s) (X9 := harg9.unread s.s0) (G6 := harg6.unread o.o4) (q := q) (l := l) ..).trans ?_
  rw [harg9.read_unread, ivB_at]

end

end Cert.ConvIdeal.Value

end
-- ==== Proof.Value.Inv.lean ====
/- What is carried from block to block, and what the body leaves in the codes and the scales at each point. -/
module

public import proofs.«01_k».proof.Proof.Value.StepC

@[expose] public section

set_option maxRecDepth 16384

noncomputable section

namespace Cert.ConvIdeal.Value

open Idealize.ShloMosaic Idealize.ShloMosaic.TcCoe Idealize.SL.Sem
open Idealize.ShloMosaic.Pipeline (Dat RDat Cfg Window)
open Cert.ConvIdeal Cert.ConvIdeal.Gen Cert.ConvIdeal.Body

variable (m : (ℓ : Loc nD τ sig) → Buf (Elt Ideal) ℓ) (hO : Ok m) (c : Dev nD)

/-- Grid point `n`, of the 33. -/
def pt (n : ℕ) : Fin (cfgM m hO).N := ⟨n % 33, lt_of_lt_of_eq (Nat.mod_lt _ (by decide)) (show (cfgM m hO).N = 33 from N_0).symm⟩

/-- A grid point is the point of its number. -/
theorem pt_val (t : Fin (cfgM m hO).N) : pt m hO t.val = t :=
  Fin.ext (Nat.mod_eq_of_lt (lt_of_lt_of_eq t.isLt (show (cfgM m hO).N = 33 from N_0)))

/-- Block `n` of the codes, and of their scales. -/
def xb (n : ℕ) : S16384x256.Idx → EReal := iblk m hO c 0 (pt m hO n)
/-- The token scales of block `n`. -/
def scb (n : ℕ) : S1x256.Idx → EReal := iblk m hO c 1 (pt m hO n)

/-- The weights, and the biases. -/
def wb : S4x16384.Idx → EReal := iblk m hO c 2 (pt m hO 0)
/-- The biases. -/
def bb : S1x16384.Idx → EReal := iblk m hO c 3 (pt m hO 0)

/-- The tap matrices, and the halves of the biases, as the first point leaves them. -/
def dm : S16384x256.Idx → EReal := fun y => dmat (wb m hO c) (y 0) (y 1)
/-- The halves of the biases, one row for each channel. -/
def hb : S16384x128.Idx → EReal := fun y => bb m hO c (ix2 0 (y 0)) * Ideal.ofBits .f32 0x3F000000#32

/-- The last columns of the block before block `n`, and their scales: zeros before the first. -/
def px : ℕ → S16384x128.Idx → EReal
  | 0 => fun _ => 0
  | n + 1 => fun y => xb m hO c n (ix2 (y 0) ⟨128 + (y 1).val, by have := (y 1).isLt; simp only [Nat.reduceAdd] at *; exact Nat.add_lt_add_left this 128⟩)
/-- The last scales of the block before block `n`: zeros before the first. -/
def ps : ℕ → Fin 128 → EReal
  | 0 => fun _ => 0
  | n + 1 => fun l => scb m hO c n (ix2 0 ⟨128 + l.val, by omega⟩)

/-- The activations of block `n`, and the greatest magnitude of each of its tokens. -/
def actT (n : ℕ) (q : Fin 16384) (l : Fin 256) : EReal :=
  act (cuw c (tbl m 0)) n (xb m hO c n) (scb m hO c n) (dm m hO c) (hb m hO c) (px m hO c n) (ps m hO c n) q l
/-- The greatest magnitude of a token of block `n`. -/
def magT (n : ℕ) (l : Fin 256) : EReal := ⨆ q, eabs (actT m hO c n q l)

/-- What the scratch buffers hold before point `n`. -/
def Inv (n : ℕ) (s : Scr Ideal) : Prop := ∀ k, n = k + 1 → k < 32 →
  (∀ q l, s.s0 (ix2 q l) = actT m hO c k q l) ∧ s.s1 = dm m hO c ∧ s.s2 = hb m hO c ∧ s.s3 = px m hO c (k + 1)
    ∧ (∀ l, s.s5 (ix2 0 l) = invOf (magT m hO c k l)) ∧ ∀ l, s.s6 (ix2 0 l) = ps m hO c (k + 1) l

/-- What point `n` leaves in the codes' block, and in the scales' block. -/
def Cod (n : ℕ) (X : S16384x256.Idx → EReal) : Prop := ∀ k, n = k + 1 → ∀ q l, X (ix2 q l) = clip (actT m hO c k q l * invOf (magT m hO c k l))
/-- The scales that point `n` leaves. -/
def Sca (n : ℕ) (X : S1x256.Idx → EReal) : Prop := ∀ l, X (ix2 0 l) = ysOf (magT m hO c (min n 31) l)

/-- The coordinate of a grid point is its number. -/
theorem coord_val : ∀ t : Fin grid0.N, (grid0.coords t 0).val = t.val := by decide +kernel

/-- The scales are never read. -/
theorem fetch5 (a : (pcfg0 (F := Ideal)).Adm) : ∀ t : Fin (cfg0 a).N, ((cfg0 a).win 5).fetch t = false :=
  fun _ => rfl
/-- The last but one point does not write its scales back. -/
theorem flush5 (a : (pcfg0 (F := Ideal)).Adm) : ∀ t : Fin (cfg0 a).N, t.val = 31 → ((cfg0 a).win 5).flush t = false :=
  (by decide +kernel : ∀ t : Fin grid0.N, t.val = 31 → Pipeline.Window.flushOf grid0 true cc0_transform_5 t = false)

/-- A buffer with the last columns of block `n` is what the next point expects. -/
theorem s3_eq (s3 : S16384x128.Idx → EReal) (n : ℕ) (h : ∀ q (l : Fin 128), s3 (ix2 q l) = xb m hO c n (ix2 q ⟨128 + l.val, by omega⟩)) : s3 = px m hO c (n + 1) := by
  funext y
  obtain ⟨q, l, rfl⟩ : ∃ (a : Fin 16384) (b : Fin 128), y = ix2 a b := ⟨y 0, y 1, eq_ix2 y⟩
  exact h q l

/-- Every grid point keeps the invariant and leaves the codes and scales stated. -/
theorem keeps (c₀ : Dev nD) : Keeps m (Inv m hO c₀) (Cod m hO c₀) (Sca m hO c₀) (fun _ _ => True) hO := by
  intro c t o s o' s' hI hF4 hF5 hF6 hst
  obtain rfl : c₀ = c := Subsingleton.elim _ _
  have hN : t.val < 33 := lt_of_lt_of_eq t.isLt (show (cfgM m hO).N = 33 from N_0)
  have hxt : (iblk m hO c₀ 0 t : S16384x256.Idx → EReal) = xb m hO c₀ t.val := by unfold xb; rw [pt_val]
  have hst' : (iblk m hO c₀ 1 t : S1x256.Idx → EReal) = scb m hO c₀ t.val := by unfold scb; rw [pt_val]
  have hco : (grid0.coords t 0).val = t.val := coord_val t
  have caseA : t.val = 0 → ∀ (h1 : cond0_0 (grid0.coords t)) (h4 : cond0_2 (grid0.coords t)), AStep c₀ (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (tbl m 0) (iblk m hO c₀ 0 t) (iblk m hO c₀ 1 t) (iblk m hO c₀ 2 t) (iblk m hO c₀ 3 t) o s h1 h4 o' s' →
      Inv m hO c₀ (t.val + 1) s' ∧ Cod m hO c₀ t.val o'.o4 ∧ Sca m hO c₀ t.val o'.o5 ∧ True := by
    intro h0 h1 h4 h
    obtain ⟨v5, v0, v1, v2, v3, v5', v6⟩ := AStep.val (h := h)
    have ht : t = pt m hO 0 := by rw [← pt_val m hO t, h0]
    have e1 : s'.s1 = dm m hO c₀ := by
      funext y
      obtain ⟨q, l, rfl⟩ : ∃ (a : Fin 16384) (b : Fin 256), y = ix2 a b := ⟨y 0, y 1, eq_ix2 y⟩
      rw [v1 q l]; unfold dm wb; rw [ht]; rfl
    have e2 : s'.s2 = hb m hO c₀ := by
      funext y
      obtain ⟨q, l, rfl⟩ : ∃ (a : Fin 16384) (b : Fin 128), y = ix2 a b := ⟨y 0, y 1, eq_ix2 y⟩
      rw [v2 q l]; unfold hb bb; rw [ht]; rfl
    have ea : act (cuw c₀ (tbl m 0)) (grid0.coords t 0).val (iblk m hO c₀ 0 t) (iblk m hO c₀ 1 t) s'.s1 s'.s2 (fun _ => 0) (fun _ => 0) = actT m hO c₀ t.val := by
      unfold actT; rw [hco, e1, e2, h0]; unfold xb scb; rw [← ht]; rfl
    simp only [ea] at v5 v0 v5'
    refine ⟨fun k hk hk' => ?_, fun k hk => absurd hk (by omega), fun l => ?_, trivial⟩
    · obtain rfl : k = t.val := by omega
      exact ⟨v0, e1, e2, s3_eq m hO c₀ _ _ fun q l => (v3 q l).trans (congrFun hxt _), v5', fun l => (v6 l).trans (congrFun hst' _)⟩
    · rw [show min t.val 31 = t.val by omega]; exact v5 l
  have caseB : 1 ≤ t.val → t.val < 32 → ∀ h5 : cond0_3 (grid0.coords t), BStep c₀ (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (tbl m 0) (iblk m hO c₀ 0 t) (iblk m hO c₀ 1 t) o s h5 o' s' →
      Inv m hO c₀ (t.val + 1) s' ∧ Cod m hO c₀ t.val o'.o4 ∧ Sca m hO c₀ t.val o'.o5 ∧ True := by
    intro h1 h2 h5 h
    obtain ⟨k, hk⟩ : ∃ k, t.val = k + 1 := ⟨t.val - 1, by omega⟩
    obtain ⟨i0, i1, i2, i3, i5, i6⟩ := hI k hk (by omega)
    obtain ⟨v4, v5, v0, v1, v2, v3, v5', v6⟩ := BStep.val (h := h) (hdiag := fun q j hj => by rw [i1]; exact dmat_diag _ q j hj)
    have ea : act (cuw c₀ (tbl m 0)) (grid0.coords t 0).val (iblk m hO c₀ 0 t) (iblk m hO c₀ 1 t) s.s1 s.s2 s.s3 (fun l => s.s6 (ix2 0 l)) = actT m hO c₀ t.val := by
      unfold actT; rw [hco, i1, i2, i3, funext i6, hxt, hst', ← hk]
    simp only [ea] at v5 v0 v5'
    refine ⟨fun k' hk' hk'' => ?_, fun k' hk' q l => ?_, fun l => ?_, trivial⟩
    · obtain rfl : k' = t.val := by omega
      exact ⟨v0, v1.trans i1, v2.trans i2, s3_eq m hO c₀ _ _ fun q l => (v3 q l).trans (congrFun hxt _), v5', fun l => (v6 l).trans (congrFun hst' _)⟩
    · obtain rfl : k' = k := by omega
      rw [v4 q l, i0, i5]
    · rw [show min t.val 31 = t.val by omega]; exact v5 l
  rcases hst with ⟨hc0, hc1, hc2, hc3, hc4, ht, h⟩ | ⟨hc0, hc1, hc2, hc3, hc4, ht, h⟩ | ⟨hc0, hc1, hc2, hc3, hc4, ht, h⟩ | ⟨hc0, hc1, hc2, hc3, hc4, ht, h⟩ | ⟨hc0, hc1, hc2, hc3, hc4, h⟩
  · exact caseA (by have := (hcond0_0 t).mp hc0; omega) hc0 hc2 (AStep.ofA1 (h := h))
  · exact caseA (by have := (hcond0_0 t).mp hc0; omega) hc0 hc2 (AStep.ofA0 (h := h))
  · have := (hcond0_3 t).mp hc3
    exact caseB (by omega) (by omega) hc3 (BStep.ofB1 (h := h))
  · have := (hcond0_3 t).mp hc3
    exact caseB (by omega) (by omega) hc3 (BStep.ofB0 (h := h))
  · have h32 : t.val = 32 := by have := (hcond0_4 t).mp hc4; omega
    obtain ⟨v4, v5⟩ := StepC.val (h := h)
    obtain ⟨i0, i1, i2, i3, i5, i6⟩ := hI 31 h32 (by omega)
    refine ⟨fun k hk hk' => by omega, fun k hk q l => ?_, ?_, trivial⟩
    · obtain rfl : k = 31 := by omega
      rw [v4 q l, i0, i5]
    · rw [v5]
      have hL := ((RDat.finds_of_pos _ (fetch5 _ t) (by omega) _).mp hF5).resolve_left (by rw [flush5 _ _ (by show t.val - 1 = 31; omega)]; exact Bool.false_ne_true)
      have hR : Sca m hO c₀ (t.val - 1) o.o5 := Dat.toRRel_leaves (w := 5) _ rfl hL
      intro l
      rw [hR l, show min t.val 31 = 31 by omega, show min (t.val - 1) 31 = 31 by omega]

end Cert.ConvIdeal.Value

end
-- ==== Proof.Value.Final.lean ====
/- What the kernel leaves in the codes and the scales, entry by entry. -/
module

public import proofs.«01_k».proof.Proof.Value.Inv
public import Idealize.ShloMosaic.Lib.Claim
public import Idealize.ShloMosaic.Lib.Pipeline.ArrRel

@[expose] public section

set_option maxRecDepth 16384

noncomputable section

namespace Cert.ConvIdeal.Value

open Idealize.ShloMosaic Idealize.ShloMosaic.TcCoe Idealize.SL.Sem
open Idealize.ShloMosaic.Pipeline (Dat RDat Cfg Window)
open Cert.ConvIdeal Cert.ConvIdeal.Gen Cert.ConvIdeal.Body

variable (m : (ℓ : Loc nD τ sig) → Buf (Elt Ideal) ℓ) (ρ : Dev nD → PrngReg) (hO : Ok m) (c : Dev nD)

/-- The block of codes that each grid point writes: that of the point before. -/
theorem idx4 : ∀ t : Fin grid0.N, (cc0_transform_4 (grid0.coords t) 0 = 0 ∧ cc0_transform_4 (grid0.coords t) 1 = t.val - 1) := by decide +kernel
/-- The block of scales that each grid point writes. -/
theorem idx5 : ∀ t : Fin grid0.N, (cc0_transform_5 (grid0.coords t) 0 = 0 ∧ cc0_transform_5 (grid0.coords t) 1 = min t.val 31) := by decide +kernel

/-- The codes are written back at every point but the first. -/
theorem fl4 (a : (pcfg0 (F := Ideal)).Adm) : ∀ t : Fin (cfg0 a).N, ((cfg0 a).win 4).flush t = true ↔ 1 ≤ t.val :=
  (by decide +kernel : ∀ t : Fin grid0.N, Pipeline.Window.flushOf grid0 true cc0_transform_4 t = true ↔ 1 ≤ t.val)
/-- The scales are written back at every point but the last but one, whose block the last point holds on to. -/
theorem fl5 (a : (pcfg0 (F := Ideal)).Adm) : ∀ t : Fin (cfg0 a).N, ((cfg0 a).win 5).flush t = true ↔ t.val ≠ 31 :=
  (by decide +kernel : ∀ t : Fin grid0.N, Pipeline.Window.flushOf grid0 true cc0_transform_5 t = true ↔ t.val ≠ 31)

/-- Different points write different blocks of codes. -/
theorem disj4 (t t' : Fin (cfgM m hO).N) (h : ((cfgM m hO).win 4).flush t = true) (h' : ((cfgM m hO).win 4).flush t' = true) (hne : t ≠ t') :
    Disjoint (((cfgM m hO).win 4).blk t).view.set (((cfgM m hO).win 4).blk t').view.set :=
  ((cfgM m hO).win 4).disjoint_blk fun e => hne (by
    have e1 : t.val - 1 = t'.val - 1 := (idx4 t).2.symm.trans ((congrFun e (1 : Fin 2)).trans (idx4 t').2)
    have := (fl4 _ t).mp h; have := (fl4 _ t').mp h'
    exact Fin.ext (by omega))

/-- Different points write different blocks of scales. -/
theorem disj5 (t t' : Fin (cfgM m hO).N) (h : ((cfgM m hO).win 5).flush t = true) (h' : ((cfgM m hO).win 5).flush t' = true) (hne : t ≠ t') :
    Disjoint (((cfgM m hO).win 5).blk t).view.set (((cfgM m hO).win 5).blk t').view.set :=
  ((cfgM m hO).win 5).disjoint_blk fun e => hne (by
    have e1 : min t.val 31 = min t'.val 31 := (idx5 t).2.symm.trans ((congrFun e (1 : Fin 2)).trans (idx5 t').2)
    have := (fl5 _ t).mp h; have := (fl5 _ t').mp h'
    have : t.val < 33 := lt_of_lt_of_eq t.isLt (show (cfgM m hO).N = 33 from N_0)
    have : t'.val < 33 := lt_of_lt_of_eq t'.isLt (show (cfgM m hO).N = 33 from N_0)
    exact Fin.ext (by omega))

/-- The pipeline with the invariant of the values. -/
abbrev rd (c : Dev nD) := rdat m (Inv m hO 0) (Cod m hO 0) (Sca m hO 0) (fun _ _ => True) hO c

/-- The codes that the run leaves. -/
theorem codes_at (r : PUnit × MemSt nD τ sig (Elt Ideal)) (h : RDat.FramePost ((Pipeline.pin pcfgs fun _ => adm m hO) 0) (rd m hO) (V m) r)
    (k : ℕ) (hk : k < 32) (q : Fin 16384) (l : Fin 256) :
    r.2.mem (((0 : Dev nD) : Thread nD τ).loc main_v2_0) (ix2 q ⟨256 * k + l.val, by omega⟩) = clip (actT m hO 0 k q l * invOf (magT m hO 0 k l)) := by
  obtain ⟨after, hL, hA⟩ := RDat.FramePost.exists_exact h 0
  have hN : (cfgM m hO).N = 33 := N_0
  have hu : (pt m hO (k + 1)).val = k + 1 := Nat.mod_eq_of_lt (by omega)
  have hf : ((cfgM m hO).win 4).flush (pt m hO (k + 1)) = true := (fl4 _ _).mpr (by omega)
  have hX : Cod m hO 0 (pt m hO (k + 1)).val (after 4 (pt m hO (k + 1))) := Dat.toRRel_leaves (w := 4) _ rfl (hL 4 _ hf)
  have hb := ((rd m hO 0).withAfter after).read_blk_arrAt_eq_flushed 4 (disj4 m hO) (cfgM m hO).N (pt m hO (k + 1)) (pt m hO (k + 1)).isLt hf
  rw [← hA 4] at hb
  have hq := congrFun hb (ix2 q l)
  have i0 : ((pcfg0 (F := Ideal)).win (adm m hO) 4).index (pt m hO (k + 1)) (0 : Fin 2) = 0 := (idx4 (pt m hO (k + 1))).1
  have i1 : ((pcfg0 (F := Ideal)).win (adm m hO) 4).index (pt m hO (k + 1)) (1 : Fin 2) = k := (idx4 (pt m hO (k + 1))).2.trans (by rw [hu]; omega)
  refine Eq.trans ?_ (hq.trans ((show _ = after 4 (pt m hO (k + 1)) (ix2 q l) from rfl).trans (hX k hu q l)))
  symm
  blk_ext [i0, i1]
  all_goals first | (rw [i0]; omega) | (rw [i1]; omega) | (erw [i0]; omega) | (erw [i1]; omega) | (erw [i0]; done) | (erw [i1]; done)

/-- The scales that the run leaves. -/
theorem scales_at (r : PUnit × MemSt nD τ sig (Elt Ideal)) (h : RDat.FramePost ((Pipeline.pin pcfgs fun _ => adm m hO) 0) (rd m hO) (V m) r)
    (k : ℕ) (hk : k < 32) (l : Fin 256) :
    r.2.mem (((0 : Dev nD) : Thread nD τ).loc main_v2_1) (ix2 0 ⟨256 * k + l.val, by omega⟩) = ysOf (magT m hO 0 k l) := by
  obtain ⟨after, hL, hA⟩ := RDat.FramePost.exists_exact h 0
  have hN : (cfgM m hO).N = 33 := N_0
  obtain ⟨u, hu, hmin⟩ : ∃ u : Fin (cfgM m hO).N, u.val ≠ 31 ∧ min u.val 31 = k := by
    rcases Nat.lt_or_ge k 31 with h31 | h31
    · exact ⟨pt m hO k, by rw [show (pt m hO k).val = k from Nat.mod_eq_of_lt (by omega)]; omega, by rw [show (pt m hO k).val = k from Nat.mod_eq_of_lt (by omega)]; omega⟩
    · exact ⟨pt m hO 32, by rw [show (pt m hO 32).val = 32 from rfl]; omega, by rw [show (pt m hO 32).val = 32 from rfl]; omega⟩
  have hf : ((cfgM m hO).win 5).flush u = true := (fl5 _ _).mpr hu
  have hX : Sca m hO 0 u.val (after 5 u) := Dat.toRRel_leaves (w := 5) _ rfl (hL 5 _ hf)
  have hb := ((rd m hO 0).withAfter after).read_blk_arrAt_eq_flushed 5 (disj5 m hO) (cfgM m hO).N u u.isLt hf
  rw [← hA 5] at hb
  have hq := congrFun hb (ix2 0 l)
  have i0 : ((pcfg0 (F := Ideal)).win (adm m hO) 5).index u (0 : Fin 2) = 0 := (idx5 u).1
  have i1 : ((pcfg0 (F := Ideal)).win (adm m hO) 5).index u (1 : Fin 2) = k := (idx5 u).2.trans hmin
  refine Eq.trans ?_ (hq.trans ((show _ = after 5 u (ix2 0 l) from rfl).trans ((hX l).trans (by rw [hmin]))))
  symm
  blk_ext [i0, i1]
  all_goals first | (rw [i0]; omega) | (rw [i1]; omega) | (erw [i0]; omega) | (erw [i1]; omega) | (erw [i0]; done) | (erw [i1]; done)

/-- The run: what the codes and the scales hold at the end, and the arguments as they were. -/
theorem run_values : θ_run defs (onTc (τ := τ) (main (F := Ideal))) ⟨m, fun _ => 0, ρ⟩ (fun r =>
    (∀ (k : ℕ) (hk : k < 32) (q : Fin 16384) (l : Fin 256), r.2.mem (((0 : Dev nD) : Thread nD τ).loc main_v2_0) (ix2 q ⟨256 * k + l.val, by omega⟩) = clip (actT m hO 0 k q l * invOf (magT m hO 0 k l)))
    ∧ (∀ (k : ℕ) (hk : k < 32) (l : Fin 256), r.2.mem (((0 : Dev nD) : Thread nD τ).loc main_v2_1) (ix2 0 ⟨256 * k + l.val, by omega⟩) = ysOf (magT m hO 0 k l))
    ∧ ∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  have hr := run_main m ρ (Inv m hO 0) (Cod m hO 0) (Sca m hO 0) (fun _ _ => True) hO (keeps m hO 0) (fun s k hk => by omega)
  have hr1 := (θ_run defs _ _).mono (fun _ h => h.1) hr
  have hfr := frame_of m ρ hO (rd m hO) (A_eq m (Inv m hO 0) hO) hr1
  have h3 := θ_run_and ((θ_run defs _ _).mono (fun r h => (⟨codes_at m hO r h, scales_at m hO r h⟩ : _ ∧ _)) hr1) hfr
  exact (θ_run defs _ _).mono (fun r h => ⟨h.1.1, h.1.2, h.2⟩) h3

end Cert.ConvIdeal.Value

end
-- ==== Proof.Value.Blk.lean ====
/- The blocks that the points read, entry by entry of the arguments. -/
module

public import proofs.«01_k».proof.Proof.Value.Inv
public import Idealize.ShloMosaic.Lib.Claim

@[expose] public section

set_option maxRecDepth 16384

noncomputable section

namespace Cert.ConvIdeal.Value

open Idealize.ShloMosaic Idealize.ShloMosaic.TcCoe Idealize.SL.Sem
open Idealize.ShloMosaic.Pipeline (Dat RDat Cfg Window)
open Cert.ConvIdeal Cert.ConvIdeal.Gen Cert.ConvIdeal.Body

variable (m : (ℓ : Loc nD τ sig) → Buf (Elt Ideal) ℓ) (hO : Ok m) (c : Dev nD)

/-- Point `n` of the grid has number `n`. -/
theorem pt_lt (n : ℕ) (h : n < 33) : (pt m hO n).val = n := Nat.mod_eq_of_lt h

/-- The block of codes that each grid point reads; the last point reads the last block again. -/
theorem idx0 : ∀ t : Fin grid0.N, (cc0_transform_0 (grid0.coords t) 0 = 0 ∧ cc0_transform_0 (grid0.coords t) 1 = min t.val 31) := by decide +kernel
/-- The block of token scales that each grid point reads. -/
theorem idx1 : ∀ t : Fin grid0.N, (cc0_transform_1 (grid0.coords t) 0 = 0 ∧ cc0_transform_1 (grid0.coords t) 1 = min t.val 31) := by decide +kernel

/-- Block `n` of the codes is columns `256 n` on of the argument. -/
theorem xb_at (n : ℕ) (h : n < 32) (q : Fin 16384) (l : Fin 256) :
    xb m hO c n (ix2 q l) = m ((c : Thread nD τ).loc main_arg0) (ix2 q ⟨256 * n + l.val, by omega⟩) := by
  have i0 : ((pcfg0 (F := Ideal)).win (adm m hO) 0).index (pt m hO n) (0 : Fin 2) = 0 := (idx0 (pt m hO n)).1
  have i1 : ((pcfg0 (F := Ideal)).win (adm m hO) 0).index (pt m hO n) (1 : Fin 2) = n := ((idx0 (pt m hO n)).2.trans (by rw [pt_lt m hO n (by omega)]; omega))
  unfold xb iblk
  refine Eq.trans (b := V m c main_arg0 (ix2 q ⟨256 * n + l.val, by omega⟩)) ?_ (congrFun (V_main_arg0 m c) _)
  blk_ext [i0, i1]
  all_goals first | (rw [i0]; omega) | (rw [i1]; omega) | (erw [i0]; omega) | (erw [i1]; omega) | (erw [i0]; done) | (erw [i1]; done)

/-- Block `n` of the token scales is entries `256 n` on of the argument. -/
theorem scb_at (n : ℕ) (h : n < 32) (l : Fin 256) :
    scb m hO c n (ix2 0 l) = m ((c : Thread nD τ).loc main_arg1) (ix2 0 ⟨256 * n + l.val, by omega⟩) := by
  have i0 : ((pcfg0 (F := Ideal)).win (adm m hO) 1).index (pt m hO n) (0 : Fin 2) = 0 := (idx1 (pt m hO n)).1
  have i1 : ((pcfg0 (F := Ideal)).win (adm m hO) 1).index (pt m hO n) (1 : Fin 2) = n := ((idx1 (pt m hO n)).2.trans (by rw [pt_lt m hO n (by omega)]; omega))
  unfold scb iblk
  refine Eq.trans (b := V m c main_arg1 (ix2 0 ⟨256 * n + l.val, by omega⟩)) ?_ (congrFun (V_main_arg1 m c) _)
  blk_ext [i0, i1]
  all_goals first | (rw [i0]; omega) | (rw [i1]; omega) | (erw [i0]; omega) | (erw [i1]; omega) | (erw [i0]; done) | (erw [i1]; done)

/-- A vector reshaped to a row keeps its entries. -/
theorem row_at (v : FVec Ideal S16384 .bf16) (h : S16384.ShapeCasts S1x16384) (q : Fin 16384) : shapeCast S1x16384 v h (ix2 0 q) = v (ix1 q) := by
  pointwise []

/-- The weights that the call receives are the transposed argument. -/
theorem V_w : V m c main_v0 = transpose S4x16384 [1, 0] (m ((c : Thread nD τ).loc main_arg3)) transposes_S16384x4_S4x16384_1_0 := by
  entry_read; rfl
/-- The biases that the call receives are the argument as a row. -/
theorem V_b : V m c main_v1 = shapeCast S1x16384 (m ((c : Thread nD τ).loc main_arg4)) shapeCasts_S16384_S1x16384 := by
  entry_read; rfl

/-- The weights read by the body, by the argument. -/
theorem wb_at (j : Fin 4) (q : Fin 16384) : wb m hO c (ix2 j q) = m ((c : Thread nD τ).loc main_arg3) (ix2 q j) := by
  have i0 : ((pcfg0 (F := Ideal)).win (adm m hO) 2).index (pt m hO 0) (0 : Fin 2) = 0 := rfl
  have i1 : ((pcfg0 (F := Ideal)).win (adm m hO) 2).index (pt m hO 0) (1 : Fin 2) = 0 := rfl
  have e : wb m hO c (ix2 j q) = V m c main_v0 (ix2 j q) := by
    unfold wb iblk
    blk_ext [i0, i1]
    all_goals first | (rw [i0]; omega) | (rw [i1]; omega) | (erw [i0]; omega) | (erw [i1]; omega) | (erw [i0]; done) | (erw [i1]; done)
  rw [e, V_w]; pointwise []

/-- The biases read by the body, by the argument. -/
theorem bb_at (q : Fin 16384) : bb m hO c (ix2 0 q) = m ((c : Thread nD τ).loc main_arg4) (ix1 q) := by
  have i0 : ((pcfg0 (F := Ideal)).win (adm m hO) 3).index (pt m hO 0) (0 : Fin 2) = 0 := rfl
  have i1 : ((pcfg0 (F := Ideal)).win (adm m hO) 3).index (pt m hO 0) (1 : Fin 2) = 0 := rfl
  have e : bb m hO c (ix2 0 q) = V m c main_v1 (ix2 0 q) := by
    unfold bb iblk
    blk_ext [i0, i1]
    all_goals first | (rw [i0]; omega) | (rw [i1]; omega) | (erw [i0]; omega) | (erw [i1]; omega) | (erw [i0]; done) | (erw [i1]; done)
  rw [e, V_b]; exact row_at _ _ q

/-- The boundaries read by the body, by the argument. -/
theorem cuw_at (b : ℕ) : cuw c (tbl m 0) b = m ((c : Thread nD τ).loc main_arg2) (ix1 ⟨b % 10, Nat.mod_lt _ (by decide)⟩) := by
  obtain rfl : c = 0 := Subsingleton.elim _ _
  unfold cuw
  rw [show tbl m 0 = m (((0 : Dev nD) : Thread nD τ).loc main_arg2) from V_main_arg2 m 0]
  show m (((0 : Dev nD) : Thread nD τ).loc main_arg2) _ = _
  refine congrArg _ (funext fun a => Fin.ext ?_)
  fin_cases a
  show b % 10 + 1 * 0 = b % 10
  omega

end Cert.ConvIdeal.Value

end
-- ==== Proof.Value.RefVal.lean ====
/- What the reference leaves in the codes and the scales, entry by entry. -/
module

public import proofs.«01_k».proof.Proof.Gen.ReferenceIdeal.Value
public import proofs.«01_k».proof.Proof.Value.Inv
public import Idealize.ShloMosaic.Lib.Pointwise
public import Idealize.ShloMosaic.Lib.ValueIdx

@[expose] public section

set_option maxRecDepth 16384

noncomputable section

namespace Cert.ReferenceIdeal.Value

open Idealize.ShloMosaic Idealize.ShloMosaic.TcCoe Idealize.SL.Sem
open Cert.ReferenceIdeal Cert.ReferenceIdeal.Gen
open Cert.ConvIdeal.Value (fldw bfield bfield_spec bfield_lt le_bfield eOf ysOf invOf eabs clip zero_bits)

/-! ## The greatest of a column -/

/-- The signed maximum, as an integer. -/
theorem toInt_maxsi (a b : BitVec 32) : (IntOp.maxsi a b).toInt = max a.toInt b.toInt := by
  unfold IntOp.maxsi
  simp only [BitVec.slt, BitVec.sle, decide_eq_true_eq]
  split <;> omega

/-- A bound on a signed maximum is a bound on every entry. -/
theorem fold_maxsi_le {ι : Type} [DecidableEq ι] (s : Finset ι) (f : ι → BitVec 32) (b : BitVec 32) (B : ℤ) :
    (s.fold IntOp.maxsi b f).toInt ≤ B ↔ b.toInt ≤ B ∧ ∀ x ∈ s, (f x).toInt ≤ B := by
  induction s using Finset.induction_on with
  | empty => simp
  | insert a s h ih =>
    rw [Finset.fold_insert h, toInt_maxsi, max_le_iff, ih, Finset.forall_mem_insert]
    tauto

/-- A small word is its number. -/
theorem toInt_small (n : ℕ) (h : n < 256) : (BitVec.ofNat 32 n).toInt = n := by
  rw [BitVec.toInt_eq_toNat_of_lt] <;> simp [BitVec.toNat_ofNat] <;> omega

/-- The greatest exponent field whose power of two is at most `u`. -/
theorem field_eq (u : EReal) (f : Fin 256 → BitVec 32) (hf : ∀ n : Fin 256, f n = if fldw (BitVec.ofNat 32 n.val) ≤ u then BitVec.ofNat 32 n.val else 0#32) :
    (Finset.univ : Finset (Fin 256)).fold IntOp.maxsi 2147483648#32 f = BitVec.ofNat 32 (bfield u) := by
  have hb := bfield_lt u
  refine BitVec.eq_of_toInt_eq (le_antisymm ?_ ?_)
  · rw [fold_maxsi_le, toInt_small _ hb]
    refine ⟨?_, fun n _ => ?_⟩
    · have : (2147483648#32).toInt < 0 := by decide
      omega
    · rw [hf n]
      split
      · rename_i h
        rw [toInt_small _ n.isLt]
        exact_mod_cast le_bfield u n.val n.isLt h
      · show (0 : ℤ) ≤ _; omega
  · have h := ((fold_maxsi_le Finset.univ f 2147483648#32 _).mp le_rfl).2 ⟨bfield u, hb⟩ (Finset.mem_univ _)
    refine le_trans (le_of_eq ?_) h
    rw [hf]
    split
    · rfl
    · rename_i hn
      rcases (bfield_spec u).1 with h0 | h0
      · simp only [h0]
      · exact absurd h0 hn

/-- The greatest of a column of magnitudes. -/
theorem top_at (v : FVec Ideal S16384x8192 .f32) (h : Shape.Reduces S16384x8192 [0] S8192) (hc : S8192.ShapeCasts S1x8192) (l : Fin 8192) :
    shapeCast S1x8192 (multiReduction .maximumf [0] S8192 v 0xFF800000#32 h (.inl rfl) rfl) hc (ix2 0 l)
      = Finset.fold max (Ideal.ofBits .f32 0xFF800000#32) (fun x => v (ix2 x l)) Finset.univ := by
  pointwise []

/-- A maximum of integers down a column, by its bounds. -/
theorem topI_at (v : IVec S256x8192 32) (h : Shape.Reduces S256x8192 [0] S8192) (hc : S8192.ShapeCasts S1x8192) (l : Fin 8192) :
    shapeCast S1x8192 (multiReductionI .maxsi [0] S8192 v 2147483648#32 h rfl) hc (ix2 0 l)
      = Finset.fold IntOp.maxsi 2147483648#32 (fun x => v (ix2 x l)) Finset.univ := by
  pointwise []

/-! ## The payloads, from the arrays and the boundaries -/

/-- The number of boundaries up to a token, less one. -/
def cntw (cu : ℕ → BitVec 32) (t : BitVec 32) : ℕ → BitVec 32
  | 0 => 4294967295#32
  | b + 1 => IntOp.addi (cntw cu t b) (BitVec.setWidth 32 (IntOp.cmpi .sle (cu b) t))

/-- The start of a token's sequence: the boundary of its number. -/
def rst (cu : ℕ → BitVec 32) (s : BitVec 32) : ℕ → BitVec 32
  | 0 => 0#32
  | b + 1 => Scalar.select (IntOp.cmpi .eq s (BitVec.ofNat 32 b)) (cu b) (rst cu s b)

/-- A token's place in its sequence. -/
def rpos (cu : ℕ → BitVec 32) (t : BitVec 32) : BitVec 32 := IntOp.subi t (rst cu (cntw cu t 10) 10)

section

variable (v0 : Vec Ideal S16384x8192 .fp8e4m3) (v2 : Vec Ideal S1x8192 .f32) (v109 : Vec Ideal S16384x4 .bf16) (v111 : Vec Ideal S16384x1 .bf16) (cu : ℕ → BitVec 32)

/-- The dequantised codes. -/
def r4 : FVec Ideal S16384x8192 .f32 := k0_pay5 v0 v2
/-- The token numbers. -/
def r5 : IVec S1x8192 32 := iota .tc S1x8192 32 [1] iota_S1x8192_d1_w32
/-- The count of the first eight boundaries at or below a token. -/
def r46 : IVec S1x8192 32 := k0_pay6 (F := Ideal) (cu 0) (cu 1) (cu 2) (cu 3) (cu 4) (cu 5) (cu 6) (cu 7)
/-- The number of boundaries at or below a token, less one. -/
def r56 : IVec S1x8192 32 := k0_pay7 (F := Ideal) r5 (r46 cu) (cu 8) (cu 9)
/-- The start of the sequence, selected over the first six boundaries. -/
def r87 : IVec S1x8192 32 := k0_pay8 (F := Ideal) r5 (r46 cu) (cu 8) (cu 9) (cu 0) (cu 1) (cu 2) (cu 3) (cu 4) (cu 5)
/-- Whether the sequence is the seventh. -/
def r89 : IVec S1x8192 1 := k0_pay9 (F := Ideal) r5 (r46 cu) (cu 8) (cu 9)
/-- A token's place in its sequence. -/
def r108 : IVec S1x8192 32 := k0_pay10 (F := Ideal) r5 (r56 cu) (r87 cu) (r89 cu) (cu 6) (cu 7) (cu 8) (cu 9)
/-- The weights. -/
def r110 : FVec Ideal S16384x4 .f32 := k0_pay11 (F := Ideal) v109
/-- The sum over the bias and the first two taps. -/
def r131 : FVec Ideal S16384x8192 .f32 := k0_pay12 (F := Ideal) (r4 v0 v2) r5 (r56 cu) (r87 cu) (r89 cu) (cu 6) (cu 7) (cu 8) (cu 9) v109 v111
/-- The codes two tokens before. -/
def r134 : FVec Ideal S16384x8192 .f32 := k0_pay13 (F := Ideal) (r4 v0 v2)
/-- The activations. -/
def r162 : FVec Ideal S16384x8192 .f32 := k0_pay14 (F := Ideal) (r4 v0 v2) (r108 cu) (r110 v109) (r131 v0 v2 v109 v111 cu) (r134 v0 v2) 2#32
/-- The exponent field of each token. -/
def r177 : IVec S1x8192 32 := k0_pay15 (F := Ideal) (r4 v0 v2) (r108 cu) (r110 v109) (r131 v0 v2 v109 v111 cu) (r134 v0 v2) 2#32
/-- Whether the field is zero. -/
def r179 : IVec S1x8192 1 := k0_pay16 (F := Ideal) (r4 v0 v2) (r108 cu) (r110 v109) (r131 v0 v2 v109 v111 cu) (r134 v0 v2) 2#32
/-- The exponent of a field that is not zero. -/
def r181 : IVec S1x8192 32 := k0_pay17 (F := Ideal) (r4 v0 v2) (r108 cu) (r110 v109) (r131 v0 v2 v109 v111 cu) (r134 v0 v2) 2#32
/-- The scales. -/
def rys : FVec Ideal S1x8192 .f32 := k0_pay2 (F := Ideal) (r179 v0 v2 v109 v111 cu) (r181 v0 v2 v109 v111 cu) 0#32
/-- The codes. -/
def ry : FVec Ideal S16384x8192 .fp8e4m3 := k0_pay3 (F := Ideal) (r162 v0 v2 v109 v111 cu) (r179 v0 v2 v109 v111 cu) (r181 v0 v2 v109 v111 cu) 0#32

/-- A dequantised code. -/
theorem r4_at (q : Fin 16384) (l : Fin 8192) : r4 v0 v2 (ix2 q l) = v0 (ix2 q l) * v2 (ix2 0 l) := by
  unfold r4; pointwise [k0_pay5]

/-- A token number. -/
theorem r5_at (l : Fin 8192) : r5 (ix2 0 l) = BitVec.ofNat 32 l.val := by
  unfold r5; pointwise []

/-- The count of boundaries, at one token. -/
theorem r56_at (l : Fin 8192) : r56 cu (ix2 0 l) = cntw cu (BitVec.ofNat 32 l.val) 10 := by
  have e7 : ∀ (v5 v46 : IVec S1x8192 32) (v47 v52 : BitVec 32), k0_pay7 (F := Ideal) v5 v46 v47 v52 (ix2 0 l) = IntOp.addi (IntOp.addi (v46 (ix2 0 l)) (BitVec.setWidth 32 (IntOp.cmpi .sle v47 (v5 (ix2 0 l))))) (BitVec.setWidth 32 (IntOp.cmpi .sle v52 (v5 (ix2 0 l)))) := by
    intros; pointwise [k0_pay7]
  have e6 : r46 cu (ix2 0 l) = cntw cu (BitVec.ofNat 32 l.val) 8 := by
    unfold r46 cntw cntw cntw cntw cntw cntw cntw cntw cntw
    pointwise [k0_pay6]
  unfold r56
  rw [e7, e6, r5_at]; rfl

/-- The place of one token in its sequence. -/
theorem r108_at (l : Fin 8192) : r108 cu (ix2 0 l) = rpos cu (BitVec.ofNat 32 l.val) := by
  have e8 : ∀ (v5 v46 : IVec S1x8192 32) (v47 v52 a b c d e f : BitVec 32), k0_pay8 (F := Ideal) v5 v46 v47 v52 a b c d e f (ix2 0 l)
      = rst (fun n => if n = 0 then a else if n = 1 then b else if n = 2 then c else if n = 3 then d else if n = 4 then e else f) (k0_pay7 (F := Ideal) v5 v46 v47 v52 (ix2 0 l)) 6 := by
    intros; unfold rst rst rst rst rst rst rst; pointwise [k0_pay8]
  have e9 : ∀ (v5 v46 : IVec S1x8192 32) (v47 v52 : BitVec 32), k0_pay9 (F := Ideal) v5 v46 v47 v52 (ix2 0 l) = IntOp.cmpi .eq (k0_pay7 (F := Ideal) v5 v46 v47 v52 (ix2 0 l)) 6#32 := by
    intros; pointwise [k0_pay9]
  have e10 : ∀ (v5 v56 v87 : IVec S1x8192 32) (v89 : IVec S1x8192 1) (v90 v95 v100 v105 : BitVec 32), k0_pay10 (F := Ideal) v5 v56 v87 v89 v90 v95 v100 v105 (ix2 0 l)
      = IntOp.subi (v5 (ix2 0 l)) (Scalar.select (IntOp.cmpi .eq (v56 (ix2 0 l)) 9#32) v105
        (Scalar.select (IntOp.cmpi .eq (v56 (ix2 0 l)) 8#32) v100 (Scalar.select (IntOp.cmpi .eq (v56 (ix2 0 l)) 7#32) v95 (Scalar.select (v89 (ix2 0 l)) v90 (v87 (ix2 0 l)))))) := by
    intros; pointwise [k0_pay10]
  have h56 := r56_at cu l
  unfold r108 r87 r89
  rw [e10, e8, e9, r5_at, show k0_pay7 (F := Ideal) r5 (r46 cu) (cu 8) (cu 9) (ix2 0 l) = r56 cu (ix2 0 l) from rfl, h56]
  rfl

/-- The convolution of a channel at a token. -/
def zR (q : Fin 16384) (l : Fin 8192) : EReal :=
  v111 (ix2 q 0) + v109 (ix2 q 3) * (v0 (ix2 q l) * v2 (ix2 0 l))
    + Scalar.select (IntOp.cmpi .sge (rpos cu (BitVec.ofNat 32 l.val)) 3#32) (v109 (ix2 q 0) * if h : l.val < 3 then 0 else v0 (ix2 q ⟨l.val - 3, by omega⟩) * v2 (ix2 0 ⟨l.val - 3, by omega⟩)) 0
    + Scalar.select (IntOp.cmpi .sge (rpos cu (BitVec.ofNat 32 l.val)) 2#32) (v109 (ix2 q 1) * if h : l.val < 2 then 0 else v0 (ix2 q ⟨l.val - 2, by omega⟩) * v2 (ix2 0 ⟨l.val - 2, by omega⟩)) 0
    + Scalar.select (IntOp.cmpi .sge (rpos cu (BitVec.ofNat 32 l.val)) 1#32) (v109 (ix2 q 2) * if h : l.val < 1 then 0 else v0 (ix2 q ⟨l.val - 1, by omega⟩) * v2 (ix2 0 ⟨l.val - 1, by omega⟩)) 0

/-- The activation. -/
def swish (z : EReal) : EReal := if Ideal.ofBits .f32 0xFF800000#32 < z then z * Ideal.logistic z else z

/-- The activation of one channel and token. -/
theorem r162_at (q : Fin 16384) (l : Fin 8192) : r162 v0 v2 v109 v111 cu (ix2 q l) = swish (zR v0 v2 v109 v111 cu q l) := by
  have e12 : r131 v0 v2 v109 v111 cu (ix2 q l) = v111 (ix2 q 0) + v109 (ix2 q 3) * (r4 v0 v2 (ix2 q l))
      + Scalar.select (IntOp.cmpi .sge (r108 cu (ix2 0 l)) 3#32) (v109 (ix2 q 0) * if h : l.val < 3 then 0 else r4 v0 v2 (ix2 q ⟨l.val - 3, by omega⟩)) 0 := by
    unfold r131 r108; pointwise [k0_pay12, k0_pay11]
  have e13 : r134 v0 v2 (ix2 q l) = if h : l.val < 2 then 0 else r4 v0 v2 (ix2 q ⟨l.val - 2, by omega⟩) := by
    unfold r134; pointwise [k0_pay13]
  have e11 : ∀ j, r110 v109 (ix2 q j) = v109 (ix2 q j) := by
    intro j; unfold r110; pointwise [k0_pay11]
  have e14 : r162 v0 v2 v109 v111 cu (ix2 q l) = swish (r131 v0 v2 v109 v111 cu (ix2 q l)
      + Scalar.select (IntOp.cmpi .sge (r108 cu (ix2 0 l)) 2#32) (r110 v109 (ix2 q 1) * r134 v0 v2 (ix2 q l)) 0
      + Scalar.select (IntOp.cmpi .sge (r108 cu (ix2 0 l)) 1#32) (r110 v109 (ix2 q 2) * if h : l.val < 1 then 0 else r4 v0 v2 (ix2 q ⟨l.val - 1, by omega⟩)) 0) := by
    unfold r162 swish; pointwise [k0_pay14]
  rw [e14, e12, e13, e11, e11, r108_at]
  simp only [r4_at]
  rfl

/-- The greatest magnitude of a token. -/
def magR (l : Fin 8192) : EReal := ⨆ q, eabs (swish (zR v0 v2 v109 v111 cu q l))

/-- The constant is minus infinity. -/
theorem bot_bits : Ideal.ofBits .f32 0xFF800000#32 = (⊥ : EReal) := by simp [Ideal.ofBits, Ideal.ieee]

/-- The exponents' fields, from a matrix of activations: the chain of operations by itself. -/
def vfield (v : FVec Ideal S16384x8192 .f32) : IVec S1x8192 32 :=
  shapeCast S1x8192 (multiReductionI .maxsi [0] S8192
    (select (cmpf .ole (bitcastToFloat .f32 (shli (iota .tc S256x8192 32 [0] iota_S256x8192_d0_w32) (broadcast S256x8192 23#32)))
      (broadcastTo S256x8192 (mulf (shapeCast S1x8192 (multiReduction .maximumf [0] S8192 (absf v) 0xFF800000#32 reduces_S16384x8192_S8192 (.inl rfl) rfl) shapeCasts_S8192_S1x8192) (broadcast S1x8192 (Scalar.ofBits .f32 0x3B124925#32))) broadcasts_S1x8192_S256x8192))
      (iota .tc S256x8192 32 [0] iota_S256x8192_d0_w32) (broadcast S256x8192 0#32)) 2147483648#32 reduces_S256x8192_S8192 rfl) shapeCasts_S8192_S1x8192

/-- The field is the maximum over all fields at or below the magnitude. -/
theorem r177_eq : r177 v0 v2 v109 v111 cu = vfield (r162 v0 v2 v109 v111 cu) := by
  unfold r177 k0_pay15 vfield r162; rfl

/-- The maximum over all fields is the field that a search finds. -/
theorem vfield_at (v : FVec Ideal S16384x8192 .f32) (l : Fin 8192) : vfield v (ix2 0 l) = BitVec.ofNat 32 (bfield ((⨆ q, eabs (v (ix2 q l))) * Ideal.ofBits .f32 0x3B124925#32)) := by
  unfold vfield
  rw [topI_at]
  refine field_eq _ _ fun n => ?_
  have e : ∀ u : FVec Ideal S1x8192 .f32, select (cmpf .ole (bitcastToFloat (F := Ideal) .f32 (shli (iota .tc S256x8192 32 [0] iota_S256x8192_d0_w32) (broadcast S256x8192 23#32)))
      (broadcastTo S256x8192 u broadcasts_S1x8192_S256x8192)) (iota .tc S256x8192 32 [0] iota_S256x8192_d0_w32) (broadcast S256x8192 0#32) (ix2 n l) = if fldw (BitVec.ofNat 32 n.val) ≤ u (ix2 0 l) then BitVec.ofNat 32 n.val else 0#32 := by
    intro u; unfold fldw; pointwise []
  rw [e]
  have e' : ∀ p : FVec Ideal S1x8192 .f32, mulf p (broadcast S1x8192 (Scalar.ofBits .f32 0x3B124925#32)) (ix2 0 l) = p (ix2 0 l) * Ideal.ofBits .f32 0x3B124925#32 := fun _ => rfl
  have e'' : shapeCast S1x8192 (multiReduction .maximumf [0] S8192 (absf v) 0xFF800000#32 reduces_S16384x8192_S8192 (.inl rfl) rfl) shapeCasts_S8192_S1x8192 (ix2 0 l) = ⨆ q, eabs (v (ix2 q l)) := by
    rw [top_at, bot_bits]
    refine eq_of_forall_ge_iff fun b => ?_
    rw [Finset.fold_max_le, iSup_le_iff]
    exact ⟨fun h q => h.2 q (Finset.mem_univ _), fun h => ⟨bot_le, fun q _ => h q⟩⟩
  rw [e', e'']

/-- The scale of one token. -/
theorem rys_at (l : Fin 8192) : rys v0 v2 v109 v111 cu (ix2 0 l) = ysOf (magR v0 v2 v109 v111 cu l) := by
  have e : rys v0 v2 v109 v111 cu (ix2 0 l) = fldw (IntOp.addi 127#32 (eOf (r177 v0 v2 v109 v111 cu (ix2 0 l)))) := by
    have e2 : ∀ (v : IVec S1x8192 1) (a : IVec S1x8192 32), k0_pay2 (F := Ideal) v a 0#32 (ix2 0 l) = fldw (IntOp.addi 127#32 (Scalar.select (v (ix2 0 l)) 0#32 (a (ix2 0 l)))) := by
      intros; unfold fldw; pointwise [k0_pay2, k0_pay1]
    unfold rys; rw [e2]; rfl
  rw [e, r177_eq, vfield_at]
  simp only [r162_at]
  unfold ysOf magR
  exact congrArg fldw (BitVec.add_comm _ _)

/-- The code of one channel and token. -/
theorem ry_at (q : Fin 16384) (l : Fin 8192) : ry v0 v2 v109 v111 cu (ix2 q l) = clip (swish (zR v0 v2 v109 v111 cu q l) * invOf (magR v0 v2 v109 v111 cu l)) := by
  have e : ry v0 v2 v109 v111 cu (ix2 q l) = clip (r162 v0 v2 v109 v111 cu (ix2 q l) * fldw (IntOp.subi 127#32 (eOf (r177 v0 v2 v109 v111 cu (ix2 0 l))))) := by
    have e3 : ∀ (w : FVec Ideal S16384x8192 .f32) (v : IVec S1x8192 1) (a : IVec S1x8192 32), k0_pay3 (F := Ideal) w v a 0#32 (ix2 q l) = clip (w (ix2 q l) * fldw (IntOp.subi 127#32 (Scalar.select (v (ix2 0 l)) 0#32 (a (ix2 0 l))))) := by
      intros; unfold fldw clip; pointwise [k0_pay3, k0_pay1]
    unfold ry; rw [e3]; rfl
  rw [e, r177_eq, vfield_at]
  simp only [r162_at]
  rfl

end

end Cert.ReferenceIdeal.Value

end
-- ==== Proof.Value.Eqn.lean ====
/- The kernel and the reference compute the same activations, token by token. -/
module

public import proofs.«01_k».proof.Proof.Value.Blk
public import proofs.«01_k».proof.Proof.Value.RefVal

@[expose] public section

set_option maxRecDepth 16384

noncomputable section

namespace Cert.ConvIdeal.Value

open Idealize.ShloMosaic Idealize.ShloMosaic.TcCoe Idealize.SL.Sem
open Idealize.ShloMosaic.Pipeline (Dat RDat Cfg Window)
open Cert.ReferenceIdeal.Value (cntw rst rpos zR swish bot_bits)
open Cert.ConvIdeal Cert.ConvIdeal.Gen Cert.ConvIdeal.Body

/-- The constant is one half. -/
theorem half_val : Ideal.ofBits .f32 0x3F000000#32 = ((1 / 2 : ℝ) : EReal) := by
  simp [Ideal.ofBits, Ideal.ieee]
  rw [← EReal.coe_mul]; norm_num

/-- The activation by the hyperbolic tangent of half the sum is the activation by the logistic function of the sum. -/
theorem silu_half (z : EReal) : silu (z * Ideal.ofBits .f32 0x3F000000#32) = swish z := by
  rw [half_val]
  unfold silu swish
  rw [bot_bits]
  induction z using EReal.rec with
  | bot =>
    rw [EReal.bot_mul_coe_of_pos (by norm_num), if_neg (lt_irrefl _), EReal.bot_add]
  | top =>
    rw [EReal.top_mul_coe_of_pos (by norm_num), if_pos bot_lt_top, Ideal.tanh_top, Ideal.logistic_top]
    simp
  | coe r =>
    rw [if_pos (EReal.bot_lt_coe r), ← EReal.coe_mul, Ideal.tanh_coe, Ideal.logistic_coe, ← EReal.coe_mul, ← EReal.coe_mul, ← EReal.coe_add]
    congr 1
    have e1 : Real.exp (-r) = Real.exp (-(r * (1 / 2))) * Real.exp (-(r * (1 / 2))) := by rw [← Real.exp_add]; congr 1; ring
    have e2 : Real.exp (-(r * (1 / 2))) = (Real.exp (r * (1 / 2)))⁻¹ := Real.exp_neg _
    have hp := Real.exp_pos (r * (1 / 2))
    rw [Real.tanh_eq_sinh_div_cosh, Real.sinh_eq, Real.cosh_eq, e1, e2]
    generalize Real.exp (r * (1 / 2)) = e at hp
    have h1 : e + e⁻¹ ≠ 0 := by positivity
    have h2 : 1 + e⁻¹ * e⁻¹ ≠ 0 := by positivity
    field_simp
    ring

/-! ## The start of a token's sequence -/

/-- Sorted boundaries: the number of those up to a token picks the last of them. -/
theorem start_eq (cu : ℕ → BitVec 32) (h0 : cu 0 = 0#32) (hs : ∀ b < 9, (cu b).sle (cu (b + 1)) = true) (h9 : cu 9 = 8192#32) (n : ℕ) (hn : n < 8192) :
    rst cu (cntw cu (BitVec.ofNat 32 n) 10) 10 = startw cu (BitVec.ofNat 32 n) := by
  have ht : (BitVec.ofNat 32 n).toInt = n := by
    rw [BitVec.toInt_eq_toNat_of_lt] <;> simp [BitVec.toNat_ofNat] <;> omega
  generalize BitVec.ofNat 32 n = t at ht
  have p0 : (cu 0).sle t = true := by
    rw [h0, BitVec.sle, decide_eq_true_eq, ht]; simp
  have p9 : ¬ (cu 9).sle t = true := by
    rw [h9, BitVec.sle, decide_eq_true_eq, ht, show (8192#32).toInt = 8192 from rfl]; omega
  have down : ∀ d b, b + d ≤ 9 → (cu (b + d)).sle t = true → (cu b).sle t = true := by
    intro d
    induction d with
    | zero => intro b _ h; exact h
    | succ d ih =>
      intro b hb h
      refine ih b (by omega) ?_
      have h2 := hs (b + d) (by omega)
      rw [show b + (d + 1) = b + d + 1 by omega] at h
      rw [BitVec.sle, decide_eq_true_eq] at h h2 ⊢
      omega
  obtain ⟨s, hs8, hsp⟩ : ∃ s, s ≤ 8 ∧ ∀ b ≤ 9, ((cu b).sle t = true ↔ b ≤ s) := by
    classical
    refine ⟨Nat.findGreatest (fun b => (cu b).sle t = true) 8, Nat.findGreatest_le 8, fun b hb => ⟨fun h => ?_, fun h => ?_⟩⟩
    · rcases Nat.lt_or_ge b 9 with hb9 | hb9
      · exact Nat.le_findGreatest (by omega) h
      · obtain rfl : b = 9 := by omega
        exact absurd h p9
    · have hg : (cu (Nat.findGreatest (fun b => (cu b).sle t = true) 8)).sle t = true := Nat.findGreatest_spec (P := fun b => (cu b).sle t = true) (m := 0) (by omega) p0
      have hl := Nat.findGreatest_le (P := fun b => (cu b).sle t = true) 8
      obtain ⟨d, hd⟩ := Nat.exists_eq_add_of_le h
      exact down d b (by omega) (by rw [← hd]; exact hg)
  have e : ∀ b ≤ 9, (cu b).sle t = decide (b ≤ s) := fun b hb => by
    by_cases h : b ≤ s
    · rw [(hsp b hb).mpr h, decide_eq_true h]
    · rw [decide_eq_false h, Bool.eq_false_iff]; exact fun h' => h ((hsp b hb).mp h')
  have c1 : ∀ b ≤ 9, IntOp.cmpi .sle (cu b) t = BitVec.ofBool (decide (b ≤ s)) := fun b hb => congrArg BitVec.ofBool (e b hb)
  have c2 : ∀ b ≤ 9, IntOp.cmpi .sge t (cu b) = BitVec.ofBool (decide (b ≤ s)) := fun b hb => congrArg BitVec.ofBool (e b hb)
  have hc : cntw cu t 10 = BitVec.ofNat 32 s := by
    simp only [cntw, c1 0 (by omega), c1 1 (by omega), c1 2 (by omega), c1 3 (by omega), c1 4 (by omega), c1 5 (by omega), c1 6 (by omega), c1 7 (by omega), c1 8 (by omega), c1 9 (by omega)]
    clear e c1 c2 hsp down p9 p0
    interval_cases s <;> rfl
  have hr : rst cu (BitVec.ofNat 32 s) 10 = cu s := by
    clear e c1 c2 hsp down p9 p0 hc
    interval_cases s <;> rfl
  have hk : startw cu t = cu s := by
    unfold startw
    simp only [c2 1 (by omega), c2 2 (by omega), c2 3 (by omega), c2 4 (by omega), c2 5 (by omega), c2 6 (by omega), c2 7 (by omega), c2 8 (by omega)]
    clear e c1 c2 hsp down p9 p0 hc hr
    interval_cases s
    · exact h0.symm
    all_goals rfl
  rw [hc, hr, hk]

/-! ## The convolution -/

variable (m : (ℓ : Loc nD τ sig) → Buf (Elt Ideal) ℓ) (hO : Ok m)

/-- The arguments, as arrays of numbers. -/
abbrev aX : S16384x8192.Idx → EReal := m (((0 : Dev nD) : Thread nD τ).loc main_arg0)
/-- The token scales. -/
abbrev aS : S1x8192.Idx → EReal := m (((0 : Dev nD) : Thread nD τ).loc main_arg1)
/-- The boundaries. -/
abbrev aC : S10.Idx → BitVec 32 := m (((0 : Dev nD) : Thread nD τ).loc main_arg2)
/-- The weights. -/
abbrev aW : S16384x4.Idx → EReal := m (((0 : Dev nD) : Thread nD τ).loc main_arg3)
/-- The biases. -/
abbrev aB : S16384.Idx → EReal := m (((0 : Dev nD) : Thread nD τ).loc main_arg4)
/-- Boundary `b`. -/
def cuF (C : S10.Idx → BitVec 32) (b : ℕ) : BitVec 32 := C (ix1 ⟨b % 10, Nat.mod_lt _ (by decide)⟩)

/-- The code `j` tokens before a token: zero before the first token. -/
theorem tapx (j : ℕ) (hj : j ≤ 3) (k : ℕ) (hk : k < 32) (q : Fin 16384) (l : Fin 256) :
    tapg j (xb m hO 0 k) (px m hO 0 k) q l = if h : 256 * k + l.val < j then 0 else aX m (ix2 q ⟨256 * k + l.val - j, by omega⟩) := by
  unfold tapg
  by_cases h : j ≤ l.val
  · rw [dif_pos h, dif_neg (by omega), xb_at m hO 0 k hk]
    exact congrArg (aX m) (congrArg (ix2 q) (Fin.ext (show 256 * k + (l.val - j) = 256 * k + l.val - j by omega)))
  · rw [dif_neg h]
    cases k with
    | zero => rw [dif_pos (by omega)]; rfl
    | succ k =>
      rw [dif_neg (by omega)]
      show xb m hO 0 k (ix2 q ⟨128 + (128 + l.val - j) % 128, _⟩) = _
      rw [xb_at m hO 0 k (by omega)]
      exact congrArg (aX m) (congrArg (ix2 q) (Fin.ext (show 256 * k + (128 + (128 + l.val - j) % 128) = 256 * (k + 1) + l.val - j by omega)))

/-- The scale of the token `j` before a token: zero before the first token. -/
theorem taps (j : ℕ) (hj : j ≤ 3) (k : ℕ) (hk : k < 32) (l : Fin 256) :
    (if j ≤ l.val then scb m hO 0 k (ix2 0 ⟨l.val - j, by omega⟩) else ps m hO 0 k ⟨(128 + l.val - j) % 128, Nat.mod_lt _ (by decide)⟩)
      = if h : 256 * k + l.val < j then 0 else aS m (ix2 0 ⟨256 * k + l.val - j, by omega⟩) := by
  by_cases h : j ≤ l.val
  · rw [if_pos h, dif_neg (by omega), scb_at m hO 0 k hk]
    exact congrArg (aS m) (congrArg (ix2 0) (Fin.ext (show 256 * k + (l.val - j) = 256 * k + l.val - j by omega)))
  · rw [if_neg h]
    cases k with
    | zero => rw [dif_pos (by omega)]; rfl
    | succ k =>
      rw [dif_neg (by omega)]
      show scb m hO 0 k (ix2 0 ⟨128 + (128 + l.val - j) % 128, _⟩) = _
      rw [scb_at m hO 0 k (by omega)]
      exact congrArg (aS m) (congrArg (ix2 0) (Fin.ext (show 256 * k + (128 + (128 + l.val - j) % 128) = 256 * (k + 1) + l.val - j by omega)))

/-- The tap matrix on its diagonals holds half of each weight. -/
theorem dm_at (j : Fin 4) (q : Fin 16384) (y : Fin 256) (hy : y.val = 64 * j.val + q.val % 64) :
    dm m hO 0 (ix2 q y) = aW m (ix2 q j) * Ideal.ofBits .f32 0x3F000000#32 := by
  show dmat (wb m hO 0) q y = _
  unfold dmat
  rw [if_pos (by omega)]
  have : (⟨y.val / 64, by omega⟩ : Fin 4) = j := Fin.ext (by show y.val / 64 = j.val; omega)
  rw [this, wb_at]

/-- One tap's term, halved. -/
theorem term_eq (w h x s : EReal) (c : BitVec 1) (a : Prop) [Decidable a] (X : ¬ a → EReal) (S : ¬ a → EReal) :
    w * h * ((if e : a then 0 else X e) * Scalar.select c (if e : a then 0 else S e) 0)
      = Scalar.select c (w * if e : a then 0 else X e * S e) 0 * h := by
  by_cases ha : a
  · simp only [dif_pos ha, zero_mul, mul_zero]
    unfold Scalar.select; split <;> simp
  · simp only [dif_neg ha]
    unfold Scalar.select
    split
    · rw [mul_assoc, mul_assoc, mul_comm h, ← mul_assoc w]
    · simp

/-- Halving distributes over addition of extended reals. -/
theorem half_distrib (x y : EReal) : (x + y) * Ideal.ofBits .f32 0x3F000000#32 = x * Ideal.ofBits .f32 0x3F000000#32 + y * Ideal.ofBits .f32 0x3F000000#32 := by
  rw [half_val]
  exact EReal.right_distrib_of_nonneg_of_ne_top (by exact_mod_cast (by norm_num : (0 : ℝ) ≤ 1 / 2)) (EReal.coe_ne_top _) x y

/-- The kernel's activation of a token is the reference's. -/
theorem act_eq (B : Cert.ReferenceIdeal.S16384x1.Idx → EReal) (hB : ∀ q, B (ix2 q 0) = aB m (ix1 q))
    (h0 : cuF (aC m) 0 = 0#32) (hs : ∀ b < 9, (cuF (aC m) b).sle (cuF (aC m) (b + 1)) = true) (h9 : cuF (aC m) 9 = 8192#32)
    (k : ℕ) (hk : k < 32) (q : Fin 16384) (l : Fin 256) :
    actT m hO 0 k q l = swish (zR (aX m) (aS m) (aW m) B (cuF (aC m)) q ⟨256 * k + l.val, by omega⟩) := by
  have hcu : cuw 0 (tbl m 0) = cuF (aC m) := by
    funext b
    exact cuw_at m 0 b
  have hsig : ∀ j ≤ 3, sigv (cuF (aC m)) k (ps m hO 0 k) (fun l => scb m hO 0 k (ix2 0 l)) j l
      = Scalar.select (IntOp.cmpi .sge (rpos (cuF (aC m)) (BitVec.ofNat 32 (256 * k + l.val))) (BitVec.ofNat 32 j))
        (if h : 256 * k + l.val < j then 0 else aS m (ix2 0 ⟨256 * k + l.val - j, by omega⟩)) 0 := by
    intro j hj
    unfold sigv posw rpos
    rw [start_eq _ h0 hs h9 _ (by omega), taps m hO j hj k hk l]
  unfold actT act conv
  rw [hcu, hsig 1 (by omega), hsig 2 (by omega), hsig 3 (by omega), tapx m hO 1 (by omega) k hk, tapx m hO 2 (by omega) k hk, tapx m hO 3 (by omega) k hk,
    dm_at m hO 0 q ⟨q.val % 64, by omega⟩ (by show q.val % 64 = 64 * 0 + q.val % 64; omega), dm_at m hO 1 q ⟨64 + q.val % 64, by omega⟩ rfl, dm_at m hO 2 q ⟨128 + q.val % 64, by omega⟩ rfl, dm_at m hO 3 q ⟨192 + q.val % 64, by omega⟩ rfl,
    xb_at m hO 0 k hk]
  beta_reduce
  rw [scb_at m hO 0 k hk]
  rw [term_eq _ _ 0 0, term_eq _ _ 0 0, term_eq _ _ 0 0]
  rw [← silu_half]
  congr 1
  unfold zR
  simp only [half_distrib]
  rw [show hb m hO 0 (ix2 q ⟨l.val % 128, Nat.mod_lt _ (by decide)⟩) = B (ix2 q 0) * Ideal.ofBits .f32 0x3F000000#32 by
    show bb m hO 0 (ix2 0 q) * _ = _; rw [hB, bb_at]]
  rw [mul_right_comm (aW m (ix2 q 3))]
  abel

end Cert.ConvIdeal.Value

end
-- ==== Proof.Value.RefRun.lean ====
/- What the reference leaves in the codes and the scales, entry by entry of the arguments. -/
module

public import proofs.«01_k».proof.Proof.Value.RefVal
public import Idealize.ShloMosaic.Lib.Claim

@[expose] public section

set_option maxRecDepth 16384

noncomputable section

namespace Cert.ReferenceIdeal.Value

open Idealize.ShloMosaic Idealize.ShloMosaic.TcCoe Idealize.SL.Sem
open Idealize.ShloMosaic.Pipeline (Dat RDat Cfg Window)
open Cert.ConvIdeal.Value (readAt_rows invOf ysOf clip)
open Cert.ReferenceIdeal Cert.ReferenceIdeal.Gen

section

variable (c : Dev nD) (arg0 : Memref sig .tc .smem S10 .i32) (harg0 : arg0.IsWhole) (arg1 : Memref sig .tc .vmem S16384x8192 .fp8e4m3) (harg1 : arg1.IsWhole) (arg2 : Memref sig .tc .vmem S1x8192 .f32) (harg2 : arg2.IsWhole) (arg3 : Memref sig .tc .vmem S16384x4 .bf16) (harg3 : arg3.IsWhole) (arg4 : Memref sig .tc .vmem S16384x1 .bf16) (harg4 : arg4.IsWhole) (arg5 : Memref sig .tc .vmem S16384x8192 .fp8e4m3) (harg5 : arg5.IsWhole) (arg6 : Memref sig .tc .vmem S1x8192 .f32) (harg6 : arg6.IsWhole) (arg7 : Memref sig .tc .vmem S64x16384 .bf16) (harg7 : arg7.IsWhole)
  (x0 : Vec Ideal S10 .i32) (x1 : Vec Ideal S16384x8192 .fp8e4m3) (x2 : Vec Ideal S1x8192 .f32) (x3 : Vec Ideal S16384x4 .bf16) (x4 : Vec Ideal S16384x1 .bf16)

/-- Boundary `b`, as the body loads it. -/
def rcu (b : ℕ) : BitVec 32 :=
  arg0.view.readAt (Elt Ideal) (Rect.unit (s := S10) ![b % 10] S1.size (fun a => by have := Nat.mod_lt b (show 0 < 10 by decide); fin_cases a; show b % 10 + 1 ≤ 10; omega)).toLoadRect (harg0.unread x0) (Shape.Idx.first (show 0 < S1.numel by decide))

/-- A boundary read by the reference, by the argument. -/
theorem rcu_at (b : ℕ) : rcu arg0 harg0 x0 b = x0 (ix1 ⟨b % 10, Nat.mod_lt _ (by decide)⟩) := by
  have e : rcu arg0 harg0 x0 b = arg0.view.read (Elt Ideal) (harg0.unread x0) (ix1 ⟨b % 10, Nat.mod_lt _ (by decide)⟩) := by
    unfold rcu
    show arg0.view.read (Elt Ideal) (harg0.unread x0) _ = _
    refine congrArg _ (funext fun a => Fin.ext ?_)
    fin_cases a
    show b % 10 + 1 * 0 = b % 10
    omega
  rw [e, harg0.read_unread]

/-- A read of a whole matrix gives the matrix. -/
theorem whole_at {W H : ℕ} {κ : Kind} {sp : Space} {e : EltTy} (M : Memref sig κ sp (⟨2, ![H, W]⟩ : Shape) e) (hM : M.IsWhole) (x : (⟨2, ![H, W]⟩ : Shape).Idx → Elt Ideal e)
    (inb : ∀ a : Fin 2, (![0, 0] : Fin 2 → ℕ) a + (![H, W] : Fin 2 → ℕ) a ≤ (![H, W] : Fin 2 → ℕ) a) :
    M.view.readAt (Elt Ideal) (Rect.unit (s := ⟨2, ![H, W]⟩) ![0, 0] ![H, W] inb).toLoadRect (hM.unread x) = x := by
  funext y
  refine (readAt_rows (Val := Elt Ideal) M.view _ inb 0 0 rfl _ y (by omega) (by omega)).trans ?_
  rw [hM.read_unread]

/-- A function of five arguments at equal arguments. -/
theorem congr5 {α β γ δ ε ζ : Type} (f : α → β → γ → δ → ε → ζ) {a a' : α} {b b' : β} {c c' : γ} {d d' : δ} {e e' : ε} (ha : a = a') (hb : b = b') (hc : c = c') (hd : d = d') (he : e = e') :
    f a b c d e = f a' b' c' d' e' := by
  subst ha hb hc hd he; rfl

/-- The codes that the body stores, by what it reads. -/
theorem out5_raw : out0_A_5 c arg0 harg0 arg1 harg1 arg2 harg2 arg3 harg3 arg4 harg4 arg5 harg5 arg6 harg6 arg7 harg7 x0 x1 x2 x3 x4 = ry (arg1.view.readAt (Elt Ideal) (Rect.unit (s := S16384x8192) ![0, 0] S16384x8192.size inb_S16384x8192_S16384x8192_0_0).toLoadRect (harg1.unread x1)) (arg2.view.readAt (Elt Ideal) (Rect.unit (s := S1x8192) ![0, 0] S1x8192.size inb_S1x8192_S1x8192_0_0).toLoadRect (harg2.unread x2)) (arg3.view.readAt (Elt Ideal) (Rect.unit (s := S16384x4) ![0, 0] S16384x4.size inb_S16384x4_S16384x4_0_0).toLoadRect (harg3.unread x3)) (arg4.view.readAt (Elt Ideal) (Rect.unit (s := S16384x1) ![0, 0] S16384x1.size inb_S16384x1_S16384x1_0_0).toLoadRect (harg4.unread x4)) (rcu arg0 harg0 x0) := by
  funext y
  unfold out0_A_5
  exact View.read_writes_cons_unit_of_mem VO0_5 _ inb_S16384x8192_S16384x8192_0_0 _ [] y y rfl (Fin.forall_fin_two.mpr ⟨(Nat.zero_add _).symm, (Nat.zero_add _).symm⟩)

/-- The codes that the body stores, by its operands. -/
theorem out5_eq : out0_A_5 c arg0 harg0 arg1 harg1 arg2 harg2 arg3 harg3 arg4 harg4 arg5 harg5 arg6 harg6 arg7 harg7 x0 x1 x2 x3 x4 = ry x1 x2 x3 x4 (fun b => x0 (ix1 ⟨b % 10, Nat.mod_lt _ (by decide)⟩)) :=
  (out5_raw c arg0 harg0 arg1 harg1 arg2 harg2 arg3 harg3 arg4 harg4 arg5 harg5 arg6 harg6 arg7 harg7 x0 x1 x2 x3 x4).trans (congr5 ry (whole_at arg1 harg1 x1 _) (whole_at arg2 harg2 x2 _) (whole_at arg3 harg3 x3 _) (whole_at arg4 harg4 x4 _) (funext (rcu_at arg0 harg0 x0)))

/-- The scales that the body stores, by what it reads. -/
theorem out6_raw : out0_A_6 c arg0 harg0 arg1 harg1 arg2 harg2 arg3 harg3 arg4 harg4 arg5 harg5 arg6 harg6 arg7 harg7 x0 x1 x2 x3 x4 = rys (arg1.view.readAt (Elt Ideal) (Rect.unit (s := S16384x8192) ![0, 0] S16384x8192.size inb_S16384x8192_S16384x8192_0_0).toLoadRect (harg1.unread x1)) (arg2.view.readAt (Elt Ideal) (Rect.unit (s := S1x8192) ![0, 0] S1x8192.size inb_S1x8192_S1x8192_0_0).toLoadRect (harg2.unread x2)) (arg3.view.readAt (Elt Ideal) (Rect.unit (s := S16384x4) ![0, 0] S16384x4.size inb_S16384x4_S16384x4_0_0).toLoadRect (harg3.unread x3)) (arg4.view.readAt (Elt Ideal) (Rect.unit (s := S16384x1) ![0, 0] S16384x1.size inb_S16384x1_S16384x1_0_0).toLoadRect (harg4.unread x4)) (rcu arg0 harg0 x0) := by
  funext y
  unfold out0_A_6
  exact View.read_writes_cons_unit_of_mem VO0_6 _ inb_S1x8192_S1x8192_0_0 _ [] y y rfl (Fin.forall_fin_two.mpr ⟨(Nat.zero_add _).symm, (Nat.zero_add _).symm⟩)

/-- The scales that the body stores, by its operands. -/
theorem out6_eq : out0_A_6 c arg0 harg0 arg1 harg1 arg2 harg2 arg3 harg3 arg4 harg4 arg5 harg5 arg6 harg6 arg7 harg7 x0 x1 x2 x3 x4 = rys x1 x2 x3 x4 (fun b => x0 (ix1 ⟨b % 10, Nat.mod_lt _ (by decide)⟩)) :=
  (out6_raw c arg0 harg0 arg1 harg1 arg2 harg2 arg3 harg3 arg4 harg4 arg5 harg5 arg6 harg6 arg7 harg7 x0 x1 x2 x3 x4).trans (congr5 rys (whole_at arg1 harg1 x1 _) (whole_at arg2 harg2 x2 _) (whole_at arg3 harg3 x3 _) (whole_at arg4 harg4 x4 _) (funext (rcu_at arg0 harg0 x0)))

end

variable (m : (ℓ : Loc nD τ sig) → Buf (Elt Ideal) ℓ) (ρ : Dev nD → PrngReg) (c : Dev nD)

/-- The only grid point. -/
def t0 : Fin cfg0.N := ⟨0, by decide⟩

/-- The first operand is the boundaries. -/
theorem in0 : (iblk m c 0 t0 : S10.Idx → BitVec 32) = m ((c : Thread nD τ).loc main_arg2) := by
  have i0 : win0_0.index t0 (0 : Fin 1) = 0 := rfl
  have i1 : win0_0.index t0 (0 : Fin 1) = 0 := rfl
  funext y
  refine Eq.trans (b := V m c main_arg2 y) ?_ (congrFun (V_main_arg2 m c) _)
  unfold iblk
  blk_ext []
  all_goals first | (rw [i0]; omega) | (rw [i1]; omega) | (erw [i0]; omega) | (erw [i1]; omega) | (erw [i0]; done) | (erw [i1]; done)
/-- The second operand is the codes. -/
theorem in1 : (iblk m c 1 t0 : S16384x8192.Idx → EReal) = m ((c : Thread nD τ).loc main_arg0) := by
  have i0 : win0_1.index t0 (0 : Fin 2) = 0 := rfl
  have i1 : win0_1.index t0 (1 : Fin 2) = 0 := rfl
  funext y
  refine Eq.trans (b := V m c main_arg0 y) ?_ (congrFun (V_main_arg0 m c) _)
  unfold iblk
  blk_ext []
  all_goals first | (rw [i0]; omega) | (rw [i1]; omega) | (erw [i0]; omega) | (erw [i1]; omega) | (erw [i0]; done) | (erw [i1]; done)
/-- The third operand is the token scales. -/
theorem in2 : (iblk m c 2 t0 : S1x8192.Idx → EReal) = m ((c : Thread nD τ).loc main_arg1) := by
  have i0 : win0_2.index t0 (0 : Fin 2) = 0 := rfl
  have i1 : win0_2.index t0 (1 : Fin 2) = 0 := rfl
  funext y
  refine Eq.trans (b := V m c main_arg1 y) ?_ (congrFun (V_main_arg1 m c) _)
  unfold iblk
  blk_ext []
  all_goals first | (rw [i0]; omega) | (rw [i1]; omega) | (erw [i0]; omega) | (erw [i1]; omega) | (erw [i0]; done) | (erw [i1]; done)
/-- The fourth operand is the weights. -/
theorem in3 : (iblk m c 3 t0 : S16384x4.Idx → EReal) = m ((c : Thread nD τ).loc main_arg3) := by
  have i0 : win0_3.index t0 (0 : Fin 2) = 0 := rfl
  have i1 : win0_3.index t0 (1 : Fin 2) = 0 := rfl
  funext y
  refine Eq.trans (b := V m c main_arg3 y) ?_ (congrFun (V_main_arg3 m c) _)
  unfold iblk
  blk_ext []
  all_goals first | (rw [i0]; omega) | (rw [i1]; omega) | (erw [i0]; omega) | (erw [i1]; omega) | (erw [i0]; done) | (erw [i1]; done)
/-- The biases that the call receives are the argument as a column. -/
theorem V_b : V m c main_v0 = shapeCast S16384x1 (m ((c : Thread nD τ).loc main_arg4)) shapeCasts_S16384_S16384x1 := by
  entry_read; rfl
/-- A vector reshaped to a column keeps its entries. -/
theorem col_at (v : FVec Ideal S16384 .bf16) (h : S16384.ShapeCasts S16384x1) (q : Fin 16384) : shapeCast S16384x1 v h (ix2 q 0) = v (ix1 q) := by
  pointwise []
/-- The biases, as a column. -/
def rB : S16384x1.Idx → EReal := iblk m c 4 t0
/-- The column of biases, by the argument. -/
theorem rB_at (q : Fin 16384) : rB m c (ix2 q 0) = m ((c : Thread nD τ).loc main_arg4) (ix1 q) := by
  have i0 : win0_4.index t0 (0 : Fin 2) = 0 := rfl
  have i1 : win0_4.index t0 (1 : Fin 2) = 0 := rfl
  have e : rB m c (ix2 q 0) = V m c main_v0 (ix2 q 0) := by
    unfold rB iblk
    blk_ext []
    all_goals first | (rw [i0]; omega) | (rw [i1]; omega) | (erw [i0]; omega) | (erw [i1]; omega) | (erw [i0]; done) | (erw [i1]; done)
  rw [e, V_b]; exact col_at _ _ q

/-- The block of codes is the whole result. -/
theorem blk5_at (G : Buf (Elt Ideal) ((cfg0.win 5).arr.view.loc (c.tc : Thread nD τ))) (q : Fin 16384) (l : Fin 8192) :
    ((cfg0.win 5).blk t0).view.read (Elt Ideal) G (ix2 q l) = (G : S16384x8192.Idx → EReal) (ix2 q l) := by
  have i0 : win0_5.index t0 (0 : Fin 2) = 0 := rfl
  have i1 : win0_5.index t0 (1 : Fin 2) = 0 := rfl
  blk_ext []
  all_goals first | (rw [i0]; omega) | (rw [i1]; omega) | (erw [i0]; omega) | (erw [i1]; omega) | (erw [i0]; done) | (erw [i1]; done)

/-- The block of scales is the whole result. -/
theorem blk6_at (G : Buf (Elt Ideal) ((cfg0.win 6).arr.view.loc (c.tc : Thread nD τ))) (l : Fin 8192) :
    ((cfg0.win 6).blk t0).view.read (Elt Ideal) G (ix2 0 l) = (G : S1x8192.Idx → EReal) (ix2 0 l) := by
  have i0 : win0_6.index t0 (0 : Fin 2) = 0 := rfl
  have i1 : win0_6.index t0 (1 : Fin 2) = 0 := rfl
  blk_ext []
  all_goals first | (rw [i0]; omega) | (rw [i1]; omega) | (erw [i0]; omega) | (erw [i1]; omega) | (erw [i0]; done) | (erw [i1]; done)

/-- The activations of the reference's arguments. -/
def zM (q : Fin 16384) (l : Fin 8192) : EReal :=
  zR (m ((c : Thread nD τ).loc main_arg0)) (m ((c : Thread nD τ).loc main_arg1)) (m ((c : Thread nD τ).loc main_arg3)) (rB m c) (fun b => m ((c : Thread nD τ).loc main_arg2) (ix1 ⟨b % 10, Nat.mod_lt _ (by decide)⟩)) q l

/-- The reference's run: the codes and the scales it leaves, and the arguments as they were. -/
theorem run_values : θ_run defs (onTc (τ := τ) (main (F := Ideal))) ⟨m, fun _ => 0, ρ⟩ (fun r => ∀ c : Dev nD,
    (∀ (q : Fin 16384) (l : Fin 8192), r.2.mem ((c : Thread nD τ).loc main_v1_0) (ix2 q l) = clip (swish (zM m c q l) * invOf (⨆ q, Cert.ConvIdeal.Value.eabs (swish (zM m c q l)))))
    ∧ (∀ l : Fin 8192, r.2.mem ((c : Thread nD τ).loc main_v1_1) (ix2 0 l) = ysOf (⨆ q, Cert.ConvIdeal.Value.eabs (swish (zM m c q l))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ?_) (run_blocks m ρ)
  obtain ⟨h0, h1, -, ha⟩ := h c
  refine ⟨fun q l => ?_, fun l => ?_, ha⟩
  · rw [h0]
    have hb := congrFun ((blocks5 m c t0 rfl).trans (flushed5_A m c t0)) (ix2 q l)
    refine (blk5_at c _ q l).symm.trans (hb.trans ?_)
    refine (congrFun (out5_eq c _ _ _ _ _ _ _ _ _ _ _ _ _ _ _ _ _ _ _ _ _) (ix2 q l)).trans ?_
    rw [ry_at, in0, in1, in2, in3]; rfl
  · rw [h1]
    have hb := congrFun ((blocks6 m c t0 rfl).trans (flushed6_A m c t0)) (ix2 0 l)
    refine (blk6_at c _ l).symm.trans (hb.trans ?_)
    refine (congrFun (out6_eq c _ _ _ _ _ _ _ _ _ _ _ _ _ _ _ _ _ _ _ _ _) (ix2 0 l)).trans ?_
    rw [rys_at, in0, in1, in2, in3]; rfl

end Cert.ReferenceIdeal.Value

end
-- ==== Proof.Value.Claim.lean ====
/- What the precondition says of the boundaries, and the value claim. -/
module

public import proofs.«01_k».proof.Defs
public import proofs.«01_k».proof.Proof.Gen.Pre_consecutive
public import proofs.«01_k».proof.Proof.Gen.On_codes_and_scales
public import proofs.«01_k».proof.Proof.Value.Final
public import proofs.«01_k».proof.Proof.Value.Eqn
public import proofs.«01_k».proof.Proof.Value.RefRun
public import Idealize.ShloMosaic.Lib.ReduceAll

@[expose] public section

set_option maxRecDepth 16384

noncomputable section

namespace Cert.ConvIdeal.Value

open Idealize.ShloMosaic Idealize.ShloMosaic.TcCoe Idealize.SL.Sem
open Idealize.ShloMosaic.Pipeline (Dat RDat Cfg Window)
open Cert.ReferenceIdeal.Value (swish)
open Cert.ConvIdeal Cert.ConvIdeal.Gen Cert.ConvIdeal.Body

/-- A truth value whose bit is one is true. -/
theorem ofBool_one (b : Bool) (h : BitVec.ofBool b = 1#1) : b = true := by
  cases b
  · exact absurd h (by decide)
  · rfl

/-- A conjunction of bits is one only where both are. -/
theorem and_one (a b : BitVec 1) (h : IntOp.andi a b = 1#1) : a = 1#1 ∧ b = 1#1 := by
  revert a b
  decide

/-- A reshape of one entry into a scalar keeps that entry. -/
theorem cast_one (y : Cert.Pre_consecutive.S1.Idx → BitVec 32) (h) (j) (v : BitVec 32) (e : shapeCast Cert.Pre_consecutive.S_ y h j = v) : y (ix1 0) = v := by
  have hs : ∀ a b : Cert.Pre_consecutive.S1.Idx, a = b := fun a b => funext fun i => by
    fin_cases i
    exact Subsingleton.elim (α := Fin 1) _ _
  rw [← e]
  exact congrArg y (hs _ _)

/-- The boundaries begin at zero, do not decrease, and end at the number of tokens. -/
theorem bounds (x0 : FVec Ideal Cert.Pre_consecutive.S16384x8192 .fp8e4m3) (x1 : FVec Ideal Cert.Pre_consecutive.S1x8192 .f32) (C : S10.Idx → BitVec 32) (x3 : FVec Ideal Cert.Pre_consecutive.S16384x4 .bf16) (x4 : FVec Ideal Cert.Pre_consecutive.S16384 .bf16)
    (h : Cert.Pre_consecutive.fn (F := Ideal) x0 x1 C x3 x4 = fun _ => 1#1) :
    cuF C 0 = 0#32 ∧ (∀ b < 9, (cuF C b).sle (cuF C (b + 1)) = true) ∧ cuF C 9 = 8192#32 := by
  have h' := congrFun h (fun a => a.elim0)
  unfold Cert.Pre_consecutive.fn at h'
  obtain ⟨h1, h9⟩ := and_one _ _ h'
  obtain ⟨h0, hs⟩ := and_one _ _ h1
  have hsub : Subsingleton Cert.Pre_consecutive.S_.Idx := ⟨fun a b => funext fun i => i.elim0⟩
  refine ⟨?_, fun b hb => ?_, ?_⟩
  · have e := eq_of_beq (ofBool_one _ h0)
    have e2 := cast_one _ _ _ _ e
    refine Eq.trans (congrArg C ?_) e2
    funext a; apply Fin.ext; fin_cases a; rfl
  · have e := Host.reduce_andi_all _ _ _ _ _ hs (ix1 ⟨b, hb⟩)
    have e' := ofBool_one _ e
    have ea : cuF C b = C (ix1 ⟨b, by omega⟩) := congrArg C (congrArg ix1 (Fin.ext (Nat.mod_eq_of_lt (by omega))))
    have eb : cuF C (b + 1) = C (ix1 ⟨b + 1, by omega⟩) := congrArg C (congrArg ix1 (Fin.ext (Nat.mod_eq_of_lt (by omega))))
    rw [ea, eb]
    refine Eq.trans ?_ e'
    refine congrArg₂ BitVec.sle (congrArg C ?_) (congrArg C ?_) <;> (funext a; apply Fin.ext; fin_cases a)
    · show b = 0 + b; omega
    · show b + 1 = 1 + b; omega
  · have e := eq_of_beq (ofBool_one _ h9)
    have e2 := cast_one _ _ _ _ e
    refine Eq.trans (congrArg C ?_) e2
    funext a; apply Fin.ext; fin_cases a; rfl

/-- Every token is a token of a block. -/
theorem split_tok (t : Fin 8192) : ∃ (k : ℕ) (hk : k < 32) (l : Fin 256), t = ⟨256 * k + l.val, by omega⟩ :=
  ⟨t.val / 256, by omega, ⟨t.val % 256, by omega⟩, Fin.ext (by show t.val = 256 * (t.val / 256) + t.val % 256; omega)⟩

/-- The kernel's codes and scales are the reference's. -/
theorem algebraic : Cert.algebraic_ConvIdeal_ReferenceIdeal_on_codes_and_scales_pre_consecutive := by
  intro m g m' g' hpre hargs
  obtain ⟨a0, a1, a2, a3, a4⟩ := hargs 0
  obtain ⟨b0, bs, b9⟩ := bounds _ _ _ _ _ (hpre 0)
  have hz : ∀ (k : ℕ) (hk : k < 32) (q : Fin 16384) (l : Fin 256), actT m (ok m) 0 k q l = swish (Cert.ReferenceIdeal.Value.zM m' 0 q ⟨256 * k + l.val, by omega⟩) := by
    intro k hk q l
    rw [act_eq m (ok m) (Cert.ReferenceIdeal.Value.rB m' 0) (fun q => (Cert.ReferenceIdeal.Value.rB_at m' 0 q).trans (congrFun a4 _)) b0 bs b9 k hk q l]
    unfold Cert.ReferenceIdeal.Value.zM
    rw [a0, a1, a2, a3]
    rfl
  have hmg : ∀ (k : ℕ) (hk : k < 32) (l : Fin 256), magT m (ok m) 0 k l = ⨆ q, eabs (swish (Cert.ReferenceIdeal.Value.zM m' 0 q ⟨256 * k + l.val, by omega⟩)) := by
    intro k hk l
    unfold magT
    simp only [hz k hk]
  refine ⟨fun _ i => clip (swish (Cert.ReferenceIdeal.Value.zM m' 0 (i (0 : Fin 2)) (i (1 : Fin 2))) * invOf (⨆ q, eabs (swish (Cert.ReferenceIdeal.Value.zM m' 0 q (i (1 : Fin 2)))))),
    fun _ i => ysOf (⨆ q, eabs (swish (Cert.ReferenceIdeal.Value.zM m' 0 q (i (1 : Fin 2))))), fun _ _ => (0 : EReal), ?_, ?_⟩
  · refine (θ_run _ _ _).mono (fun r h c => ?_) (run_values m g (ok m))
    obtain rfl : c = 0 := Subsingleton.elim _ _
    obtain ⟨hc, hs, ha⟩ := h
    refine ⟨fun i _ => ?_, fun i _ => ?_, fun i hi => absurd (show (0#1 : BitVec 1) = 1#1 from hi) (by decide), ha 0⟩
    · obtain ⟨q, t, rfl⟩ : ∃ (a : Fin 16384) (b : Fin 8192), i = ix2 a b := ⟨i 0, i 1, eq_ix2 i⟩
      obtain ⟨k, hk, l, rfl⟩ := split_tok t
      refine (hc k hk q l).trans ?_
      rw [hz k hk, hmg k hk]; rfl
    · obtain ⟨q, t, rfl⟩ : ∃ (a : Fin 1) (b : Fin 8192), i = ix2 a b := ⟨i 0, i 1, eq_ix2 i⟩
      obtain rfl : q = 0 := Subsingleton.elim _ _
      obtain ⟨k, hk, l, rfl⟩ := split_tok t
      refine (hs k hk l).trans ?_
      rw [hmg k hk]; rfl
  · refine (θ_run _ _ _).mono (fun r h c => ?_) (Cert.ReferenceIdeal.Value.run_values m' g')
    obtain rfl : c = 0 := Subsingleton.elim _ _
    obtain ⟨hc, hs, ha⟩ := h 0
    refine ⟨fun i _ => ?_, fun i _ => ?_, fun i hi => absurd (show (0#1 : BitVec 1) = 1#1 from hi) (by decide), ha⟩
    · obtain ⟨q, t, rfl⟩ : ∃ (a : Fin 16384) (b : Fin 8192), i = ix2 a b := ⟨i 0, i 1, eq_ix2 i⟩
      exact hc q t
    · obtain ⟨q, t, rfl⟩ : ∃ (a : Fin 1) (b : Fin 8192), i = ix2 a b := ⟨i 0, i 1, eq_ix2 i⟩
      obtain rfl : q = 0 := Subsingleton.elim _ _
      exact hs t

end Cert.ConvIdeal.Value

end
-- ==== Proof.lean ====
/- The proof of the claims. Each program terminates from any memory and leaves its arguments as they were, and over the extended reals the kernel's codes and scales are the reference's. -/
module

public import proofs.«01_k».proof.Defs
public import proofs.«01_k».proof.Proof.Gen.Conv
public import proofs.«01_k».proof.Proof.Gen.Conv.Skeleton
public import proofs.«01_k».proof.Proof.Gen.Conv.Loops
public import proofs.«01_k».proof.Proof.Gen.Conv.Launch
public import proofs.«01_k».proof.Proof.Gen.Conv.Flash
public import proofs.«01_k».proof.Proof.Gen.ConvIdeal
public import proofs.«01_k».proof.Proof.Gen.ConvIdeal.Skeleton
public import proofs.«01_k».proof.Proof.Gen.ConvIdeal.Loops
public import proofs.«01_k».proof.Proof.Gen.ConvIdeal.Launch
public import proofs.«01_k».proof.Proof.Gen.ConvIdeal.Flash
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Frame
public import proofs.«01_k».proof.Proof.Gen.ReferenceIdeal.Value
public import proofs.«01_k».proof.Proof.Gen.Pre_consecutive
public import proofs.«01_k».proof.Proof.Gen.On_codes_and_scales
public import proofs.«01_k».proof.Proof.Body.Conv.Frame
public import proofs.«01_k».proof.Proof.Body.ConvIdeal.Frame
public import proofs.«01_k».proof.Proof.Value.Claim
public import Idealize.ShloMosaic.Adequacy
public import Idealize.ShloMosaic.Init

@[expose] public section

noncomputable section

namespace Cert.Proof

open Idealize.ShloMosaic Idealize.SL.Sem Cert.Conv

theorem claim : Cert.Claim :=
  ⟨Cert.Conv.Gen.facts, Cert.ConvIdeal.Gen.facts, Cert.ReferenceIdeal.Gen.facts, Cert.Pre_consecutive.Gen.facts, Cert.On_codes_and_scales.Gen.facts,
    fun m ρ _ => Cert.Conv.Body.frame m ρ, fun m ρ _ => Cert.ConvIdeal.Body.frame m ρ, fun m ρ _ => Cert.ConvIdeal.Body.frame m ρ,
    fun m ρ _ => Cert.ReferenceIdeal.Gen.frame m ρ, fun m ρ _ => Cert.ReferenceIdeal.Gen.frame m ρ, trivial, Cert.ConvIdeal.Value.algebraic⟩

end Cert.Proof

end
